-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_MergeOut (m : (ℓ : Loc Cert.MergeOut.nD Cert.MergeOut.τ Cert.MergeOut.sig) → Buf (Elt Bits) ℓ) : Prop :=
  True

def Pre_MergeOutIdeal (m : (ℓ : Loc Cert.MergeOutIdeal.nD Cert.MergeOutIdeal.τ Cert.MergeOutIdeal.sig) → Buf (Elt Ideal) ℓ) : Prop :=
  True

def Pre_MergeOutRefIdeal (m : (ℓ : Loc Cert.MergeOutRefIdeal.nD Cert.MergeOutRefIdeal.τ Cert.MergeOutRefIdeal.sig) → Buf (Elt Ideal) ℓ) : Prop :=
  True

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWRefIdeal (m : (ℓ : Loc Cert.FfnWRefIdeal.nD Cert.FfnWRefIdeal.τ Cert.FfnWRefIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsRefIdeal (m : (ℓ : Loc Cert.NormsRefIdeal.nD Cert.NormsRefIdeal.τ Cert.NormsRefIdeal.sig) → Buf (Elt Ideal) ℓ) : Prop :=
  True

def Pre_FfnX (m : (ℓ : Loc Cert.FfnX.nD Cert.FfnX.τ Cert.FfnX.sig) → Buf (Elt Bits) ℓ) : Prop :=
  True

def Pre_FfnXIdeal (m : (ℓ : Loc Cert.FfnXIdeal.nD Cert.FfnXIdeal.τ Cert.FfnXIdeal.sig) → Buf (Elt Ideal) ℓ) : Prop :=
  True

def Pre_FfnXRefIdeal (m : (ℓ : Loc Cert.FfnXRefIdeal.nD Cert.FfnXRefIdeal.τ Cert.FfnXRefIdeal.sig) → Buf (Elt Ideal) ℓ) : Prop :=
  True

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite [hPre_finite : Cert.Pre_finite.Facts] (m : (ℓ : Loc Cert.FlashIdeal.nD Cert.FlashIdeal.τ Cert.FlashIdeal.sig) → Buf (Elt Ideal) ℓ) : Prop :=
  ∀ c : Dev Cert.FlashIdeal.nD,
    (Cert.Pre_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).1 = (fun _ => 1#1)
    ∧ (Cert.Pre_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.1 = (fun _ => 1#1)
    ∧ (Cert.Pre_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.1 = (fun _ => 1#1)
    ∧ (Cert.Pre_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite [hPre_finite : Cert.Pre_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).1 = (fun _ => 1#1)
    ∧ (Cert.Pre_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.1 = (fun _ => 1#1)
    ∧ (Cert.Pre_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.1 = (fun _ => 1#1)
    ∧ (Cert.Pre_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_rotary_finite [hPre_rotary_finite : Cert.Pre_rotary_finite.Facts] (m : (ℓ : Loc Cert.InprojIdeal.nD Cert.InprojIdeal.τ Cert.InprojIdeal.sig) → Buf (Elt Ideal) ℓ) : Prop :=
  ∀ c : Dev Cert.InprojIdeal.nD,
    (Cert.Pre_rotary_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).1 = (fun _ => 1#1)
    ∧ (Cert.Pre_rotary_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.1 = (fun _ => 1#1)
    ∧ (Cert.Pre_rotary_finite.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7)) (m ((c.tc : Thread Cert.InprojIdeal.nD Cert.InprojIdeal.τ).loc Cert.InprojIdeal.main_arg8)) (m ((c.tc : Thread Cert.InprojIdeal.nD Cert.InprojIdeal.τ).loc Cert.InprojIdeal.main_arg9))).2.2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_rotary_finite [hPre_rotary_finite : Cert.Pre_rotary_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_rotary_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9))).1 = (fun _ => 1#1)
    ∧ (Cert.Pre_rotary_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9))).2.1 = (fun _ => 1#1)
    ∧ (Cert.Pre_rotary_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7)) (m ((c.tc : Thread Cert.InprojRefIdeal.nD Cert.InprojRefIdeal.τ).loc Cert.InprojRefIdeal.main_arg8)) (m ((c.tc : Thread Cert.InprojRefIdeal.nD Cert.InprojRefIdeal.τ).loc Cert.InprojRefIdeal.main_arg9))).2.2 = (fun _ => 1#1)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6)
      ∧ r.2.mem ((c.tc : Thread Cert.Branch.nD Cert.Branch.τ).loc Cert.Branch.main_arg7) = m ((c.tc : Thread Cert.Branch.nD Cert.Branch.τ).loc Cert.Branch.main_arg7)
      ∧ r.2.mem ((c.tc : Thread Cert.Branch.nD Cert.Branch.τ).loc Cert.Branch.main_arg8) = m ((c.tc : Thread Cert.Branch.nD Cert.Branch.τ).loc Cert.Branch.main_arg8))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6)
      ∧ r.2.mem ((c.tc : Thread Cert.BranchIdeal.nD Cert.BranchIdeal.τ).loc Cert.BranchIdeal.main_arg7) = m ((c.tc : Thread Cert.BranchIdeal.nD Cert.BranchIdeal.τ).loc Cert.BranchIdeal.main_arg7)
      ∧ r.2.mem ((c.tc : Thread Cert.BranchIdeal.nD Cert.BranchIdeal.τ).loc Cert.BranchIdeal.main_arg8) = m ((c.tc : Thread Cert.BranchIdeal.nD Cert.BranchIdeal.τ).loc Cert.BranchIdeal.main_arg8))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6)
      ∧ r.2.mem ((c.tc : Thread Cert.BranchRefIdeal.nD Cert.BranchRefIdeal.τ).loc Cert.BranchRefIdeal.main_arg7) = m ((c.tc : Thread Cert.BranchRefIdeal.nD Cert.BranchRefIdeal.τ).loc Cert.BranchRefIdeal.main_arg7)
      ∧ r.2.mem ((c.tc : Thread Cert.BranchRefIdeal.nD Cert.BranchRefIdeal.τ).loc Cert.BranchRefIdeal.main_arg8) = m ((c.tc : Thread Cert.BranchRefIdeal.nD Cert.BranchRefIdeal.τ).loc Cert.BranchRefIdeal.main_arg8))
      ∧ r.2.sem = fun _ => 0)

def quiescent_MergeOut [hMergeOut : Cert.MergeOut.Facts] : Prop :=
  ∀ (m : (ℓ : Loc Cert.MergeOut.nD Cert.MergeOut.τ Cert.MergeOut.sig) → Buf (Elt Bits) ℓ) (g : Dev Cert.MergeOut.nD → PrngReg), Pre_MergeOut m →
    θ_run (Cert.MergeOut.defs (F := Bits)) (onTc (τ := Cert.MergeOut.τ) (Cert.MergeOut.main (F := Bits))) ⟨m, fun _ => 0, g⟩ (fun r => (∀ c : Dev Cert.MergeOut.nD,
      r.2.mem ((c.tc : Thread Cert.MergeOut.nD Cert.MergeOut.τ).loc Cert.MergeOut.main_arg0) = m ((c.tc : Thread Cert.MergeOut.nD Cert.MergeOut.τ).loc Cert.MergeOut.main_arg0)
      ∧ r.2.mem ((c.tc : Thread Cert.MergeOut.nD Cert.MergeOut.τ).loc Cert.MergeOut.main_arg1) = m ((c.tc : Thread Cert.MergeOut.nD Cert.MergeOut.τ).loc Cert.MergeOut.main_arg1)
      ∧ r.2.mem ((c.tc : Thread Cert.MergeOut.nD Cert.MergeOut.τ).loc Cert.MergeOut.main_arg2) = m ((c.tc : Thread Cert.MergeOut.nD Cert.MergeOut.τ).loc Cert.MergeOut.main_arg2)
      ∧ r.2.mem ((c.tc : Thread Cert.MergeOut.nD Cert.MergeOut.τ).loc Cert.MergeOut.main_arg3) = m ((c.tc : Thread Cert.MergeOut.nD Cert.MergeOut.τ).loc Cert.MergeOut.main_arg3))
      ∧ r.2.sem = fun _ => 0)

def quiescent_MergeOutIdeal [hMergeOutIdeal : Cert.MergeOutIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg), Pre_MergeOutIdeal m →
    θ_run (Cert.MergeOutIdeal.defs (F := Ideal)) (onTc (τ := Cert.MergeOutIdeal.τ) (Cert.MergeOutIdeal.main (F := Ideal))) ⟨m, fun _ => 0, g⟩ (fun r => (∀ c : Dev Cert.MergeOutIdeal.nD,
      r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
      ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
      ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
      ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3))
      ∧ r.2.sem = fun _ => 0)

def quiescent_MergeOutRefIdeal [hMergeOutRefIdeal : Cert.MergeOutRefIdeal.Facts] : Prop :=
  ∀ (m : (ℓ : Loc Cert.MergeOutRefIdeal.nD Cert.MergeOutRefIdeal.τ Cert.MergeOutRefIdeal.sig) → Buf (Elt Ideal) ℓ) (g : Dev Cert.MergeOutRefIdeal.nD → PrngReg), Pre_MergeOutRefIdeal m →
    θ_run (Cert.MergeOutRefIdeal.defs (F := Ideal)) (onTc (τ := Cert.MergeOutRefIdeal.τ) (Cert.MergeOutRefIdeal.main (F := Ideal))) ⟨m, fun _ => 0, g⟩ (fun r => (∀ c : Dev Cert.MergeOutRefIdeal.nD,
      r.2.mem ((c.tc : Thread Cert.MergeOutRefIdeal.nD Cert.MergeOutRefIdeal.τ).loc Cert.MergeOutRefIdeal.main_arg0) = m ((c.tc : Thread Cert.MergeOutRefIdeal.nD Cert.MergeOutRefIdeal.τ).loc Cert.MergeOutRefIdeal.main_arg0)
      ∧ r.2.mem ((c.tc : Thread Cert.MergeOutRefIdeal.nD Cert.MergeOutRefIdeal.τ).loc Cert.MergeOutRefIdeal.main_arg1) = m ((c.tc : Thread Cert.MergeOutRefIdeal.nD Cert.MergeOutRefIdeal.τ).loc Cert.MergeOutRefIdeal.main_arg1)
      ∧ r.2.mem ((c.tc : Thread Cert.MergeOutRefIdeal.nD Cert.MergeOutRefIdeal.τ).loc Cert.MergeOutRefIdeal.main_arg2) = m ((c.tc : Thread Cert.MergeOutRefIdeal.nD Cert.MergeOutRefIdeal.τ).loc Cert.MergeOutRefIdeal.main_arg2)
      ∧ r.2.mem ((c.tc : Thread Cert.MergeOutRefIdeal.nD Cert.MergeOutRefIdeal.τ).loc Cert.MergeOutRefIdeal.main_arg3) = m ((c.tc : Thread Cert.MergeOutRefIdeal.nD Cert.MergeOutRefIdeal.τ).loc Cert.MergeOutRefIdeal.main_arg3))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3))
      ∧ r.2.sem = fun _ => 0)

def quiescent_FfnWRefIdeal [hFfnWRefIdeal : Cert.FfnWRefIdeal.Facts] : Prop :=
  ∀ (m : (ℓ : Loc Cert.FfnWRefIdeal.nD Cert.FfnWRefIdeal.τ Cert.FfnWRefIdeal.sig) → Buf (Elt Ideal) ℓ) (g : Dev Cert.FfnWRefIdeal.nD → PrngReg), Pre_FfnWRefIdeal m →
    θ_run (Cert.FfnWRefIdeal.defs (F := Ideal)) (onTc (τ := Cert.FfnWRefIdeal.τ) (Cert.FfnWRefIdeal.main (F := Ideal))) ⟨m, fun _ => 0, g⟩ (fun r => (∀ c : Dev Cert.FfnWRefIdeal.nD,
      r.2.mem ((c.tc : Thread Cert.FfnWRefIdeal.nD Cert.FfnWRefIdeal.τ).loc Cert.FfnWRefIdeal.main_arg0) = m ((c.tc : Thread Cert.FfnWRefIdeal.nD Cert.FfnWRefIdeal.τ).loc Cert.FfnWRefIdeal.main_arg0)
      ∧ r.2.mem ((c.tc : Thread Cert.FfnWRefIdeal.nD Cert.FfnWRefIdeal.τ).loc Cert.FfnWRefIdeal.main_arg1) = m ((c.tc : Thread Cert.FfnWRefIdeal.nD Cert.FfnWRefIdeal.τ).loc Cert.FfnWRefIdeal.main_arg1)
      ∧ r.2.mem ((c.tc : Thread Cert.FfnWRefIdeal.nD Cert.FfnWRefIdeal.τ).loc Cert.FfnWRefIdeal.main_arg2) = m ((c.tc : Thread Cert.FfnWRefIdeal.nD Cert.FfnWRefIdeal.τ).loc Cert.FfnWRefIdeal.main_arg2)
      ∧ r.2.mem ((c.tc : Thread Cert.FfnWRefIdeal.nD Cert.FfnWRefIdeal.τ).loc Cert.FfnWRefIdeal.main_arg3) = m ((c.tc : Thread Cert.FfnWRefIdeal.nD Cert.FfnWRefIdeal.τ).loc Cert.FfnWRefIdeal.main_arg3))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3)
      ∧ r.2.mem ((c.tc : Thread Cert.Norms.nD Cert.Norms.τ).loc Cert.Norms.main_arg4) = m ((c.tc : Thread Cert.Norms.nD Cert.Norms.τ).loc Cert.Norms.main_arg4))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1)
      ∧ r.2.mem ((c.tc : Thread Cert.NormsRefIdeal.nD Cert.NormsRefIdeal.τ).loc Cert.NormsRefIdeal.main_arg2) = m ((c.tc : Thread Cert.NormsRefIdeal.nD Cert.NormsRefIdeal.τ).loc Cert.NormsRefIdeal.main_arg2)
      ∧ r.2.mem ((c.tc : Thread Cert.NormsRefIdeal.nD Cert.NormsRefIdeal.τ).loc Cert.NormsRefIdeal.main_arg3) = m ((c.tc : Thread Cert.NormsRefIdeal.nD Cert.NormsRefIdeal.τ).loc Cert.NormsRefIdeal.main_arg3)
      ∧ r.2.mem ((c.tc : Thread Cert.NormsRefIdeal.nD Cert.NormsRefIdeal.τ).loc Cert.NormsRefIdeal.main_arg4) = m ((c.tc : Thread Cert.NormsRefIdeal.nD Cert.NormsRefIdeal.τ).loc Cert.NormsRefIdeal.main_arg4))
      ∧ r.2.sem = fun _ => 0)

def quiescent_FfnX [hFfnX : Cert.FfnX.Facts] : Prop :=
  ∀ (m : (ℓ : Loc Cert.FfnX.nD Cert.FfnX.τ Cert.FfnX.sig) → Buf (Elt Bits) ℓ) (g : Dev Cert.FfnX.nD → PrngReg), Pre_FfnX m →
    θ_run (Cert.FfnX.defs (F := Bits)) (onTc (τ := Cert.FfnX.τ) (Cert.FfnX.main (F := Bits))) ⟨m, fun _ => 0, g⟩ (fun r => (∀ c : Dev Cert.FfnX.nD,
      r.2.mem ((c.tc : Thread Cert.FfnX.nD Cert.FfnX.τ).loc Cert.FfnX.main_arg0) = m ((c.tc : Thread Cert.FfnX.nD Cert.FfnX.τ).loc Cert.FfnX.main_arg0)
      ∧ r.2.mem ((c.tc : Thread Cert.FfnX.nD Cert.FfnX.τ).loc Cert.FfnX.main_arg1) = m ((c.tc : Thread Cert.FfnX.nD Cert.FfnX.τ).loc Cert.FfnX.main_arg1)
      ∧ r.2.mem ((c.tc : Thread Cert.FfnX.nD Cert.FfnX.τ).loc Cert.FfnX.main_arg2) = m ((c.tc : Thread Cert.FfnX.nD Cert.FfnX.τ).loc Cert.FfnX.main_arg2)
      ∧ r.2.mem ((c.tc : Thread Cert.FfnX.nD Cert.FfnX.τ).loc Cert.FfnX.main_arg3) = m ((c.tc : Thread Cert.FfnX.nD Cert.FfnX.τ).loc Cert.FfnX.main_arg3)
      ∧ r.2.mem ((c.tc : Thread Cert.FfnX.nD Cert.FfnX.τ).loc Cert.FfnX.main_arg4) = m ((c.tc : Thread Cert.FfnX.nD Cert.FfnX.τ).loc Cert.FfnX.main_arg4))
      ∧ r.2.sem = fun _ => 0)

def quiescent_FfnXIdeal [hFfnXIdeal : Cert.FfnXIdeal.Facts] : Prop :=
  ∀ (m : (ℓ : Loc Cert.FfnXIdeal.nD Cert.FfnXIdeal.τ Cert.FfnXIdeal.sig) → Buf (Elt Ideal) ℓ) (g : Dev Cert.FfnXIdeal.nD → PrngReg), Pre_FfnXIdeal m →
    θ_run (Cert.FfnXIdeal.defs (F := Ideal)) (onTc (τ := Cert.FfnXIdeal.τ) (Cert.FfnXIdeal.main (F := Ideal))) ⟨m, fun _ => 0, g⟩ (fun r => (∀ c : Dev Cert.FfnXIdeal.nD,
      r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
      ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
      ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
      ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
      ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4))
      ∧ r.2.sem = fun _ => 0)

def quiescent_FfnXRefIdeal [hFfnXRefIdeal : Cert.FfnXRefIdeal.Facts] : Prop :=
  ∀ (m : (ℓ : Loc Cert.FfnXRefIdeal.nD Cert.FfnXRefIdeal.τ Cert.FfnXRefIdeal.sig) → Buf (Elt Ideal) ℓ) (g : Dev Cert.FfnXRefIdeal.nD → PrngReg), Pre_FfnXRefIdeal m →
    θ_run (Cert.FfnXRefIdeal.defs (F := Ideal)) (onTc (τ := Cert.FfnXRefIdeal.τ) (Cert.FfnXRefIdeal.main (F := Ideal))) ⟨m, fun _ => 0, g⟩ (fun r => (∀ c : Dev Cert.FfnXRefIdeal.nD,
      r.2.mem ((c.tc : Thread Cert.FfnXRefIdeal.nD Cert.FfnXRefIdeal.τ).loc Cert.FfnXRefIdeal.main_arg0) = m ((c.tc : Thread Cert.FfnXRefIdeal.nD Cert.FfnXRefIdeal.τ).loc Cert.FfnXRefIdeal.main_arg0)
      ∧ r.2.mem ((c.tc : Thread Cert.FfnXRefIdeal.nD Cert.FfnXRefIdeal.τ).loc Cert.FfnXRefIdeal.main_arg1) = m ((c.tc : Thread Cert.FfnXRefIdeal.nD Cert.FfnXRefIdeal.τ).loc Cert.FfnXRefIdeal.main_arg1)
      ∧ r.2.mem ((c.tc : Thread Cert.FfnXRefIdeal.nD Cert.FfnXRefIdeal.τ).loc Cert.FfnXRefIdeal.main_arg2) = m ((c.tc : Thread Cert.FfnXRefIdeal.nD Cert.FfnXRefIdeal.τ).loc Cert.FfnXRefIdeal.main_arg2)
      ∧ r.2.mem ((c.tc : Thread Cert.FfnXRefIdeal.nD Cert.FfnXRefIdeal.τ).loc Cert.FfnXRefIdeal.main_arg3) = m ((c.tc : Thread Cert.FfnXRefIdeal.nD Cert.FfnXRefIdeal.τ).loc Cert.FfnXRefIdeal.main_arg3)
      ∧ r.2.mem ((c.tc : Thread Cert.FfnXRefIdeal.nD Cert.FfnXRefIdeal.τ).loc Cert.FfnXRefIdeal.main_arg4) = m ((c.tc : Thread Cert.FfnXRefIdeal.nD Cert.FfnXRefIdeal.τ).loc Cert.FfnXRefIdeal.main_arg4))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_finite [hFlashIdeal : Cert.FlashIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_finite [hFlashRefIdeal : Cert.FlashRefIdeal.Facts] [hPre_finite : Cert.Pre_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ r.2.sem = fun _ => 0)

def quiescent_InprojIdeal_pre_rotary_finite [hInprojIdeal : Cert.InprojIdeal.Facts] [hPre_rotary_finite : Cert.Pre_rotary_finite.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_rotary_finite m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9))
      ∧ r.2.sem = fun _ => 0)

def quiescent_InprojRefIdeal_pre_rotary_finite [hInprojRefIdeal : Cert.InprojRefIdeal.Facts] [hPre_rotary_finite : Cert.Pre_rotary_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_rotary_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)
      ∧ m' ((c.tc : Thread Cert.BranchRefIdeal.nD Cert.BranchRefIdeal.τ).loc Cert.BranchRefIdeal.main_arg7) = m ((c.tc : Thread Cert.BranchIdeal.nD Cert.BranchIdeal.τ).loc Cert.BranchIdeal.main_arg7)
      ∧ m' ((c.tc : Thread Cert.BranchRefIdeal.nD Cert.BranchRefIdeal.τ).loc Cert.BranchRefIdeal.main_arg8) = m ((c.tc : Thread Cert.BranchIdeal.nD Cert.BranchIdeal.τ).loc Cert.BranchIdeal.main_arg8)) →
    ∃ (v0 : (c : Dev Cert.BranchIdeal.nD) → Buf (Elt Ideal) ((c.tc : Thread Cert.BranchIdeal.nD Cert.BranchIdeal.τ).loc Cert.BranchIdeal.main_v19_0)) (v1 : (c : Dev Cert.BranchIdeal.nD) → Buf (Elt Ideal) ((c.tc : Thread Cert.BranchIdeal.nD Cert.BranchIdeal.τ).loc Cert.BranchIdeal.main_v19_1)) (v2 : (c : Dev Cert.BranchIdeal.nD) → Buf (Elt Ideal) ((c.tc : Thread Cert.BranchIdeal.nD Cert.BranchIdeal.τ).loc Cert.BranchIdeal.main_v19_2)) (v3 : (c : Dev Cert.BranchIdeal.nD) → Buf (Elt Ideal) ((c.tc : Thread Cert.BranchIdeal.nD Cert.BranchIdeal.τ).loc Cert.BranchIdeal.main_v19_3)) (v4 : (c : Dev Cert.BranchIdeal.nD) → Buf (Elt Ideal) ((c.tc : Thread Cert.BranchIdeal.nD Cert.BranchIdeal.τ).loc Cert.BranchIdeal.main_v19_4)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v19_0) = v0 c
          ∧ r.2.mem ((c.tc : Thread Cert.BranchIdeal.nD Cert.BranchIdeal.τ).loc Cert.BranchIdeal.main_v19_1) = v1 c
          ∧ r.2.mem ((c.tc : Thread Cert.BranchIdeal.nD Cert.BranchIdeal.τ).loc Cert.BranchIdeal.main_v19_2) = v2 c
          ∧ r.2.mem ((c.tc : Thread Cert.BranchIdeal.nD Cert.BranchIdeal.τ).loc Cert.BranchIdeal.main_v19_3) = v3 c
          ∧ r.2.mem ((c.tc : Thread Cert.BranchIdeal.nD Cert.BranchIdeal.τ).loc Cert.BranchIdeal.main_v19_4) = v4 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6)
          ∧ r.2.mem ((c.tc : Thread Cert.BranchIdeal.nD Cert.BranchIdeal.τ).loc Cert.BranchIdeal.main_arg7) = m ((c.tc : Thread Cert.BranchIdeal.nD Cert.BranchIdeal.τ).loc Cert.BranchIdeal.main_arg7)
          ∧ r.2.mem ((c.tc : Thread Cert.BranchIdeal.nD Cert.BranchIdeal.τ).loc Cert.BranchIdeal.main_arg8) = m ((c.tc : Thread Cert.BranchIdeal.nD Cert.BranchIdeal.τ).loc Cert.BranchIdeal.main_arg8))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v21) = v0 c
          ∧ r.2.mem ((c.tc : Thread Cert.BranchRefIdeal.nD Cert.BranchRefIdeal.τ).loc Cert.BranchRefIdeal.main_v28) = v1 c
          ∧ r.2.mem ((c.tc : Thread Cert.BranchRefIdeal.nD Cert.BranchRefIdeal.τ).loc Cert.BranchRefIdeal.main_v30) = v2 c
          ∧ r.2.mem ((c.tc : Thread Cert.BranchRefIdeal.nD Cert.BranchRefIdeal.τ).loc Cert.BranchRefIdeal.main_v31) = v3 c
          ∧ r.2.mem ((c.tc : Thread Cert.BranchRefIdeal.nD Cert.BranchRefIdeal.τ).loc Cert.BranchRefIdeal.main_v33) = v4 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6)
          ∧ r.2.mem ((c.tc : Thread Cert.BranchRefIdeal.nD Cert.BranchRefIdeal.τ).loc Cert.BranchRefIdeal.main_arg7) = m' ((c.tc : Thread Cert.BranchRefIdeal.nD Cert.BranchRefIdeal.τ).loc Cert.BranchRefIdeal.main_arg7)
          ∧ r.2.mem ((c.tc : Thread Cert.BranchRefIdeal.nD Cert.BranchRefIdeal.τ).loc Cert.BranchRefIdeal.main_arg8) = m' ((c.tc : Thread Cert.BranchRefIdeal.nD Cert.BranchRefIdeal.τ).loc Cert.BranchRefIdeal.main_arg8))

def preserves_MergeOut_MergeOutIdeal : Prop :=
  True

def algebraic_MergeOutIdeal_MergeOutRefIdeal [hMergeOutIdeal : Cert.MergeOutIdeal.Facts] [hMergeOutRefIdeal : Cert.MergeOutRefIdeal.Facts] : Prop :=
  ∀ (m : (ℓ : Loc Cert.MergeOutIdeal.nD Cert.MergeOutIdeal.τ Cert.MergeOutIdeal.sig) → Buf (Elt Ideal) ℓ) (g : Dev Cert.MergeOutIdeal.nD → PrngReg)
    (m' : (ℓ : Loc Cert.MergeOutRefIdeal.nD Cert.MergeOutRefIdeal.τ Cert.MergeOutRefIdeal.sig) → Buf (Elt Ideal) ℓ) (g' : Dev Cert.MergeOutRefIdeal.nD → PrngReg), Pre_MergeOutIdeal m →
    (∀ c : Dev Cert.MergeOutIdeal.nD,
      m' ((c.tc : Thread Cert.MergeOutRefIdeal.nD Cert.MergeOutRefIdeal.τ).loc Cert.MergeOutRefIdeal.main_arg0) = m ((c.tc : Thread Cert.MergeOutIdeal.nD Cert.MergeOutIdeal.τ).loc Cert.MergeOutIdeal.main_arg0)
      ∧ m' ((c.tc : Thread Cert.MergeOutRefIdeal.nD Cert.MergeOutRefIdeal.τ).loc Cert.MergeOutRefIdeal.main_arg1) = m ((c.tc : Thread Cert.MergeOutIdeal.nD Cert.MergeOutIdeal.τ).loc Cert.MergeOutIdeal.main_arg1)
      ∧ m' ((c.tc : Thread Cert.MergeOutRefIdeal.nD Cert.MergeOutRefIdeal.τ).loc Cert.MergeOutRefIdeal.main_arg2) = m ((c.tc : Thread Cert.MergeOutIdeal.nD Cert.MergeOutIdeal.τ).loc Cert.MergeOutIdeal.main_arg2)
      ∧ m' ((c.tc : Thread Cert.MergeOutRefIdeal.nD Cert.MergeOutRefIdeal.τ).loc Cert.MergeOutRefIdeal.main_arg3) = m ((c.tc : Thread Cert.MergeOutIdeal.nD Cert.MergeOutIdeal.τ).loc Cert.MergeOutIdeal.main_arg3)) →
    ∃ (v0 : (c : Dev Cert.MergeOutIdeal.nD) → Buf (Elt Ideal) ((c.tc : Thread Cert.MergeOutIdeal.nD Cert.MergeOutIdeal.τ).loc Cert.MergeOutIdeal.main_v4_0)) (v1 : (c : Dev Cert.MergeOutIdeal.nD) → Buf (Elt Ideal) ((c.tc : Thread Cert.MergeOutIdeal.nD Cert.MergeOutIdeal.τ).loc Cert.MergeOutIdeal.main_v4_1)) (v2 : (c : Dev Cert.MergeOutIdeal.nD) → Buf (Elt Ideal) ((c.tc : Thread Cert.MergeOutIdeal.nD Cert.MergeOutIdeal.τ).loc Cert.MergeOutIdeal.main_v4_2)),
      θ_run (Cert.MergeOutIdeal.defs (F := Ideal)) (onTc (τ := Cert.MergeOutIdeal.τ) (Cert.MergeOutIdeal.main (F := Ideal))) ⟨m, fun _ => 0, g⟩ (fun r => ∀ c : Dev Cert.MergeOutIdeal.nD,
          r.2.mem ((c.tc : Thread Cert.MergeOutIdeal.nD Cert.MergeOutIdeal.τ).loc Cert.MergeOutIdeal.main_v4_0) = v0 c
          ∧ r.2.mem ((c.tc : Thread Cert.MergeOutIdeal.nD Cert.MergeOutIdeal.τ).loc Cert.MergeOutIdeal.main_v4_1) = v1 c
          ∧ r.2.mem ((c.tc : Thread Cert.MergeOutIdeal.nD Cert.MergeOutIdeal.τ).loc Cert.MergeOutIdeal.main_v4_2) = v2 c
          ∧ r.2.mem ((c.tc : Thread Cert.MergeOutIdeal.nD Cert.MergeOutIdeal.τ).loc Cert.MergeOutIdeal.main_arg0) = m ((c.tc : Thread Cert.MergeOutIdeal.nD Cert.MergeOutIdeal.τ).loc Cert.MergeOutIdeal.main_arg0)
          ∧ r.2.mem ((c.tc : Thread Cert.MergeOutIdeal.nD Cert.MergeOutIdeal.τ).loc Cert.MergeOutIdeal.main_arg1) = m ((c.tc : Thread Cert.MergeOutIdeal.nD Cert.MergeOutIdeal.τ).loc Cert.MergeOutIdeal.main_arg1)
          ∧ r.2.mem ((c.tc : Thread Cert.MergeOutIdeal.nD Cert.MergeOutIdeal.τ).loc Cert.MergeOutIdeal.main_arg2) = m ((c.tc : Thread Cert.MergeOutIdeal.nD Cert.MergeOutIdeal.τ).loc Cert.MergeOutIdeal.main_arg2)
          ∧ r.2.mem ((c.tc : Thread Cert.MergeOutIdeal.nD Cert.MergeOutIdeal.τ).loc Cert.MergeOutIdeal.main_arg3) = m ((c.tc : Thread Cert.MergeOutIdeal.nD Cert.MergeOutIdeal.τ).loc Cert.MergeOutIdeal.main_arg3))
      ∧ θ_run (Cert.MergeOutRefIdeal.defs (F := Ideal)) (onTc (τ := Cert.MergeOutRefIdeal.τ) (Cert.MergeOutRefIdeal.main (F := Ideal))) ⟨m', fun _ => 0, g'⟩ (fun r => ∀ c : Dev Cert.MergeOutRefIdeal.nD,
          r.2.mem ((c.tc : Thread Cert.MergeOutRefIdeal.nD Cert.MergeOutRefIdeal.τ).loc Cert.MergeOutRefIdeal.main_v39) = v0 c
          ∧ r.2.mem ((c.tc : Thread Cert.MergeOutRefIdeal.nD Cert.MergeOutRefIdeal.τ).loc Cert.MergeOutRefIdeal.main_v40) = v1 c
          ∧ r.2.mem ((c.tc : Thread Cert.MergeOutRefIdeal.nD Cert.MergeOutRefIdeal.τ).loc Cert.MergeOutRefIdeal.main_v41) = v2 c
          ∧ r.2.mem ((c.tc : Thread Cert.MergeOutRefIdeal.nD Cert.MergeOutRefIdeal.τ).loc Cert.MergeOutRefIdeal.main_arg0) = m' ((c.tc : Thread Cert.MergeOutRefIdeal.nD Cert.MergeOutRefIdeal.τ).loc Cert.MergeOutRefIdeal.main_arg0)
          ∧ r.2.mem ((c.tc : Thread Cert.MergeOutRefIdeal.nD Cert.MergeOutRefIdeal.τ).loc Cert.MergeOutRefIdeal.main_arg1) = m' ((c.tc : Thread Cert.MergeOutRefIdeal.nD Cert.MergeOutRefIdeal.τ).loc Cert.MergeOutRefIdeal.main_arg1)
          ∧ r.2.mem ((c.tc : Thread Cert.MergeOutRefIdeal.nD Cert.MergeOutRefIdeal.τ).loc Cert.MergeOutRefIdeal.main_arg2) = m' ((c.tc : Thread Cert.MergeOutRefIdeal.nD Cert.MergeOutRefIdeal.τ).loc Cert.MergeOutRefIdeal.main_arg2)
          ∧ r.2.mem ((c.tc : Thread Cert.MergeOutRefIdeal.nD Cert.MergeOutRefIdeal.τ).loc Cert.MergeOutRefIdeal.main_arg3) = m' ((c.tc : Thread Cert.MergeOutRefIdeal.nD Cert.MergeOutRefIdeal.τ).loc Cert.MergeOutRefIdeal.main_arg3))

def preserves_FfnW_FfnWIdeal : Prop :=
  True

def algebraic_FfnWIdeal_FfnWRefIdeal [hFfnWIdeal : Cert.FfnWIdeal.Facts] [hFfnWRefIdeal : Cert.FfnWRefIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWRefIdeal.nD Cert.FfnWRefIdeal.τ Cert.FfnWRefIdeal.sig) → Buf (Elt Ideal) ℓ) (g' : Dev Cert.FfnWRefIdeal.nD → PrngReg), Pre_FfnWIdeal m →
    (∀ c : Dev Cert.FfnWIdeal.nD,
      m' ((c.tc : Thread Cert.FfnWRefIdeal.nD Cert.FfnWRefIdeal.τ).loc Cert.FfnWRefIdeal.main_arg0) = m ((c.tc : Thread Cert.FfnWIdeal.nD Cert.FfnWIdeal.τ).loc Cert.FfnWIdeal.main_arg0)
      ∧ m' ((c.tc : Thread Cert.FfnWRefIdeal.nD Cert.FfnWRefIdeal.τ).loc Cert.FfnWRefIdeal.main_arg1) = m ((c.tc : Thread Cert.FfnWIdeal.nD Cert.FfnWIdeal.τ).loc Cert.FfnWIdeal.main_arg1)
      ∧ m' ((c.tc : Thread Cert.FfnWRefIdeal.nD Cert.FfnWRefIdeal.τ).loc Cert.FfnWRefIdeal.main_arg2) = m ((c.tc : Thread Cert.FfnWIdeal.nD Cert.FfnWIdeal.τ).loc Cert.FfnWIdeal.main_arg2)
      ∧ m' ((c.tc : Thread Cert.FfnWRefIdeal.nD Cert.FfnWRefIdeal.τ).loc Cert.FfnWRefIdeal.main_arg3) = m ((c.tc : Thread Cert.FfnWIdeal.nD Cert.FfnWIdeal.τ).loc Cert.FfnWIdeal.main_arg3)) →
    ∃ (v0 : (c : Dev Cert.FfnWIdeal.nD) → Buf (Elt Ideal) ((c.tc : Thread Cert.FfnWIdeal.nD Cert.FfnWIdeal.τ).loc Cert.FfnWIdeal.main_v5_0)) (v1 : (c : Dev Cert.FfnWIdeal.nD) → Buf (Elt Ideal) ((c.tc : Thread Cert.FfnWIdeal.nD Cert.FfnWIdeal.τ).loc Cert.FfnWIdeal.main_v5_1)) (v2 : (c : Dev Cert.FfnWIdeal.nD) → Buf (Elt Ideal) ((c.tc : Thread Cert.FfnWIdeal.nD Cert.FfnWIdeal.τ).loc Cert.FfnWIdeal.main_v5_2)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v5_0) = v0 c
          ∧ r.2.mem ((c.tc : Thread Cert.FfnWIdeal.nD Cert.FfnWIdeal.τ).loc Cert.FfnWIdeal.main_v5_1) = v1 c
          ∧ r.2.mem ((c.tc : Thread Cert.FfnWIdeal.nD Cert.FfnWIdeal.τ).loc Cert.FfnWIdeal.main_v5_2) = v2 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3))
      ∧ θ_run (Cert.FfnWRefIdeal.defs (F := Ideal)) (onTc (τ := Cert.FfnWRefIdeal.τ) (Cert.FfnWRefIdeal.main (F := Ideal))) ⟨m', fun _ => 0, g'⟩ (fun r => ∀ c : Dev Cert.FfnWRefIdeal.nD,
          r.2.mem ((c.tc : Thread Cert.FfnWRefIdeal.nD Cert.FfnWRefIdeal.τ).loc Cert.FfnWRefIdeal.main_v17) = v0 c
          ∧ r.2.mem ((c.tc : Thread Cert.FfnWRefIdeal.nD Cert.FfnWRefIdeal.τ).loc Cert.FfnWRefIdeal.main_v19) = v1 c
          ∧ r.2.mem ((c.tc : Thread Cert.FfnWRefIdeal.nD Cert.FfnWRefIdeal.τ).loc Cert.FfnWRefIdeal.main_v20) = v2 c
          ∧ r.2.mem ((c.tc : Thread Cert.FfnWRefIdeal.nD Cert.FfnWRefIdeal.τ).loc Cert.FfnWRefIdeal.main_arg0) = m' ((c.tc : Thread Cert.FfnWRefIdeal.nD Cert.FfnWRefIdeal.τ).loc Cert.FfnWRefIdeal.main_arg0)
          ∧ r.2.mem ((c.tc : Thread Cert.FfnWRefIdeal.nD Cert.FfnWRefIdeal.τ).loc Cert.FfnWRefIdeal.main_arg1) = m' ((c.tc : Thread Cert.FfnWRefIdeal.nD Cert.FfnWRefIdeal.τ).loc Cert.FfnWRefIdeal.main_arg1)
          ∧ r.2.mem ((c.tc : Thread Cert.FfnWRefIdeal.nD Cert.FfnWRefIdeal.τ).loc Cert.FfnWRefIdeal.main_arg2) = m' ((c.tc : Thread Cert.FfnWRefIdeal.nD Cert.FfnWRefIdeal.τ).loc Cert.FfnWRefIdeal.main_arg2)
          ∧ r.2.mem ((c.tc : Thread Cert.FfnWRefIdeal.nD Cert.FfnWRefIdeal.τ).loc Cert.FfnWRefIdeal.main_arg3) = m' ((c.tc : Thread Cert.FfnWRefIdeal.nD Cert.FfnWRefIdeal.τ).loc Cert.FfnWRefIdeal.main_arg3))

def preserves_Norms_NormsIdeal : Prop :=
  True

def algebraic_NormsIdeal_NormsRefIdeal [hNormsIdeal : Cert.NormsIdeal.Facts] [hNormsRefIdeal : Cert.NormsRefIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)
      ∧ m' ((c.tc : Thread Cert.NormsRefIdeal.nD Cert.NormsRefIdeal.τ).loc Cert.NormsRefIdeal.main_arg2) = m ((c.tc : Thread Cert.NormsIdeal.nD Cert.NormsIdeal.τ).loc Cert.NormsIdeal.main_arg2)
      ∧ m' ((c.tc : Thread Cert.NormsRefIdeal.nD Cert.NormsRefIdeal.τ).loc Cert.NormsRefIdeal.main_arg3) = m ((c.tc : Thread Cert.NormsIdeal.nD Cert.NormsIdeal.τ).loc Cert.NormsIdeal.main_arg3)
      ∧ m' ((c.tc : Thread Cert.NormsRefIdeal.nD Cert.NormsRefIdeal.τ).loc Cert.NormsRefIdeal.main_arg4) = m ((c.tc : Thread Cert.NormsIdeal.nD Cert.NormsIdeal.τ).loc Cert.NormsIdeal.main_arg4)) →
    ∃ (v0 : (c : Dev Cert.NormsIdeal.nD) → Buf (Elt Ideal) ((c.tc : Thread Cert.NormsIdeal.nD Cert.NormsIdeal.τ).loc Cert.NormsIdeal.main_v2_0)) (v1 : (c : Dev Cert.NormsIdeal.nD) → Buf (Elt Ideal) ((c.tc : Thread Cert.NormsIdeal.nD Cert.NormsIdeal.τ).loc Cert.NormsIdeal.main_v2_1)) (v2 : (c : Dev Cert.NormsIdeal.nD) → Buf (Elt Ideal) ((c.tc : Thread Cert.NormsIdeal.nD Cert.NormsIdeal.τ).loc Cert.NormsIdeal.main_v2_2)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v2_0) = v0 c
          ∧ r.2.mem ((c.tc : Thread Cert.NormsIdeal.nD Cert.NormsIdeal.τ).loc Cert.NormsIdeal.main_v2_1) = v1 c
          ∧ r.2.mem ((c.tc : Thread Cert.NormsIdeal.nD Cert.NormsIdeal.τ).loc Cert.NormsIdeal.main_v2_2) = v2 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
          ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v49) = v0 c
          ∧ r.2.mem ((c.tc : Thread Cert.NormsRefIdeal.nD Cert.NormsRefIdeal.τ).loc Cert.NormsRefIdeal.main_v50) = v1 c
          ∧ r.2.mem ((c.tc : Thread Cert.NormsRefIdeal.nD Cert.NormsRefIdeal.τ).loc Cert.NormsRefIdeal.main_v51) = v2 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1)
          ∧ r.2.mem ((c.tc : Thread Cert.NormsRefIdeal.nD Cert.NormsRefIdeal.τ).loc Cert.NormsRefIdeal.main_arg2) = m' ((c.tc : Thread Cert.NormsRefIdeal.nD Cert.NormsRefIdeal.τ).loc Cert.NormsRefIdeal.main_arg2)
          ∧ r.2.mem ((c.tc : Thread Cert.NormsRefIdeal.nD Cert.NormsRefIdeal.τ).loc Cert.NormsRefIdeal.main_arg3) = m' ((c.tc : Thread Cert.NormsRefIdeal.nD Cert.NormsRefIdeal.τ).loc Cert.NormsRefIdeal.main_arg3)
          ∧ r.2.mem ((c.tc : Thread Cert.NormsRefIdeal.nD Cert.NormsRefIdeal.τ).loc Cert.NormsRefIdeal.main_arg4) = m' ((c.tc : Thread Cert.NormsRefIdeal.nD Cert.NormsRefIdeal.τ).loc Cert.NormsRefIdeal.main_arg4))

def preserves_FfnX_FfnXIdeal : Prop :=
  True

def algebraic_FfnXIdeal_FfnXRefIdeal [hFfnXIdeal : Cert.FfnXIdeal.Facts] [hFfnXRefIdeal : Cert.FfnXRefIdeal.Facts] : Prop :=
  ∀ (m : (ℓ : Loc Cert.FfnXIdeal.nD Cert.FfnXIdeal.τ Cert.FfnXIdeal.sig) → Buf (Elt Ideal) ℓ) (g : Dev Cert.FfnXIdeal.nD → PrngReg)
    (m' : (ℓ : Loc Cert.FfnXRefIdeal.nD Cert.FfnXRefIdeal.τ Cert.FfnXRefIdeal.sig) → Buf (Elt Ideal) ℓ) (g' : Dev Cert.FfnXRefIdeal.nD → PrngReg), Pre_FfnXIdeal m →
    (∀ c : Dev Cert.FfnXIdeal.nD,
      m' ((c.tc : Thread Cert.FfnXRefIdeal.nD Cert.FfnXRefIdeal.τ).loc Cert.FfnXRefIdeal.main_arg0) = m ((c.tc : Thread Cert.FfnXIdeal.nD Cert.FfnXIdeal.τ).loc Cert.FfnXIdeal.main_arg0)
      ∧ m' ((c.tc : Thread Cert.FfnXRefIdeal.nD Cert.FfnXRefIdeal.τ).loc Cert.FfnXRefIdeal.main_arg1) = m ((c.tc : Thread Cert.FfnXIdeal.nD Cert.FfnXIdeal.τ).loc Cert.FfnXIdeal.main_arg1)
      ∧ m' ((c.tc : Thread Cert.FfnXRefIdeal.nD Cert.FfnXRefIdeal.τ).loc Cert.FfnXRefIdeal.main_arg2) = m ((c.tc : Thread Cert.FfnXIdeal.nD Cert.FfnXIdeal.τ).loc Cert.FfnXIdeal.main_arg2)
      ∧ m' ((c.tc : Thread Cert.FfnXRefIdeal.nD Cert.FfnXRefIdeal.τ).loc Cert.FfnXRefIdeal.main_arg3) = m ((c.tc : Thread Cert.FfnXIdeal.nD Cert.FfnXIdeal.τ).loc Cert.FfnXIdeal.main_arg3)
      ∧ m' ((c.tc : Thread Cert.FfnXRefIdeal.nD Cert.FfnXRefIdeal.τ).loc Cert.FfnXRefIdeal.main_arg4) = m ((c.tc : Thread Cert.FfnXIdeal.nD Cert.FfnXIdeal.τ).loc Cert.FfnXIdeal.main_arg4)) →
    ∃ (v0 : (c : Dev Cert.FfnXIdeal.nD) → Buf (Elt Ideal) ((c.tc : Thread Cert.FfnXIdeal.nD Cert.FfnXIdeal.τ).loc Cert.FfnXIdeal.main_v4_0)) (v1 : (c : Dev Cert.FfnXIdeal.nD) → Buf (Elt Ideal) ((c.tc : Thread Cert.FfnXIdeal.nD Cert.FfnXIdeal.τ).loc Cert.FfnXIdeal.main_v4_1)),
      θ_run (Cert.FfnXIdeal.defs (F := Ideal)) (onTc (τ := Cert.FfnXIdeal.τ) (Cert.FfnXIdeal.main (F := Ideal))) ⟨m, fun _ => 0, g⟩ (fun r => ∀ c : Dev Cert.FfnXIdeal.nD,
          r.2.mem ((c.tc : Thread Cert.FfnXIdeal.nD Cert.FfnXIdeal.τ).loc Cert.FfnXIdeal.main_v4_0) = v0 c
          ∧ r.2.mem ((c.tc : Thread Cert.FfnXIdeal.nD Cert.FfnXIdeal.τ).loc Cert.FfnXIdeal.main_v4_1) = v1 c
          ∧ r.2.mem ((c.tc : Thread Cert.FfnXIdeal.nD Cert.FfnXIdeal.τ).loc Cert.FfnXIdeal.main_arg0) = m ((c.tc : Thread Cert.FfnXIdeal.nD Cert.FfnXIdeal.τ).loc Cert.FfnXIdeal.main_arg0)
          ∧ r.2.mem ((c.tc : Thread Cert.FfnXIdeal.nD Cert.FfnXIdeal.τ).loc Cert.FfnXIdeal.main_arg1) = m ((c.tc : Thread Cert.FfnXIdeal.nD Cert.FfnXIdeal.τ).loc Cert.FfnXIdeal.main_arg1)
          ∧ r.2.mem ((c.tc : Thread Cert.FfnXIdeal.nD Cert.FfnXIdeal.τ).loc Cert.FfnXIdeal.main_arg2) = m ((c.tc : Thread Cert.FfnXIdeal.nD Cert.FfnXIdeal.τ).loc Cert.FfnXIdeal.main_arg2)
          ∧ r.2.mem ((c.tc : Thread Cert.FfnXIdeal.nD Cert.FfnXIdeal.τ).loc Cert.FfnXIdeal.main_arg3) = m ((c.tc : Thread Cert.FfnXIdeal.nD Cert.FfnXIdeal.τ).loc Cert.FfnXIdeal.main_arg3)
          ∧ r.2.mem ((c.tc : Thread Cert.FfnXIdeal.nD Cert.FfnXIdeal.τ).loc Cert.FfnXIdeal.main_arg4) = m ((c.tc : Thread Cert.FfnXIdeal.nD Cert.FfnXIdeal.τ).loc Cert.FfnXIdeal.main_arg4))
      ∧ θ_run (Cert.FfnXRefIdeal.defs (F := Ideal)) (onTc (τ := Cert.FfnXRefIdeal.τ) (Cert.FfnXRefIdeal.main (F := Ideal))) ⟨m', fun _ => 0, g'⟩ (fun r => ∀ c : Dev Cert.FfnXRefIdeal.nD,
          r.2.mem ((c.tc : Thread Cert.FfnXRefIdeal.nD Cert.FfnXRefIdeal.τ).loc Cert.FfnXRefIdeal.main_v38) = v0 c
          ∧ r.2.mem ((c.tc : Thread Cert.FfnXRefIdeal.nD Cert.FfnXRefIdeal.τ).loc Cert.FfnXRefIdeal.main_v39) = v1 c
          ∧ r.2.mem ((c.tc : Thread Cert.FfnXRefIdeal.nD Cert.FfnXRefIdeal.τ).loc Cert.FfnXRefIdeal.main_arg0) = m' ((c.tc : Thread Cert.FfnXRefIdeal.nD Cert.FfnXRefIdeal.τ).loc Cert.FfnXRefIdeal.main_arg0)
          ∧ r.2.mem ((c.tc : Thread Cert.FfnXRefIdeal.nD Cert.FfnXRefIdeal.τ).loc Cert.FfnXRefIdeal.main_arg1) = m' ((c.tc : Thread Cert.FfnXRefIdeal.nD Cert.FfnXRefIdeal.τ).loc Cert.FfnXRefIdeal.main_arg1)
          ∧ r.2.mem ((c.tc : Thread Cert.FfnXRefIdeal.nD Cert.FfnXRefIdeal.τ).loc Cert.FfnXRefIdeal.main_arg2) = m' ((c.tc : Thread Cert.FfnXRefIdeal.nD Cert.FfnXRefIdeal.τ).loc Cert.FfnXRefIdeal.main_arg2)
          ∧ r.2.mem ((c.tc : Thread Cert.FfnXRefIdeal.nD Cert.FfnXRefIdeal.τ).loc Cert.FfnXRefIdeal.main_arg3) = m' ((c.tc : Thread Cert.FfnXRefIdeal.nD Cert.FfnXRefIdeal.τ).loc Cert.FfnXRefIdeal.main_arg3)
          ∧ r.2.mem ((c.tc : Thread Cert.FfnXRefIdeal.nD Cert.FfnXRefIdeal.τ).loc Cert.FfnXRefIdeal.main_arg4) = m' ((c.tc : Thread Cert.FfnXRefIdeal.nD Cert.FfnXRefIdeal.τ).loc Cert.FfnXRefIdeal.main_arg4))

def preserves_Flash_FlashIdeal : Prop :=
  True

def algebraic_FlashIdeal_FlashRefIdeal_pre_finite [hFlashIdeal : Cert.FlashIdeal.Facts] [hFlashRefIdeal : Cert.FlashRefIdeal.Facts] [hPre_finite : Cert.Pre_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v49)) (v1 : (c : Dev Cert.FlashIdeal.nD) → Buf (Elt Ideal) ((c.tc : Thread Cert.FlashIdeal.nD Cert.FlashIdeal.τ).loc Cert.FlashIdeal.main_v51)) (v2 : (c : Dev Cert.FlashIdeal.nD) → Buf (Elt Ideal) ((c.tc : Thread Cert.FlashIdeal.nD Cert.FlashIdeal.τ).loc Cert.FlashIdeal.main_v45_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v49) = v0 c
          ∧ r.2.mem ((c.tc : Thread Cert.FlashIdeal.nD Cert.FlashIdeal.τ).loc Cert.FlashIdeal.main_v51) = v1 c
          ∧ r.2.mem ((c.tc : Thread Cert.FlashIdeal.nD Cert.FlashIdeal.τ).loc Cert.FlashIdeal.main_v45_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v66) = v0 c
          ∧ r.2.mem ((c.tc : Thread Cert.FlashRefIdeal.nD Cert.FlashRefIdeal.τ).loc Cert.FlashRefIdeal.main_v64) = v1 c
          ∧ r.2.mem ((c.tc : Thread Cert.FlashRefIdeal.nD Cert.FlashRefIdeal.τ).loc Cert.FlashRefIdeal.main_v67) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Inproj_InprojIdeal : Prop :=
  True

def algebraic_InprojIdeal_InprojRefIdeal_pre_rotary_finite [hInprojIdeal : Cert.InprojIdeal.Facts] [hInprojRefIdeal : Cert.InprojRefIdeal.Facts] [hPre_rotary_finite : Cert.Pre_rotary_finite.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_rotary_finite m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)) →
    ∃ (v0 : (c : Dev Cert.InprojIdeal.nD) → Buf (Elt Ideal) ((c.tc : Thread Cert.InprojIdeal.nD Cert.InprojIdeal.τ).loc Cert.InprojIdeal.main_v52_0)) (v1 : (c : Dev Cert.InprojIdeal.nD) → Buf (Elt Ideal) ((c.tc : Thread Cert.InprojIdeal.nD Cert.InprojIdeal.τ).loc Cert.InprojIdeal.main_v63)) (v2 : (c : Dev Cert.InprojIdeal.nD) → Buf (Elt Ideal) ((c.tc : Thread Cert.InprojIdeal.nD Cert.InprojIdeal.τ).loc Cert.InprojIdeal.main_v66)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v52_0) = v0 c
          ∧ r.2.mem ((c.tc : Thread Cert.InprojIdeal.nD Cert.InprojIdeal.τ).loc Cert.InprojIdeal.main_v63) = v1 c
          ∧ r.2.mem ((c.tc : Thread Cert.InprojIdeal.nD Cert.InprojIdeal.τ).loc Cert.InprojIdeal.main_v66) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v83) = v0 c
          ∧ r.2.mem ((c.tc : Thread Cert.InprojRefIdeal.nD Cert.InprojRefIdeal.τ).loc Cert.InprojRefIdeal.main_v68) = v1 c
          ∧ r.2.mem ((c.tc : Thread Cert.InprojRefIdeal.nD Cert.InprojRefIdeal.τ).loc Cert.InprojRefIdeal.main_v86) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9))

def Claim : Prop :=
  ∃ (hLoss : Cert.Loss.Facts) (hLossIdeal : Cert.LossIdeal.Facts) (hLossRefIdeal : Cert.LossRefIdeal.Facts) (hBranch : Cert.Branch.Facts) (hBranchIdeal : Cert.BranchIdeal.Facts) (hBranchRefIdeal : Cert.BranchRefIdeal.Facts) (hMergeOut : Cert.MergeOut.Facts) (hMergeOutIdeal : Cert.MergeOutIdeal.Facts) (hMergeOutRefIdeal : Cert.MergeOutRefIdeal.Facts) (hFfnW : Cert.FfnW.Facts) (hFfnWIdeal : Cert.FfnWIdeal.Facts) (hFfnWRefIdeal : Cert.FfnWRefIdeal.Facts) (hNorms : Cert.Norms.Facts) (hNormsIdeal : Cert.NormsIdeal.Facts) (hNormsRefIdeal : Cert.NormsRefIdeal.Facts) (hFfnX : Cert.FfnX.Facts) (hFfnXIdeal : Cert.FfnXIdeal.Facts) (hFfnXRefIdeal : Cert.FfnXRefIdeal.Facts) (hFlash : Cert.Flash.Facts) (hFlashIdeal : Cert.FlashIdeal.Facts) (hFlashRefIdeal : Cert.FlashRefIdeal.Facts) (hInproj : Cert.Inproj.Facts) (hInprojIdeal : Cert.InprojIdeal.Facts) (hInprojRefIdeal : Cert.InprojRefIdeal.Facts) (hPre_finite : Cert.Pre_finite.Facts) (hPre_rotary_finite : Cert.Pre_rotary_finite.Facts),
    quiescent_Loss (hLoss := hLoss)
    ∧ quiescent_LossIdeal (hLossIdeal := hLossIdeal)
    ∧ quiescent_LossRefIdeal (hLossRefIdeal := hLossRefIdeal)
    ∧ quiescent_Branch (hBranch := hBranch)
    ∧ quiescent_BranchIdeal (hBranchIdeal := hBranchIdeal)
    ∧ quiescent_BranchRefIdeal (hBranchRefIdeal := hBranchRefIdeal)
    ∧ quiescent_MergeOut (hMergeOut := hMergeOut)
    ∧ quiescent_MergeOutIdeal (hMergeOutIdeal := hMergeOutIdeal)
    ∧ quiescent_MergeOutRefIdeal (hMergeOutRefIdeal := hMergeOutRefIdeal)
    ∧ quiescent_FfnW (hFfnW := hFfnW)
    ∧ quiescent_FfnWIdeal (hFfnWIdeal := hFfnWIdeal)
    ∧ quiescent_FfnWRefIdeal (hFfnWRefIdeal := hFfnWRefIdeal)
    ∧ quiescent_Norms (hNorms := hNorms)
    ∧ quiescent_NormsIdeal (hNormsIdeal := hNormsIdeal)
    ∧ quiescent_NormsRefIdeal (hNormsRefIdeal := hNormsRefIdeal)
    ∧ quiescent_FfnX (hFfnX := hFfnX)
    ∧ quiescent_FfnXIdeal (hFfnXIdeal := hFfnXIdeal)
    ∧ quiescent_FfnXRefIdeal (hFfnXRefIdeal := hFfnXRefIdeal)
    ∧ quiescent_Flash (hFlash := hFlash)
    ∧ quiescent_FlashIdeal (hFlashIdeal := hFlashIdeal)
    ∧ quiescent_FlashIdeal_pre_finite (hFlashIdeal := hFlashIdeal) (hPre_finite := hPre_finite)
    ∧ quiescent_FlashRefIdeal (hFlashRefIdeal := hFlashRefIdeal)
    ∧ quiescent_FlashRefIdeal_pre_finite (hFlashRefIdeal := hFlashRefIdeal) (hPre_finite := hPre_finite)
    ∧ quiescent_Inproj (hInproj := hInproj)
    ∧ quiescent_InprojIdeal (hInprojIdeal := hInprojIdeal)
    ∧ quiescent_InprojIdeal_pre_rotary_finite (hInprojIdeal := hInprojIdeal) (hPre_rotary_finite := hPre_rotary_finite)
    ∧ quiescent_InprojRefIdeal (hInprojRefIdeal := hInprojRefIdeal)
    ∧ quiescent_InprojRefIdeal_pre_rotary_finite (hInprojRefIdeal := hInprojRefIdeal) (hPre_rotary_finite := hPre_rotary_finite)
    ∧ preserves_Loss_LossIdeal
    ∧ algebraic_LossIdeal_LossRefIdeal (hLossIdeal := hLossIdeal) (hLossRefIdeal := hLossRefIdeal)
    ∧ preserves_Branch_BranchIdeal
    ∧ algebraic_BranchIdeal_BranchRefIdeal (hBranchIdeal := hBranchIdeal) (hBranchRefIdeal := hBranchRefIdeal)
    ∧ preserves_MergeOut_MergeOutIdeal
    ∧ algebraic_MergeOutIdeal_MergeOutRefIdeal (hMergeOutIdeal := hMergeOutIdeal) (hMergeOutRefIdeal := hMergeOutRefIdeal)
    ∧ preserves_FfnW_FfnWIdeal
    ∧ algebraic_FfnWIdeal_FfnWRefIdeal (hFfnWIdeal := hFfnWIdeal) (hFfnWRefIdeal := hFfnWRefIdeal)
    ∧ preserves_Norms_NormsIdeal
    ∧ algebraic_NormsIdeal_NormsRefIdeal (hNormsIdeal := hNormsIdeal) (hNormsRefIdeal := hNormsRefIdeal)
    ∧ preserves_FfnX_FfnXIdeal
    ∧ algebraic_FfnXIdeal_FfnXRefIdeal (hFfnXIdeal := hFfnXIdeal) (hFfnXRefIdeal := hFfnXRefIdeal)
    ∧ preserves_Flash_FlashIdeal
    ∧ algebraic_FlashIdeal_FlashRefIdeal_pre_finite (hFlashIdeal := hFlashIdeal) (hFlashRefIdeal := hFlashRefIdeal) (hPre_finite := hPre_finite)
    ∧ preserves_Inproj_InprojIdeal
    ∧ algebraic_InprojIdeal_InprojRefIdeal_pre_rotary_finite (hInprojIdeal := hInprojIdeal) (hInprojRefIdeal := hInprojRefIdeal) (hPre_rotary_finite := hPre_rotary_finite)
-- ==== Pre_finite.lean ====
abbrev S8192x4x96 : Shape := ⟨3, ![8192, 4, 96]⟩
abbrev S8192x256 : Shape := ⟨2, ![8192, 256]⟩
abbrev S_ : Shape := ⟨0, ![]⟩

class Facts : Prop where
  bcast_S_S8192x4x96 : S_.BroadcastsInDim S8192x4x96 (![] : Fin 0 → Fin S8192x4x96.rank)
  bcast_S_S8192x256 : S_.BroadcastsInDim S8192x256 (![] : Fin 0 → Fin S8192x256.rank)

variable [Facts]

def fn {F : FTy → Type} [FloatOps F] (main_arg0 : FVec F S8192x4x96 .f32) (main_arg1 : FVec F S8192x4x96 .f32) (main_arg2 : FVec F S8192x256 .f32) (main_arg3 : FVec F S8192x256 .f32) : IVec S8192x4x96 1 × IVec S8192x4x96 1 × IVec S8192x256 1 × IVec S8192x256 1 :=
  let main_v0 : FVec F S8192x4x96 .f32 := Host.absf main_arg0
  let main_cst : FVec F S_ .f32 := constant S_ .f32 0x7F800000#32
  let main_v1 : FVec F S8192x4x96 .f32 := broadcastInDim S8192x4x96 ![] bcast_S_S8192x4x96 main_cst
  let main_v2 : IVec S8192x4x96 1 := cmpf .olt main_v0 main_v1
  let main_v3 : FVec F S8192x4x96 .f32 := Host.absf main_arg1
  let main_cst_0 : FVec F S_ .f32 := constant S_ .f32 0x7F800000#32
  let main_v4 : FVec F S8192x4x96 .f32 := broadcastInDim S8192x4x96 ![] bcast_S_S8192x4x96 main_cst_0
  let main_v5 : IVec S8192x4x96 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  (main_v2, main_v5, main_v8, main_v11)
-- ==== Pre_rotary_finite.lean ====
abbrev S8192x1024 : Shape := ⟨2, ![8192, 1024]⟩
abbrev S1024 : Shape := ⟨1, ![1024]⟩
abbrev S1024x6048 : Shape := ⟨2, ![1024, 6048]⟩
abbrev S8192 : Shape := ⟨1, ![8192]⟩
abbrev S8192x256 : Shape := ⟨2, ![8192, 256]⟩
abbrev S8192x128 : Shape := ⟨2, ![8192, 128]⟩
abbrev S8192x32 : Shape := ⟨2, ![8192, 32]⟩
abbrev S8192x1536 : Shape := ⟨2, ![8192, 1536]⟩
abbrev S8192x4096 : Shape := ⟨2, ![8192, 4096]⟩
abbrev S_ : Shape := ⟨0, ![]⟩

class Facts : Prop where
  bcast_S_S1024 : S_.BroadcastsInDim S1024 (![] : Fin 0 → Fin S1024.rank)
  bcast_S_S1024x6048 : S_.BroadcastsInDim S1024x6048 (![] : Fin 0 → Fin S1024x6048.rank)
  bcast_S_S8192x32 : S_.BroadcastsInDim S8192x32 (![] : Fin 0 → Fin S8192x32.rank)

variable [Facts]

def fn {F : FTy → Type} [FloatOps F] (main_arg0 : FVec F S8192x1024 .f32) (main_arg1 : FVec F S1024 .f32) (main_arg2 : FVec F S1024x6048 .f32) (main_arg3 : IVec S8192 32) (main_arg4 : FVec F S8192x1024 .f32) (main_arg5 : FVec F S8192x256 .f32) (main_arg6 : FVec F S8192x128 .f32) (main_arg7 : FVec F S8192x32 .f32) (main_arg8 : FVec F S8192x1536 .f32) (main_arg9 : FVec F S8192x4096 .f32) : IVec S1024 1 × IVec S1024x6048 1 × IVec S8192x32 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x6048 .f32 := Host.absf main_arg2
  let main_cst_0 : FVec F S_ .f32 := constant S_ .f32 0x7F800000#32
  let main_v4 : FVec F S1024x6048 .f32 := broadcastInDim S1024x6048 ![] bcast_S_S1024x6048 main_cst_0
  let main_v5 : IVec S1024x6048 1 := cmpf .olt main_v3 main_v4
  let main_v6 : FVec F S8192x32 .f32 := Host.absf main_arg7
  let main_cst_1 : FVec F S_ .f32 := constant S_ .f32 0x7F800000#32
  let main_v7 : FVec F S8192x32 .f32 := broadcastInDim S8192x32 ![] bcast_S_S8192x32 main_cst_1
  let main_v8 : IVec S8192x32 1 := cmpf .olt main_v6 main_v7
  (main_v2, main_v5, main_v8)
-- ==== Loss.lean ====
abbrev S8192x1024 : Shape := ⟨2, ![8192, 1024]⟩
abbrev S8x128 : Shape := ⟨2, ![8, 128]⟩
abbrev S512x1024 : Shape := ⟨2, ![512, 1024]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v15 : BitVec 1 := Scalar.cmpi .eq arg0 c15_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Branch.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S6048x1024 : Shape := ⟨2, ![6048, 1024]⟩
abbrev S4096x1024 : Shape := ⟨2, ![4096, 1024]⟩
abbrev S1024x256 : Shape := ⟨2, ![1024, 256]⟩
abbrev S1x1024x256 : Shape := ⟨3, ![1, 1024, 256]⟩
abbrev S4x1024x256 : Shape := ⟨3, ![4, 1024, 256]⟩
abbrev S1x4096 : Shape := ⟨2, ![1, 4096]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S6048x1024, .f32⟩
  | .hbm, ⟨10, _⟩ => ⟨S6048x1024, .bf16⟩
  | .hbm, ⟨11, _⟩ => ⟨S4096x1024, .bf16⟩
  | .hbm, ⟨12, _⟩ => ⟨S1024x256, .f32⟩
  | .hbm, ⟨13, _⟩ => ⟨S1024x256, .bf16⟩
  | .hbm, ⟨14, _⟩ => ⟨S1024x256, .f32⟩
  | .hbm, ⟨15, _⟩ => ⟨S1024x256, .bf16⟩
  | .hbm, ⟨16, _⟩ => ⟨S1024x256, .f32⟩
  | .hbm, ⟨17, _⟩ => ⟨S1024x256, .bf16⟩
  | .hbm, ⟨18, _⟩ => ⟨S1024x256, .f32⟩
  | .hbm, ⟨19, _⟩ => ⟨S1024x256, .bf16⟩
  | .hbm, ⟨20, _⟩ => ⟨S1x1024x256, .bf16⟩
  | .hbm, ⟨21, _⟩ => ⟨S1x1024x256, .bf16⟩
  | .hbm, ⟨22, _⟩ => ⟨S1x1024x256, .bf16⟩
  | .hbm, ⟨23, _⟩ => ⟨S1x1024x256, .bf16⟩
  | .hbm, ⟨24, _⟩ => ⟨S4x1024x256, .bf16⟩
  | .hbm, ⟨25, _⟩ => ⟨S8192x1024, .bf16⟩
  | .hbm, ⟨26, _⟩ => ⟨S8192x256, .bf16⟩
  | .hbm, ⟨27, _⟩ => ⟨S1x4096, .f32⟩
  | .hbm, ⟨28, _⟩ => ⟨S8192x256, .f32⟩
  | .hbm, ⟨29, _⟩ => ⟨S8192x1024, .bf16⟩
  | .hbm, ⟨30, _⟩ => ⟨S1024x1024, .bf16⟩
  | .hbm, ⟨31, _⟩ => ⟨S1x1024, .f32⟩
  | .hbm, ⟨32, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x256, .bf16⟩
  | .local _ .vmem, ⟨9, _⟩ => ⟨S1024x256, .f32⟩
  | .local _ .vmem, ⟨10, _⟩ => ⟨S1024x256, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x256, .bf16⟩
  | .local _ .vmem, ⟨16, _⟩ => ⟨S1024x1024, .f32⟩
  | .local _ .vmem, ⟨17, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def k0_cond6 (i : grid0.Coords) : BitVec 1 :=
  let arg0 : BitVec 32 := BitVec.ofNat 32 (i 0).val
  let c7_i32 : BitVec 32 := 7#32
  let v1 : BitVec 1 := Scalar.cmpi .eq arg0 c7_i32
  let v49 : BitVec 32 := Scalar.extui v1
  let c0_i32_30 : BitVec 32 := 0#32
  let v50 : BitVec 1 := Scalar.cmpi .ne v49 c0_i32_30
  v50

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v53 : BitVec 32 := Scalar.extui v0
  let c0_i32_32 : BitVec 32 := 0#32
  let v54 : BitVec 1 := Scalar.cmpi .ne v53 c0_i32_32
  v54

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v55 : BitVec 1 := Scalar.xori v0 true_33
  let v56 : BitVec 32 := Scalar.extui v55
  let c0_i32_34 : BitVec 32 := 0#32
  let v57 : BitVec 1 := Scalar.cmpi .ne v56 c0_i32_34
  v57

def k0_cond3 (i : grid0.Coords) : BitVec 1 :=
  let arg0 : BitVec 32 := BitVec.ofNat 32 (i 0).val
  let c7_i32 : BitVec 32 := 7#32
  let v1 : BitVec 1 := Scalar.cmpi .eq arg0 c7_i32
  let v41 : BitVec 32 := Scalar.extui v1
  let c0_i32_25 : BitVec 32 := 0#32
  let v42 : BitVec 1 := Scalar.cmpi .ne v41 c0_i32_25
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BranchRefIdeal.lean ====
abbrev S8192x1024 : Shape := ⟨2, ![8192, 1024]⟩
abbrev S8192x256 : Shape := ⟨2, ![8192, 256]⟩
abbrev S1024x6048 : Shape := ⟨2, ![1024, 6048]⟩
abbrev S4096 : Shape := ⟨1, ![4096]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x256 : Shape := ⟨2, ![1024, 256]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1024x6048, .f32⟩
  | .hbm, ⟨4, _⟩ => ⟨S4096, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S8192x1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1024x256, .f32⟩
  | .hbm, ⟨32, _⟩ => ⟨S256x1024, .f32⟩
  | .hbm, ⟨33, _⟩ => ⟨S8192x256, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S1024x1024, .f32⟩
  | .hbm, ⟨41, _⟩ => ⟨S1024x1024, .f32⟩
  | .hbm, ⟨42, _⟩ => ⟨S8192x1024, .bf16⟩
  | .hbm, ⟨43, _⟩ => ⟨S1024x1024, .f32⟩
  | .hbm, ⟨44, _⟩ => ⟨S1024x1024, .bf16⟩
  | .hbm, ⟨45, _⟩ => ⟨S1x1024, .f32⟩
  | .hbm, ⟨46, _⟩ => ⟨S1024x256, .f32⟩
  | .hbm, ⟨47, _⟩ => ⟨S1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== MergeOut.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S1024x1024, .bf16⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v1 : BitVec 1 := Scalar.cmpi .eq arg0 c7_i32
  let v45 : BitVec 32 := Scalar.extui v1
  let c0_i32_20 : BitVec 32 := 0#32
  let v46 : BitVec 1 := Scalar.cmpi .ne v45 c0_i32_20
  v46

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v47 : BitVec 32 := Scalar.extui v0
  let c0_i32_21 : BitVec 32 := 0#32
  let v48 : BitVec 1 := Scalar.cmpi .ne v47 c0_i32_21
  v48

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_22 : BitVec 1 := 1#1
  let v49 : BitVec 1 := Scalar.xori v0 true_22
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MergeOutRefIdeal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1024x1024, .f32⟩
  | .hbm, ⟨51, _⟩ => ⟨S1024x1024, .f32⟩
  | .hbm, ⟨52, _⟩ => ⟨S8192x1024, .f32⟩
  | .hbm, ⟨53, _⟩ => ⟨S1024x1024, .bf16⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== FfnW.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S8192x1024, .bf16⟩
  | .hbm, ⟨5, _⟩ => ⟨S8192x1024, .bf16⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S8192x4096, .bf16⟩
  | .hbm, ⟨10, _⟩ => ⟨S4096x1024, .bf16⟩
  | .hbm, ⟨11, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond6 (i : grid0.Coords) : BitVec 1 :=
  let arg1 : BitVec 32 := BitVec.ofNat 32 (i 1).val
  let c7_i32 : BitVec 32 := 7#32
  let v1 : BitVec 1 := Scalar.cmpi .eq arg1 c7_i32
  let v35 : BitVec 32 := Scalar.extui v1
  let c0_i32_20 : BitVec 32 := 0#32
  let v36 : BitVec 1 := Scalar.cmpi .ne v35 c0_i32_20
  v36

def k0_cond3 (i : grid0.Coords) : BitVec 1 :=
  let arg1 : BitVec 32 := BitVec.ofNat 32 (i 1).val
  let c7_i32 : BitVec 32 := 7#32
  let v1 : BitVec 1 := Scalar.cmpi .eq arg1 c7_i32
  let v19 : BitVec 32 := Scalar.extui v1
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnWRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x4096, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .i1⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S1024x4096, .f32⟩
  | .hbm, ⟨19, _⟩ => ⟨S4096x1024, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S4096x1024, .f32⟩
  | .hbm, ⟨26, _⟩ => ⟨S1024x4096, .f32⟩
  | .hbm, ⟨27, _⟩ => ⟨S8192x4096, .bf16⟩
  | .hbm, ⟨28, _⟩ => ⟨S4096x1024, .f32⟩
  | .hbm, ⟨29, _⟩ => ⟨S4096x1024, .bf16⟩
  | .hbm, ⟨30, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Norms.lean ====
abbrev S8192x1024 : Shape := ⟨2, ![8192, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .bf16⟩
  | .hbm, ⟨8, _⟩ => ⟨S8192x1024, .bf16⟩
  | .hbm, ⟨9, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_21 : BitVec 32 := 0#32
  let v50 : BitVec 1 := Scalar.cmpi .ne v49 c0_i32_21
  v50

def k0_cond2 (i : grid0.Coords) : BitVec 1 :=
  let arg0 : BitVec 32 := BitVec.ofNat 32 (i 0).val
  let c0_i32 : BitVec 32 := 0#32
  let v48 : BitVec 1 := Scalar.cmpi .eq arg0 c0_i32
  let v_true : BitVec 1 := 1#1
  let v51 : BitVec 1 := Scalar.xori v48 v_true
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormsRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .bf16⟩
  | .hbm, ⟨67, _⟩ => ⟨S8192x1024, .bf16⟩
  | .hbm, ⟨68, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== FfnX.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x4096, .bf16⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v39 : BitVec 1 := Scalar.xori v36 v_true
  let v40 : BitVec 32 := Scalar.extui v39
  let c0_i32_18 : BitVec 32 := 0#32
  let v41 : BitVec 1 := Scalar.cmpi .ne v40 c0_i32_18
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnXRefIdeal.lean ====
abbrev S8192x4096 : Shape := ⟨2, ![8192, 4096]⟩
abbrev S1024x4096 : Shape := ⟨2, ![1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Flash.lean ====
abbrev S8192x4x96 : Shape := ⟨3, ![8192, 4, 96]⟩
abbrev S8192x256 : Shape := ⟨2, ![8192, 256]⟩
abbrev S36 : Shape := ⟨1, ![36]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x8192x128 : Shape := ⟨3, ![4, 8192, 128]⟩
abbrev S8192x4x64 : Shape := ⟨3, ![8192, 4, 64]⟩
abbrev S4x64x8192 : Shape := ⟨3, ![4, 64, 8192]⟩
abbrev S4x8192x96 : Shape := ⟨3, ![4, 8192, 96]⟩
abbrev S4x1024x128 : Shape := ⟨3, ![4, 1024, 128]⟩
abbrev S1 : Shape := ⟨1, ![1]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩
abbrev S1024x1024 : Shape := ⟨2, ![1024, 1024]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩

abbrev nBuf : Space → Nat
  | .hbm => 74
  | .vmem => 18
  | .smem => 2
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x256, .f32⟩
  | .hbm, ⟨3, _⟩ => ⟨S8192x256, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S4x8192x8192, .i1⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192, .f32⟩
  | .hbm, ⟨21, _⟩ => ⟨S4x8192x1, .f32⟩
  | .hbm, ⟨22, _⟩ => ⟨S4x8192x8192, .f32⟩
  | .hbm, ⟨23, _⟩ => ⟨S4x8192x8192, .f32⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S4x8192, .f32⟩
  | .hbm, ⟨29, _⟩ => ⟨S4x8192x1, .f32⟩
  | .hbm, ⟨30, _⟩ => ⟨S4x8192x128, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192x1, .f32⟩
  | .hbm, ⟨37, _⟩ => ⟨S4x8192x8192, .f32⟩
  | .hbm, ⟨38, _⟩ => ⟨S4x8192x8192, .f32⟩
  | .hbm, ⟨39, _⟩ => ⟨S4x8192x8192, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x8192, .f32⟩
  | .hbm, ⟨44, _⟩ => ⟨S4x8192x8192, .f32⟩
  | .hbm, ⟨45, _⟩ => ⟨S8192x4x64, .f32⟩
  | .hbm, ⟨46, _⟩ => ⟨S4x64x8192, .f32⟩
  | .hbm, ⟨47, _⟩ => ⟨S8192x4x64, .f32⟩
  | .hbm, ⟨48, _⟩ => ⟨S8192x256, .f32⟩
  | .hbm, ⟨49, _⟩ => ⟨S8192x256, .bf16⟩
  | .hbm, ⟨50, _⟩ => ⟨S_, .f32⟩
  | .hbm, ⟨51, _⟩ => ⟨S8192x4x96, .f32⟩
  | .hbm, ⟨52, _⟩ => ⟨S8192x4x96, .f32⟩
  | .hbm, ⟨53, _⟩ => ⟨S4x8192x96, .f32⟩
  | .hbm, ⟨54, _⟩ => ⟨S_, .i32⟩
  | .hbm, ⟨55, _⟩ => ⟨S_, .f32⟩
  | .hbm, ⟨56, _⟩ => ⟨S4x8192x128, .f32⟩
  | .hbm, ⟨57, _⟩ => ⟨S4x8192x128, .bf16⟩
  | .hbm, ⟨58, _⟩ => ⟨S4x8192x96, .f32⟩
  | .hbm, ⟨59, _⟩ => ⟨S_, .i32⟩
  | .hbm, ⟨60, _⟩ => ⟨S_, .f32⟩
  | .hbm, ⟨61, _⟩ => ⟨S4x8192x128, .f32⟩
  | .hbm, ⟨62, _⟩ => ⟨S4x8192x128, .bf16⟩
  | .hbm, ⟨63, _⟩ => ⟨S8192x256, .bf16⟩
  | .hbm, ⟨64, _⟩ => ⟨S4x8192x128, .f32⟩
  | .hbm, ⟨65, _⟩ => ⟨S4x8192x128, .f32⟩
  | .hbm, ⟨66, _⟩ => ⟨S8192x256, .bf16⟩
  | .hbm, ⟨67, _⟩ => ⟨S4x8192x96, .f32⟩
  | .hbm, ⟨68, _⟩ => ⟨S8192x4x96, .f32⟩
  | .hbm, ⟨69, _⟩ => ⟨S_, .f32⟩
  | .hbm, ⟨70, _⟩ => ⟨S8192x4x96, .f32⟩
  | .hbm, ⟨71, _⟩ => ⟨S8192x4x96, .f32⟩
  | .hbm, ⟨72, _⟩ => ⟨S4x8192x96, .f32⟩
  | .hbm, ⟨73, _⟩ => ⟨S8192x4x96, .f32⟩
  | .local _ .vmem, ⟨0, _⟩ => ⟨S4x1024x128, .bf16⟩
  | .local _ .vmem, ⟨1, _⟩ => ⟨S4x1024x128, .bf16⟩
  | .local _ .vmem, ⟨2, _⟩ => ⟨S4x1024x128, .bf16⟩
  | .local _ .vmem, ⟨3, _⟩ => ⟨S4x1024x128, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S4x1024x128, .f32⟩
  | .local _ .vmem, ⟨11, _⟩ => ⟨S4x1024x128, .f32⟩
  | .local _ .vmem, ⟨12, _⟩ => ⟨S4x8192x128, .f32⟩
  | .local _ .vmem, ⟨13, _⟩ => ⟨S4x1024x128, .f32⟩
  | .local _ .vmem, ⟨14, _⟩ => ⟨S4x1024x128, .f32⟩
  | .local _ .vmem, ⟨15, _⟩ => ⟨S1024x256, .bf16⟩
  | .local _ .vmem, ⟨16, _⟩ => ⟨S1024x256, .bf16⟩
  | .local _ .vmem, ⟨17, _⟩ => ⟨S4x1024x128, .f32⟩
  | .local _ .smem, ⟨0, _⟩ => ⟨S36, .i32⟩
  | .local _ .smem, ⟨1, _⟩ => ⟨S36, .i32⟩
  | _, _ => ⟨S8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_8 : Ref sig .tc := ⟨.hbm, 54, rfl⟩
abbrev main_call1_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_call2_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v1 : BitVec 32) : BitVec 32 :=
  let c1024_i32 : BitVec 32 := 1024#32
  let v61 : BitVec 32 := Scalar.muli v1 c1024_i32
  let c0_i32_18 : BitVec 32 := 0#32
  let v62 : BitVec 32 := Scalar.addi v61 c0_i32_18
  v62
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 3 → Nat :=
  let c0_48 : Index := 0#32
  let c1024_i32 : BitVec 32 := 1024#32
  let v61 : BitVec 32 := Scalar.muli v1 c1024_i32
  let c0_i32_18 : BitVec 32 := 0#32
  let v62 : BitVec 32 := Scalar.addi v61 c0_i32_18
  let v63 : BitVec 32 := v62
  let v105 : Index := Scalar.indexCast v63
  let c0_49 : Index := 0#32
  ![0, v105.toNat, 0]
def k0_off3 (v1 : BitVec 32) : Fin 3 → Nat :=
  let c1_81 : Index := 1#32
  let c1024_i32 : BitVec 32 := 1024#32
  let v61 : BitVec 32 := Scalar.muli v1 c1024_i32
  let c0_i32_18 : BitVec 32 := 0#32
  let v62 : BitVec 32 := Scalar.addi v61 c0_i32_18
  let v63 : BitVec 32 := v62
  let v155 : Index := Scalar.indexCast v63
  let c0_82 : Index := 0#32
  ![1, v155.toNat, 0]
def k0_off4 (v1 : BitVec 32) : Fin 3 → Nat :=
  let c2_113 : Index := 2#32
  let c1024_i32 : BitVec 32 := 1024#32
  let v61 : BitVec 32 := Scalar.muli v1 c1024_i32
  let c0_i32_18 : BitVec 32 := 0#32
  let v62 : BitVec 32 := Scalar.addi v61 c0_i32_18
  let v63 : BitVec 32 := v62
  let v205 : Index := Scalar.indexCast v63
  let c0_114 : Index := 0#32
  ![2, v205.toNat, 0]
def k0_off5 (v1 : BitVec 32) : Fin 3 → Nat :=
  let c3_146 : Index := 3#32
  let c1024_i32 : BitVec 32 := 1024#32
  let v61 : BitVec 32 := Scalar.muli v1 c1024_i32
  let c0_i32_18 : BitVec 32 := 0#32
  let v62 : BitVec 32 := Scalar.addi v61 c0_i32_18
  let v63 : BitVec 32 := v62
  let v255 : Index := Scalar.indexCast v63
  let c0_147 : Index := 0#32
  ![3, v255.toNat, 0]
def k0_mult2 (v1 : BitVec 32) : BitVec 32 :=
  let c1024_i32 : BitVec 32 := 1024#32
  let v61 : BitVec 32 := Scalar.muli v1 c1024_i32
  let c0_i32_18 : BitVec 32 := 0#32
  let v62 : BitVec 32 := Scalar.addi v61 c0_i32_18
  v62
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off6 (v1 : BitVec 32) (c0_i32_18 : BitVec 32) : Fin 3 → Nat :=
  let c0_49 : Index := 0#32
  let c1024_i32 : BitVec 32 := 1024#32
  let v61 : BitVec 32 := Scalar.muli v1 c1024_i32
  let v62 : BitVec 32 := Scalar.addi v61 c0_i32_18
  let v63 : BitVec 32 := v62
  let v110 : Index := Scalar.indexCast v63
  let c0_50 : Index := 0#32
  ![0, v110.toNat, 0]
def k0_off7 (v1 : BitVec 32) (c0_i32_18 : BitVec 32) : Fin 3 → Nat :=
  let c1_83 : Index := 1#32
  let c1024_i32 : BitVec 32 := 1024#32
  let v61 : BitVec 32 := Scalar.muli v1 c1024_i32
  let v62 : BitVec 32 := Scalar.addi v61 c0_i32_18
  let v63 : BitVec 32 := v62
  let v165 : Index := Scalar.indexCast v63
  let c0_84 : Index := 0#32
  ![1, v165.toNat, 0]
def k0_off8 (v1 : BitVec 32) (c0_i32_18 : BitVec 32) : Fin 3 → Nat :=
  let c2_116 : Index := 2#32
  let c1024_i32 : BitVec 32 := 1024#32
  let v61 : BitVec 32 := Scalar.muli v1 c1024_i32
  let v62 : BitVec 32 := Scalar.addi v61 c0_i32_18
  let v63 : BitVec 32 := v62
  let v220 : Index := Scalar.indexCast v63
  let c0_117 : Index := 0#32
  ![2, v220.toNat, 0]
def k0_off9 (v1 : BitVec 32) (c0_i32_18 : BitVec 32) : Fin 3 → Nat :=
  let c3_150 : Index := 3#32
  let c1024_i32 : BitVec 32 := 1024#32
  let v61 : BitVec 32 := Scalar.muli v1 c1024_i32
  let v62 : BitVec 32 := Scalar.addi v61 c0_i32_18
  let v63 : BitVec 32 := v62
  let v275 : Index := Scalar.indexCast v63
  let c0_151 : Index := 0#32
  ![3, v275.toNat, 0]
def k0_mult3 (v1 : BitVec 32) : BitVec 32 :=
  let c1024_i32_170 : BitVec 32 := 1024#32
  let v326 : BitVec 32 := Scalar.muli v1 c1024_i32_170
  let c512_i32 : BitVec 32 := 512#32
  let v327 : BitVec 32 := Scalar.addi v326 c512_i32
  v327
def k0_mult4 (v1 : BitVec 32) : BitVec 32 :=
  let c1024_i32_323 : BitVec 32 := 1024#32
  let v571 : BitVec 32 := Scalar.muli v1 c1024_i32_323
  let c512_i32_324 : BitVec 32 := 512#32
  let v572 : BitVec 32 := Scalar.addi v571 c512_i32_324
  v572

def k0_chk1 (v1 : BitVec 32) (v3 : BitVec 32) : Prop :=
  (∀ (k0_h3 : k0_cond3 v1 v3 = 1#1), 512 ∣ (k0_mult1 v1).toNat) ∧
  (∀ (k0_h3 : k0_cond3 v1 v3 = 1#1), ∀ a, (k0_off2 v1) a + S1x1024x128.size a ≤ S4x8192x128.size a) ∧
  (∀ (k0_h3 : k0_cond3 v1 v3 = 1#1), ∀ a, (k0_off3 v1) a + S1x1024x128.size a ≤ S4x8192x128.size a) ∧
  (∀ (k0_h3 : k0_cond3 v1 v3 = 1#1), ∀ a, (k0_off4 v1) a + S1x1024x128.size a ≤ S4x8192x128.size a) ∧
  (∀ (k0_h3 : k0_cond3 v1 v3 = 1#1), ∀ a, (k0_off5 v1) a + S1x1024x128.size a ≤ S4x8192x128.size a) ∧
  (∀ (k0_h4 : k0_cond4 v1 v3 = 1#1), 512 ∣ (k0_mult2 v1).toNat) ∧
  (∀ (k0_h4 : k0_cond4 v1 v3 = 1#1), ∀ (r : Fin 2), ∀ a, (k0_off6 v1 (BitVec.ofNat 32 (512 * r.val))) a + S1x512x128.size a ≤ S4x8192x128.size a) ∧
  (∀ (k0_h4 : k0_cond4 v1 v3 = 1#1), ∀ (r : Fin 2), ∀ a, (k0_off7 v1 (BitVec.ofNat 32 (512 * r.val))) a + S1x512x128.size a ≤ S4x8192x128.size a) ∧
  (∀ (k0_h4 : k0_cond4 v1 v3 = 1#1), ∀ (r : Fin 2), ∀ a, (k0_off8 v1 (BitVec.ofNat 32 (512 * r.val))) a + S1x512x128.size a ≤ S4x8192x128.size a) ∧
  (∀ (k0_h4 : k0_cond4 v1 v3 = 1#1), ∀ (r : Fin 2), ∀ a, (k0_off9 v1 (BitVec.ofNat 32 (512 * r.val))) a + S1x512x128.size a ≤ S4x8192x128.size a) ∧
  (∀ (k0_h4 : k0_cond4 v1 v3 = 1#1), 512 ∣ (k0_mult3 v1).toNat) ∧
  (∀ (k0_h4 : k0_cond4 v1 v3 = 1#1), 512 ∣ (k0_mult4 v1).toNat)
theorem k0_mult1_dvd : ∀ (v1 : BitVec 32) (v3 : BitVec 32) (k0_hw1 : k0_chk1 v1 v3), ∀ (k0_h3 : k0_cond3 v1 v3 = 1#1), 512 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1x1024x128.size a ≤ S4x8192x128.size a := fun v1 v3 k0_hw1 k0_h3 => k0_hw1.2.1 k0_h3
theorem k0_off3_inb : ∀ (v1 : BitVec 32) (v3 : BitVec 32) (k0_hw1 : k0_chk1 v1 v3), ∀ (k0_h3 : k0_cond3 v1 v3 = 1#1), ∀ a, (k0_off3 v1) a + S1x1024x128.size a ≤ S4x8192x128.size a := fun v1 v3 k0_hw1 k0_h3 => k0_hw1.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S1x1024x128.size a ≤ S4x8192x128.size a := fun v1 v3 k0_hw1 k0_h3 => k0_hw1.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S1x1024x128.size a ≤ S4x8192x128.size a := fun v1 v3 k0_hw1 k0_h3 => k0_hw1.2.2.2.2.1 k0_h3
theorem k0_mult2_dvd : ∀ (v1 : BitVec 32) (v3 : BitVec 32) (k0_hw1 : k0_chk1 v1 v3), ∀ (k0_h4 : k0_cond4 v1 v3 = 1#1), 512 ∣ (k0_mult2 v1).toNat := fun v1 v3 k0_hw1 k0_h4 => k0_hw1.2.2.2.2.2.1 k0_h4
theorem k0_off6_inb : ∀ (v1 : BitVec 32) (v3 : BitVec 32) (k0_hw1 : k0_chk1 v1 v3), ∀ (k0_h4 : k0_cond4 v1 v3 = 1#1), ∀ (r : Fin 2), ∀ a, (k0_off6 v1 (BitVec.ofNat 32 (512 * r.val))) a + S1x512x128.size a ≤ S4x8192x128.size a := fun v1 v3 k0_hw1 k0_h4 r => k0_hw1.2.2.2.2.2.2.1 k0_h4 r
theorem k0_off7_inb : ∀ (v1 : BitVec 32) (v3 : BitVec 32) (k0_hw1 : k0_chk1 v1 v3), ∀ (k0_h4 : k0_cond4 v1 v3 = 1#1), ∀ (r : Fin 2), ∀ a, (k0_off7 v1 (BitVec.ofNat 32 (512 * r.val))) a + S1x512x128.size a ≤ S4x8192x128.size a := fun v1 v3 k0_hw1 k0_h4 r => k0_hw1.2.2.2.2.2.2.2.1 k0_h4 r
theorem k0_off8_inb : ∀ (v1 : BitVec 32) (v3 : BitVec 32) (k0_hw1 : k0_chk1 v1 v3), ∀ (k0_h4 : k0_cond4 v1 v3 = 1#1), ∀ (r : Fin 2), ∀ a, (k0_off8 v1 (BitVec.ofNat 32 (512 * r.val))) a + S1x512x128.size a ≤ S4x8192x128.size a := fun v1 v3 k0_hw1 k0_h4 r => k0_hw1.2.2.2.2.2.2.2.2.1 k0_h4 r
theorem k0_off9_inb : ∀ (v1 : BitVec 32) (v3 : BitVec 32) (k0_hw1 : k0_chk1 v1 v3), ∀ (k0_h4 : k0_cond4 v1 v3 = 1#1), ∀ (r : Fin 2), ∀ a, (k0_off9 v1 (BitVec.ofNat 32 (512 * r.val))) a + S1x512x128.size a ≤ S4x8192x128.size a := fun v1 v3 k0_hw1 k0_h4 r => k0_hw1.2.2.2.2.2.2.2.2.2.1 k0_h4 r
theorem k0_mult3_dvd : ∀ (v1 : BitVec 32) (v3 : BitVec 32) (k0_hw1 : k0_chk1 v1 v3), ∀ (k0_h4 : k0_cond4 v1 v3 = 1#1), 512 ∣ (k0_mult3 v1).toNat := fun v1 v3 k0_hw1 k0_h4 => k0_hw1.2.2.2.2.2.2.2.2.2.2.1 k0_h4
theorem k0_mult4_dvd : ∀ (v1 : BitVec 32) (v3 : BitVec 32) (k0_hw1 : k0_chk1 v1 v3), ∀ (k0_h4 : k0_cond4 v1 v3 = 1#1), 512 ∣ (k0_mult4 v1).toNat := fun v1 v3 k0_hw1 k0_h4 => k0_hw1.2.2.2.2.2.2.2.2.2.2.2 k0_h4

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_cond5 (v1 : BitVec 32) : BitVec 1 :=
  let c7_i32 : BitVec 32 := 7#32
  let v16 : BitVec 1 := Scalar.cmpi .eq v1 c7_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FlashRefIdeal.lean ====
abbrev S8192x4x96 : Shape := ⟨3, ![8192, 4, 96]⟩
abbrev S8192x256 : Shape := ⟨2, ![8192, 256]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S8192x4x64 : Shape := ⟨3, ![8192, 4, 64]⟩
abbrev S4x64x8192 : Shape := ⟨3, ![4, 64, 8192]⟩
abbrev S4x8192x96 : Shape := ⟨3, ![4, 8192, 96]⟩

abbrev nBuf : Space → Nat
  | .hbm => 94
  | .vmem => 0
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x256, .f32⟩
  | .hbm, ⟨3, _⟩ => ⟨S8192x256, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S4x8192x8192, .i1⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x8192, .f32⟩
  | .hbm, ⟨25, _⟩ => ⟨S4x8192x8192, .i1⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .i1⟩
  | .hbm, ⟨35, _⟩ => ⟨S_, .f32⟩
  | .hbm, ⟨36, _⟩ => ⟨S4x8192, .f32⟩
  | .hbm, ⟨37, _⟩ => ⟨S4x8192, .i1⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S_, .f32⟩
  | .hbm, ⟨43, _⟩ => ⟨S4x8192, .f32⟩
  | .hbm, ⟨44, _⟩ => ⟨S4x8192, .f32⟩
  | .hbm, ⟨45, _⟩ => ⟨S4x8192, .f32⟩
  | .hbm, ⟨46, _⟩ => ⟨S4x8192x1, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S4x8192x8192, .f32⟩
  | .hbm, ⟨54, _⟩ => ⟨S4x8192x8192, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S8192x4x64, .f32⟩
  | .hbm, ⟨60, _⟩ => ⟨S4x64x8192, .f32⟩
  | .hbm, ⟨61, _⟩ => ⟨S8192x4x64, .f32⟩
  | .hbm, ⟨62, _⟩ => ⟨S8192x256, .f32⟩
  | .hbm, ⟨63, _⟩ => ⟨S8192x4x64, .f32⟩
  | .hbm, ⟨64, _⟩ => ⟨S4x64x8192, .f32⟩
  | .hbm, ⟨65, _⟩ => ⟨S4x8192x8192, .f32⟩
  | .hbm, ⟨66, _⟩ => ⟨S4x64x8192, .f32⟩
  | .hbm, ⟨67, _⟩ => ⟨S8192x4x64, .f32⟩
  | .hbm, ⟨68, _⟩ => ⟨S8192x256, .f32⟩
  | .hbm, ⟨69, _⟩ => ⟨S4x8192x8192, .f32⟩
  | .hbm, ⟨70, _⟩ => ⟨S4x8192x8192, .f32⟩
  | .hbm, ⟨71, _⟩ => ⟨S4x8192x8192, .f32⟩
  | .hbm, ⟨72, _⟩ => ⟨S_, .f32⟩
  | .hbm, ⟨73, _⟩ => ⟨S4x8192, .f32⟩
  | .hbm, ⟨74, _⟩ => ⟨S4x8192x1, .f32⟩
  | .hbm, ⟨75, _⟩ => ⟨S4x8192x1, .f32⟩
  | .hbm, ⟨76, _⟩ => ⟨S4x8192x8192, .f32⟩
  | .hbm, ⟨77, _⟩ => ⟨S4x8192x8192, .f32⟩
  | .hbm, ⟨78, _⟩ => ⟨S_, .f32⟩
  | .hbm, ⟨79, _⟩ => ⟨S4x8192, .f32⟩
  | .hbm, ⟨80, _⟩ => ⟨S4x8192x8192, .f32⟩
  | .hbm, ⟨81, _⟩ => ⟨S4x8192x8192, .f32⟩
  | .hbm, ⟨82, _⟩ => ⟨S4x8192x8192, .f32⟩
  | .hbm, ⟨83, _⟩ => ⟨S_, .f32⟩
  | .hbm, ⟨84, _⟩ => ⟨S4x8192x8192, .f32⟩
  | .hbm, ⟨85, _⟩ => ⟨S4x8192x8192, .f32⟩
  | .hbm, ⟨86, _⟩ => ⟨S_, .f32⟩
  | .hbm, ⟨87, _⟩ => ⟨S4x8192x8192, .f32⟩
  | .hbm, ⟨88, _⟩ => ⟨S4x8192x8192, .f32⟩
  | .hbm, ⟨89, _⟩ => ⟨S4x8192x96, .f32⟩
  | .hbm, ⟨90, _⟩ => ⟨S8192x4x96, .f32⟩
  | .hbm, ⟨91, _⟩ => ⟨S4x8192x96, .f32⟩
  | .hbm, ⟨92, _⟩ => ⟨S8192x4x96, .f32⟩
  | .hbm, ⟨93, _⟩ => ⟨S8192x256, .bf16⟩
  | _, _ => ⟨S8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Inproj.lean ====
abbrev S8192x1024 : Shape := ⟨2, ![8192, 1024]⟩
abbrev S1024 : Shape := ⟨1, ![1024]⟩
abbrev S1024x6048 : Shape := ⟨2, ![1024, 6048]⟩
abbrev S8192 : Shape := ⟨1, ![8192]⟩
abbrev S8192x256 : Shape := ⟨2, ![8192, 256]⟩
abbrev S8192x128 : Shape := ⟨2, ![8192, 128]⟩
abbrev S8192x32 : Shape := ⟨2, ![8192, 32]⟩
abbrev S8192x1536 : Shape := ⟨2, ![8192, 1536]⟩
abbrev S8192x4096 : Shape := ⟨2, ![8192, 4096]⟩
abbrev S6048x1024 : Shape := ⟨2, ![6048, 1024]⟩
abbrev S32x1024 : Shape := ⟨2, ![32, 1024]⟩
abbrev S384x1024 : Shape := ⟨2, ![384, 1024]⟩
abbrev S_ : Shape := ⟨0, ![]⟩
abbrev S128x1024 : Shape := ⟨2, ![128, 1024]⟩
abbrev S16x1024 : Shape := ⟨2, ![16, 1024]⟩
abbrev S1536x1024 : Shape := ⟨2, ![1536, 1024]⟩
abbrev S2176x1024 : Shape := ⟨2, ![2176, 1024]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S8192x640 : Shape := ⟨2, ![8192, 640]⟩
abbrev S1x1024 : Shape := ⟨2, ![1, 1024]⟩
abbrev S4096x1024 : Shape := ⟨2, ![4096, 1024]⟩
abbrev S640x1024 : Shape := ⟨2, ![640, 1024]⟩
abbrev S512x1024 : Shape := ⟨2, ![512, 1024]⟩
abbrev S512x640 : Shape := ⟨2, ![512, 640]⟩
abbrev S512x1536 : Shape := ⟨2, ![512, 1536]⟩
abbrev S512 : Shape := ⟨1, ![512]⟩
abbrev S512x1 : Shape := ⟨2, ![512, 1]⟩
abbrev S1024x1024 : Shape := ⟨2, ![1024, 1024]⟩
abbrev S1952x1024 : Shape := ⟨2, ![1952, 1024]⟩

abbrev nBuf : Space → Nat
  | .hbm => 94
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6048, .f32⟩
  | .hbm, ⟨3, _⟩ => ⟨S8192, .i32⟩
  | .hbm, ⟨4, _⟩ => ⟨S8192x1024, .f32⟩
  | .hbm, ⟨5, _⟩ => ⟨S8192x256, .f32⟩
  | .hbm, ⟨6, _⟩ => ⟨S8192x128, .f32⟩
  | .hbm, ⟨7, _⟩ => ⟨S8192x32, .f32⟩
  | .hbm, ⟨8, _⟩ => ⟨S8192x1536, .f32⟩
  | .hbm, ⟨9, _⟩ => ⟨S8192x4096, .f32⟩
  | .hbm, ⟨10, _⟩ => ⟨S6048x1024, .f32⟩
  | .hbm, ⟨11, _⟩ => ⟨S6048x1024, .bf16⟩
  | .hbm, ⟨12, _⟩ => ⟨S32x1024, .bf16⟩
  | .hbm, ⟨13, _⟩ => ⟨S384x1024, .bf16⟩
  | .hbm, ⟨14, _⟩ => ⟨S_, .i32⟩
  | .hbm, ⟨15, _⟩ => ⟨S_, .bf16⟩
  | .hbm, ⟨16, _⟩ => ⟨S128x1024, .bf16⟩
  | .hbm, ⟨17, _⟩ => ⟨S16x1024, .bf16⟩
  | .hbm, ⟨18, _⟩ => ⟨S16x1024, .bf16⟩
  | .hbm, ⟨19, _⟩ => ⟨S32x1024, .bf16⟩
  | .hbm, ⟨20, _⟩ => ⟨S_, .i32⟩
  | .hbm, ⟨21, _⟩ => ⟨S_, .bf16⟩
  | .hbm, ⟨22, _⟩ => ⟨S128x1024, .bf16⟩
  | .hbm, ⟨23, _⟩ => ⟨S1536x1024, .bf16⟩
  | .hbm, ⟨24, _⟩ => ⟨S2176x1024, .bf16⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S8192, .f32⟩
  | .hbm, ⟨40, _⟩ => ⟨S8192x1, .f32⟩
  | .hbm, ⟨41, _⟩ => ⟨S1x16, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S8192x16, .f32⟩
  | .hbm, ⟨46, _⟩ => ⟨S8192x16, .f32⟩
  | .hbm, ⟨47, _⟩ => ⟨S_, .f32⟩
  | .hbm, ⟨48, _⟩ => ⟨S8192x64, .f32⟩
  | .hbm, ⟨49, _⟩ => ⟨S_, .f32⟩
  | .hbm, ⟨50, _⟩ => ⟨S8192x32, .f32⟩
  | .hbm, ⟨51, _⟩ => ⟨S8192x128, .f32⟩
  | .hbm, ⟨52, _⟩ => ⟨S_, .f32⟩
  | .hbm, ⟨53, _⟩ => ⟨S8192x64, .f32⟩
  | .hbm, ⟨54, _⟩ => ⟨S8192x16, .f32⟩
  | .hbm, ⟨55, _⟩ => ⟨S_, .f32⟩
  | .hbm, ⟨56, _⟩ => ⟨S8192x32, .f32⟩
  | .hbm, ⟨57, _⟩ => ⟨S8192x128, .f32⟩
  | .hbm, ⟨58, _⟩ => ⟨S_, .i32⟩
  | .hbm, ⟨59, _⟩ => ⟨S_, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x640, .f32⟩
  | .hbm, ⟨64, _⟩ => ⟨S8192x640, .bf16⟩
  | .hbm, ⟨65, _⟩ => ⟨S8192x1024, .f32⟩
  | .hbm, ⟨66, _⟩ => ⟨S8192x1024, .bf16⟩
  | .hbm, ⟨67, _⟩ => ⟨S8192x1024, .f32⟩
  | .hbm, ⟨68, _⟩ => ⟨S8192x1024, .bf16⟩
  | .hbm, ⟨69, _⟩ => ⟨S8192x1024, .f32⟩
  | .hbm, ⟨70, _⟩ => ⟨S8192x1024, .bf16⟩
  | .hbm, ⟨71, _⟩ => ⟨S8192x1024, .f32⟩
  | .hbm, ⟨72, _⟩ => ⟨S8192x1024, .bf16⟩
  | .hbm, ⟨73, _⟩ => ⟨S1x1024, .f32⟩
  | .hbm, ⟨74, _⟩ => ⟨S8192x1536, .bf16⟩
  | .hbm, ⟨75, _⟩ => ⟨S4096x1024, .bf16⟩
  | .hbm, ⟨76, _⟩ => ⟨S8192x1024, .f32⟩
  | .hbm, ⟨77, _⟩ => ⟨S1x1024, .f32⟩
  | .hbm, ⟨78, _⟩ => ⟨S640x1024, .bf16⟩
  | .hbm, ⟨79, _⟩ => ⟨S1536x1024, .bf16⟩
  | .hbm, ⟨80, _⟩ => ⟨S128x1024, .bf16⟩
  | .hbm, ⟨81, _⟩ => ⟨S32x1024, .bf16⟩
  | .hbm, ⟨82, _⟩ => ⟨S32x1024, .f32⟩
  | .hbm, ⟨83, _⟩ => ⟨S128x1024, .bf16⟩
  | .hbm, ⟨84, _⟩ => ⟨S32x1024, .bf16⟩
  | .hbm, ⟨85, _⟩ => ⟨S16x1024, .bf16⟩
  | .hbm, ⟨86, _⟩ => ⟨S16x1024, .bf16⟩
  | .hbm, ⟨87, _⟩ => ⟨S32x1024, .bf16⟩
  | .hbm, ⟨88, _⟩ => ⟨S32x1024, .f32⟩
  | .hbm, ⟨89, _⟩ => ⟨S32x1024, .f32⟩
  | .hbm, ⟨90, _⟩ => ⟨S1024, .f32⟩
  | .hbm, ⟨91, _⟩ => ⟨S384x1024, .bf16⟩
  | .hbm, ⟨92, _⟩ => ⟨S32x1024, .bf16⟩
  | .hbm, ⟨93, _⟩ => ⟨S1952x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x640, .bf16⟩
  | .local _ .vmem, ⟨6, _⟩ => ⟨S512x640, .bf16⟩
  | .local _ .vmem, ⟨7, _⟩ => ⟨S512x1536, .bf16⟩
  | .local _ .vmem, ⟨8, _⟩ => ⟨S512x1536, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S2176x1024, .bf16⟩
  | .local _ .vmem, ⟨18, _⟩ => ⟨S4096x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S640x1024, .bf16⟩
  | .local _ .vmem, ⟨23, _⟩ => ⟨S1536x1024, .bf16⟩
  | .local _ .vmem, ⟨24, _⟩ => ⟨S640x1024, .f32⟩
  | .local _ .vmem, ⟨25, _⟩ => ⟨S1536x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_4 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_call2_v0 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52_0 : Ref sig .tc := ⟨.hbm, 76, rfl⟩
abbrev main_v52_1 : Ref sig .tc := ⟨.hbm, 77, rfl⟩
abbrev main_v52_2 : Ref sig .tc := ⟨.hbm, 78, rfl⟩
abbrev main_v52_3 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v81 : BitVec 32 := Scalar.extui v0
  let c0_i32_41 : BitVec 32 := 0#32
  let v82 : BitVec 1 := Scalar.cmpi .ne v81 c0_i32_41
  v82

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v83 : BitVec 1 := Scalar.xori v0 v_true
  let v84 : BitVec 32 := Scalar.extui v83
  let c0_i32_42 : BitVec 32 := 0#32
  let v85 : BitVec 1 := Scalar.cmpi .ne v84 c0_i32_42
  v85

def k0_cond5 (i : grid0.Coords) : BitVec 1 :=
  let arg0 : BitVec 32 := BitVec.ofNat 32 (i 0).val
  let c15_i32 : BitVec 32 := 15#32
  let v1 : BitVec 1 := Scalar.cmpi .eq arg0 c15_i32
  let v92 : BitVec 32 := Scalar.extui v1
  let c0_i32_47 : BitVec 32 := 0#32
  let v93 : BitVec 1 := Scalar.cmpi .ne v92 c0_i32_47
  v93

def k0_cond8 (i : grid0.Coords) : BitVec 1 :=
  let arg0 : BitVec 32 := BitVec.ofNat 32 (i 0).val
  let c15_i32 : BitVec 32 := 15#32
  let v1 : BitVec 1 := Scalar.cmpi .eq arg0 c15_i32
  let v100 : BitVec 32 := Scalar.extui v1
  let c0_i32_52 : BitVec 32 := 0#32
  let v101 : BitVec 1 := Scalar.cmpi .ne v100 c0_i32_52
  v101

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2176x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S640x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1536x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InprojRefIdeal.lean ====
abbrev S8192x1024 : Shape := ⟨2, ![8192, 1024]⟩
abbrev S1024 : Shape := ⟨1, ![1024]⟩
abbrev S1024x6048 : Shape := ⟨2, ![1024, 6048]⟩
abbrev S8192 : Shape := ⟨1, ![8192]⟩
abbrev S8192x256 : Shape := ⟨2, ![8192, 256]⟩
abbrev S8192x128 : Shape := ⟨2, ![8192, 128]⟩
abbrev S8192x32 : Shape := ⟨2, ![8192, 32]⟩
abbrev S8192x1536 : Shape := ⟨2, ![8192, 1536]⟩
abbrev S8192x4096 : Shape := ⟨2, ![8192, 4096]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S1x1024 : Shape := ⟨2, ![1, 1024]⟩
abbrev S8192x6048 : Shape := ⟨2, ![8192, 6048]⟩
abbrev S6048x1024 : Shape := ⟨2, ![6048, 1024]⟩
abbrev S1024x1952 : Shape := ⟨2, ![1024, 1952]⟩
abbrev S1952x1024 : Shape := ⟨2, ![1952, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6048, .f32⟩
  | .hbm, ⟨3, _⟩ => ⟨S8192, .i32⟩
  | .hbm, ⟨4, _⟩ => ⟨S8192x1024, .f32⟩
  | .hbm, ⟨5, _⟩ => ⟨S8192x256, .f32⟩
  | .hbm, ⟨6, _⟩ => ⟨S8192x128, .f32⟩
  | .hbm, ⟨7, _⟩ => ⟨S8192x32, .f32⟩
  | .hbm, ⟨8, _⟩ => ⟨S8192x1536, .f32⟩
  | .hbm, ⟨9, _⟩ => ⟨S8192x4096, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S8192, .f32⟩
  | .hbm, ⟨25, _⟩ => ⟨S8192x1, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S8192x16, .f32⟩
  | .hbm, ⟨30, _⟩ => ⟨S8192x16, .f32⟩
  | .hbm, ⟨31, _⟩ => ⟨S8192x16, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x6048, .f32⟩
  | .hbm, ⟨53, _⟩ => ⟨S8192x256, .f32⟩
  | .hbm, ⟨54, _⟩ => ⟨S8192x128, .f32⟩
  | .hbm, ⟨55, _⟩ => ⟨S8192x32, .f32⟩
  | .hbm, ⟨56, _⟩ => ⟨S8192x1536, .f32⟩
  | .hbm, ⟨57, _⟩ => ⟨S8192x4096, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x32, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x16, .f32⟩
  | .hbm, ⟨71, _⟩ => ⟨S8192x16, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x16, .f32⟩
  | .hbm, ⟨76, _⟩ => ⟨S8192x32, .f32⟩
  | .hbm, ⟨77, _⟩ => ⟨S8192x6048, .f32⟩
  | .hbm, ⟨78, _⟩ => ⟨S6048x1024, .f32⟩
  | .hbm, ⟨79, _⟩ => ⟨S1024x6048, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S1024, .f32⟩
  | .hbm, ⟨89, _⟩ => ⟨S8192x1024, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1, .f32⟩
  | .hbm, ⟨97, _⟩ => ⟨S_, .f32⟩
  | .hbm, ⟨98, _⟩ => ⟨S8192x1, .f32⟩
  | .hbm, ⟨99, _⟩ => ⟨S8192x1, .f32⟩
  | .hbm, ⟨100, _⟩ => ⟨S_, .f32⟩
  | .hbm, ⟨101, _⟩ => ⟨S8192, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S1024x1952, .f32⟩
  | .hbm, ⟨108, _⟩ => ⟨S1952x1024, .f32⟩
  | .hbm, ⟨109, _⟩ => ⟨S1952x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_cst_9 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_10 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩

abbrev nD : Nat := 1
abbrev τ : Topo := Topo.v7x

variable {F : FTy → Type} [FloatOps F]
-- ==== Proof.Sums.lean ====
/- Sums over the extended reals that a kernel takes in tiles: a fold over the grid points is one sum, and a sum over
   tiles of rows is the sum over all rows. -/
module

public import Idealize.ShloMosaic.Lib.Pointwise
public import Idealize.ShloMosaic.Lib.Tactic

@[expose] public section

noncomputable section

namespace Cert.Tools

open Idealize.ShloMosaic

/-- The zero offsets of a whole block of a matrix. -/
theorem hz2 : (![0, 0] : Fin 2 → Nat) = fun _ => 0 := funext fun a => by fin_cases a <;> rfl

/-- The zero offsets of a whole block of a rank-3 array. -/
theorem hz3 : (![0, 0, 0] : Fin 3 → Nat) = fun _ => 0 := funext fun a => by fin_cases a <;> rfl

/-- A recursion that starts at `f 0` and adds `f (n + 1)` holds, after step `n`, the sum of `f` up to `n`. -/
theorem fold_range {M : Type*} [AddCommMonoid M] (N : ℕ) (o : (n : ℕ) → n < N → M) (f : ℕ → M)
    (h0 : ∀ h : 0 < N, o 0 h = f 0) (hs : ∀ (n : ℕ) (h : n + 1 < N), o (n + 1) h = o n (Nat.lt_of_succ_lt h) + f (n + 1)) :
    ∀ (n : ℕ) (h : n < N), o n h = ∑ t ∈ Finset.range (n + 1), f t
  | 0, h => by rw [h0, Finset.sum_range_one]
  | n + 1, h => by rw [hs, fold_range N o f h0 hs n, ← Finset.sum_range_succ]

/-- The same after the last of `N` steps, the terms indexed by the points themselves. -/
theorem fold_univ {M : Type*} [AddCommMonoid M] (N : ℕ) (o : (n : ℕ) → n < N → M) (f : Fin N → M)
    (h0 : ∀ h : 0 < N, o 0 h = f ⟨0, h⟩)
    (hs : ∀ (n : ℕ) (h : n + 1 < N), o (n + 1) h = o n (Nat.lt_of_succ_lt h) + f ⟨n + 1, h⟩)
    (n : ℕ) (hn : n < N) (hl : n + 1 = N) : o n hn = ∑ t : Fin N, f t := by
  have key := fold_range N o (fun k => if h : k < N then f ⟨k, h⟩ else 0)
    (fun h => by rw [h0 h, dif_pos h]) (fun n h => by rw [hs n h, dif_pos h]) n hn
  rw [key, hl, Finset.sum_range]
  exact Finset.sum_congr rfl fun t _ => by rw [dif_pos t.isLt]

/-- A sum over `N = n * b` rows is the sum over `n` tiles of the sums over the `b` rows of each. -/
theorem sum_tiles {M : Type*} [AddCommMonoid M] {n b N : ℕ} (hN : n * b = N) (f : Fin N → M)
    (hlt : ∀ (t : Fin n) (r : Fin b), b * t.val + r.val < N) :
    ∑ t : Fin n, ∑ r : Fin b, f ⟨b * t.val + r.val, hlt t r⟩ = ∑ i, f i := by
  subst hN
  rw [← finProdFinEquiv.sum_comp, Fintype.sum_prod_type]
  refine Finset.sum_congr rfl fun t _ => Finset.sum_congr rfl fun r _ => ?_
  congr 1
  ext
  simp [finProdFinEquiv, Nat.add_comm]

end Cert.Tools

end
-- ==== Proof.Reals.lean ====
/- Facts of the extended reals used by several of the kernels: float words as rationals, and factors moved
   through sums. -/
module

public import Idealize.ShloMosaic.Lib.Pointwise
public import proofs.«01_k».proof.Proof.Sums

@[expose] public section

noncomputable section

open Idealize.ShloMosaic

namespace Cert.Tools

theorem word_half : Ideal.ofBits .f32 0x3F000000#32 = (((1 / 2 : ℝ)) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_zero : Ideal.ofBits .f32 0x00000000#32 = 0 := by
  simp [Ideal.ofBits, Ideal.ieee, -EReal.coe_mul]
theorem word_1024 : Ideal.ofBits .f32 0x44800000#32 = ((1024 : ℝ) : EReal) := by
  simp [Ideal.ofBits, Ideal.ieee, -EReal.coe_mul]; norm_num
theorem word_inv1024 : Ideal.ofBits .f32 0x3A800000#32 = ((1 / 1024 : ℝ) : EReal) := by
  simp [Ideal.ofBits, Ideal.ieee, -EReal.coe_mul]; norm_num
theorem word_inv2048 : Ideal.ofBits .f32 0x3A000000#32 = ((1 / 2048 : ℝ) : EReal) := by
  simp [Ideal.ofBits, Ideal.ieee, -EReal.coe_mul]; norm_num

/-- A square is not negative, at the infinities either. -/
theorem sq_nonneg' (x : EReal) : 0 ≤ x * x := by
  induction x with
  | bot => simp
  | top => simp
  | coe r => rw [← EReal.coe_mul]; exact_mod_cast mul_self_nonneg r

/-- A factor in front of a sum of terms that are not negative. -/
theorem mul_sum_nonneg {ι : Type} (s : Finset ι) (a : EReal) (f : ι → EReal) (hf : ∀ i ∈ s, 0 ≤ f i) :
    a * ∑ i ∈ s, f i = ∑ i ∈ s, a * f i := by
  classical
  induction s using Finset.induction_on with
  | empty => simp
  | insert i s hi ih =>
    rw [Finset.sum_insert hi, Finset.sum_insert hi,
      EReal.left_distrib_of_nonneg (hf i (Finset.mem_insert_self _ _))
        (Finset.sum_nonneg fun j hj => hf j (Finset.mem_insert_of_mem hj)),
      ih fun j hj => hf j (Finset.mem_insert_of_mem hj)]

end Cert.Tools

end
-- ==== Proof.LossKernel.lean ====
/- The loss head: what each grid point leaves in its outputs and its scratch row, as the body's own terms. -/
module

public import proofs.«01_k».proof.Proof.Gen.LossIdeal.Value
public import proofs.«01_k».proof.Proof.Sums

@[expose] public section

set_option maxRecDepth 16384

noncomputable section

open Idealize.ShloMosaic Idealize.ShloMosaic.TcCoe Idealize.SL.Sem
open Idealize.ShloMosaic.Pipeline (Dat)

namespace Cert.LossIdeal.Mine

open Cert.Tools Cert.LossIdeal Cert.LossIdeal.Gen Cert.LossIdeal.Value

variable {F : FTy → Type} [FloatOps F]
variable (m : (ℓ : Loc nD τ sig) → Buf (Elt F) ℓ) (ρ : Dev nD → PrngReg)

/-- At the first point the gradient block is the block's term. -/
theorem grad_A (c : Dev nD) (t : Fin cfg0.N) (h0 : t.val % 16 = 0) (h1 : ¬1 ≤ t.val) (h2 : ¬t.val % 16 = 15) :
    (outsAt0 m c t.val t.isLt).1 = k0_pay2 (iblk m c 0 t) (iblk m c 1 t) := by
  rw [outsAt0_A m c t h0 h1 h2]
  dsimp only
  unfold out0_A_2
  rw [View.read_writes_eq_canon _ _ _ (fun _ => cover0_A_2 ..)]
  unfold kernelRun0_A
  dsimp only
  sl_unfold_words
  rw [View.canon_unit_zero hz2]
  simp only [View.readAt_eq_ld, (hs0_0 t).read_unread, (hs0_1 t).read_unread, View.ld_unit_zero (S := S512x1024) hz2]

/-- At a middle point too. -/
theorem grad_B (c : Dev nD) (t : Fin cfg0.N) (h0 : ¬t.val % 16 = 0) (h1 : 1 ≤ t.val) (h2 : ¬t.val % 16 = 15) :
    (outsAt0 m c t.val t.isLt).1 = k0_pay2 (iblk m c 0 t) (iblk m c 1 t) := by
  rw [outsAt0_B m c t h0 h1 h2]
  dsimp only
  unfold out0_B_2
  rw [View.read_writes_eq_canon _ _ _ (fun _ => cover0_B_2 ..)]
  unfold kernelRun0_B
  dsimp only
  sl_unfold_words
  rw [View.canon_unit_zero hz2]
  simp only [View.readAt_eq_ld, (hs0_0 t).read_unread, (hs0_1 t).read_unread, View.ld_unit_zero (S := S512x1024) hz2]

/-- At the last point too. -/
theorem grad_C (c : Dev nD) (t : Fin cfg0.N) (h0 : ¬t.val % 16 = 0) (h1 : 1 ≤ t.val) (h2 : t.val % 16 = 15) :
    (outsAt0 m c t.val t.isLt).1 = k0_pay2 (iblk m c 0 t) (iblk m c 1 t) := by
  rw [outsAt0_C m c t h0 h1 h2]
  dsimp only
  unfold out0_C_2
  rw [View.read_writes_eq_canon _ _ _ (fun _ => cover0_C_2 ..)]
  unfold kernelRun0_C
  dsimp only
  sl_unfold_words
  rw [View.canon_unit_zero hz2]
  simp only [View.readAt_eq_ld, (hs0_0 t).read_unread, (hs0_1 t).read_unread, View.ld_unit_zero (S := S512x1024) hz2]

/-- The first point leaves its own column sums in the scratch row. -/
theorem sum_A (c : Dev nD) (t : Fin cfg0.N) (h0 : t.val % 16 = 0) (h1 : ¬1 ≤ t.val) (h2 : ¬t.val % 16 = 15) :
    (outsAt0 m c t.val t.isLt).2.2 = k0_pay3 (iblk m c 0 t) (iblk m c 1 t) := by
  rw [outsAt0_A m c t h0 h1 h2]
  dsimp only
  unfold sout0_A_0
  rw [View.read_writes_eq_canon _ _ _ (fun _ => scover0_A_0 ..)]
  unfold kernelRun0_A
  dsimp only
  sl_unfold_words
  rw [View.canon_unit_zero hz2]
  unfold k0_pay4
  simp only [View.readAt_eq_ld, (hs0_0 t).read_unread, (hs0_1 t).read_unread, View.ld_unit_zero (S := S512x1024) hz2, shapeCast_self]

/-- A middle point adds its column sums to what the point before left. -/
theorem sum_B (c : Dev nD) (t : Fin cfg0.N) (h0 : ¬t.val % 16 = 0) (h1 : 1 ≤ t.val) (h2 : ¬t.val % 16 = 15) :
    (outsAt0 m c t.val t.isLt).2.2 = addf (outsAt0 m c (t.val - 1) (Nat.lt_of_le_of_lt (Nat.sub_le _ _) t.isLt)).2.2
      (k0_pay3 (iblk m c 0 t) (iblk m c 1 t)) := by
  rw [outsAt0_B m c t h0 h1 h2]
  dsimp only
  unfold sout0_B_0
  rw [View.read_writes_eq_canon _ _ _ (fun _ => scover0_B_0 ..)]
  unfold kernelRun0_B
  dsimp only
  sl_unfold_words
  rw [View.canon_unit_zero hz2]
  unfold k0_pay5
  simp only [View.readAt_eq_ld, (hs0_0 t).read_unread, (hs0_1 t).read_unread, (Memref.isWhole_whole _).read_unread,
    View.ld_unit_zero (S := S512x1024) hz2, View.ld_unit_zero (S := S1x1024) hz2, shapeCast_self]

/-- And so does the last point. -/
theorem sum_C (c : Dev nD) (t : Fin cfg0.N) (h0 : ¬t.val % 16 = 0) (h1 : 1 ≤ t.val) (h2 : t.val % 16 = 15) :
    (outsAt0 m c t.val t.isLt).2.2 = addf (outsAt0 m c (t.val - 1) (Nat.lt_of_le_of_lt (Nat.sub_le _ _) t.isLt)).2.2
      (k0_pay3 (iblk m c 0 t) (iblk m c 1 t)) := by
  rw [outsAt0_C m c t h0 h1 h2]
  dsimp only
  unfold sout0_C_0
  rw [View.read_writes_eq_canon _ _ _ (fun _ => scover0_C_0 ..)]
  unfold kernelRun0_C
  dsimp only
  sl_unfold_words
  rw [View.canon_unit_zero hz2]
  unfold k0_pay5
  simp only [View.readAt_eq_ld, (hs0_0 t).read_unread, (hs0_1 t).read_unread, (Memref.isWhole_whole _).read_unread,
    View.ld_unit_zero (S := S512x1024) hz2, View.ld_unit_zero (S := S1x1024) hz2, shapeCast_self]

/-- The loss block, written at the last point, from the scratch row that point leaves. -/
theorem loss_C (c : Dev nD) (t : Fin cfg0.N) (h0 : ¬t.val % 16 = 0) (h1 : 1 ≤ t.val) (h2 : t.val % 16 = 15) :
    (outsAt0 m c t.val t.isLt).2.1 = k0_pay6 (outsAt0 m c t.val t.isLt).2.2 := by
  rw [sum_C m c t h0 h1 h2, outsAt0_C m c t h0 h1 h2]
  dsimp only
  unfold out0_C_3
  rw [View.read_writes_eq_canon _ _ _ (fun _ => cover0_C_3 ..)]
  unfold kernelRun0_C
  dsimp only
  sl_unfold_words
  rw [View.canon_unit_zero hz2]
  unfold k0_pay5
  simp only [View.readAt_eq_ld, (hs0_0 t).read_unread, (hs0_1 t).read_unread, (Memref.isWhole_whole _).read_unread,
    View.readCov_unit_zero (S := S1x1024) _ hz2,
    View.ld_unit_zero (S := S512x1024) hz2, View.ld_unit_zero (S := S1x1024) hz2, shapeCast_self]

end Cert.LossIdeal.Mine

end
-- ==== Proof.LossValue.lean ====
/- The loss head read over the extended reals: its gradient array and its loss block as closed forms of the two
   arguments. -/
module

public import proofs.«01_k».proof.Proof.LossKernel

@[expose] public section

set_option maxRecDepth 16384

noncomputable section

open Idealize.ShloMosaic Idealize.ShloMosaic.TcCoe Idealize.SL.Sem
open Idealize.ShloMosaic.Pipeline (Dat)

namespace Cert.LossIdeal.Mine

open Cert.Tools Cert.LossIdeal Cert.LossIdeal.Gen Cert.LossIdeal.Value

variable (m : (ℓ : Loc nD τ sig) → Buf (Elt Ideal) ℓ)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel

theorem row_lt (t : Fin cfg0.N) (r : Fin 512) : 512 * t.val + r.val < 8192 := by
  have := t.isLt; have h : cfg0.N = 16 := N_0; omega

/-- The elements of the two arguments, and their difference. -/
def out (c : Dev nD) (r : Fin 8192) (l : Fin 1024) : EReal := m (c.tc.loc main_arg0) (ix2 r l)
def target (c : Dev nD) (r : Fin 8192) (l : Fin 1024) : EReal := m (c.tc.loc main_arg1) (ix2 r l)
def diff (c : Dev nD) (r : Fin 8192) (l : Fin 1024) : EReal := out m c r l - target m c r l

theorem blk0 (c : Dev nD) (t : Fin cfg0.N) (r : Fin 512) (l : Fin 1024) :
    (iblk m c 0 t : Vec Ideal S512x1024 .f32) (ix2 r l) = out m c ⟨512 * t.val + r.val, row_lt t r⟩ l := by
  unfold out
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [(index0 t).1]; omega
  | ⟨1, _⟩ => show win0_0.index t 1 * 1024 + 1 * l.val = l.val; rw [(index0 t).2]; omega

theorem blk1 (c : Dev nD) (t : Fin cfg0.N) (r : Fin 512) (l : Fin 1024) :
    (iblk m c 1 t : Vec Ideal S512x1024 .f32) (ix2 r l) = target m c ⟨512 * t.val + r.val, row_lt t r⟩ l := by
  unfold target
  unfold iblk
  rw [View.read_apply]
  show V m c main_arg1 _ = m (c.tc.loc main_arg1) _
  unfold V
  congr 1
  funext a
  apply Fin.ext
  match a with
  | ⟨0, _⟩ => show win0_1.index t 0 * 512 + 1 * r.val = 512 * t.val + r.val; rw [(index1 t).1]; omega
  | ⟨1, _⟩ => show win0_1.index t 1 * 1024 + 1 * l.val = l.val; rw [(index1 t).2]; omega

theorem pay2_at (x y : Vec Ideal S512x1024 .f32) (r : Fin 512) (l : Fin 1024) :
    k0_pay2 x y (ix2 r l) = (x (ix2 r l) - y (ix2 r l)) * Ideal.ofBits .f32 0x3A800000#32 := by
  pointwise [k0_pay2, k0_pay1]

theorem pay3_at (x y : Vec Ideal S512x1024 .f32) (l : Fin 1024) :
    k0_pay3 x y (ix2 0 l) = ∑ r : Fin 512, (x (ix2 r l) - y (ix2 r l)) * (x (ix2 r l) - y (ix2 r l)) := by
  pointwise [k0_pay3, k0_pay1]

theorem pay6_at (x : Vec Ideal S1x1024 .f32) (r : Fin 8) (l : Fin 128) :
    k0_pay6 x (ix2 r l) = Ideal.ofBits .f32 0x3A000000#32 * ∑ l : Fin 1024, x (ix2 0 l) := by
  pointwise [k0_pay6]
  simp only [Fin.sum_univ_one]

theorem grad_all (c : Dev nD) (t : Fin cfg0.N) :
    (outsAt0 m c t.val t.isLt).1 = k0_pay2 (iblk m c 0 t) (iblk m c 1 t) := by
  have hN : cfg0.N = 16 := N_0
  have hlt := t.isLt
  by_cases h0 : t.val % 16 = 0
  · exact grad_A m c t h0 (by omega) (by omega)
  · by_cases h2 : t.val % 16 = 15
    · exact grad_C m c t h0 (by omega) h2
    · exact grad_B m c t h0 (by omega) h2

theorem sum_all (c : Dev nD) (n : ℕ) (h : n + 1 < cfg0.N) :
    (outsAt0 m c (n + 1) h).2.2 = addf (outsAt0 m c n (Nat.lt_of_succ_lt h)).2.2
      (k0_pay3 (iblk m c 0 ⟨n + 1, h⟩) (iblk m c 1 ⟨n + 1, h⟩)) := by
  have hN : cfg0.N = 16 := N_0
  by_cases h2 : (n + 1) % 16 = 15
  · exact sum_C m c ⟨n + 1, h⟩ (by dsimp only; omega) (by dsimp only; omega) h2
  · exact sum_B m c ⟨n + 1, h⟩ (by dsimp only; omega) (by dsimp only; omega) h2

theorem G2_at (c : Dev nD) (r : Fin 8192) (l : Fin 1024) :
    (G2 m c : S8192x1024.Idx → EReal) (ix2 r l) = diff m c r l * Ideal.ofBits .f32 0x3A800000#32 := by
  have hN : cfg0.N = 16 := N_0
  have hr := r.isLt
  have hl := l.isLt
  have hp : pt2Of (ix2 r l) = r.val / 512 := by
    show 1 * (r.val / 512 - 0) + 1 * (l.val / 1024 - 0) = _; omega
  have hlt : pt2Of (ix2 r l) < cfg0.N := by rw [hp]; omega
  have hloc : loc2Of (ix2 r l) = ix2 (⟨r.val % 512, Nat.mod_lt _ (by decide)⟩ : Fin 512) l := by
    funext a
    apply Fin.ext
    match a with
    | ⟨0, _⟩ => rfl
    | ⟨1, _⟩ => show l.val % 1024 = l.val; omega
  unfold G2
  rw [dif_pos hlt, ← outsAt0_sweep m c _ hlt, grad_all m c ⟨pt2Of (ix2 r l), hlt⟩, hloc, pay2_at, blk0, blk1]
  have hrow : (⟨512 * (⟨pt2Of (ix2 r l), hlt⟩ : Fin cfg0.N).val + r.val % 512, row_lt _ (⟨r.val % 512, Nat.mod_lt _ (by decide)⟩ : Fin 512)⟩ : Fin 8192) = r := by
    apply Fin.ext; show 512 * pt2Of (ix2 r l) + r.val % 512 = r.val; rw [hp]; omega
  exact congrArg (fun i => (out m c i l - target m c i l) * Ideal.ofBits .f32 0x3A800000#32) hrow

/-- What the scratch row holds after the last point: the column sums over all rows. -/
theorem row_total (c : Dev nD) (l : Fin 1024) (h15 : 15 < cfg0.N) :
    (outsAt0 m c 15 h15).2.2 (ix2 0 l) = ∑ r : Fin 8192, diff m c r l * diff m c r l := by
  have hN : cfg0.N = 16 := N_0
  have key := fold_univ cfg0.N (fun n h => ((outsAt0 m c n h).2.2 (ix2 0 l) : EReal))
    (fun t => ∑ r : Fin 512, diff m c ⟨512 * t.val + r.val, row_lt t r⟩ l * diff m c ⟨512 * t.val + r.val, row_lt t r⟩ l)
    (fun h => by
      dsimp only
      rw [sum_A m c ⟨0, h⟩ (show (0 : ℕ) % 16 = 0 by decide) (show ¬1 ≤ 0 by decide) (show ¬(0 : ℕ) % 16 = 15 by decide), pay3_at]
      simp only [blk0, blk1]
      rfl)
    (fun n h => by
      dsimp only
      rw [sum_all m c n h, ValueIdx.addf_apply, pay3_at]
      simp only [blk0, blk1]
      rfl)
    15 h15 (by omega)
  exact key.trans (sum_tiles (n := cfg0.N) (b := 512) (by rw [hN]) (fun r => diff m c r l * diff m c r l) row_lt)

theorem G3_at (c : Dev nD) (r : Fin 8) (l : Fin 128) :
    (G3 m c : S8x128.Idx → EReal) (ix2 r l)
      = Ideal.ofBits .f32 0x3A000000#32 * ∑ l : Fin 1024, ∑ r : Fin 8192, diff m c r l * diff m c r l := by
  have h15 : (15 : ℕ) < cfg0.N := lt_of_lt_of_eq (by decide) N_0.symm
  rw [G3_last, ← outsAt0_sweep m c 15 h15]
  have hl := loss_C m c ⟨15, h15⟩ (show ¬(15 : ℕ) % 16 = 0 by decide) (show 1 ≤ 15 by decide) (show (15 : ℕ) % 16 = 15 by decide)
  dsimp only at hl
  rw [hl, pay6_at]
  exact congrArg _ (Finset.sum_congr rfl fun l _ => row_total m c l h15)

end Cert.LossIdeal.Mine

end
-- ==== Proof.LossClaim.lean ====
/- The loss head: its three frames, and that its gradient and its loss are those of the reference. -/
module

public import proofs.«01_k».proof.Defs
public import proofs.«01_k».proof.Proof.Reals
public import proofs.«01_k».proof.Proof.LossValue
public import proofs.«01_k».proof.Proof.Gen.Loss.Frame
public import proofs.«01_k».proof.Proof.Gen.LossRefIdeal.Run
public import Idealize.ShloMosaic.Lib.Claim

@[expose] public section

set_option maxRecDepth 16384

noncomputable section

open Idealize.ShloMosaic Idealize.ShloMosaic.TcCoe Idealize.SL.Sem

namespace Cert.LossIdeal.Mine

open Cert.Tools Cert.LossIdeal Cert.LossIdeal.Gen Cert.LossIdeal.Value

/-- The loss head runs and leaves its arguments as they were. -/
theorem frame_kernel : Cert.quiescent_Loss := fun m ρ _ => Cert.Loss.Gen.frame m ρ
theorem frame_ideal : Cert.quiescent_LossIdeal := fun m ρ _ => Cert.LossIdeal.Gen.frame m ρ

/-- The reference runs and leaves its arguments as they were. -/
theorem frame_reference : Cert.quiescent_LossRefIdeal := fun m ρ _ =>
  (θ_run Cert.LossRefIdeal.defs _ _).mono
    (fun r h => ⟨fun c => (h c).2.2, Idealize.ShloMosaic.sem_eq_zero_of_no_sems (by decide) r.2⟩)
    (Cert.LossRefIdeal.Value.run (F := Ideal) m ρ)

/-- The gradient of one element: the error over the row length. -/
theorem grad_eq (d : EReal) :
    d * Ideal.ofBits .f32 0x3A800000#32
      = Ideal.div (Ideal.ofBits .f32 0x3F000000#32 * Ideal.ofBits .f32 0x3F800000#32) (Ideal.ofBits .f32 0x44800000#32)
        * (Ideal.ofBits .f32 0x40000000#32 * d) := by
  rw [word_half, word_one, word_1024, word_two, word_inv1024, Ideal.div_coe (by norm_num), ← mul_assoc, mul_comm d]
  congr 1
  norm_cast
  norm_num

/-- The loss: half of the sum over rows of each row's mean square. -/
theorem loss_eq (d : Fin 8192 → Fin 1024 → EReal) :
    Ideal.ofBits .f32 0x3A000000#32 * ∑ l : Fin 1024, ∑ r : Fin 8192, d r l * d r l
      = Ideal.ofBits .f32 0x3F000000#32
        * ∑ r : Fin 8192, Ideal.div (∑ l : Fin 1024, d r l * d r l) (Ideal.ofBits .f32 0x44800000#32) := by
  rw [word_half, word_1024, word_inv2048, Finset.sum_comm]
  simp only [Ideal.div_coe (show (1024 : ℝ) ≠ 0 by norm_num)]
  have hn : ∀ r : Fin 8192, 0 ≤ ∑ l : Fin 1024, d r l * d r l := fun r => Finset.sum_nonneg fun l _ => sq_nonneg' _
  have hs : ∑ r : Fin 8192, (∑ l : Fin 1024, d r l * d r l) * ((1 / 1024 : ℝ) : EReal)
      = ((1 / 1024 : ℝ) : EReal) * ∑ r : Fin 8192, ∑ l : Fin 1024, d r l * d r l := by
    rw [mul_sum_nonneg _ _ _ fun r _ => hn r]
    exact Finset.sum_congr rfl fun r _ => mul_comm _ _
  rw [hs, ← mul_assoc]
  congr 1
  norm_cast
  norm_num

/-- Over the reals the loss head computes the reference's gradient and loss. -/
theorem value : Cert.algebraic_LossIdeal_LossRefIdeal := by
  pair_intro
  · run_from Cert.LossIdeal.Value.run (F := Ideal) m g
  · run_from Cert.LossRefIdeal.Value.run (F := Ideal) m' g'
    · funext j
      idx_vars j
      rw [G2_at]
      exact Eq.trans (by pointwise []; rfl) (grad_eq (diff m c j0 j1)).symm
    · funext j
      idx_vars j
      rw [G3_at]
      exact Eq.trans (by pointwise []; rfl) (loss_eq (diff m c)).symm

end Cert.LossIdeal.Mine

end
-- ==== Proof.BranchKernel.lean ====
/- One gated branch: what each grid point leaves in its outputs and its two scratch arrays, as the body's own terms. -/
module

public import proofs.«01_k».proof.Proof.Gen.BranchIdeal.Value
public import proofs.«01_k».proof.Proof.Sums

@[expose] public section

set_option maxRecDepth 16384
set_option maxHeartbeats 1000000

noncomputable section

open Idealize.ShloMosaic Idealize.ShloMosaic.TcCoe Idealize.SL.Sem
open Idealize.ShloMosaic.Pipeline (Dat)

namespace Cert.BranchIdeal.Mine

open Cert.Tools Cert.BranchIdeal Cert.BranchIdeal.Gen Cert.BranchIdeal.Value

variable {F : FTy → Type} [FloatOps F]
variable (m : (ℓ : Loc nD τ sig) → Buf (Elt F) ℓ) (ρ : Dev nD → PrngReg)

/-- The gradient of the branch, of the gate's argument (in full and as it is stored), from one point's blocks. -/
def dbrOf (c : Dev nD) (t : Fin cfg0.N) : Vec F S1024x256 .f32 :=
  k0_pay18 (iblk m c 0 t) (iblk m c 2 t) (iblk m c 5 t) (iblk m c 3 t) (iblk m c 4 t)
def dpreFull (c : Dev nD) (t : Fin cfg0.N) : Vec F S1024x1024 .f32 :=
  k0_pay16 (iblk m c 0 t) (iblk m c 1 t) (iblk m c 2 t) (iblk m c 5 t) (iblk m c 3 t) (iblk m c 4 t)
def dpreOf (c : Dev nD) (t : Fin cfg0.N) : Vec F S1024x1024 .bf16 :=
  k0_pay17 (iblk m c 0 t) (iblk m c 1 t) (iblk m c 2 t) (iblk m c 5 t) (iblk m c 3 t) (iblk m c 4 t)
/-- What one point adds to the gate's weight gradient, to the bias's and to the branch's weight gradient. -/
def dwgOf (c : Dev nD) (t : Fin cfg0.N) : Vec F S1024x1024 .f32 := k0_pay5 (k0_pay11 (iblk m c 0 t)) (dpreOf m c t)
def dbgOf (c : Dev nD) (t : Fin cfg0.N) : Vec F S1x1024 .f32 := k0_pay9 (dpreFull m c t)
def dwbrOf (c : Dev nD) (t : Fin cfg0.N) : Vec F S1024x256 .f32 :=
  k0_pay1 (k0_pay12 (iblk m c 1 t)) (k0_pay15 (iblk m c 0 t) (iblk m c 2 t) (iblk m c 3 t) (iblk m c 4 t))

/-- The first point starts the three sums. -/
theorem at_A (c : Dev nD) (t : Fin cfg0.N) (h0 : t.val % 8 = 0) (h1 : ¬1 ≤ t.val) (h2 : ¬t.val % 8 = 7) :
    (outsAt0 m c t.val t.isLt).1 = dbrOf m c t
    ∧ (outsAt0 m c t.val t.isLt).2.1 = dpreOf m c t
    ∧ (outsAt0 m c t.val t.isLt).2.2.2.1 = dbgOf m c t
    ∧ (outsAt0 m c t.val t.isLt).2.2.2.2.2.1 = dwgOf m c t
    ∧ (outsAt0 m c t.val t.isLt).2.2.2.2.2.2 = dwbrOf m c t := by
  have e := outsAt0_A m c t h0 h1 h2 h0 h1 h2 h0 h1
  refine ⟨(congrArg (fun p => p.1) e).trans ?_, (congrArg (fun p => p.2.1) e).trans ?_, (congrArg (fun p => p.2.2.2.1) e).trans ?_, (congrArg (fun p => p.2.2.2.2.2.1) e).trans ?_, (congrArg (fun p => p.2.2.2.2.2.2) e).trans ?_⟩
  all_goals (clear e; dsimp only)
  on_goal 1 => unfold out0_A_6; rw [View.read_writes_eq_canon _ _ _ (fun _ => cover0_A_6 ..)]
  on_goal 2 => unfold out0_A_7; rw [View.read_writes_eq_canon _ _ _ (fun _ => cover0_A_7 ..)]
  on_goal 3 => unfold out0_A_9; rw [View.read_writes_eq_canon _ _ _ (fun _ => cover0_A_9 ..)]
  on_goal 4 => unfold sout0_A_0; rw [View.read_writes_eq_canon _ _ _ (fun _ => scover0_A_0 ..)]
  on_goal 5 => unfold sout0_A_1; rw [View.read_writes_eq_canon _ _ _ (fun _ => scover0_A_1 ..)]
  all_goals (unfold kernelRun0_A; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_5 t).read_unread, (hs0_9 t).read_unread, (Memref.isWhole_whole _).read_unread,
    View.readCov_unit_zero (S := S1024x1024) _ hz2, View.readCov_unit_zero (S := S1024x256) _ hz2, View.readCov_unit_zero (S := S1x1024) _ hz2,
    View.ld_unit_zero (S := S1024x1024) hz2, View.ld_unit_zero (S := S1024x256) hz2, View.ld_unit_zero (S := S1x1024) hz2, View.ld_unit_zero (S := S1x1024x256) hz3,
    shapeCast_self, dbrOf, dpreOf, dpreFull, dwgOf, dbgOf, dwbrOf, k0_pay2, k0_pay3, k0_pay6, k0_pay7, k0_pay10]

/-- A middle point adds to them. -/
theorem at_B (c : Dev nD) (t : Fin cfg0.N) (h0 : ¬t.val % 8 = 0) (h1 : 1 ≤ t.val) (h2 : ¬t.val % 8 = 7) :
    (outsAt0 m c t.val t.isLt).1 = dbrOf m c t
    ∧ (outsAt0 m c t.val t.isLt).2.1 = dpreOf m c t
    ∧ (outsAt0 m c t.val t.isLt).2.2.2.1 = addf (outsAt0 m c (t.val - 1) (Nat.lt_of_le_of_lt (Nat.sub_le _ _) t.isLt)).2.2.2.1 (dbgOf m c t)
    ∧ (outsAt0 m c t.val t.isLt).2.2.2.2.2.1 = addf (outsAt0 m c (t.val - 1) (Nat.lt_of_le_of_lt (Nat.sub_le _ _) t.isLt)).2.2.2.2.2.1 (dwgOf m c t)
    ∧ (outsAt0 m c t.val t.isLt).2.2.2.2.2.2 = addf (outsAt0 m c (t.val - 1) (Nat.lt_of_le_of_lt (Nat.sub_le _ _) t.isLt)).2.2.2.2.2.2 (dwbrOf m c t) := by
  have e := outsAt0_B m c t h0 h1 h2 h0 h1 h2 h0 h1
  refine ⟨(congrArg (fun p => p.1) e).trans ?_, (congrArg (fun p => p.2.1) e).trans ?_, (congrArg (fun p => p.2.2.2.1) e).trans ?_, (congrArg (fun p => p.2.2.2.2.2.1) e).trans ?_, (congrArg (fun p => p.2.2.2.2.2.2) e).trans ?_⟩
  all_goals (clear e; dsimp only)
  on_goal 1 => unfold out0_B_6; rw [View.read_writes_eq_canon _ _ _ (fun _ => cover0_B_6 ..)]
  on_goal 2 => unfold out0_B_7; rw [View.read_writes_eq_canon _ _ _ (fun _ => cover0_B_7 ..)]
  on_goal 3 => unfold out0_B_9; rw [View.read_writes_eq_canon _ _ _ (fun _ => cover0_B_9 ..)]
  on_goal 4 => unfold sout0_B_0; rw [View.read_writes_eq_canon _ _ _ (fun _ => scover0_B_0 ..)]
  on_goal 5 => unfold sout0_B_1; rw [View.read_writes_eq_canon _ _ _ (fun _ => scover0_B_1 ..)]
  all_goals (unfold kernelRun0_B; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_5 t).read_unread, (hs0_9 t).read_unread, (Memref.isWhole_whole _).read_unread,
    View.readCov_unit_zero (S := S1024x1024) _ hz2, View.readCov_unit_zero (S := S1024x256) _ hz2, View.readCov_unit_zero (S := S1x1024) _ hz2,
    View.ld_unit_zero (S := S1024x1024) hz2, View.ld_unit_zero (S := S1024x256) hz2, View.ld_unit_zero (S := S1x1024) hz2, View.ld_unit_zero (S := S1x1024x256) hz3,
    shapeCast_self, dbrOf, dpreOf, dpreFull, dwgOf, dbgOf, dwbrOf, k0_pay2, k0_pay3, k0_pay6, k0_pay7, k0_pay10]

/-- The last point adds too, and writes the two weight gradients out. -/
theorem at_C (c : Dev nD) (t : Fin cfg0.N) (h0 : ¬t.val % 8 = 0) (h1 : 1 ≤ t.val) (h2 : t.val % 8 = 7) :
    (outsAt0 m c t.val t.isLt).1 = dbrOf m c t
    ∧ (outsAt0 m c t.val t.isLt).2.1 = dpreOf m c t
    ∧ (outsAt0 m c t.val t.isLt).2.2.2.1 = addf (outsAt0 m c (t.val - 1) (Nat.lt_of_le_of_lt (Nat.sub_le _ _) t.isLt)).2.2.2.1 (dbgOf m c t)
    ∧ (outsAt0 m c t.val t.isLt).2.2.2.2.2.1 = addf (outsAt0 m c (t.val - 1) (Nat.lt_of_le_of_lt (Nat.sub_le _ _) t.isLt)).2.2.2.2.2.1 (dwgOf m c t)
    ∧ (outsAt0 m c t.val t.isLt).2.2.2.2.2.2 = addf (outsAt0 m c (t.val - 1) (Nat.lt_of_le_of_lt (Nat.sub_le _ _) t.isLt)).2.2.2.2.2.2 (dwbrOf m c t)
    ∧ (outsAt0 m c t.val t.isLt).2.2.1 = k0_pay8 (addf (outsAt0 m c (t.val - 1) (Nat.lt_of_le_of_lt (Nat.sub_le _ _) t.isLt)).2.2.2.2.2.1 (dwgOf m c t))
    ∧ (outsAt0 m c t.val t.isLt).2.2.2.2.1 = k0_pay4 (addf (outsAt0 m c (t.val - 1) (Nat.lt_of_le_of_lt (Nat.sub_le _ _) t.isLt)).2.2.2.2.2.2 (dwbrOf m c t)) := by
  have e := outsAt0_C m c t h0 h1 h2 h0 h1 h2 h0 h1
  refine ⟨(congrArg (fun p => p.1) e).trans ?_, (congrArg (fun p => p.2.1) e).trans ?_, (congrArg (fun p => p.2.2.2.1) e).trans ?_, (congrArg (fun p => p.2.2.2.2.2.1) e).trans ?_, (congrArg (fun p => p.2.2.2.2.2.2) e).trans ?_, (congrArg (fun p => p.2.2.1) e).trans ?_, (congrArg (fun p => p.2.2.2.2.1) e).trans ?_⟩
  all_goals (clear e; dsimp only)
  on_goal 1 => unfold out0_C_6; rw [View.read_writes_eq_canon _ _ _ (fun _ => cover0_C_6 ..)]
  on_goal 2 => unfold out0_C_7; rw [View.read_writes_eq_canon _ _ _ (fun _ => cover0_C_7 ..)]
  on_goal 3 => unfold out0_C_9; rw [View.read_writes_eq_canon _ _ _ (fun _ => cover0_C_9 ..)]
  on_goal 4 => unfold sout0_C_0; rw [View.read_writes_eq_canon _ _ _ (fun _ => scover0_C_0 ..)]
  on_goal 5 => unfold sout0_C_1; rw [View.read_writes_eq_canon _ _ _ (fun _ => scover0_C_1 ..)]
  on_goal 6 => unfold out0_C_8; rw [View.read_writes_eq_canon _ _ _ (fun _ => cover0_C_8 ..)]
  on_goal 7 => unfold out0_C_10; rw [View.read_writes_eq_canon _ _ _ (fun _ => cover0_C_10 ..)]
  all_goals (unfold kernelRun0_C; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_5 t).read_unread, (hs0_9 t).read_unread, (Memref.isWhole_whole _).read_unread,
    View.readCov_unit_zero (S := S1024x1024) _ hz2, View.readCov_unit_zero (S := S1024x256) _ hz2, View.readCov_unit_zero (S := S1x1024) _ hz2,
    View.ld_unit_zero (S := S1024x1024) hz2, View.ld_unit_zero (S := S1024x256) hz2, View.ld_unit_zero (S := S1x1024) hz2, View.ld_unit_zero (S := S1x1024x256) hz3,
    shapeCast_self, dbrOf, dpreOf, dpreFull, dwgOf, dbgOf, dwbrOf, k0_pay2, k0_pay3, k0_pay6, k0_pay7, k0_pay10]

end Cert.BranchIdeal.Mine

end
-- ==== Proof.BranchValue.lean ====
/- One gated branch over the extended reals: each of its five results as a closed form of the arguments. -/
module

public import proofs.«01_k».proof.Proof.BranchKernel
public import proofs.«01_k».proof.Proof.Reals
public import Idealize.ShloMosaic.Lib.Claim
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BranchIdeal.Mine

open Cert.Tools Cert.BranchIdeal Cert.BranchIdeal.Gen Cert.BranchIdeal.Value

variable (m : (ℓ : Loc nD τ sig) → Buf (Elt Ideal) ℓ)

theorem index : ∀ t : Fin cfg0.N, win0_0.index t = ![t.val, 0] ∧ win0_1.index t = ![t.val, 0] ∧ win0_2.index t = ![t.val, 0]
    ∧ win0_3.index t = ![1, 0] ∧ win0_4.index t = ![0, 1] ∧ win0_5.index t = ![1, 0, 0] := by decide +kernel

theorem row_lt (t : Fin cfg0.N) (r : Fin 1024) : 1024 * t.val + r.val < 8192 := by
  have := t.isLt; have h : cfg0.N = 8 := N_0; omega

/-- Row `r` of tile `t`, among all rows. -/
def row (t : Fin cfg0.N) (r : Fin 1024) : Fin 8192 := ⟨1024 * t.val + r.val, row_lt t r⟩

/-- The elements of the arguments: the normed input, the branch, the cotangent, the branch's columns of the input
    projection and of the bias, and its output weight. -/
def hx (c : Dev nD) (r : Fin 8192) (l : Fin 1024) : EReal := m (c.tc.loc main_arg0) (ix2 r l)
def br (c : Dev nD) (r : Fin 8192) (d : Fin 256) : EReal := m (c.tc.loc main_arg1) (ix2 r d)
def dm (c : Dev nD) (r : Fin 8192) (e : Fin 1024) : EReal := m (c.tc.loc main_arg2) (ix2 r e)
def wi (c : Dev nD) (l : Fin 1024) (e : Fin 1024) : EReal := m (c.tc.loc main_arg3) (ix2 l ⟨2976 + e.val, by omega⟩)
def gb (c : Dev nD) (e : Fin 1024) : EReal := m (c.tc.loc main_arg4) (ix1 ⟨1024 + e.val, by omega⟩)
def wb (c : Dev nD) (d : Fin 256) (e : Fin 1024) : EReal := m (c.tc.loc main_arg6) (ix2 d e)

/-- The gate, the branch's output, and their gradients. -/
def gate (c : Dev nD) (r : Fin 8192) (e : Fin 1024) : EReal := Ideal.logistic (∑ l : Fin 1024, hx m c r l * wi m c l e + gb m c e)
def out (c : Dev nD) (r : Fin 8192) (e : Fin 1024) : EReal := ∑ d : Fin 256, br m c r d * wb m c d e
def dout (c : Dev nD) (r : Fin 8192) (e : Fin 1024) : EReal := dm m c r e * gate m c r e
def dpre (c : Dev nD) (r : Fin 8192) (e : Fin 1024) : EReal := dm m c r e * out m c r e * gate m c r e * (1 - gate m c r e)

theorem blk0 (c : Dev nD) (t : Fin cfg0.N) (r : Fin 1024) (l : Fin 1024) :
    (iblk m c 0 t : Vec Ideal S1024x1024 .bf16) (ix2 r l) = hx m c (row t r) l := by
  unfold hx row
  blk_point [iblk, V, index t]

theorem blk1 (c : Dev nD) (t : Fin cfg0.N) (r : Fin 1024) (d : Fin 256) :
    (iblk m c 1 t : Vec Ideal S1024x256 .bf16) (ix2 r d) = br m c (row t r) d := by
  unfold br row
  blk_point [iblk, V, index t]

theorem blk2 (c : Dev nD) (t : Fin cfg0.N) (r : Fin 1024) (e : Fin 1024) :
    (iblk m c 2 t : Vec Ideal S1024x1024 .f32) (ix2 r e) = dm m c (row t r) e := by
  unfold dm row
  blk_point [iblk, V, index t]

theorem blk3 (c : Dev nD) (t : Fin cfg0.N) (e l : Fin 1024) :
    (iblk m c 3 t : Vec Ideal S1024x1024 .bf16) (ix2 e l) = wi m c l e := by
  unfold wi
  blk_point [iblk, V, index t]

theorem blk4 (c : Dev nD) (t : Fin cfg0.N) (e : Fin 1024) :
    (iblk m c 4 t : Vec Ideal S1x1024 .f32) (ix2 0 e) = gb m c e := by
  unfold gb
  blk_point [iblk, V, index t]

set_option maxHeartbeats 1000000 in
/-- The stack of the four output weights, at its second. -/
theorem stack_at (c : Dev nD) (e : Fin 1024) (d : Fin 256) :
    (V m c main_v15 : S4x1024x256.Idx → EReal) (ix3 1 e d) = wb m c d e := by
  unfold wb
  unfold V hostOps0
  after_reads_simp
  refine (concatenate_apply_piece (t := S4x1024x256) 0 _ _ (ix3 1 e d) 1 (by show 1 < 4; decide) S1x1024x256 _ rfl rfl 1 rfl
    (ix3 0 e d) (fun b hb => ?_) rfl).trans ?_
  · match b, hb with
    | ⟨0, _⟩, hb => exact absurd rfl hb
    | ⟨1, _⟩, _ => rfl
    | ⟨2, _⟩, _ => rfl
  · refine (congrFun (StableHlo.unary_result _ _ _ _ _ _) _).trans ?_
    after_reads_simp
    pointwise []

theorem blk5 (c : Dev nD) (t : Fin cfg0.N) (e : Fin 1024) (d : Fin 256) :
    (iblk m c 5 t : Vec Ideal S1x1024x256 .bf16) (ix3 0 e d) = wb m c d e := by
  refine Eq.trans ?_ (stack_at m c e d)
  unfold iblk
  rw [View.read_apply]
  show V m c main_v15 _ = V m c main_v15 _
  congr 1
  blk_ext [index t]

/-- One point's terms at an index. -/
theorem gate_at (c : Dev nD) (t : Fin cfg0.N) (r e : Fin 1024) :
    k0_pay14 (iblk m c 0 t) (iblk m c 3 t) (iblk m c 4 t) (ix2 r e) = gate m c (row t r) e := by
  pointwise [k0_pay14, k0_pay11]
  simp only [blk0, blk3, blk4]
  unfold gate Ideal.logistic
  rw [zero_sub]

theorem dout_at (c : Dev nD) (t : Fin cfg0.N) (r e : Fin 1024) :
    k0_pay15 (iblk m c 0 t) (iblk m c 2 t) (iblk m c 3 t) (iblk m c 4 t) (ix2 r e) = dout m c (row t r) e := by
  pointwise [k0_pay15]
  rw [gate_at, blk2]
  rfl

theorem dpreFull_at (c : Dev nD) (t : Fin cfg0.N) (r e : Fin 1024) : dpreFull m c t (ix2 r e) = dpre m c (row t r) e := by
  unfold dpreFull
  pointwise [k0_pay16, k0_pay12, k0_pay13]
  simp only [gate_at, blk1, blk2, blk5]
  rfl

theorem dpreOf_at (c : Dev nD) (t : Fin cfg0.N) (r e : Fin 1024) : dpreOf m c t (ix2 r e) = dpre m c (row t r) e := by
  rw [← dpreFull_at]
  unfold dpreOf dpreFull
  pointwise [k0_pay17]

theorem dbrOf_at (c : Dev nD) (t : Fin cfg0.N) (r : Fin 1024) (d : Fin 256) :
    dbrOf m c t (ix2 r d) = ∑ e : Fin 1024, dout m c (row t r) e * wb m c d e := by
  unfold dbrOf
  pointwise [k0_pay18, k0_pay13]
  simp only [dout_at, blk5]

theorem dwgOf_at (c : Dev nD) (t : Fin cfg0.N) (e l : Fin 1024) :
    dwgOf m c t (ix2 e l) = ∑ r : Fin 1024, dpre m c (row t r) e * hx m c (row t r) l := by
  unfold dwgOf
  pointwise [k0_pay5, k0_pay11]
  simp only [dpreOf_at, blk0]

theorem dbgOf_at (c : Dev nD) (t : Fin cfg0.N) (e : Fin 1024) : dbgOf m c t (ix2 0 e) = ∑ r : Fin 1024, dpre m c (row t r) e := by
  unfold dbgOf
  pointwise [k0_pay9]
  simp only [dpreFull_at]

theorem dwbrOf_at (c : Dev nD) (t : Fin cfg0.N) (e : Fin 1024) (d : Fin 256) :
    dwbrOf m c t (ix2 e d) = ∑ r : Fin 1024, dout m c (row t r) e * br m c (row t r) d := by
  unfold dwbrOf
  pointwise [k0_pay1, k0_pay12]
  simp only [dout_at, blk1]

/-- Every point leaves its own rows of the two row-wise results. -/
theorem rows_all (c : Dev nD) (t : Fin cfg0.N) :
    (outsAt0 m c t.val t.isLt).1 = dbrOf m c t ∧ (outsAt0 m c t.val t.isLt).2.1 = dpreOf m c t := by
  have hN : cfg0.N = 8 := N_0
  have hlt := t.isLt
  by_cases h0 : t.val % 8 = 0
  · exact ⟨(at_A m c t h0 (by omega) (by omega)).1, (at_A m c t h0 (by omega) (by omega)).2.1⟩
  · by_cases h2 : t.val % 8 = 7
    · exact ⟨(at_C m c t h0 (by omega) h2).1, (at_C m c t h0 (by omega) h2).2.1⟩
    · exact ⟨(at_B m c t h0 (by omega) h2).1, (at_B m c t h0 (by omega) h2).2.1⟩

/-- The three sums start at the first point and grow at every other. -/
theorem first (c : Dev nD) (h : 0 < cfg0.N) :
    (outsAt0 m c 0 h).2.2.2.1 = dbgOf m c ⟨0, h⟩ ∧ (outsAt0 m c 0 h).2.2.2.2.2.1 = dwgOf m c ⟨0, h⟩
    ∧ (outsAt0 m c 0 h).2.2.2.2.2.2 = dwbrOf m c ⟨0, h⟩ :=
  (at_A m c ⟨0, h⟩ (show (0 : ℕ) % 8 = 0 by decide) (show ¬1 ≤ 0 by decide) (show ¬(0 : ℕ) % 8 = 7 by decide)).2.2

theorem step (c : Dev nD) (n : ℕ) (h : n + 1 < cfg0.N) :
    (outsAt0 m c (n + 1) h).2.2.2.1 = addf (outsAt0 m c n (Nat.lt_of_succ_lt h)).2.2.2.1 (dbgOf m c ⟨n + 1, h⟩)
    ∧ (outsAt0 m c (n + 1) h).2.2.2.2.2.1 = addf (outsAt0 m c n (Nat.lt_of_succ_lt h)).2.2.2.2.2.1 (dwgOf m c ⟨n + 1, h⟩)
    ∧ (outsAt0 m c (n + 1) h).2.2.2.2.2.2 = addf (outsAt0 m c n (Nat.lt_of_succ_lt h)).2.2.2.2.2.2 (dwbrOf m c ⟨n + 1, h⟩) := by
  have hN : cfg0.N = 8 := N_0
  by_cases h2 : (n + 1) % 8 = 7
  · have k := (at_C m c ⟨n + 1, h⟩ (by dsimp only; omega) (by dsimp only; omega) h2).2.2
    exact ⟨k.1, k.2.1, k.2.2.1⟩
  · exact (at_B m c ⟨n + 1, h⟩ (by dsimp only; omega) (by dsimp only; omega) h2).2.2

/-- After the last point the three sums run over all rows. -/
theorem dbg_total (c : Dev nD) (e : Fin 1024) (h7 : 7 < cfg0.N) :
    (outsAt0 m c 7 h7).2.2.2.1 (ix2 0 e) = ∑ r : Fin 8192, dpre m c r e := by
  have hN : cfg0.N = 8 := N_0
  have key := fold_univ cfg0.N (fun n h => ((outsAt0 m c n h).2.2.2.1 (ix2 0 e) : EReal)) (fun t => dbgOf m c t (ix2 0 e))
    (fun h => congrFun (first m c h).1 _) (fun n h => (congrFun (step m c n h).1 _).trans (ValueIdx.addf_apply ..)) 7 h7 (by omega)
  refine key.trans ?_
  simp only [dbgOf_at]
  exact sum_tiles (n := cfg0.N) (b := 1024) (by rw [hN]) (fun r => dpre m c r e) row_lt

theorem dwg_total (c : Dev nD) (e l : Fin 1024) (h7 : 7 < cfg0.N) :
    (outsAt0 m c 7 h7).2.2.2.2.2.1 (ix2 e l) = ∑ r : Fin 8192, dpre m c r e * hx m c r l := by
  have hN : cfg0.N = 8 := N_0
  have key := fold_univ cfg0.N (fun n h => ((outsAt0 m c n h).2.2.2.2.2.1 (ix2 e l) : EReal)) (fun t => dwgOf m c t (ix2 e l))
    (fun h => congrFun (first m c h).2.1 _) (fun n h => (congrFun (step m c n h).2.1 _).trans (ValueIdx.addf_apply ..)) 7 h7 (by omega)
  refine key.trans ?_
  simp only [dwgOf_at]
  exact sum_tiles (n := cfg0.N) (b := 1024) (by rw [hN]) (fun r => dpre m c r e * hx m c r l) row_lt

theorem dwbr_total (c : Dev nD) (e : Fin 1024) (d : Fin 256) (h7 : 7 < cfg0.N) :
    (outsAt0 m c 7 h7).2.2.2.2.2.2 (ix2 e d) = ∑ r : Fin 8192, dout m c r e * br m c r d := by
  have hN : cfg0.N = 8 := N_0
  have key := fold_univ cfg0.N (fun n h => ((outsAt0 m c n h).2.2.2.2.2.2 (ix2 e d) : EReal)) (fun t => dwbrOf m c t (ix2 e d))
    (fun h => congrFun (first m c h).2.2 _) (fun n h => (congrFun (step m c n h).2.2 _).trans (ValueIdx.addf_apply ..)) 7 h7 (by omega)
  refine key.trans ?_
  simp only [dwbrOf_at]
  exact sum_tiles (n := cfg0.N) (b := 1024) (by rw [hN]) (fun r => dout m c r e * br m c r d) row_lt

/-- The five result arrays. -/
theorem G6_at (c : Dev nD) (r : Fin 8192) (d : Fin 256) :
    (G6 m c : S8192x256.Idx → EReal) (ix2 r d) = ∑ e : Fin 1024, dout m c r e * wb m c d e := by
  have hN : cfg0.N = 8 := N_0
  have hr := r.isLt
  have hd := d.isLt
  have hp : pt6Of (ix2 r d) = r.val / 1024 := by
    show 1 * (r.val / 1024 - 0) + 1 * (d.val / 256 - 0) = _; omega
  have hlt : pt6Of (ix2 r d) < cfg0.N := by rw [hp]; omega
  have hloc : loc6Of (ix2 r d) = ix2 (⟨r.val % 1024, Nat.mod_lt _ (by decide)⟩ : Fin 1024) d := by
    funext a
    apply Fin.ext
    match a with
    | ⟨0, _⟩ => rfl
    | ⟨1, _⟩ => show d.val % 256 = d.val; omega
  unfold G6
  rw [dif_pos hlt, ← outsAt0_sweep m c _ hlt, (rows_all m c ⟨pt6Of (ix2 r d), hlt⟩).1, hloc, dbrOf_at]
  have hrow : row ⟨pt6Of (ix2 r d), hlt⟩ (⟨r.val % 1024, Nat.mod_lt _ (by decide)⟩ : Fin 1024) = r := by
    apply Fin.ext; show 1024 * pt6Of (ix2 r d) + r.val % 1024 = r.val; rw [hp]; omega
  rw [hrow]

theorem G7_at (c : Dev nD) (r : Fin 8192) (e : Fin 1024) : (G7 m c : S8192x1024.Idx → EReal) (ix2 r e) = dpre m c r e := by
  have hN : cfg0.N = 8 := N_0
  have hr := r.isLt
  have he := e.isLt
  have hp : pt7Of (ix2 r e) = r.val / 1024 := by
    show 1 * (r.val / 1024 - 0) + 1 * (e.val / 1024 - 0) = _; omega
  have hlt : pt7Of (ix2 r e) < cfg0.N := by rw [hp]; omega
  have hloc : loc7Of (ix2 r e) = ix2 (⟨r.val % 1024, Nat.mod_lt _ (by decide)⟩ : Fin 1024) e := by
    funext a
    apply Fin.ext
    match a with
    | ⟨0, _⟩ => rfl
    | ⟨1, _⟩ => show e.val % 1024 = e.val; omega
  unfold G7
  rw [dif_pos hlt, ← outsAt0_sweep m c _ hlt, (rows_all m c ⟨pt7Of (ix2 r e), hlt⟩).2, hloc, dpreOf_at]
  have hrow : row ⟨pt7Of (ix2 r e), hlt⟩ (⟨r.val % 1024, Nat.mod_lt _ (by decide)⟩ : Fin 1024) = r := by
    apply Fin.ext; show 1024 * pt7Of (ix2 r e) + r.val % 1024 = r.val; rw [hp]; omega
  rw [hrow]

theorem h7 : 7 < cfg0.N := lt_of_lt_of_eq (by decide) N_0.symm

theorem last (c : Dev nD) :
    (outsAt0 m c 7 h7).2.2.1 = k0_pay8 (outsAt0 m c 7 h7).2.2.2.2.2.1
    ∧ (outsAt0 m c 7 h7).2.2.2.2.1 = k0_pay4 (outsAt0 m c 7 h7).2.2.2.2.2.2 := by
  have k := at_C m c ⟨7, h7⟩ (show ¬(7 : ℕ) % 8 = 0 by decide) (show 1 ≤ 7 by decide) (show (7 : ℕ) % 8 = 7 by decide)
  exact ⟨k.2.2.2.2.2.1.trans (congrArg k0_pay8 k.2.2.2.1.symm), k.2.2.2.2.2.2.trans (congrArg k0_pay4 k.2.2.2.2.1.symm)⟩

theorem G8_at (c : Dev nD) (e l : Fin 1024) :
    (G8 m c : S1024x1024.Idx → EReal) (ix2 e l) = ∑ r : Fin 8192, dpre m c r e * hx m c r l := by
  rw [G8_last, ← outsAt0_sweep m c 7 h7, (last m c).1, ← dwg_total m c e l h7]
  pointwise [k0_pay8]

theorem G9_at (c : Dev nD) (e : Fin 1024) : (G9 m c : S1x1024.Idx → EReal) (ix2 0 e) = ∑ r : Fin 8192, dpre m c r e := by
  rw [G9_last, ← outsAt0_sweep m c 7 h7, dbg_total m c e h7]

theorem G10_at (c : Dev nD) (e : Fin 1024) (d : Fin 256) :
    (G10 m c : S1024x256.Idx → EReal) (ix2 e d) = ∑ r : Fin 8192, dout m c r e * br m c r d := by
  rw [G10_last, ← outsAt0_sweep m c 7 h7, (last m c).2, ← dwbr_total m c e d h7]
  pointwise [k0_pay4]

end Cert.BranchIdeal.Mine

end
-- ==== Proof.BranchClaim.lean ====
/- One gated branch: its three frames, and that its five results are those of the reference. -/
module

public import proofs.«01_k».proof.Defs
public import proofs.«01_k».proof.Proof.BranchValue
public import proofs.«01_k».proof.Proof.Gen.Branch.Frame
public import proofs.«01_k».proof.Proof.Gen.BranchRefIdeal.Run
public import Idealize.ShloMosaic.Lib.Claim

@[expose] public section

set_option maxRecDepth 16384

noncomputable section

open Idealize.ShloMosaic Idealize.ShloMosaic.TcCoe Idealize.SL.Sem

namespace Cert.BranchIdeal.Mine

open Cert.Tools Cert.BranchIdeal Cert.BranchIdeal.Gen Cert.BranchIdeal.Value

/-- The branch runs and leaves its arguments as they were. -/
theorem frame_kernel : Cert.quiescent_Branch := fun m ρ _ => Cert.Branch.Gen.frame m ρ
theorem frame_ideal : Cert.quiescent_BranchIdeal := fun m ρ _ => Cert.BranchIdeal.Gen.frame m ρ

/-- The reference runs and leaves its arguments as they were. -/
theorem frame_reference : Cert.quiescent_BranchRefIdeal := fun m ρ _ =>
  (θ_run Cert.BranchRefIdeal.defs _ _).mono
    (fun r h => ⟨fun c => (h c).2.2.2.2.2, Idealize.ShloMosaic.sem_eq_zero_of_no_sems (by decide) r.2⟩)
    (Cert.BranchRefIdeal.Value.run (F := Ideal) m ρ)

/-- The gate's own derivative, in the order of the reference. -/
theorem dpre_order (d y g : EReal) : d * y * (g * (1 - g)) = d * y * g * (1 - g) := (mul_assoc _ _ _).symm

/-- Over the reals the branch computes the reference's five gradients. -/
theorem value : Cert.algebraic_BranchIdeal_BranchRefIdeal := by
  pair_intro
  · run_from Cert.BranchIdeal.Value.run (F := Ideal) m g
  · run_from Cert.BranchRefIdeal.Value.run (F := Ideal) m' g'
    · funext j
      idx_vars j
      rw [G6_at]
      pointwise []
      exact Finset.sum_congr rfl fun e _ => congrArg (· * _) (mul_comm _ _)
    · funext j
      idx_vars j
      rw [G7_at]
      pointwise []
      exact dpre_order _ _ _
    · funext j
      idx_vars j
      rw [G8_at]
      pointwise []
      exact Finset.sum_congr rfl fun r _ => congrArg (· * _) (dpre_order _ _ _)
    · funext j
      idx_vars j
      obtain rfl : j0 = 0 := Subsingleton.elim _ _
      rw [G9_at]
      pointwise []
      rw [Fin.sum_univ_one]
      exact Finset.sum_congr rfl fun r _ => dpre_order _ _ _
    · funext j
      idx_vars j
      rw [G10_at]
      pointwise []
      exact Finset.sum_congr rfl fun r _ => congrArg (· * _) (mul_comm _ _)

end Cert.BranchIdeal.Mine

end
-- ==== Proof.MergeOutKernel.lean ====
/- The merge's output product and norm: what each grid point leaves in its outputs and its scratch array, as the body's own terms. -/
module

public import proofs.«01_k».proof.Proof.Gen.MergeOutIdeal.Value
public import proofs.«01_k».proof.Proof.Sums

@[expose] public section

set_option maxRecDepth 16384
set_option maxHeartbeats 1000000

noncomputable section

open Idealize.ShloMosaic Idealize.ShloMosaic.TcCoe Idealize.SL.Sem
open Idealize.ShloMosaic.Pipeline (Dat)

namespace Cert.MergeOutIdeal.Mine

open Cert.Tools Cert.MergeOutIdeal Cert.MergeOutIdeal.Gen Cert.MergeOutIdeal.Value

variable {F : FTy → Type} [FloatOps F]
variable (m : (ℓ : Loc nD τ sig) → Buf (Elt F) ℓ) (ρ : Dev nD → PrngReg)

/-- The gradient of the norm's argument from one point's blocks, as it is stored for the two products. -/
def dtOf (c : Dev nD) (t : Fin cfg0.N) : Vec F S1024x1024 .bf16 := k0_pay10 (iblk m c 0 t) (iblk m c 2 t) (iblk m c 1 t)
/-- The gradient of the merged rows, and what one point adds to the output weight's gradient and to the gain's. -/
def dmOf (c : Dev nD) (t : Fin cfg0.N) : Vec F S1024x1024 .f32 := k0_pay11 (iblk m c 0 t) (iblk m c 2 t) (iblk m c 1 t) (iblk m c 3 t)
def dwOf (c : Dev nD) (t : Fin cfg0.N) : Vec F S1024x1024 .f32 := k0_pay1 (dtOf m c t) (iblk m c 4 t)
def dgOf (c : Dev nD) (t : Fin cfg0.N) : Vec F S1x1024 .f32 := k0_pay9 (iblk m c 0 t) (iblk m c 1 t)

/-- The first point starts the two sums. -/
theorem at_A (c : Dev nD) (t : Fin cfg0.N) (h0 : t.val % 8 = 0) (h1 : ¬1 ≤ t.val) (h2 : ¬t.val % 8 = 7) :
    (outsAt0 m c t.val t.isLt).1 = dmOf m c t
    ∧ (outsAt0 m c t.val t.isLt).2.2.1 = dgOf m c t
    ∧ (outsAt0 m c t.val t.isLt).2.2.2 = dwOf m c t := by
  have e := outsAt0_A m c t h0 h1 h2 h0 h1
  refine ⟨(congrArg (fun p => p.1) e).trans ?_, (congrArg (fun p => p.2.2.1) e).trans ?_, (congrArg (fun p => p.2.2.2) e).trans ?_⟩
  all_goals (clear e; dsimp only)
  on_goal 1 => unfold out0_A_5; rw [View.read_writes_eq_canon _ _ _ (fun _ => cover0_A_5 ..)]
  on_goal 2 => unfold out0_A_7; rw [View.read_writes_eq_canon _ _ _ (fun _ => cover0_A_7 ..)]
  on_goal 3 => unfold sout0_A_0; rw [View.read_writes_eq_canon _ _ _ (fun _ => scover0_A_0 ..)]
  all_goals (unfold kernelRun0_A; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_7 t).read_unread, (Memref.isWhole_whole _).read_unread,
    View.readCov_unit_zero (S := S1024x1024) _ hz2, View.readCov_unit_zero (S := S1x1024) _ hz2,
    View.ld_unit_zero (S := S1024x1024) hz2, View.ld_unit_zero (S := S1x1024) hz2,
    shapeCast_self, dtOf, dmOf, dwOf, dgOf, k0_pay2, k0_pay3, k0_pay5]

/-- A middle point adds to them. -/
theorem at_B (c : Dev nD) (t : Fin cfg0.N) (h0 : ¬t.val % 8 = 0) (h1 : 1 ≤ t.val) (h2 : ¬t.val % 8 = 7) :
    (outsAt0 m c t.val t.isLt).1 = dmOf m c t
    ∧ (outsAt0 m c t.val t.isLt).2.2.1 = addf (outsAt0 m c (t.val - 1) (Nat.lt_of_le_of_lt (Nat.sub_le _ _) t.isLt)).2.2.1 (dgOf m c t)
    ∧ (outsAt0 m c t.val t.isLt).2.2.2 = addf (outsAt0 m c (t.val - 1) (Nat.lt_of_le_of_lt (Nat.sub_le _ _) t.isLt)).2.2.2 (dwOf m c t) := by
  have e := outsAt0_B m c t h0 h1 h2 h0 h1
  refine ⟨(congrArg (fun p => p.1) e).trans ?_, (congrArg (fun p => p.2.2.1) e).trans ?_, (congrArg (fun p => p.2.2.2) e).trans ?_⟩
  all_goals (clear e; dsimp only)
  on_goal 1 => unfold out0_B_5; rw [View.read_writes_eq_canon _ _ _ (fun _ => cover0_B_5 ..)]
  on_goal 2 => unfold out0_B_7; rw [View.read_writes_eq_canon _ _ _ (fun _ => cover0_B_7 ..)]
  on_goal 3 => unfold sout0_B_0; rw [View.read_writes_eq_canon _ _ _ (fun _ => scover0_B_0 ..)]
  all_goals (unfold kernelRun0_B; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_7 t).read_unread, (Memref.isWhole_whole _).read_unread,
    View.readCov_unit_zero (S := S1024x1024) _ hz2, View.readCov_unit_zero (S := S1x1024) _ hz2,
    View.ld_unit_zero (S := S1024x1024) hz2, View.ld_unit_zero (S := S1x1024) hz2,
    shapeCast_self, dtOf, dmOf, dwOf, dgOf, k0_pay2, k0_pay3, k0_pay5]

/-- The last point adds too, and writes the weight gradient out. -/
theorem at_C (c : Dev nD) (t : Fin cfg0.N) (h0 : ¬t.val % 8 = 0) (h1 : 1 ≤ t.val) (h2 : t.val % 8 = 7) :
    (outsAt0 m c t.val t.isLt).1 = dmOf m c t
    ∧ (outsAt0 m c t.val t.isLt).2.2.1 = addf (outsAt0 m c (t.val - 1) (Nat.lt_of_le_of_lt (Nat.sub_le _ _) t.isLt)).2.2.1 (dgOf m c t)
    ∧ (outsAt0 m c t.val t.isLt).2.2.2 = addf (outsAt0 m c (t.val - 1) (Nat.lt_of_le_of_lt (Nat.sub_le _ _) t.isLt)).2.2.2 (dwOf m c t)
    ∧ (outsAt0 m c t.val t.isLt).2.1 = k0_pay4 (addf (outsAt0 m c (t.val - 1) (Nat.lt_of_le_of_lt (Nat.sub_le _ _) t.isLt)).2.2.2 (dwOf m c t)) := by
  have e := outsAt0_C m c t h0 h1 h2 h0 h1
  refine ⟨(congrArg (fun p => p.1) e).trans ?_, (congrArg (fun p => p.2.2.1) e).trans ?_, (congrArg (fun p => p.2.2.2) e).trans ?_, (congrArg (fun p => p.2.1) e).trans ?_⟩
  all_goals (clear e; dsimp only)
  on_goal 1 => unfold out0_C_5; rw [View.read_writes_eq_canon _ _ _ (fun _ => cover0_C_5 ..)]
  on_goal 2 => unfold out0_C_7; rw [View.read_writes_eq_canon _ _ _ (fun _ => cover0_C_7 ..)]
  on_goal 3 => unfold sout0_C_0; rw [View.read_writes_eq_canon _ _ _ (fun _ => scover0_C_0 ..)]
  on_goal 4 => unfold out0_C_6; rw [View.read_writes_eq_canon _ _ _ (fun _ => cover0_C_6 ..)]
  all_goals (unfold kernelRun0_C; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_7 t).read_unread, (Memref.isWhole_whole _).read_unread,
    View.readCov_unit_zero (S := S1024x1024) _ hz2, View.readCov_unit_zero (S := S1x1024) _ hz2,
    View.ld_unit_zero (S := S1024x1024) hz2, View.ld_unit_zero (S := S1x1024) hz2,
    shapeCast_self, dtOf, dmOf, dwOf, dgOf, k0_pay2, k0_pay3, k0_pay5]

end Cert.MergeOutIdeal.Mine

end
-- ==== Proof.Norm.lean ====
/- The root-mean-square norm of a row of numbers and its gradient over the extended reals: the form in which the kernels
   compute it equals the form in which the reference's derivative does, with no condition on the numbers. -/
module

public import proofs.«01_k».proof.Proof.Reals

@[expose] public section

noncomputable section

namespace Cert.Tools

open Idealize.ShloMosaic

variable {n : ℕ}

/-- The length of a row of the model's width. -/
abbrev w1024 : EReal := Ideal.ofBits .f32 0x44800000#32

/-- A row's mean square with the small constant added, the row's length being `w`. -/
def msq (w : EReal) (x : Fin n → EReal) : EReal := Ideal.div (∑ l, x l * x l) w + Ideal.ofBits .f32 0x358637BD#32

/-- Its reciprocal root. -/
def rms (w : EReal) (x : Fin n → EReal) : EReal := Ideal.rsqrt (msq w x)

/-- The gradient of the norm's argument at the cotangent `dy` and the gain `g`, as the kernels form it. -/
def normBwd (w : EReal) (x dy g : Fin n → EReal) (e : Fin n) : EReal :=
  rms w x * (dy e * g e - x e * rms w x * Ideal.div (∑ l, dy l * g l * (x l * rms w x)) w)

/-- The factor of the row in the reference's derivative. -/
def normFac (w : EReal) (x dy g : Fin n → EReal) : EReal :=
  Ideal.div ((∑ l, x l * (dy l * g l)) * (Ideal.ofBits .f32 0xBF000000#32 * Ideal.div (rms w x) (msq w x))) w

theorem word_neg_half : Ideal.ofBits .f32 0xBF000000#32 = (((-(1 / 2) : ℝ)) : EReal) := by
  simp [Ideal.ofBits, Ideal.ieee, -EReal.coe_mul]; norm_num

/-- The small constant is a positive real. -/
theorem word_eps : ∃ q : ℝ, 0 < q ∧ Ideal.ofBits .f32 0x358637BD#32 = (q : EReal) := by
  refine ⟨8796093 * 2 ^ (-43 : ℤ), by positivity, ?_⟩
  simp [Ideal.ofBits, Ideal.ieee, -EReal.coe_mul]

/-- A nonnegative real factor leaves a sum. -/
theorem sum_mul_coe {ι : Type} (s : Finset ι) (f : ι → EReal) {r : ℝ} (hr : 0 ≤ r) :
    ∑ i ∈ s, f i * (r : EReal) = (∑ i ∈ s, f i) * (r : EReal) := by
  classical
  induction s using Finset.induction_on with
  | empty => simp
  | insert i s hi ih =>
    rw [Finset.sum_insert hi, Finset.sum_insert hi, ih,
      EReal.right_distrib_of_nonneg_of_ne_top (by exact_mod_cast hr) (EReal.coe_ne_top r)]

/-- A number and itself. -/
theorem add_self_coe (z : EReal) (k : ℝ) : z * (k : EReal) + z * (k : EReal) = z * ((2 * k : ℝ) : EReal) := by
  have h : ∀ y : EReal, y + y = y * ((2 : ℝ) : EReal) := by
    intro y
    induction y with
    | bot => rw [EReal.bot_mul_coe_of_pos (by norm_num)]; rfl
    | top => rw [EReal.top_mul_coe_of_pos (by norm_num)]; rfl
    | coe r => rw [← EReal.coe_mul, ← EReal.coe_add]; congr 1; ring
  rw [h, mul_assoc, ← EReal.coe_mul, mul_comm k 2]

/-- The two forms of the norm's gradient agree. -/
theorem norm_vjp (w : EReal) {v : ℝ} (hv : 0 < v) (hw : w = (v : EReal)) (x dy g : Fin n → EReal) (e : Fin n) :
    dy e * g e * rms w x + x e * normFac w x dy g + normFac w x dy g * x e = normBwd w x dy g e := by
  obtain ⟨q, hq, hqe⟩ := word_eps
  have hs : 0 ≤ ∑ l, x l * x l := Finset.sum_nonneg fun l _ => sq_nonneg' _
  have hdiv : ∀ y : EReal, Ideal.div y w = y * ((1 / v : ℝ) : EReal) := fun y => by rw [hw]; exact Ideal.div_coe hv.ne' y
  have hv' : 0 < 1 / v := by positivity
  generalize hS : (∑ l, x l * x l : EReal) = S at hs
  have hu : msq w x = S * ((1 / v : ℝ) : EReal) + (q : EReal) := by rw [msq, hdiv, hqe, hS]
  generalize hD : dy e * g e = D
  generalize hT : (∑ l, x l * (dy l * g l) : EReal) = T
  unfold normFac normBwd
  rw [hT, hD]
  simp only [hdiv]
  induction S with
  | bot => exact absurd hs (by simp)
  | top =>
    have h1 : msq w x = ⊤ := by
      rw [hu, EReal.top_mul_coe_of_pos hv', EReal.top_add_coe]
    rw [rms, h1, Ideal.rsqrt_top]
    simp [Ideal.div]
  | coe s =>
    have hs' : 0 ≤ s := by exact_mod_cast hs
    have hpos : 0 < s * (1 / v) + q := by positivity
    have h1 : msq w x = ((s * (1 / v) + q : ℝ) : EReal) := by rw [hu, ← EReal.coe_mul, ← EReal.coe_add]
    generalize s * (1 / v) + q = u at hpos h1
    have h2 : rms w x = (((Real.sqrt u)⁻¹ : ℝ) : EReal) := by
      rw [rms, h1, Ideal.rsqrt_coe, if_neg (not_lt.mpr hpos.le), if_neg hpos.ne']
    have hr : 0 ≤ (Real.sqrt u)⁻¹ := by positivity
    have hru : (Real.sqrt u)⁻¹ * (1 / u) = (Real.sqrt u)⁻¹ * ((Real.sqrt u)⁻¹ * (Real.sqrt u)⁻¹) := by
      rw [← mul_inv, Real.mul_self_sqrt hpos.le, one_div]
    generalize (Real.sqrt u)⁻¹ = r at h2 hr hru
    have hsum : (∑ l, dy l * g l * (x l * (r : EReal)) : EReal) = T * (r : EReal) := by
      rw [← hT, ← sum_mul_coe _ _ hr]
      exact Finset.sum_congr rfl fun l _ => by rw [← mul_assoc, mul_comm (dy l * g l)]
    rw [h2, h1, Ideal.div_coe hpos.ne', hsum, word_neg_half]
    have hk : T * (((-(1 / 2) : ℝ) : EReal) * ((r : EReal) * ((1 / u : ℝ) : EReal))) * ((1 / v : ℝ) : EReal)
        = T * ((-(1 / 2) * (r * (r * r)) * (1 / v) : ℝ) : EReal) := by
      rw [← EReal.coe_mul, ← EReal.coe_mul, mul_assoc, ← EReal.coe_mul, hru]
    rw [hk, mul_comm (T * _) (x e), add_assoc, ← mul_assoc, add_self_coe]
    rw [sub_eq_add_neg, EReal.left_distrib_of_nonneg_of_ne_top (by exact_mod_cast hr) (EReal.coe_ne_top r), mul_comm (r : EReal) D]
    congr 1
    rw [mul_neg, show (2 * (-(1 / 2) * (r * (r * r)) * (1 / v)) : ℝ) = -(r * r * r * (1 / v)) by ring, EReal.coe_neg, mul_neg]
    congr 1
    rw [EReal.coe_mul, EReal.coe_mul, EReal.coe_mul]
    ac_rfl

theorem norm_vjp_1024 (x dy g : Fin n → EReal) (e : Fin n) :
    dy e * g e * rms w1024 x + x e * normFac w1024 x dy g + normFac w1024 x dy g * x e = normBwd w1024 x dy g e :=
  norm_vjp w1024 (by norm_num) word_1024 x dy g e

end Cert.Tools

end
-- ==== Proof.MergeOutValue.lean ====
/- The merge's output product and norm over the extended reals: each of the three results as a closed form of the arguments. -/
module

public import proofs.«01_k».proof.Proof.MergeOutKernel
public import proofs.«01_k».proof.Proof.Norm
public import Idealize.ShloMosaic.Lib.Claim
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeOutIdeal.Mine

open Cert.Tools Cert.MergeOutIdeal Cert.MergeOutIdeal.Gen Cert.MergeOutIdeal.Value

variable (m : (ℓ : Loc nD τ sig) → Buf (Elt Ideal) ℓ)

theorem index : ∀ t : Fin cfg0.N, win0_0.index t = ![t.val, 0] ∧ win0_1.index t = ![t.val, 0] ∧ win0_2.index t = ![0, 0]
    ∧ win0_3.index t = ![0, 0] ∧ win0_4.index t = ![t.val, 0] := by decide +kernel

theorem row_lt (t : Fin cfg0.N) (r : Fin 1024) : 1024 * t.val + r.val < 8192 := by
  have := t.isLt; have h : cfg0.N = 8 := N_0; omega

/-- Row `r` of tile `t`, among all rows. -/
def row (t : Fin cfg0.N) (r : Fin 1024) : Fin 8192 := ⟨1024 * t.val + r.val, row_lt t r⟩

/-- The elements of the arguments: the merged rows, the cotangent, the norm's gain and the output weight. -/
def mg (c : Dev nD) (r : Fin 8192) (k : Fin 1024) : EReal := m (c.tc.loc main_arg0) (ix2 r k)
def dx (c : Dev nD) (r : Fin 8192) (e : Fin 1024) : EReal := m (c.tc.loc main_arg1) (ix2 r e)
def gn (c : Dev nD) (e : Fin 1024) : EReal := m (c.tc.loc main_arg2) (ix1 e)
def wo (c : Dev nD) (k e : Fin 1024) : EReal := m (c.tc.loc main_arg3) (ix2 k e)

/-- The norm's argument, and the gradient of it. -/
def tt (c : Dev nD) (r : Fin 8192) (e : Fin 1024) : EReal := ∑ k : Fin 1024, mg m c r k * wo m c k e
def dt (c : Dev nD) (r : Fin 8192) (e : Fin 1024) : EReal := normBwd w1024 (tt m c r) (dx m c r) (gn m c) e

/-- The host's product, at an index. -/
theorem tt_at (c : Dev nD) (r : Fin 8192) (e : Fin 1024) : (V m c main_v2 : S8192x1024.Idx → EReal) (ix2 r e) = tt m c r e := by
  unfold tt mg wo
  unfold V hostOps0
  after_reads_simp
  pointwise []

theorem blk0 (c : Dev nD) (t : Fin cfg0.N) (r e : Fin 1024) :
    (iblk m c 0 t : Vec Ideal S1024x1024 .f32) (ix2 r e) = tt m c (row t r) e := by
  refine Eq.trans ?_ (tt_at m c (row t r) e)
  unfold iblk row
  rw [View.read_apply]
  show V m c main_v2 _ = V m c main_v2 _
  congr 1
  blk_ext [index t]

theorem blk1 (c : Dev nD) (t : Fin cfg0.N) (r e : Fin 1024) :
    (iblk m c 1 t : Vec Ideal S1024x1024 .f32) (ix2 r e) = dx m c (row t r) e := by
  unfold dx row
  blk_point [iblk, V, index t]

theorem blk2 (c : Dev nD) (t : Fin cfg0.N) (e : Fin 1024) :
    (iblk m c 2 t : Vec Ideal S1x1024 .f32) (ix2 0 e) = gn m c e := by
  unfold gn
  blk_point [iblk, V, index t]

theorem blk3 (c : Dev nD) (t : Fin cfg0.N) (k e : Fin 1024) :
    (iblk m c 3 t : Vec Ideal S1024x1024 .bf16) (ix2 k e) = wo m c k e := by
  unfold wo
  blk_point [iblk, V, index t]

theorem blk4 (c : Dev nD) (t : Fin cfg0.N) (r k : Fin 1024) :
    (iblk m c 4 t : Vec Ideal S1024x1024 .bf16) (ix2 r k) = mg m c (row t r) k := by
  unfold mg row
  blk_point [iblk, V, index t]

/-- One point's terms at an index. -/
theorem rms_at (c : Dev nD) (t : Fin cfg0.N) (r : Fin 1024) : k0_pay7 (iblk m c 0 t) (ix2 r 0) = rms w1024 (tt m c (row t r)) := by
  pointwise [k0_pay7, k0_pay6]
  simp only [blk0]
  rfl

theorem dtOf_at (c : Dev nD) (t : Fin cfg0.N) (r e : Fin 1024) : dtOf m c t (ix2 r e) = dt m c (row t r) e := by
  unfold dtOf
  pointwise [k0_pay10, k0_pay8, k0_pay6]
  simp only [rms_at, blk0, blk1, blk2]
  rfl

theorem dmOf_at (c : Dev nD) (t : Fin cfg0.N) (r k : Fin 1024) :
    dmOf m c t (ix2 r k) = ∑ e : Fin 1024, dt m c (row t r) e * wo m c k e := by
  have h : ∀ e : Fin 1024, k0_pay10 (iblk m c 0 t) (iblk m c 2 t) (iblk m c 1 t) (ix2 r e) = _ := fun e => dtOf_at m c t r e
  unfold dmOf
  pointwise [k0_pay11]
  simp only [h, blk3]

theorem dwOf_at (c : Dev nD) (t : Fin cfg0.N) (k e : Fin 1024) :
    dwOf m c t (ix2 k e) = ∑ r : Fin 1024, mg m c (row t r) k * dt m c (row t r) e := by
  unfold dwOf
  pointwise [k0_pay1]
  simp only [dtOf_at, blk4]

theorem dgOf_at (c : Dev nD) (t : Fin cfg0.N) (e : Fin 1024) :
    dgOf m c t (ix2 0 e) = ∑ r : Fin 1024, dx m c (row t r) e * (tt m c (row t r) e * rms w1024 (tt m c (row t r))) := by
  unfold dgOf
  pointwise [k0_pay9, k0_pay8, k0_pay6]
  simp only [rms_at, blk0, blk1]

/-- Every point leaves its own rows of the merged rows' gradient. -/
theorem rows_all (c : Dev nD) (t : Fin cfg0.N) : (outsAt0 m c t.val t.isLt).1 = dmOf m c t := by
  have hN : cfg0.N = 8 := N_0
  have hlt := t.isLt
  by_cases h0 : t.val % 8 = 0
  · exact (at_A m c t h0 (by omega) (by omega)).1
  · by_cases h2 : t.val % 8 = 7
    · exact (at_C m c t h0 (by omega) h2).1
    · exact (at_B m c t h0 (by omega) h2).1

/-- The two sums start at the first point and grow at every other. -/
theorem first (c : Dev nD) (h : 0 < cfg0.N) :
    (outsAt0 m c 0 h).2.2.1 = dgOf m c ⟨0, h⟩ ∧ (outsAt0 m c 0 h).2.2.2 = dwOf m c ⟨0, h⟩ :=
  (at_A m c ⟨0, h⟩ (show (0 : ℕ) % 8 = 0 by decide) (show ¬1 ≤ 0 by decide) (show ¬(0 : ℕ) % 8 = 7 by decide)).2

theorem step (c : Dev nD) (n : ℕ) (h : n + 1 < cfg0.N) :
    (outsAt0 m c (n + 1) h).2.2.1 = addf (outsAt0 m c n (Nat.lt_of_succ_lt h)).2.2.1 (dgOf m c ⟨n + 1, h⟩)
    ∧ (outsAt0 m c (n + 1) h).2.2.2 = addf (outsAt0 m c n (Nat.lt_of_succ_lt h)).2.2.2 (dwOf m c ⟨n + 1, h⟩) := by
  have hN : cfg0.N = 8 := N_0
  by_cases h2 : (n + 1) % 8 = 7
  · have k := (at_C m c ⟨n + 1, h⟩ (by dsimp only; omega) (by dsimp only; omega) h2).2
    exact ⟨k.1, k.2.1⟩
  · exact (at_B m c ⟨n + 1, h⟩ (by dsimp only; omega) (by dsimp only; omega) h2).2

/-- After the last point the two sums run over all rows. -/
theorem dg_total (c : Dev nD) (e : Fin 1024) (h7 : 7 < cfg0.N) :
    (outsAt0 m c 7 h7).2.2.1 (ix2 0 e) = ∑ r : Fin 8192, dx m c r e * (tt m c r e * rms w1024 (tt m c r)) := by
  have hN : cfg0.N = 8 := N_0
  have key := fold_univ cfg0.N (fun n h => ((outsAt0 m c n h).2.2.1 (ix2 0 e) : EReal)) (fun t => dgOf m c t (ix2 0 e))
    (fun h => congrFun (first m c h).1 _) (fun n h => (congrFun (step m c n h).1 _).trans (ValueIdx.addf_apply ..)) 7 h7 (by omega)
  refine key.trans ?_
  simp only [dgOf_at]
  exact sum_tiles (n := cfg0.N) (b := 1024) (by rw [hN]) (fun r => dx m c r e * (tt m c r e * rms w1024 (tt m c r))) row_lt

theorem dw_total (c : Dev nD) (k e : Fin 1024) (h7 : 7 < cfg0.N) :
    (outsAt0 m c 7 h7).2.2.2 (ix2 k e) = ∑ r : Fin 8192, mg m c r k * dt m c r e := by
  have hN : cfg0.N = 8 := N_0
  have key := fold_univ cfg0.N (fun n h => ((outsAt0 m c n h).2.2.2 (ix2 k e) : EReal)) (fun t => dwOf m c t (ix2 k e))
    (fun h => congrFun (first m c h).2 _) (fun n h => (congrFun (step m c n h).2 _).trans (ValueIdx.addf_apply ..)) 7 h7 (by omega)
  refine key.trans ?_
  simp only [dwOf_at]
  exact sum_tiles (n := cfg0.N) (b := 1024) (by rw [hN]) (fun r => mg m c r k * dt m c r e) row_lt

/-- The three result arrays. -/
theorem G5_at (c : Dev nD) (r : Fin 8192) (k : Fin 1024) :
    (G5 m c : S8192x1024.Idx → EReal) (ix2 r k) = ∑ e : Fin 1024, dt m c r e * wo m c k e := by
  have hN : cfg0.N = 8 := N_0
  have hr := r.isLt
  have hk := k.isLt
  have hp : pt5Of (ix2 r k) = r.val / 1024 := by
    show 1 * (r.val / 1024 - 0) + 1 * (k.val / 1024 - 0) = _; omega
  have hlt : pt5Of (ix2 r k) < cfg0.N := by rw [hp]; omega
  have hloc : loc5Of (ix2 r k) = ix2 (⟨r.val % 1024, Nat.mod_lt _ (by decide)⟩ : Fin 1024) k := by
    funext a
    apply Fin.ext
    match a with
    | ⟨0, _⟩ => rfl
    | ⟨1, _⟩ => show k.val % 1024 = k.val; omega
  unfold G5
  rw [dif_pos hlt, ← outsAt0_sweep m c _ hlt, rows_all m c ⟨pt5Of (ix2 r k), hlt⟩, hloc, dmOf_at]
  have hrow : row ⟨pt5Of (ix2 r k), hlt⟩ (⟨r.val % 1024, Nat.mod_lt _ (by decide)⟩ : Fin 1024) = r := by
    apply Fin.ext; show 1024 * pt5Of (ix2 r k) + r.val % 1024 = r.val; rw [hp]; omega
  rw [hrow]

theorem h7 : 7 < cfg0.N := lt_of_lt_of_eq (by decide) N_0.symm

theorem last (c : Dev nD) : (outsAt0 m c 7 h7).2.1 = k0_pay4 (outsAt0 m c 7 h7).2.2.2 := by
  have k := at_C m c ⟨7, h7⟩ (show ¬(7 : ℕ) % 8 = 0 by decide) (show 1 ≤ 7 by decide) (show (7 : ℕ) % 8 = 7 by decide)
  exact k.2.2.2.trans (congrArg k0_pay4 k.2.2.1.symm)

theorem G6_at (c : Dev nD) (k e : Fin 1024) :
    (G6 m c : S1024x1024.Idx → EReal) (ix2 k e) = ∑ r : Fin 8192, mg m c r k * dt m c r e := by
  rw [G6_last, ← outsAt0_sweep m c 7 h7, last m c, ← dw_total m c k e h7]
  pointwise [k0_pay4]

theorem G7_at (c : Dev nD) (e : Fin 1024) :
    (G7 m c : S1x1024.Idx → EReal) (ix2 0 e) = ∑ r : Fin 8192, dx m c r e * (tt m c r e * rms w1024 (tt m c r)) := by
  rw [G7_last, ← outsAt0_sweep m c 7 h7, dg_total m c e h7]

end Cert.MergeOutIdeal.Mine

end
-- ==== Proof.MergeOutClaim.lean ====
/- The merge's output product and norm: the three frames, and that the three results are those of the reference. -/
module

public import proofs.«01_k».proof.Defs
public import proofs.«01_k».proof.Proof.MergeOutValue
public import proofs.«01_k».proof.Proof.Gen.MergeOut.Frame
public import proofs.«01_k».proof.Proof.Gen.MergeOutRefIdeal.Run
public import Idealize.ShloMosaic.Lib.Claim

@[expose] public section

set_option maxRecDepth 16384

noncomputable section

open Idealize.ShloMosaic Idealize.ShloMosaic.TcCoe Idealize.SL.Sem

namespace Cert.MergeOutIdeal.Mine

open Cert.Tools Cert.MergeOutIdeal Cert.MergeOutIdeal.Gen Cert.MergeOutIdeal.Value

/-- The call runs and leaves its arguments as they were. -/
theorem frame_kernel : Cert.quiescent_MergeOut := fun m ρ _ => Cert.MergeOut.Gen.frame m ρ
theorem frame_ideal : Cert.quiescent_MergeOutIdeal := fun m ρ _ => Cert.MergeOutIdeal.Gen.frame m ρ

/-- The reference runs and leaves its arguments as they were. -/
theorem frame_reference : Cert.quiescent_MergeOutRefIdeal := fun m ρ _ =>
  (θ_run Cert.MergeOutRefIdeal.defs _ _).mono
    (fun r h => ⟨fun c => (h c).2.2.2, Idealize.ShloMosaic.sem_eq_zero_of_no_sems (by decide) r.2⟩)
    (Cert.MergeOutRefIdeal.Value.run (F := Ideal) m ρ)

/-- Over the reals the call computes the reference's three gradients. -/
theorem value : Cert.algebraic_MergeOutIdeal_MergeOutRefIdeal := by
  pair_intro
  · run_from Cert.MergeOutIdeal.Value.run (F := Ideal) m g
  · run_from Cert.MergeOutRefIdeal.Value.run (F := Ideal) m' g'
    · funext j
      idx_vars j
      obtain ⟨h0, h1, h2, h3⟩ := hagree c
      rw [G5_at]
      unfold Cert.MergeOutRefIdeal.Value.res_main_v39
      rw [h0, h1, h2, h3]
      pointwise []
      simp only [Fin.sum_univ_one]
      exact Finset.sum_congr (M := EReal) rfl fun e _ => congrArg (· * wo m c j1 e) (norm_vjp_1024 (tt m c j0) (dx m c j0) (gn m c) e)
    · funext j
      idx_vars j
      obtain ⟨h0, h1, h2, h3⟩ := hagree c
      rw [G6_at]
      unfold Cert.MergeOutRefIdeal.Value.res_main_v40
      rw [h0, h1, h2, h3]
      pointwise []
      simp only [Fin.sum_univ_one]
      exact Finset.sum_congr (M := EReal) rfl fun r _ => (congrArg (· * mg m c r j0) (norm_vjp_1024 (tt m c r) (dx m c r) (gn m c) j1)).trans (mul_comm _ _)
    · funext j
      idx_vars j
      obtain rfl : j0 = 0 := Subsingleton.elim _ _
      rw [G7_at]
      pointwise []
      simp only [Fin.sum_univ_one]
      exact Finset.sum_congr rfl fun r _ => mul_comm _ _

end Cert.MergeOutIdeal.Mine

end
-- ==== Proof.FfnWKernel.lean ====
/- The squared-ReLU layer's weights: what each grid point leaves in its outputs and its two scratch arrays, as the body's own terms. -/
module

public import proofs.«01_k».proof.Proof.Gen.FfnWIdeal.Value
public import proofs.«01_k».proof.Proof.Sums

@[expose] public section

set_option maxRecDepth 16384
set_option maxHeartbeats 1000000

noncomputable section

open Idealize.ShloMosaic Idealize.ShloMosaic.TcCoe Idealize.SL.Sem
open Idealize.ShloMosaic.Pipeline (Dat)

namespace Cert.FfnWIdeal.Mine

open Cert.Tools Cert.FfnWIdeal Cert.FfnWIdeal.Gen Cert.FfnWIdeal.Value

variable {F : FTy → Type} [FloatOps F]
variable (m : (ℓ : Loc nD τ sig) → Buf (Elt F) ℓ) (ρ : Dev nD → PrngReg)

/-- The gradient of the hidden layer's argument from one point's blocks, and what the point adds to the two weight
    gradients. -/
def daOf (c : Dev nD) (t : Fin cfg0.N) : Vec F S1024x1024 .bf16 := k0_pay11 (iblk m c 0 t) (iblk m c 1 t) (iblk m c 2 t) (iblk m c 3 t)
def dw1Of (c : Dev nD) (t : Fin cfg0.N) : Vec F S1024x1024 .f32 := k0_pay12 (iblk m c 0 t) (iblk m c 1 t) (iblk m c 2 t) (iblk m c 3 t)
def dw2Of (c : Dev nD) (t : Fin cfg0.N) : Vec F S1024x1024 .f32 := k0_pay7 (iblk m c 0 t) (iblk m c 1 t) (iblk m c 2 t)

/-- The first point of a hidden block starts the two sums. -/
theorem at_A (c : Dev nD) (t : Fin cfg0.N) (h0 : t.val % 8 = 0) (h1 : ¬1 ≤ t.val % 8) (h2 : ¬t.val % 8 = 7) :
    (outsAt0 m c t.val t.isLt).1 = daOf m c t
    ∧ (outsAt0 m c t.val t.isLt).2.2.2.1 = dw1Of m c t
    ∧ (outsAt0 m c t.val t.isLt).2.2.2.2 = dw2Of m c t := by
  have e := outsAt0_A m c t h0 h1 h2 h0 h1 h2
  refine ⟨(congrArg (fun p => p.1) e).trans ?_, (congrArg (fun p => p.2.2.2.1) e).trans ?_, (congrArg (fun p => p.2.2.2.2) e).trans ?_⟩
  all_goals (clear e; dsimp only)
  on_goal 1 => unfold out0_A_4; rw [View.read_writes_eq_canon _ _ _ (fun _ => cover0_A_4 ..)]
  on_goal 2 => unfold sout0_A_0; rw [View.read_writes_eq_canon _ _ _ (fun _ => scover0_A_0 ..)]
  on_goal 3 => unfold sout0_A_1; rw [View.read_writes_eq_canon _ _ _ (fun _ => scover0_A_1 ..)]
  all_goals (unfold kernelRun0_A; dsimp only; sl_unfold_words; rw [View.canon_unit_zero hz2])
  all_goals simp only [View.readAt_eq_ld, (hs0_0 t).read_unread, (hs0_1 t).read_unread, (hs0_2 t).read_unread, (hs0_3 t).read_unread, (Memref.isWhole_whole _).read_unread,
    View.readCov_unit_zero (S := S1024x1024) _ hz2,
    View.ld_unit_zero (S := S1024x1024) hz2,
    shapeCast_self, daOf, dw1Of, dw2Of, k0_pay1, k0_pay2, k0_pay8, k0_pay9]

/-- A middle point adds to them. -/
theorem at_B (c : Dev nD) (t : Fin cfg0.N) (h0 : ¬t.val % 8 = 0) (h1 : 1 ≤ t.val % 8) (h2 : ¬t.val % 8 = 7) :
    (outsAt0 m c t.val t.isLt).1 = daOf m c t
    ∧ (outsAt0 m c t.val t.isLt).2.2.2.1 = addf (outsAt0 m c (t.val - 1) (Nat.lt_of_le_of_lt (Nat.sub_le _ _) t.isLt)).2.2.2.1 (dw1Of m c t)
    ∧ (outsAt0 m c t.val t.isLt).2.2.2.2 = addf (outsAt0 m c (t.val - 1) (Nat.lt_of_le_of_lt (Nat.sub_le _ _) t.isLt)).2.2.2.2 (dw2Of m c t) := by
  have e := outsAt0_B m c t h0 h1 h2 h0 h1 h2
  refine ⟨(congrArg (fun p => p.1) e).trans ?_, (congrArg (fun p => p.2.2.2.1) e).trans ?_, (congrArg (fun p => p.2.2.2.2) e).trans ?_⟩
  all_goals (clear e; dsimp only)
  on_goal 1 => unfold out0_B_4; rw [View.read_writes_eq_canon _ _ _ (fun _ => cover0_B_4 ..)]
  on_goal 2 => unfold sout0_B_0; rw [View.read_writes_eq_canon _ _ _ (fun _ => scover0_B_0 ..)]
  on_goal 3 => unfold sout0_B_1; rw [View.read_writes_eq_canon _ _ _ (fun _ => scover0_B_1 ..)]
  all_goals (unfold kernelRun0_B; dsimp only; sl_unfold_words; rw [View.canon_unit_zero hz2])
  all_goals simp only [View.readAt_eq_ld, (hs0_0 t).read_unread, (hs0_1 t).read_unread, (hs0_2 t).read_unread, (hs0_3 t).read_unread, (Memref.isWhole_whole _).read_unread,
    View.readCov_unit_zero (S := S1024x1024) _ hz2,
    View.ld_unit_zero (S := S1024x1024) hz2,
    shapeCast_self, daOf, dw1Of, dw2Of, k0_pay1, k0_pay2, k0_pay8, k0_pay9]

/-- The last point of the block adds too, and writes the two weight gradients out. -/
theorem at_C (c : Dev nD) (t : Fin cfg0.N) (h0 : ¬t.val % 8 = 0) (h1 : 1 ≤ t.val % 8) (h2 : t.val % 8 = 7) :
    (outsAt0 m c t.val t.isLt).1 = daOf m c t
    ∧ (outsAt0 m c t.val t.isLt).2.2.2.1 = addf (outsAt0 m c (t.val - 1) (Nat.lt_of_le_of_lt (Nat.sub_le _ _) t.isLt)).2.2.2.1 (dw1Of m c t)
    ∧ (outsAt0 m c t.val t.isLt).2.2.2.2 = addf (outsAt0 m c (t.val - 1) (Nat.lt_of_le_of_lt (Nat.sub_le _ _) t.isLt)).2.2.2.2 (dw2Of m c t)
    ∧ (outsAt0 m c t.val t.isLt).2.1 = k0_pay3 (addf (outsAt0 m c (t.val - 1) (Nat.lt_of_le_of_lt (Nat.sub_le _ _) t.isLt)).2.2.2.1 (dw1Of m c t))
    ∧ (outsAt0 m c t.val t.isLt).2.2.1 = k0_pay10 (addf (outsAt0 m c (t.val - 1) (Nat.lt_of_le_of_lt (Nat.sub_le _ _) t.isLt)).2.2.2.2 (dw2Of m c t)) := by
  have e := outsAt0_C m c t h0 h1 h2 h0 h1 h2
  refine ⟨(congrArg (fun p => p.1) e).trans ?_, (congrArg (fun p => p.2.2.2.1) e).trans ?_, (congrArg (fun p => p.2.2.2.2) e).trans ?_, (congrArg (fun p => p.2.1) e).trans ?_, (congrArg (fun p => p.2.2.1) e).trans ?_⟩
  all_goals (clear e; dsimp only)
  on_goal 1 => unfold out0_C_4; rw [View.read_writes_eq_canon _ _ _ (fun _ => cover0_C_4 ..)]
  on_goal 2 => unfold sout0_C_0; rw [View.read_writes_eq_canon _ _ _ (fun _ => scover0_C_0 ..)]
  on_goal 3 => unfold sout0_C_1; rw [View.read_writes_eq_canon _ _ _ (fun _ => scover0_C_1 ..)]
  on_goal 4 => unfold out0_C_5; rw [View.read_writes_eq_canon _ _ _ (fun _ => cover0_C_5 ..)]
  on_goal 5 => unfold out0_C_6; rw [View.read_writes_eq_canon _ _ _ (fun _ => cover0_C_6 ..)]
  all_goals (unfold kernelRun0_C; dsimp only; sl_unfold_words; rw [View.canon_unit_zero hz2])
  all_goals simp only [View.readAt_eq_ld, (hs0_0 t).read_unread, (hs0_1 t).read_unread, (hs0_2 t).read_unread, (hs0_3 t).read_unread, (Memref.isWhole_whole _).read_unread,
    View.readCov_unit_zero (S := S1024x1024) _ hz2,
    View.ld_unit_zero (S := S1024x1024) hz2,
    shapeCast_self, daOf, dw1Of, dw2Of, k0_pay1, k0_pay2, k0_pay8, k0_pay9]

end Cert.FfnWIdeal.Mine

end
-- ==== Proof.FfnWValue.lean ====
/- The squared-ReLU layer's weights over the extended reals: each of the three results as a closed form of the arguments. -/
module

public import proofs.«01_k».proof.Proof.FfnWKernel
public import proofs.«01_k».proof.Proof.Reals
public import Idealize.ShloMosaic.Lib.Claim
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnWIdeal.Mine

open Cert.Tools Cert.FfnWIdeal Cert.FfnWIdeal.Gen Cert.FfnWIdeal.Value

variable (m : (ℓ : Loc nD τ sig) → Buf (Elt Ideal) ℓ)

theorem index : ∀ t : Fin cfg0.N, win0_0.index t = ![t.val % 8, 0] ∧ win0_1.index t = ![t.val % 8, 0] ∧ win0_2.index t = ![t.val / 8, 0]
    ∧ win0_3.index t = ![t.val / 8, 0] := by decide +kernel

theorem row_lt (i : Fin 8) (r : Fin 1024) : 1024 * i.val + r.val < 8192 := by omega

theorem col_lt (t : Fin cfg0.N) (e : Fin 1024) : 1024 * (t.val / 8) + e.val < 4096 := by
  have := t.isLt; have h : cfg0.N = 32 := N_0; omega

/-- The tile of rows of a point; row `r` of a tile among all rows, and column `e` of the point's hidden block among all. -/
def til (t : Fin cfg0.N) : Fin 8 := ⟨t.val % 8, Nat.mod_lt _ (by decide)⟩
def row (i : Fin 8) (r : Fin 1024) : Fin 8192 := ⟨1024 * i.val + r.val, row_lt i r⟩
def col (t : Fin cfg0.N) (e : Fin 1024) : Fin 4096 := ⟨1024 * (t.val / 8) + e.val, col_lt t e⟩

/-- The elements of the arguments: the normed input, the cotangent, and the two weights. -/
def hx (c : Dev nD) (r : Fin 8192) (l : Fin 1024) : EReal := m (c.tc.loc main_arg0) (ix2 r l)
def df (c : Dev nD) (r : Fin 8192) (d : Fin 1024) : EReal := m (c.tc.loc main_arg1) (ix2 r d)
def w1 (c : Dev nD) (l : Fin 1024) (e : Fin 4096) : EReal := m (c.tc.loc main_arg2) (ix2 l e)
def w2 (c : Dev nD) (e : Fin 4096) (d : Fin 1024) : EReal := m (c.tc.loc main_arg3) (ix2 e d)

/-- The hidden layer after its ReLU, and the gradient of its argument. -/
def rl (c : Dev nD) (r : Fin 8192) (e : Fin 4096) : EReal := max (∑ l : Fin 1024, hx m c r l * w1 m c l e) 0
def da (c : Dev nD) (r : Fin 8192) (e : Fin 4096) : EReal := (∑ d : Fin 1024, df m c r d * w2 m c e d) * (2 * rl m c r e)

theorem blk0 (c : Dev nD) (t : Fin cfg0.N) (r : Fin 1024) (l : Fin 1024) :
    (iblk m c 0 t : Vec Ideal S1024x1024 .bf16) (ix2 r l) = hx m c (row (til t) r) l := by
  unfold hx row til
  blk_point [iblk, V, index t]

theorem blk1 (c : Dev nD) (t : Fin cfg0.N) (r : Fin 1024) (d : Fin 1024) :
    (iblk m c 1 t : Vec Ideal S1024x1024 .bf16) (ix2 r d) = df m c (row (til t) r) d := by
  unfold df row til
  blk_point [iblk, V, index t]

theorem blk2 (c : Dev nD) (t : Fin cfg0.N) (e l : Fin 1024) :
    (iblk m c 2 t : Vec Ideal S1024x1024 .bf16) (ix2 e l) = w1 m c l (col t e) := by
  unfold w1 col
  blk_point [iblk, V, index t]

theorem blk3 (c : Dev nD) (t : Fin cfg0.N) (e d : Fin 1024) :
    (iblk m c 3 t : Vec Ideal S1024x1024 .bf16) (ix2 e d) = w2 m c (col t e) d := by
  unfold w2 col
  blk_point [iblk, V, index t]

/-- One point's terms at an index. -/
theorem rl_at (c : Dev nD) (t : Fin cfg0.N) (r e : Fin 1024) :
    k0_pay6 (iblk m c 0 t) (iblk m c 2 t) (ix2 r e) = rl m c (row (til t) r) (col t e) := by
  pointwise [k0_pay6, k0_pay4]
  simp only [blk0, blk2]
  rfl

theorem daOf_at (c : Dev nD) (t : Fin cfg0.N) (r e : Fin 1024) : daOf m c t (ix2 r e) = da m c (row (til t) r) (col t e) := by
  unfold daOf
  pointwise [k0_pay11, k0_pay5, word_two]
  simp only [rl_at, blk1, blk3]
  rfl

theorem dw1Of_at (c : Dev nD) (t : Fin cfg0.N) (e l : Fin 1024) :
    dw1Of m c t (ix2 e l) = ∑ r : Fin 1024, da m c (row (til t) r) (col t e) * hx m c (row (til t) r) l := by
  have h : ∀ r : Fin 1024, k0_pay11 (iblk m c 0 t) (iblk m c 1 t) (iblk m c 2 t) (iblk m c 3 t) (ix2 r e) = _ := fun r => daOf_at m c t r e
  unfold dw1Of
  pointwise [k0_pay12, k0_pay4]
  simp only [h, blk0]

theorem dw2Of_at (c : Dev nD) (t : Fin cfg0.N) (e d : Fin 1024) :
    dw2Of m c t (ix2 e d) = ∑ r : Fin 1024, rl m c (row (til t) r) (col t e) * rl m c (row (til t) r) (col t e) * df m c (row (til t) r) d := by
  unfold dw2Of
  pointwise [k0_pay7, k0_pay5]
  simp only [rl_at, blk1]

/-- Every point leaves its own block of the hidden gradient. -/
theorem da_all (c : Dev nD) (t : Fin cfg0.N) : (outsAt0 m c t.val t.isLt).1 = daOf m c t := by
  by_cases h0 : t.val % 8 = 0
  · exact (at_A m c t h0 (by omega) (by omega)).1
  · by_cases h2 : t.val % 8 = 7
    · exact (at_C m c t h0 (by omega) h2).1
    · exact (at_B m c t h0 (by omega) h2).1

/-- Point `i` of hidden block `j`. -/
theorem pt_lt (j : Fin 4) {i : ℕ} (hi : i < 8) : 8 * j.val + i < cfg0.N := by have h : cfg0.N = 32 := N_0; omega

/-- The two sums start at the first point of a hidden block and grow at every other. -/
theorem first (c : Dev nD) (j : Fin 4) (h : 0 < 8) :
    (outsAt0 m c (8 * j.val + 0) (pt_lt j h)).2.2.2.1 = dw1Of m c ⟨_, pt_lt j h⟩
    ∧ (outsAt0 m c (8 * j.val + 0) (pt_lt j h)).2.2.2.2 = dw2Of m c ⟨_, pt_lt j h⟩ :=
  (at_A m c ⟨8 * j.val + 0, pt_lt j h⟩ (by dsimp only; omega) (by dsimp only; omega) (by dsimp only; omega)).2

theorem step (c : Dev nD) (j : Fin 4) (n : ℕ) (h : n + 1 < 8) :
    (outsAt0 m c (8 * j.val + (n + 1)) (pt_lt j h)).2.2.2.1
      = addf (outsAt0 m c (8 * j.val + n) (pt_lt j (Nat.lt_of_succ_lt h))).2.2.2.1 (dw1Of m c ⟨_, pt_lt j h⟩)
    ∧ (outsAt0 m c (8 * j.val + (n + 1)) (pt_lt j h)).2.2.2.2
      = addf (outsAt0 m c (8 * j.val + n) (pt_lt j (Nat.lt_of_succ_lt h))).2.2.2.2 (dw2Of m c ⟨_, pt_lt j h⟩) := by
  by_cases h2 : (8 * j.val + (n + 1)) % 8 = 7
  · have k := (at_C m c ⟨8 * j.val + (n + 1), pt_lt j h⟩ (by dsimp only; omega) (by dsimp only; omega) h2).2
    exact ⟨k.1, k.2.1⟩
  · exact (at_B m c ⟨8 * j.val + (n + 1), pt_lt j h⟩ (by dsimp only; omega) (by dsimp only; omega) h2).2

theorem til_pt (j : Fin 4) (i : Fin 8) : til ⟨8 * j.val + i.val, pt_lt j i.isLt⟩ = i := by
  apply Fin.ext; show (8 * j.val + i.val) % 8 = i.val; omega

theorem col_pt (j : Fin 4) (i : Fin 8) (e : Fin 1024) :
    col ⟨8 * j.val + i.val, pt_lt j i.isLt⟩ e = ⟨1024 * j.val + e.val, by omega⟩ := by
  apply Fin.ext; show 1024 * ((8 * j.val + i.val) / 8) + e.val = 1024 * j.val + e.val; omega

/-- After the last point of a hidden block its two sums run over all rows. -/
theorem dw1_total (c : Dev nD) (j : Fin 4) (e l : Fin 1024) :
    (outsAt0 m c (8 * j.val + 7) (pt_lt j (by decide))).2.2.2.1 (ix2 e l)
      = ∑ r : Fin 8192, da m c r ⟨1024 * j.val + e.val, by omega⟩ * hx m c r l := by
  have key := fold_univ 8 (fun n h => ((outsAt0 m c (8 * j.val + n) (pt_lt j h)).2.2.2.1 (ix2 e l) : EReal))
    (fun i => dw1Of m c ⟨8 * j.val + i.val, pt_lt j i.isLt⟩ (ix2 e l))
    (fun h => congrFun (first m c j h).1 _) (fun n h => (congrFun (step m c j n h).1 _).trans (ValueIdx.addf_apply ..)) 7 (by decide) rfl
  refine key.trans ?_
  simp only [dw1Of_at, til_pt, col_pt]
  exact sum_tiles (n := 8) (b := 1024) rfl (fun r => da m c r ⟨1024 * j.val + e.val, by omega⟩ * hx m c r l) row_lt

theorem dw2_total (c : Dev nD) (j : Fin 4) (e d : Fin 1024) :
    (outsAt0 m c (8 * j.val + 7) (pt_lt j (by decide))).2.2.2.2 (ix2 e d)
      = ∑ r : Fin 8192, rl m c r ⟨1024 * j.val + e.val, by omega⟩ * rl m c r ⟨1024 * j.val + e.val, by omega⟩ * df m c r d := by
  have key := fold_univ 8 (fun n h => ((outsAt0 m c (8 * j.val + n) (pt_lt j h)).2.2.2.2 (ix2 e d) : EReal))
    (fun i => dw2Of m c ⟨8 * j.val + i.val, pt_lt j i.isLt⟩ (ix2 e d))
    (fun h => congrFun (first m c j h).2 _) (fun n h => (congrFun (step m c j n h).2 _).trans (ValueIdx.addf_apply ..)) 7 (by decide) rfl
  refine key.trans ?_
  simp only [dw2Of_at, til_pt, col_pt]
  exact sum_tiles (n := 8) (b := 1024) rfl
    (fun r => rl m c r ⟨1024 * j.val + e.val, by omega⟩ * rl m c r ⟨1024 * j.val + e.val, by omega⟩ * df m c r d) row_lt

/-- The last point of a hidden block writes its two sums out. -/
theorem last (c : Dev nD) (j : Fin 4) :
    (outsAt0 m c (8 * j.val + 7) (pt_lt j (by decide))).2.1 = k0_pay3 (outsAt0 m c (8 * j.val + 7) (pt_lt j (by decide))).2.2.2.1
    ∧ (outsAt0 m c (8 * j.val + 7) (pt_lt j (by decide))).2.2.1 = k0_pay10 (outsAt0 m c (8 * j.val + 7) (pt_lt j (by decide))).2.2.2.2 := by
  have k := (at_C m c ⟨8 * j.val + 7, pt_lt j (by decide)⟩ (by dsimp only; omega) (by dsimp only; omega) (by dsimp only; omega)).2
  exact ⟨k.2.2.1.trans (congrArg k0_pay3 k.1.symm), k.2.2.2.trans (congrArg k0_pay10 k.2.1.symm)⟩

/-- The three result arrays. -/
theorem G4_at (c : Dev nD) (r : Fin 8192) (e : Fin 4096) : (G4 m c : S8192x4096.Idx → EReal) (ix2 r e) = da m c r e := by
  have hN : cfg0.N = 32 := N_0
  have hr := r.isLt
  have he := e.isLt
  have hp : pt4Of (ix2 r e) = 8 * (e.val / 1024) + r.val / 1024 := by
    show 1 * (r.val / 1024 - 0) + 8 * (e.val / 1024 - 0) = _; omega
  have hlt : pt4Of (ix2 r e) < cfg0.N := by rw [hp]; omega
  have hloc : loc4Of (ix2 r e) = ix2 (⟨r.val % 1024, Nat.mod_lt _ (by decide)⟩ : Fin 1024) (⟨e.val % 1024, Nat.mod_lt _ (by decide)⟩ : Fin 1024) := by
    funext a
    apply Fin.ext
    match a with
    | ⟨0, _⟩ => rfl
    | ⟨1, _⟩ => rfl
  unfold G4
  rw [dif_pos hlt, ← outsAt0_sweep m c _ hlt, da_all m c ⟨pt4Of (ix2 r e), hlt⟩, hloc, daOf_at]
  have hrow : row (til ⟨pt4Of (ix2 r e), hlt⟩) (⟨r.val % 1024, Nat.mod_lt _ (by decide)⟩ : Fin 1024) = r := by
    apply Fin.ext; show 1024 * (pt4Of (ix2 r e) % 8) + r.val % 1024 = r.val; rw [hp]; omega
  have hcol : col ⟨pt4Of (ix2 r e), hlt⟩ (⟨e.val % 1024, Nat.mod_lt _ (by decide)⟩ : Fin 1024) = e := by
    apply Fin.ext; show 1024 * (pt4Of (ix2 r e) / 8) + e.val % 1024 = e.val; rw [hp]; omega
  rw [hrow, hcol]

theorem G5_at (c : Dev nD) (e : Fin 4096) (l : Fin 1024) :
    (G5 m c : S4096x1024.Idx → EReal) (ix2 e l) = ∑ r : Fin 8192, da m c r e * hx m c r l := by
  obtain ⟨j, e, rfl⟩ : ∃ (j : Fin 4) (k : Fin 1024), e = ⟨1024 * j.val + k.val, by omega⟩ :=
    ⟨⟨e.val / 1024, by omega⟩, ⟨e.val % 1024, by omega⟩, Fin.ext (by show e.val = 1024 * (e.val / 1024) + e.val % 1024; omega)⟩
  have hl := l.isLt
  have hp : pt5Of (ix2 (⟨1024 * j.val + e.val, by omega⟩ : Fin 4096) l) = 8 * j.val + 7 := by
    show 8 * (1 * ((1024 * j.val + e.val) / 1024 - 0) + 1 * (l.val / 1024 - 0)) + 7 = _; omega
  have hloc : loc5Of (ix2 (⟨1024 * j.val + e.val, by omega⟩ : Fin 4096) l) = ix2 e l := by
    funext a
    apply Fin.ext
    match a with
    | ⟨0, _⟩ => show (1024 * j.val + e.val) % 1024 = e.val; omega
    | ⟨1, _⟩ => show l.val % 1024 = l.val; omega
  unfold G5
  rw [dif_pos (hp ▸ pt_lt j (by decide)), ← outsAt0_sweep m c _ (hp ▸ pt_lt j (by decide)), hloc]
  have hs : ∀ (n : ℕ) (hn : n < cfg0.N), n = 8 * j.val + 7 → (outsAt0 m c n hn).2.1 (ix2 e l)
      = (outsAt0 m c (8 * j.val + 7) (pt_lt j (by decide))).2.1 (ix2 e l) := fun n hn h => by subst h; rfl
  rw [hs _ _ hp, (last m c j).1, ← dw1_total m c j e l]
  pointwise [k0_pay3]

theorem G6_at (c : Dev nD) (e : Fin 4096) (d : Fin 1024) :
    (G6 m c : S4096x1024.Idx → EReal) (ix2 e d) = ∑ r : Fin 8192, rl m c r e * rl m c r e * df m c r d := by
  obtain ⟨j, e, rfl⟩ : ∃ (j : Fin 4) (k : Fin 1024), e = ⟨1024 * j.val + k.val, by omega⟩ :=
    ⟨⟨e.val / 1024, by omega⟩, ⟨e.val % 1024, by omega⟩, Fin.ext (by show e.val = 1024 * (e.val / 1024) + e.val % 1024; omega)⟩
  have hl := d.isLt
  have hp : pt6Of (ix2 (⟨1024 * j.val + e.val, by omega⟩ : Fin 4096) d) = 8 * j.val + 7 := by
    show 8 * (1 * ((1024 * j.val + e.val) / 1024 - 0) + 1 * (d.val / 1024 - 0)) + 7 = _; omega
  have hloc : loc6Of (ix2 (⟨1024 * j.val + e.val, by omega⟩ : Fin 4096) d) = ix2 e d := by
    funext a
    apply Fin.ext
    match a with
    | ⟨0, _⟩ => show (1024 * j.val + e.val) % 1024 = e.val; omega
    | ⟨1, _⟩ => show d.val % 1024 = d.val; omega
  unfold G6
  rw [dif_pos (hp ▸ pt_lt j (by decide)), ← outsAt0_sweep m c _ (hp ▸ pt_lt j (by decide)), hloc]
  have hs : ∀ (n : ℕ) (hn : n < cfg0.N), n = 8 * j.val + 7 → (outsAt0 m c n hn).2.2.1 (ix2 e d)
      = (outsAt0 m c (8 * j.val + 7) (pt_lt j (by decide))).2.2.1 (ix2 e d) := fun n hn h => by subst h; rfl
  rw [hs _ _ hp, (last m c j).2, ← dw2_total m c j e d]
  pointwise [k0_pay10]

end Cert.FfnWIdeal.Mine

end
-- ==== Proof.FfnWClaim.lean ====
/- The squared-ReLU layer's weights: the three frames, and that the three results are those of the reference. -/
module

public import proofs.«01_k».proof.Defs
public import proofs.«01_k».proof.Proof.FfnWValue
public import proofs.«01_k».proof.Proof.Gen.FfnW.Frame
public import proofs.«01_k».proof.Proof.Gen.FfnWRefIdeal.Run
public import Idealize.ShloMosaic.Lib.Claim

@[expose] public section

set_option maxRecDepth 16384

noncomputable section

open Idealize.ShloMosaic Idealize.ShloMosaic.TcCoe Idealize.SL.Sem

namespace Cert.FfnWIdeal.Mine

open Cert.Tools Cert.FfnWIdeal Cert.FfnWIdeal.Gen Cert.FfnWIdeal.Value

/-- The call runs and leaves its arguments as they were. -/
theorem frame_kernel : Cert.quiescent_FfnW := fun m ρ _ => Cert.FfnW.Gen.frame m ρ
theorem frame_ideal : Cert.quiescent_FfnWIdeal := fun m ρ _ => Cert.FfnWIdeal.Gen.frame m ρ

/-- The reference runs and leaves its arguments as they were. -/
theorem frame_reference : Cert.quiescent_FfnWRefIdeal := fun m ρ _ =>
  (θ_run Cert.FfnWRefIdeal.defs _ _).mono
    (fun r h => ⟨fun c => (h c).2.2.2, Idealize.ShloMosaic.sem_eq_zero_of_no_sems (by decide) r.2⟩)
    (Cert.FfnWRefIdeal.Value.run (F := Ideal) m ρ)

/-- Where the ReLU is off its value is zero, so the mask of its derivative changes nothing after the square's. -/
theorem relu_mask (x a : EReal) :
    (if 0 < a then x * (Ideal.ofBits .f32 1073741824#32 * max a 0) else 0) = x * (2 * max a 0) := by
  rw [show Ideal.ofBits .f32 1073741824#32 = ((2 : ℝ) : EReal) from word_two]
  split
  · rfl
  · rename_i h
    rw [max_eq_right (not_lt.mp h), mul_zero, mul_zero]

/-- Over the reals the call computes the reference's three gradients. -/
theorem value : Cert.algebraic_FfnWIdeal_FfnWRefIdeal := by
  pair_intro
  · run_from Cert.FfnWIdeal.Value.run (F := Ideal) m g
  · run_from Cert.FfnWRefIdeal.Value.run (F := Ideal) m' g'
    · funext j
      idx_vars j
      rw [G4_at]
      pointwise []
      exact relu_mask _ _
    · funext j
      idx_vars j
      rw [G5_at]
      pointwise []
      exact Finset.sum_congr rfl fun r _ => congrArg (· * _) (relu_mask _ _)
    · funext j
      idx_vars j
      rw [G6_at]
      pointwise []
      exact Finset.sum_congr rfl fun r _ => mul_comm _ _

end Cert.FfnWIdeal.Mine

end
-- ==== Proof.NormsKernel.lean ====
/- The two norms around the squared-ReLU layer: what each grid point leaves in its outputs, as the body's own terms. -/
module

public import proofs.«01_k».proof.Proof.Gen.NormsIdeal.Value
public import proofs.«01_k».proof.Proof.Sums

@[expose] public section

set_option maxRecDepth 16384
set_option maxHeartbeats 1000000

noncomputable section

open Idealize.ShloMosaic Idealize.ShloMosaic.TcCoe Idealize.SL.Sem
open Idealize.ShloMosaic.Pipeline (Dat)

namespace Cert.NormsIdeal.Mine

open Cert.Tools Cert.NormsIdeal Cert.NormsIdeal.Gen Cert.NormsIdeal.Value

variable {F : FTy → Type} [FloatOps F]
variable (m : (ℓ : Loc nD τ sig) → Buf (Elt F) ℓ) (ρ : Dev nD → PrngReg)

/-- The normed rows of one point's block, the gradient of the second norm's argument, and what the point adds to the gradient
    of its gain. -/
def hOf (c : Dev nD) (t : Fin cfg0.N) : Vec F S1024x1024 .bf16 := k0_pay3 (iblk m c 0 t) (iblk m c 3 t)
def dfOf (c : Dev nD) (t : Fin cfg0.N) : Vec F S1024x1024 .bf16 :=
  k0_pay1 (k0_pay4 (iblk m c 1 t)) (k0_pay5 (iblk m c 1 t)) (k0_pay7 (iblk m c 4 t) (iblk m c 2 t)) (k0_pay8 (iblk m c 1 t) (iblk m c 4 t) (iblk m c 2 t))
def dgOf (c : Dev nD) (t : Fin cfg0.N) : Vec F S1x1024 .f32 := k0_pay6 (iblk m c 1 t) (iblk m c 2 t)

/-- The first point starts the gain's sum. -/
theorem at_A (c : Dev nD) (t : Fin cfg0.N) (h0 : t.val % 8 = 0) (h1 : ¬1 ≤ t.val) :
    (outsAt0 m c t.val t.isLt).1 = hOf m c t
    ∧ (outsAt0 m c t.val t.isLt).2.1 = dfOf m c t
    ∧ (outsAt0 m c t.val t.isLt).2.2 = dgOf m c t := by
  have e := outsAt0_A m c t h0 h1
  refine ⟨(congrArg (fun p => p.1) e).trans ?_, (congrArg (fun p => p.2.1) e).trans ?_, (congrArg (fun p => p.2.2) e).trans ?_⟩
  all_goals (clear e; dsimp only)
  on_goal 1 => unfold out0_A_5; rw [View.read_writes_eq_canon _ _ _ (fun _ => cover0_A_5 ..)]
  on_goal 2 => unfold out0_A_6; rw [View.read_writes_eq_canon _ _ _ (fun _ => cover0_A_6 ..)]
  on_goal 3 => unfold out0_A_7; rw [View.read_writes_eq_canon _ _ _ (fun _ => cover0_A_7 ..)]
  all_goals (unfold kernelRun0_A; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_7 t).read_unread, (Memref.isWhole_whole _).read_unread,
    View.readCov_unit_zero (S := S1024x1024) _ hz2, View.readCov_unit_zero (S := S1x1024) _ hz2,
    View.ld_unit_zero (S := S1024x1024) hz2, View.ld_unit_zero (S := S1x1024) hz2,
    shapeCast_self, hOf, dfOf, dgOf, k0_pay2]

/-- Every other point adds to it. -/
theorem at_B (c : Dev nD) (t : Fin cfg0.N) (h0 : ¬t.val % 8 = 0) (h1 : 1 ≤ t.val) :
    (outsAt0 m c t.val t.isLt).1 = hOf m c t
    ∧ (outsAt0 m c t.val t.isLt).2.1 = dfOf m c t
    ∧ (outsAt0 m c t.val t.isLt).2.2 = addf (outsAt0 m c (t.val - 1) (Nat.lt_of_le_of_lt (Nat.sub_le _ _) t.isLt)).2.2 (dgOf m c t) := by
  have e := outsAt0_B m c t h0 h1
  refine ⟨(congrArg (fun p => p.1) e).trans ?_, (congrArg (fun p => p.2.1) e).trans ?_, (congrArg (fun p => p.2.2) e).trans ?_⟩
  all_goals (clear e; dsimp only)
  on_goal 1 => unfold out0_B_5; rw [View.read_writes_eq_canon _ _ _ (fun _ => cover0_B_5 ..)]
  on_goal 2 => unfold out0_B_6; rw [View.read_writes_eq_canon _ _ _ (fun _ => cover0_B_6 ..)]
  on_goal 3 => unfold out0_B_7; rw [View.read_writes_eq_canon _ _ _ (fun _ => cover0_B_7 ..)]
  all_goals (unfold kernelRun0_B; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_7 t).read_unread, (Memref.isWhole_whole _).read_unread,
    View.readCov_unit_zero (S := S1024x1024) _ hz2, View.readCov_unit_zero (S := S1x1024) _ hz2,
    View.ld_unit_zero (S := S1024x1024) hz2, View.ld_unit_zero (S := S1x1024) hz2,
    shapeCast_self, hOf, dfOf, dgOf, k0_pay2]

end Cert.NormsIdeal.Mine

end
-- ==== Proof.NormsValue.lean ====
/- The two norms around the squared-ReLU layer over the extended reals: each result as a closed form of the arguments. -/
module

public import proofs.«01_k».proof.Proof.NormsKernel
public import proofs.«01_k».proof.Proof.Norm
public import Idealize.ShloMosaic.Lib.Claim
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormsIdeal.Mine

open Cert.Tools Cert.NormsIdeal Cert.NormsIdeal.Gen Cert.NormsIdeal.Value

variable (m : (ℓ : Loc nD τ sig) → Buf (Elt Ideal) ℓ)

theorem index : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] := by decide +kernel

theorem row_lt (t : Fin cfg0.N) (r : Fin 1024) : 1024 * t.val + r.val < 8192 := by
  have := t.isLt; have h : cfg0.N = 8 := N_0; omega

/-- Row `r` of tile `t`, among all rows. -/
def row (t : Fin cfg0.N) (r : Fin 1024) : Fin 8192 := ⟨1024 * t.val + r.val, row_lt t r⟩

/-- The tile a row lies in, and its place there. -/
theorem tile_lt (r : Fin 8192) : r.val / 1024 < cfg0.N := by
  have := r.isLt; have h : cfg0.N = 8 := N_0; omega

def tile (r : Fin 8192) : Fin cfg0.N := ⟨r.val / 1024, tile_lt r⟩
def place (r : Fin 8192) : Fin 1024 := ⟨r.val % 1024, Nat.mod_lt _ (by decide)⟩

theorem row_tile (r : Fin 8192) : row (tile r) (place r) = r :=
  Fin.ext (by show 1024 * (r.val / 1024) + r.val % 1024 = r.val; omega)

theorem last_lt : 7 < cfg0.N := lt_of_lt_of_eq (by decide) N_0.symm

/-- The elements of the arguments: the residual stream, the second norm's argument, the cotangent and the two gains. -/
def xm (c : Dev nD) (r : Fin 8192) (e : Fin 1024) : EReal := m (c.tc.loc main_arg0) (ix2 r e)
def ff (c : Dev nD) (r : Fin 8192) (e : Fin 1024) : EReal := m (c.tc.loc main_arg1) (ix2 r e)
def dx (c : Dev nD) (r : Fin 8192) (e : Fin 1024) : EReal := m (c.tc.loc main_arg2) (ix2 r e)
def gp (c : Dev nD) (e : Fin 1024) : EReal := m (c.tc.loc main_arg3) (ix1 e)
def gq (c : Dev nD) (e : Fin 1024) : EReal := m (c.tc.loc main_arg4) (ix1 e)

theorem blk0 (c : Dev nD) (t : Fin cfg0.N) (r : Fin 1024) (e : Fin 1024) :
    (iblk m c 0 t : Vec Ideal S1024x1024 .f32) (ix2 r e) = xm m c (row t r) e := by
  unfold xm row
  blk_point [iblk, V, index t]

theorem blk1 (c : Dev nD) (t : Fin cfg0.N) (r : Fin 1024) (e : Fin 1024) :
    (iblk m c 1 t : Vec Ideal S1024x1024 .f32) (ix2 r e) = ff m c (row t r) e := by
  unfold ff row
  blk_point [iblk, V, index t]

theorem blk2 (c : Dev nD) (t : Fin cfg0.N) (r : Fin 1024) (e : Fin 1024) :
    (iblk m c 2 t : Vec Ideal S1024x1024 .f32) (ix2 r e) = dx m c (row t r) e := by
  unfold dx row
  blk_point [iblk, V, index t]

theorem blk3 (c : Dev nD) (t : Fin cfg0.N) (e : Fin 1024) :
    (iblk m c 3 t : Vec Ideal S1x1024 .f32) (ix2 0 e) = gp m c e := by
  unfold gp
  blk_point [iblk, V, index t]

theorem blk4 (c : Dev nD) (t : Fin cfg0.N) (e : Fin 1024) :
    (iblk m c 4 t : Vec Ideal S1x1024 .f32) (ix2 0 e) = gq m c e := by
  unfold gq
  blk_point [iblk, V, index t]

/-- One point's terms at an index. -/
theorem rms_at (c : Dev nD) (t : Fin cfg0.N) (r : Fin 1024) : k0_pay4 (iblk m c 1 t) (ix2 r 0) = rms w1024 (ff m c (row t r)) := by
  pointwise [k0_pay4]
  simp only [blk1]
  rfl

theorem hOf_at (c : Dev nD) (t : Fin cfg0.N) (r e : Fin 1024) :
    hOf m c t (ix2 r e) = xm m c (row t r) e * rms w1024 (xm m c (row t r)) * gp m c e := by
  unfold hOf
  pointwise [k0_pay3]
  simp only [blk0, blk3]
  rfl

theorem dfOf_at (c : Dev nD) (t : Fin cfg0.N) (r e : Fin 1024) :
    dfOf m c t (ix2 r e) = normBwd w1024 (ff m c (row t r)) (dx m c (row t r)) (gq m c) e := by
  unfold dfOf
  pointwise [k0_pay1, k0_pay5, k0_pay7, k0_pay8]
  simp only [rms_at, blk1, blk2, blk4]
  rfl

theorem dgOf_at (c : Dev nD) (t : Fin cfg0.N) (e : Fin 1024) :
    dgOf m c t (ix2 0 e) = ∑ r : Fin 1024, dx m c (row t r) e * (ff m c (row t r) e * rms w1024 (ff m c (row t r))) := by
  unfold dgOf
  pointwise [k0_pay6, k0_pay5]
  simp only [rms_at, blk1, blk2]

/-- Where an element of one point's block of result 5 lies in the whole array. -/
theorem emb5 (t : Fin cfg0.N) (r : Fin 1024) (e : Fin 1024) :
    ((cfg0.win 5).blk t).view.emb (ix2 r e : S1024x1024.Idx) = (ix2 (row t r) e : S8192x1024.Idx) := by
  unfold row
  blk_ext [index t]

/-- Where an element of one point's block of result 6 lies in the whole array. -/
theorem emb6 (t : Fin cfg0.N) (r : Fin 1024) (e : Fin 1024) :
    ((cfg0.win 6).blk t).view.emb (ix2 r e : S1024x1024.Idx) = (ix2 (row t r) e : S8192x1024.Idx) := by
  unfold row
  blk_ext [index t]

/-- Every point leaves its own rows of result 5, and the whole array consists of them. -/
theorem rows5 (c : Dev nD) (t : Fin cfg0.N) : (outsAt0 m c t.val t.isLt).1 = hOf m c t := by
  by_cases h0 : t.val % 8 = 0
  · exact (at_A m c t h0 (by have := t.isLt; have h : cfg0.N = 8 := N_0; omega)).1
  · exact (at_B m c t h0 (by omega)).1

theorem arr5_at (c : Dev nD) (r : Fin 8192) (e : Fin 1024) :
    ((dats m 0 c).arrAt 5 cfg0.N : S8192x1024.Idx → EReal) (ix2 r e) = hOf m c (tile r) (ix2 (place r) e) := by
  have h := (dats m 0 c).arrAt_emb_eq_flushed 5 disjoint5 (tile r) (flush0_5 _) (ix2 (place r) e : S1024x1024.Idx)
  rw [emb5, row_tile] at h
  refine h.trans ?_
  rw [← rows5 m c (tile r), flushed5]
  rfl

/-- Every point leaves its own rows of result 6, and the whole array consists of them. -/
theorem rows6 (c : Dev nD) (t : Fin cfg0.N) : (outsAt0 m c t.val t.isLt).2.1 = dfOf m c t := by
  by_cases h0 : t.val % 8 = 0
  · exact (at_A m c t h0 (by have := t.isLt; have h : cfg0.N = 8 := N_0; omega)).2.1
  · exact (at_B m c t h0 (by omega)).2.1

theorem arr6_at (c : Dev nD) (r : Fin 8192) (e : Fin 1024) :
    ((dats m 0 c).arrAt 6 cfg0.N : S8192x1024.Idx → EReal) (ix2 r e) = dfOf m c (tile r) (ix2 (place r) e) := by
  have h := (dats m 0 c).arrAt_emb_eq_flushed 6 disjoint6 (tile r) (flush0_6 _) (ix2 (place r) e : S1024x1024.Idx)
  rw [emb6, row_tile] at h
  refine h.trans ?_
  rw [← rows6 m c (tile r), flushed6]
  rfl

/-- The gain's sum starts at the first point, grows at every other, and runs over all rows after the last. -/
theorem first (c : Dev nD) (h : 0 < cfg0.N) : (outsAt0 m c 0 h).2.2 = dgOf m c ⟨0, h⟩ :=
  (at_A m c ⟨0, h⟩ (show (0 : ℕ) % 8 = 0 by decide) (show ¬1 ≤ 0 by decide)).2.2

theorem step (c : Dev nD) (n : ℕ) (h : n + 1 < cfg0.N) :
    (outsAt0 m c (n + 1) h).2.2 = addf (outsAt0 m c n (Nat.lt_of_succ_lt h)).2.2 (dgOf m c ⟨n + 1, h⟩) :=
  (at_B m c ⟨n + 1, h⟩ (by have hN : cfg0.N = 8 := N_0; dsimp only; omega) (by dsimp only; omega)).2.2

theorem total (c : Dev nD) (e : Fin 1024) :
    (outsAt0 m c 7 last_lt).2.2 (ix2 0 e) = ∑ r : Fin 8192, dx m c r e * (ff m c r e * rms w1024 (ff m c r)) := by
  have key := fold_univ cfg0.N (fun n h => ((outsAt0 m c n h).2.2 (ix2 0 e) : EReal)) (fun t => dgOf m c t (ix2 0 e))
    (fun h => congrFun (first m c h) _) (fun n h => (congrFun (step m c n h) _).trans (ValueIdx.addf_apply ..)) 7 last_lt N_0
  refine key.trans ?_
  simp only [dgOf_at]
  exact sum_tiles (n := cfg0.N) (b := 1024) (by rw [show cfg0.N = 8 from N_0]) (fun r => dx m c r e * (ff m c r e * rms w1024 (ff m c r))) row_lt

/-- Only the last point writes the sum back, so nothing overwrites it. -/
theorem flush_last (t : Fin cfg0.N) (h : (cfg0.win 7).flush t = true) : t = ⟨7, last_lt⟩ :=
  Fin.ext (by have := (flush0_7 t).mp h; have := t.isLt; have hN : cfg0.N = 8 := N_0; dsimp only; omega)

theorem emb7 (t : Fin cfg0.N) (e : Fin 1024) :
    ((cfg0.win 7).blk t).view.emb (ix2 0 e : S1x1024.Idx) = (ix2 0 e : S1x1024.Idx) := by
  blk_ext [index t]

theorem arr7_at (c : Dev nD) (e : Fin 1024) :
    ((dats m 0 c).arrAt 7 cfg0.N : S1x1024.Idx → EReal) (ix2 0 e) = ∑ r : Fin 8192, dx m c r e * (ff m c r e * rms w1024 (ff m c r)) := by
  have h := (dats m 0 c).arrAt_emb_eq_flushed 7
    (fun t t' ht ht' hne => absurd ((flush_last t ht).trans (flush_last t' ht').symm) hne)
    ⟨7, last_lt⟩ ((flush0_7 _).mpr (by decide)) (ix2 0 e : S1x1024.Idx)
  rw [emb7] at h
  refine h.trans ?_
  rw [← total m c e, flushed7]
  rfl

end Cert.NormsIdeal.Mine

end
-- ==== Proof.NormsClaim.lean ====
/- The two norms around the squared-ReLU layer: the three frames, and that the three results are those of the reference. -/
module

public import proofs.«01_k».proof.Defs
public import proofs.«01_k».proof.Proof.NormsValue
public import proofs.«01_k».proof.Proof.Gen.Norms.Frame
public import proofs.«01_k».proof.Proof.Gen.NormsRefIdeal.Run
public import Idealize.ShloMosaic.Lib.Claim

@[expose] public section

set_option maxRecDepth 16384

noncomputable section

open Idealize.ShloMosaic Idealize.ShloMosaic.TcCoe Idealize.SL.Sem

namespace Cert.NormsIdeal.Mine

open Cert.Tools Cert.NormsIdeal Cert.NormsIdeal.Gen Cert.NormsIdeal.Value

/-- The call runs and leaves its arguments as they were. -/
theorem frame_kernel : Cert.quiescent_Norms := fun m ρ _ => Cert.Norms.Gen.frame m ρ
theorem frame_ideal : Cert.quiescent_NormsIdeal := fun m ρ _ => Cert.NormsIdeal.Gen.frame m ρ

/-- The reference runs and leaves its arguments as they were. -/
theorem frame_reference : Cert.quiescent_NormsRefIdeal := fun m ρ _ =>
  (θ_run Cert.NormsRefIdeal.defs _ _).mono
    (fun r h => ⟨fun c => (h c).2.2.2, Idealize.ShloMosaic.sem_eq_zero_of_no_sems (by decide) r.2⟩)
    (Cert.NormsRefIdeal.Value.run (F := Ideal) m ρ)

/-- Over the reals the call computes the reference's three results. -/
theorem value : Cert.algebraic_NormsIdeal_NormsRefIdeal := by
  pair_intro
  · run_from Cert.NormsIdeal.Value.run_blocks (F := Ideal) m g
  · run_from Cert.NormsRefIdeal.Value.run (F := Ideal) m' g'
    · funext j
      idx_vars j
      rw [arr5_at, hOf_at, row_tile]
      pointwise []
      rfl
    · funext j
      idx_vars j
      rw [arr6_at, dfOf_at, row_tile]
      pointwise []
      simp only [Fin.sum_univ_one]
      exact norm_vjp_1024 (ff m c j0) (dx m c j0) (gq m c) j1
    · funext j
      idx_vars j
      obtain rfl : j0 = 0 := Subsingleton.elim _ _
      rw [arr7_at]
      pointwise []
      simp only [Fin.sum_univ_one]
      exact Finset.sum_congr rfl fun r _ => mul_comm _ _

end Cert.NormsIdeal.Mine

end
-- ==== Proof.FfnXKernel.lean ====
/- The squared-ReLU layer's input: what each grid point leaves in its outputs, as the body's own terms. -/
module

public import proofs.«01_k».proof.Proof.Gen.FfnXIdeal.Value
public import proofs.«01_k».proof.Proof.Sums

@[expose] public section

set_option maxRecDepth 16384
set_option maxHeartbeats 1000000

noncomputable section

open Idealize.ShloMosaic Idealize.ShloMosaic.TcCoe Idealize.SL.Sem
open Idealize.ShloMosaic.Pipeline (Dat)

namespace Cert.FfnXIdeal.Mine

open Cert.Tools Cert.FfnXIdeal Cert.FfnXIdeal.Gen Cert.FfnXIdeal.Value

variable {F : FTy → Type} [FloatOps F]
variable (m : (ℓ : Loc nD τ sig) → Buf (Elt F) ℓ) (ρ : Dev nD → PrngReg)

/-- The gradient of one point's rows of the residual stream, and what the point adds to the gradient of the norm's gain. -/
def dxOf (c : Dev nD) (t : Fin cfg0.N) : Vec F S512x1024 .f32 :=
  k0_pay6 (iblk m c 2 t) (iblk m c 4 t) (iblk m c 0 t) (iblk m c 1 t) (iblk m c 3 t)
def dgOf (c : Dev nD) (t : Fin cfg0.N) : Vec F S1x1024 .f32 := k0_pay5 (iblk m c 2 t) (iblk m c 0 t) (iblk m c 1 t)

/-- The first point starts the gain's sum. -/
theorem at_A (c : Dev nD) (t : Fin cfg0.N) (h0 : t.val % 16 = 0) (h1 : ¬1 ≤ t.val) :
    (outsAt0 m c t.val t.isLt).1 = dxOf m c t
    ∧ (outsAt0 m c t.val t.isLt).2 = dgOf m c t := by
  have e := outsAt0_A m c t h0 h1
  refine ⟨(congrArg (fun p => p.1) e).trans ?_, (congrArg (fun p => p.2) e).trans ?_⟩
  all_goals (clear e; dsimp only)
  on_goal 1 => unfold out0_A_5; rw [View.read_writes_eq_canon _ _ _ (fun _ => cover0_A_5 ..)]
  on_goal 2 => unfold out0_A_6; rw [View.read_writes_eq_canon _ _ _ (fun _ => cover0_A_6 ..)]
  all_goals (unfold kernelRun0_A; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_6 t).read_unread, (Memref.isWhole_whole _).read_unread,
    View.readCov_unit_zero (S := S512x1024) _ hz2, View.readCov_unit_zero (S := S1x1024) _ hz2, View.readCov_unit_zero (S := S512x4096) _ hz2, View.readCov_unit_zero (S := S4096x1024) _ hz2,
    View.ld_unit_zero (S := S512x1024) hz2, View.ld_unit_zero (S := S1x1024) hz2, View.ld_unit_zero (S := S512x4096) hz2, View.ld_unit_zero (S := S4096x1024) hz2,
    shapeCast_self, dxOf, dgOf, k0_pay1]

/-- Every other point adds to it. -/
theorem at_B (c : Dev nD) (t : Fin cfg0.N) (h0 : ¬t.val % 16 = 0) (h1 : 1 ≤ t.val) :
    (outsAt0 m c t.val t.isLt).1 = dxOf m c t
    ∧ (outsAt0 m c t.val t.isLt).2 = addf (outsAt0 m c (t.val - 1) (Nat.lt_of_le_of_lt (Nat.sub_le _ _) t.isLt)).2 (dgOf m c t) := by
  have e := outsAt0_B m c t h0 h1
  refine ⟨(congrArg (fun p => p.1) e).trans ?_, (congrArg (fun p => p.2) e).trans ?_⟩
  all_goals (clear e; dsimp only)
  on_goal 1 => unfold out0_B_5; rw [View.read_writes_eq_canon _ _ _ (fun _ => cover0_B_5 ..)]
  on_goal 2 => unfold out0_B_6; rw [View.read_writes_eq_canon _ _ _ (fun _ => cover0_B_6 ..)]
  all_goals (unfold kernelRun0_B; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_6 t).read_unread, (Memref.isWhole_whole _).read_unread,
    View.readCov_unit_zero (S := S512x1024) _ hz2, View.readCov_unit_zero (S := S1x1024) _ hz2, View.readCov_unit_zero (S := S512x4096) _ hz2, View.readCov_unit_zero (S := S4096x1024) _ hz2,
    View.ld_unit_zero (S := S512x1024) hz2, View.ld_unit_zero (S := S1x1024) hz2, View.ld_unit_zero (S := S512x4096) hz2, View.ld_unit_zero (S := S4096x1024) hz2,
    shapeCast_self, dxOf, dgOf, k0_pay1]

end Cert.FfnXIdeal.Mine

end
-- ==== Proof.FfnXValue.lean ====
/- The squared-ReLU layer's input over the extended reals: both results as closed forms of the arguments. -/
module

public import proofs.«01_k».proof.Proof.FfnXKernel
public import proofs.«01_k».proof.Proof.Norm
public import Idealize.ShloMosaic.Lib.Claim
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnXIdeal.Mine

open Cert.Tools Cert.FfnXIdeal Cert.FfnXIdeal.Gen Cert.FfnXIdeal.Value

variable (m : (ℓ : Loc nD τ sig) → Buf (Elt Ideal) ℓ)

theorem index : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] := by
  decide +kernel

theorem row_lt (t : Fin cfg0.N) (r : Fin 512) : 512 * t.val + r.val < 8192 := by
  have := t.isLt; have h : cfg0.N = 16 := N_0; omega

/-- Row `r` of tile `t`, among all rows. -/
def row (t : Fin cfg0.N) (r : Fin 512) : Fin 8192 := ⟨512 * t.val + r.val, row_lt t r⟩

/-- The tile a row lies in, and its place there. -/
theorem tile_lt (r : Fin 8192) : r.val / 512 < cfg0.N := by
  have := r.isLt; have h : cfg0.N = 16 := N_0; omega

def tile (r : Fin 8192) : Fin cfg0.N := ⟨r.val / 512, tile_lt r⟩
def place (r : Fin 8192) : Fin 512 := ⟨r.val % 512, Nat.mod_lt _ (by decide)⟩

theorem row_tile (r : Fin 8192) : row (tile r) (place r) = r :=
  Fin.ext (by show 512 * (r.val / 512) + r.val % 512 = r.val; omega)

theorem last_lt : 15 < cfg0.N := lt_of_lt_of_eq (by decide) N_0.symm

/-- The elements of the arguments: the layer's gradient, its first weight, the residual stream, the cotangent and the gain. -/
def da (c : Dev nD) (r : Fin 8192) (k : Fin 4096) : EReal := m (c.tc.loc main_arg0) (ix2 r k)
def w1 (c : Dev nD) (e : Fin 1024) (k : Fin 4096) : EReal := m (c.tc.loc main_arg1) (ix2 e k)
def xm (c : Dev nD) (r : Fin 8192) (e : Fin 1024) : EReal := m (c.tc.loc main_arg2) (ix2 r e)
def dx (c : Dev nD) (r : Fin 8192) (e : Fin 1024) : EReal := m (c.tc.loc main_arg3) (ix2 r e)
def gn (c : Dev nD) (e : Fin 1024) : EReal := m (c.tc.loc main_arg4) (ix1 e)

/-- The gradient of the norm's result. -/
def dh (c : Dev nD) (r : Fin 8192) (e : Fin 1024) : EReal := ∑ k : Fin 4096, da m c r k * w1 m c e k

theorem blk0 (c : Dev nD) (t : Fin cfg0.N) (r : Fin 512) (k : Fin 4096) :
    (iblk m c 0 t : Vec Ideal S512x4096 .bf16) (ix2 r k) = da m c (row t r) k := by
  unfold da row
  blk_point [iblk, V, index t]

theorem blk1 (c : Dev nD) (t : Fin cfg0.N) (k : Fin 4096) (e : Fin 1024) :
    (iblk m c 1 t : Vec Ideal S4096x1024 .bf16) (ix2 k e) = w1 m c e k := by
  unfold w1
  blk_point [iblk, V, index t]

theorem blk2 (c : Dev nD) (t : Fin cfg0.N) (r : Fin 512) (e : Fin 1024) :
    (iblk m c 2 t : Vec Ideal S512x1024 .f32) (ix2 r e) = xm m c (row t r) e := by
  unfold xm row
  blk_point [iblk, V, index t]

theorem blk3 (c : Dev nD) (t : Fin cfg0.N) (r : Fin 512) (e : Fin 1024) :
    (iblk m c 3 t : Vec Ideal S512x1024 .f32) (ix2 r e) = dx m c (row t r) e := by
  unfold dx row
  blk_point [iblk, V, index t]

theorem blk4 (c : Dev nD) (t : Fin cfg0.N) (e : Fin 1024) :
    (iblk m c 4 t : Vec Ideal S1x1024 .f32) (ix2 0 e) = gn m c e := by
  unfold gn
  blk_point [iblk, V, index t]

/-- One point's terms at an index. -/
theorem rms_at (c : Dev nD) (t : Fin cfg0.N) (r : Fin 512) : k0_pay3 (iblk m c 2 t) (ix2 r 0) = rms w1024 (xm m c (row t r)) := by
  pointwise [k0_pay3]
  simp only [blk2]
  rfl

theorem dh_at (c : Dev nD) (t : Fin cfg0.N) (r : Fin 512) (e : Fin 1024) :
    k0_pay2 (iblk m c 0 t) (iblk m c 1 t) (ix2 r e) = dh m c (row t r) e := by
  pointwise [k0_pay2]
  simp only [blk0, blk1]
  rfl

theorem dxOf_at (c : Dev nD) (t : Fin cfg0.N) (r : Fin 512) (e : Fin 1024) :
    dxOf m c t (ix2 r e) = dx m c (row t r) e + normBwd w1024 (xm m c (row t r)) (dh m c (row t r)) (gn m c) e := by
  unfold dxOf
  pointwise [k0_pay6, k0_pay4]
  simp only [rms_at, dh_at, blk2, blk3, blk4]
  rfl

theorem dgOf_at (c : Dev nD) (t : Fin cfg0.N) (e : Fin 1024) :
    dgOf m c t (ix2 0 e) = ∑ r : Fin 512, dh m c (row t r) e * (xm m c (row t r) e * rms w1024 (xm m c (row t r))) := by
  unfold dgOf
  pointwise [k0_pay5, k0_pay4]
  simp only [rms_at, dh_at, blk2]

/-- Where an element of one point's block of result 5 lies in the whole array. -/
theorem emb5 (t : Fin cfg0.N) (r : Fin 512) (e : Fin 1024) :
    ((cfg0.win 5).blk t).view.emb (ix2 r e : S512x1024.Idx) = (ix2 (row t r) e : S8192x1024.Idx) := by
  unfold row
  blk_ext [index t]

/-- Every point leaves its own rows of result 5, and the whole array consists of them. -/
theorem rows5 (c : Dev nD) (t : Fin cfg0.N) : (outsAt0 m c t.val t.isLt).1 = dxOf m c t := by
  by_cases h0 : t.val % 16 = 0
  · exact (at_A m c t h0 (by have := t.isLt; have h : cfg0.N = 16 := N_0; omega)).1
  · exact (at_B m c t h0 (by omega)).1

theorem arr5_at (c : Dev nD) (r : Fin 8192) (e : Fin 1024) :
    ((dats m 0 c).arrAt 5 cfg0.N : S8192x1024.Idx → EReal) (ix2 r e) = dxOf m c (tile r) (ix2 (place r) e) := by
  have h := (dats m 0 c).arrAt_emb_eq_flushed 5 disjoint5 (tile r) (flush0_5 _) (ix2 (place r) e : S512x1024.Idx)
  rw [emb5, row_tile] at h
  refine h.trans ?_
  rw [← rows5 m c (tile r), flushed5]
  rfl

/-- The gain's sum starts at the first point, grows at every other, and runs over all rows after the last. -/
theorem first (c : Dev nD) (h : 0 < cfg0.N) : (outsAt0 m c 0 h).2 = dgOf m c ⟨0, h⟩ :=
  (at_A m c ⟨0, h⟩ (show (0 : ℕ) % 16 = 0 by decide) (show ¬1 ≤ 0 by decide)).2

theorem step (c : Dev nD) (n : ℕ) (h : n + 1 < cfg0.N) :
    (outsAt0 m c (n + 1) h).2 = addf (outsAt0 m c n (Nat.lt_of_succ_lt h)).2 (dgOf m c ⟨n + 1, h⟩) :=
  (at_B m c ⟨n + 1, h⟩ (by have hN : cfg0.N = 16 := N_0; dsimp only; omega) (by dsimp only; omega)).2

theorem total (c : Dev nD) (e : Fin 1024) :
    (outsAt0 m c 15 last_lt).2 (ix2 0 e) = ∑ r : Fin 8192, dh m c r e * (xm m c r e * rms w1024 (xm m c r)) := by
  have key := fold_univ cfg0.N (fun n h => ((outsAt0 m c n h).2 (ix2 0 e) : EReal)) (fun t => dgOf m c t (ix2 0 e))
    (fun h => congrFun (first m c h) _) (fun n h => (congrFun (step m c n h) _).trans (ValueIdx.addf_apply ..)) 15 last_lt N_0
  refine key.trans ?_
  simp only [dgOf_at]
  exact sum_tiles (n := cfg0.N) (b := 512) (by rw [show cfg0.N = 16 from N_0]) (fun r => dh m c r e * (xm m c r e * rms w1024 (xm m c r))) row_lt

/-- Only the last point writes the sum back, so nothing overwrites it. -/
theorem flush_last (t : Fin cfg0.N) (h : (cfg0.win 6).flush t = true) : t = ⟨15, last_lt⟩ :=
  Fin.ext (by have := (flush0_6 t).mp h; have := t.isLt; have hN : cfg0.N = 16 := N_0; dsimp only; omega)

theorem emb6 (t : Fin cfg0.N) (e : Fin 1024) :
    ((cfg0.win 6).blk t).view.emb (ix2 0 e : S1x1024.Idx) = (ix2 0 e : S1x1024.Idx) := by
  blk_ext [index t]

theorem arr6_at (c : Dev nD) (e : Fin 1024) :
    ((dats m 0 c).arrAt 6 cfg0.N : S1x1024.Idx → EReal) (ix2 0 e) = ∑ r : Fin 8192, dh m c r e * (xm m c r e * rms w1024 (xm m c r)) := by
  have h := (dats m 0 c).arrAt_emb_eq_flushed 6
    (fun t t' ht ht' hne => absurd ((flush_last t ht).trans (flush_last t' ht').symm) hne)
    ⟨15, last_lt⟩ ((flush0_6 _).mpr (by decide)) (ix2 0 e : S1x1024.Idx)
  rw [emb6] at h
  refine h.trans ?_
  rw [← total m c e, flushed6]
  rfl

end Cert.FfnXIdeal.Mine

end
-- ==== Proof.FfnXClaim.lean ====
/- The squared-ReLU layer's input: the three frames, and that the two results are those of the reference. -/
module

public import proofs.«01_k».proof.Defs
public import proofs.«01_k».proof.Proof.FfnXValue
public import proofs.«01_k».proof.Proof.Gen.FfnX.Frame
public import proofs.«01_k».proof.Proof.Gen.FfnXRefIdeal.Run
public import Idealize.ShloMosaic.Lib.Claim

@[expose] public section

set_option maxRecDepth 16384

noncomputable section

open Idealize.ShloMosaic Idealize.ShloMosaic.TcCoe Idealize.SL.Sem

namespace Cert.FfnXIdeal.Mine

open Cert.Tools Cert.FfnXIdeal Cert.FfnXIdeal.Gen Cert.FfnXIdeal.Value

/-- The call runs and leaves its arguments as they were. -/
theorem frame_kernel : Cert.quiescent_FfnX := fun m ρ _ => Cert.FfnX.Gen.frame m ρ
theorem frame_ideal : Cert.quiescent_FfnXIdeal := fun m ρ _ => Cert.FfnXIdeal.Gen.frame m ρ

/-- The reference runs and leaves its arguments as they were. -/
theorem frame_reference : Cert.quiescent_FfnXRefIdeal := fun m ρ _ =>
  (θ_run Cert.FfnXRefIdeal.defs _ _).mono
    (fun r h => ⟨fun c => (h c).2.2, Idealize.ShloMosaic.sem_eq_zero_of_no_sems (by decide) r.2⟩)
    (Cert.FfnXRefIdeal.Value.run (F := Ideal) m ρ)

/-- Over the reals the call computes the reference's two gradients. -/
theorem value : Cert.algebraic_FfnXIdeal_FfnXRefIdeal := by
  pair_intro
  · run_from Cert.FfnXIdeal.Value.run_blocks (F := Ideal) m g
  · run_from Cert.FfnXRefIdeal.Value.run (F := Ideal) m' g'
    · funext j
      idx_vars j
      obtain ⟨h0, h1, h2, h3, h4⟩ := hagree c
      rw [arr5_at, dxOf_at, row_tile]
      unfold Cert.FfnXRefIdeal.Value.res_main_v38
      rw [h0, h1, h2, h3, h4]
      pointwise []
      simp only [Fin.sum_univ_one]
      refine (add_assoc (G := EReal) _ _ _).trans ((add_assoc (G := EReal) _ _ _).trans ?_)
      refine congrArg (dx m c j0 j1 + ·) ((add_assoc (G := EReal) _ _ _).symm.trans ?_)
      exact norm_vjp_1024 (xm m c j0) (dh m c j0) (gn m c) j1
    · funext j
      idx_vars j
      obtain rfl : j0 = 0 := Subsingleton.elim _ _
      rw [arr6_at]
      pointwise []
      simp only [Fin.sum_univ_one]
      exact Finset.sum_congr rfl fun r _ => mul_comm _ _

end Cert.FfnXIdeal.Mine

end
-- ==== Proof.FlashLaunch.lean ====
module

public import proofs.«01_k».proof.Proof.Gen.FlashIdeal.Launch
public import Idealize.ShloMosaic.Lib.Pipeline.FrameSuffix
public import Idealize.ShloMosaic.Lib.Pipeline.TableIdle
public import Idealize.ShloMosaic.Lib.StableHlo.RunRead
public import Idealize.ShloMosaic.PureOps.Ideal

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

/-! # The launch: host lines, the two prefetched tables, the order of the blocks -/

variable (m : (ℓ : Loc nD τ sig) → Buf (Elt F) ℓ) (ρ : Dev nD → PrngReg)

/-- The host operations before the call, list by list. -/
abbrev before : List (List (HloOp τ sig (Elt F))) :=
  [hostOps0, hostOps0_1, hostOps0_2, hostOps0_3, hostOps0_4, hostOps0_5, hostOps0_6]

/-- Every buffer's contents when the call is entered: the launch contents after the host operations before it. -/
abbrev V0 (c : Dev nD) : Valuation τ sig (Elt F) := StableHlo.after (before (F := F)).flatten (fun b => m (c, b))

/-- The same, at the TensorCore's references. -/
abbrev V (c : Dev nD) (b : Ref sig .tc) : Buf (Elt F) ((c : Thread nD τ).loc b) := V0 m c (Proc.devRef .tc b)

/-- Each host operation before the call touches TensorCore references only. -/
theorem before_sub : (before (F := F)).Forall fun ops => ops.Forall fun op => op.bufs ⊆ StableHlo.tcRefs τ sig := by
  simp only [before, List.Forall]
  exact ⟨hostOps0_sub, hostOps0_1_sub, hostOps0_2_sub, hostOps0_3_sub, hostOps0_4_sub, hostOps0_5_sub, hostOps0_6_sub⟩

/-- None of them allocates. -/
theorem before_fresh : (before (F := F)).Forall fun ops => ops.Forall fun op => op.fresh = ∅ := by
  simp only [before, List.Forall]; repeat' constructor

set_option maxHeartbeats 800000 in
/-- The program is those host operations, the call, and the seven host operations after it. -/
theorem hmain : Pipeline.HMainPK (Ix := Unit) (Name := ℕ) (U := UR sig nD τ) (Lvl := ℕ) pcfgs 0 defs₀ Variants.none m (main (F := F))
    (V m) (fun _ => Pipeline.chain (([hostOps1] : List (List (HloOp τ sig (Elt F)))).map StableHlo.seq)) :=
  Pipeline.hmainP_around pcfgs 0 defs₀ Variants.none m main before [hostOps1] before_sub before_fresh main_chain

/-- The host operations after the call touch the call's arrays and the buffers it leaves alone, and no table. -/
theorem after_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl
  all_goals intro k; fin_cases k <;> simp only [StableHlo.nullary_bufs, StableHlo.unary_bufs, StableHlo.binary_bufs, Finset.mem_singleton, Finset.mem_insert, not_or] <;> (repeat' apply And.intro) <;> exact StableHlo.devRef_ne_of_ne (by decide)

/-- They allocate nothing. -/
theorem after_fresh : ∀ ops ∈ ([hostOps1] : List (List (HloOp τ sig (Elt F)))), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl <;> rfl

set_option maxHeartbeats 800000 in
/-- And they write none of the call's arrays. -/
theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, Finset.mem_singleton] <;> exact StableHlo.devRef_ne_of_ne (by decide)

/-- The two tables: point by point the row block and the column block it works on. -/
def tables : pre0.Contents (Elt F) := fun
  | ⟨0, _⟩ => fun i => lit0 (S36.rowMajor i)
  | ⟨1, _⟩ => fun i => lit1 (S36.rowMajor i)
  | ⟨_ + 2, h⟩ => absurd h (Nat.not_lt.2 (Nat.le_add_left _ _))

/-- At one float interpretation every block they place lies inside its array, by computation; -/
theorem tables_ok_ideal : ok0 (F := Ideal) tables := by decide +kernel

/-- and the words do not depend on the interpretation. -/
theorem tables_ok : ok0 (F := F) tables := by
  have h := tables_ok_ideal
  unfold ok0 at h ⊢
  exact h

/-- The buffers the host operations before the call write after the two tables, in order. -/
abbrev written : List (Ref sig .tc) :=
  [main_v0, main_cst, main_v1, main_v2, main_v3, main_v4, main_v5, main_v6, main_v7, main_v8, main_cst_1, main_call0_v0, main_call0_v1, main_call0_v2, main_v9, main_cst_2, main_v10, main_v11, main_v12, main_v13, main_v14, main_cst_3, main_v15, main_v16, main_v17, main_v18, main_v19, main_cst_4, main_v20, main_cst_5, main_v21, main_v22, main_v23, main_v24, main_v25, main_v26, main_cst_6, main_v27, main_v28, main_v29, main_v30, main_v31, main_v32, main_v33, main_v34, main_v35, main_cst_7, main_v36, main_v37, main_v38, main_c_8, main_call1_v0, main_v39, main_v40, main_v41, main_c_9, main_call2_v0, main_v42, main_v43, main_v44]

set_option maxHeartbeats 1000000 in
/-- They leave the first table at its words, -/
theorem V_table0 (c : Dev nD) : V m c main_c = (fun i => lit0 (S36.rowMajor i)) := by
  refine (StableHlo.after_last_write (i := 0) (main_c_0 :: written) rfl rfl (by decide) _).trans ?_
  exact StableHlo.nullary_result' ..

set_option maxHeartbeats 1000000 in
/-- and the second. -/
theorem V_table1 (c : Dev nD) : V m c main_c_0 = (fun i => lit1 (S36.rowMajor i)) := by
  refine (StableHlo.after_last_write (i := 1) written rfl rfl (by decide) _).trans ?_
  exact StableHlo.nullary_result' ..

set_option maxHeartbeats 1000000 in
/-- They leave the first table at its words, -/
theorem V_pre (c : Dev nD) (k : Fin 2) : V m c (pre0.ref k) = (tables (F := F)) k := by
  match k with
  | ⟨0, _⟩ => exact V_table0 m c
  | ⟨1, _⟩ => exact V_table1 m c

set_option maxHeartbeats 1000000 in
/-- An argument is as launched when the call is entered. -/
theorem V_kept {b : Ref sig .tc} (hb : b ∉ main_c :: main_c_0 :: written) (c : Dev nD) : V m c b = m (c, Proc.devRef .tc b) :=
  StableHlo.after_unwritten (main_c :: main_c_0 :: written) rfl hb _

end Cert.FlashIdeal.Mine
-- ==== Proof.FlashPoints.lean ====
module

public import proofs.«01_k».proof.Proof.FlashLaunch

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

/-! # The points of the grid: which block each works on, and which branches its body takes -/

/-- The tables as an admissible choice. -/
def admissible : (pcfg0 (F := F)).Adm := ⟨tables, tables_ok⟩

/-- A point lies on the diagonal: its row block is its column block. -/
def diagonal (n : ℕ) : Bool := n == 0 || n == 8 || n == 15 || n == 21 || n == 26 || n == 30 || n == 33 || n == 35
/-- A point is its column block's last: its row block is the last one. -/
def closing (n : ℕ) : Bool := n == 7 || n == 14 || n == 20 || n == 25 || n == 29 || n == 32 || n == 34 || n == 35

/-- What the body reads of the first table at a point. -/
abbrev read0 (i : grid0.Coords) : BitVec 32 :=
  View.readAt (Elt F) (Memref.whole (sig := sig) main_c).view (Rect.unit (s := S36) (k0_off1 i) S1.size (k0_off1_inb i)).toLoadRect (tables (F := F) 0) (Shape.Idx.first (numel1_S1.symm ▸ Nat.one_pos))
/-- And of the second. -/
abbrev read1 (i : grid0.Coords) : BitVec 32 :=
  View.readAt (Elt F) (Memref.whole (sig := sig) main_c_0).view (Rect.unit (s := S36) (k0_off1 i) S1.size (k0_off1_inb i)).toLoadRect (tables (F := F) 1) (Shape.Idx.first (numel1_S1.symm ▸ Nat.one_pos))

set_option maxHeartbeats 1000000 in
theorem read0_eq (t : Fin grid0.N) : read0 (F := F) (grid0.coords t) = lit0 (t.cast N_0) := by
  change Fin 36 at t
  fin_cases t <;> rfl
set_option maxHeartbeats 1000000 in
theorem read1_eq (t : Fin grid0.N) : read1 (F := F) (grid0.coords t) = lit1 (t.cast N_0) := by
  change Fin 36 at t
  fin_cases t <;> rfl

/-- The first branch is taken at the first point. -/
theorem cond1_iff : ∀ t : Fin grid0.N, k0_cond1 (grid0.coords t) = 1#1 ↔ t.val = 0 := by decide +kernel
theorem cond2_iff : ∀ t : Fin grid0.N, k0_cond2 (lit0 (t.cast N_0)) (lit1 (t.cast N_0)) = 1#1 ↔ diagonal t.val = true := by decide +kernel
theorem cond3_iff : ∀ t : Fin grid0.N, k0_cond3 (lit0 (t.cast N_0)) (lit1 (t.cast N_0)) = 1#1 ↔ diagonal t.val = false := by decide +kernel
theorem cond4_iff : ∀ t : Fin grid0.N, k0_cond4 (lit0 (t.cast N_0)) (lit1 (t.cast N_0)) = 1#1 ↔ diagonal t.val = true := by decide +kernel
theorem cond5_iff : ∀ t : Fin grid0.N, k0_cond5 (lit0 (t.cast N_0)) = 1#1 ↔ closing t.val = true := by decide +kernel
theorem check : ∀ t : Fin grid0.N, k0_chk1 (lit0 (t.cast N_0)) (lit1 (t.cast N_0)) := by decide +kernel

theorem idle_ideal : ∀ t : Fin grid0.N, ∀ w : Fin 9, idle0 (F := Ideal) tables w (grid0.coords t) = (w == 8 && !closing t.val) := by
  decide +kernel
theorem idle_eq (t : Fin grid0.N) (w : Fin 9) : (cfg0 (F := F) admissible).idle w (grid0.coords t) = (w == 8 && !closing t.val) :=
  idle_ideal t w

theorem flush_ideal : ∀ t : Fin grid0.N, ((win0 (F := Ideal) admissible) 6).flushF t = (t.val == 35) ∧ ((win0 (F := Ideal) admissible) 7).flushF t = closing t.val
   ∧ ((win0 (F := Ideal) admissible) 8).flushF t = closing t.val := by
  decide +kernel
theorem flush6 (t : Fin grid0.N) : ((win0 (F := F) admissible) 6).flush t = (t.val == 35) :=
  (Pipeline.Window.flush_eq_flushF _ t).trans (flush_ideal t).1
theorem flush7 (t : Fin grid0.N) : ((win0 (F := F) admissible) 7).flush t = closing t.val :=
  (Pipeline.Window.flush_eq_flushF _ t).trans (flush_ideal t).2.1
theorem flush8 (t : Fin grid0.N) : ((win0 (F := F) admissible) 8).flush t = closing t.val :=
  (Pipeline.Window.flush_eq_flushF _ t).trans (flush_ideal t).2.2

end Cert.FlashIdeal.Mine
-- ==== Proof.RunCommon.lean ====
module

public import proofs.«01_k».proof.Proof.Gen.FlashIdeal.Skeleton
public import proofs.«01_k».proof.Proof.Gen.FlashIdeal.Launch
public import Idealize.ShloMosaic.Lib.Tactic
public import Idealize.ShloMosaic.Lib.Pipeline.FrameSuffix
public import Idealize.ShloMosaic.Lib.Pipeline.TableIdle

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

/-- The word the body reads of a prefetched table at a grid point. -/
abbrev word (arg : Memref sig .tc .smem S36 .i32) (T : arg.view.ty.Contents (Elt F)) (i : grid0.Coords) : BitVec 32 :=
  View.readAt (Elt F) arg.view (Rect.unit (s := S36) (k0_off1 i) S1.size (k0_off1_inb i)).toLoadRect T (Shape.Idx.first (numel1_S1.symm ▸ Nat.one_pos))

/-- The stores a body makes into one buffer, the last first. -/
abbrev Stores (F : FTy → Type) (s : Shape) (e : EltTy) := List (View.Piece (Elt F) s e)

end Cert.FlashIdeal.Mine
-- ==== Proof.RunA.lean ====
module

public import proofs.«01_k».proof.Proof.RunCommon
public import Idealize.ShloMosaic.Lib.Tactic
public import Idealize.ShloMosaic.Lib.Pipeline.FrameSuffix
public import Idealize.ShloMosaic.Lib.Pipeline.TableIdle

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

variable (c : Dev nD) (i : grid0.Coords)
  (arg1 : Memref sig .tc .smem S36 .i32) (harg1 : arg1.IsWhole)
  (arg2 : Memref sig .tc .smem S36 .i32) (harg2 : arg2.IsWhole)
  (arg3 : Memref sig .tc .vmem S4x1024x128 .bf16) (harg3 : arg3.IsWhole)
  (arg4 : Memref sig .tc .vmem S4x1024x128 .bf16) (harg4 : arg4.IsWhole)
  (arg5 : Memref sig .tc .vmem S1024x256 .bf16) (harg5 : arg5.IsWhole)
  (arg6 : Memref sig .tc .vmem S1024x256 .bf16) (harg6 : arg6.IsWhole)
  (arg7 : Memref sig .tc .vmem S1024x256 .f32) (harg7 : arg7.IsWhole)
  (arg8 : Memref sig .tc .vmem S4x1024x128 .f32) (harg8 : arg8.IsWhole)
  (arg9 : Memref sig .tc .vmem S4x8192x128 .f32) (harg9 : arg9.IsWhole)
  (arg10 : Memref sig .tc .vmem S4x1024x128 .f32) (harg10 : arg10.IsWhole)
  (arg11 : Memref sig .tc .vmem S1024x256 .bf16) (harg11 : arg11.IsWhole)
  (arg12 : Memref sig .tc .vmem S4x1024x128 .f32) (harg12 : arg12.IsWhole)
  (T1 : arg1.view.ty.Contents (Elt F)) (T2 : arg2.view.ty.Contents (Elt F))
  (x0 : Vec F S4x1024x128 .bf16) (x1 : Vec F S4x1024x128 .bf16) (x2 : Vec F S1024x256 .bf16) (x3 : Vec F S1024x256 .bf16) (x4 : Vec F S1024x256 .f32) (x5 : Vec F S4x1024x128 .f32)

set_option maxHeartbeats 16000000 in
/-- The first point: the body clears the three accumulators, then adds a diagonal block. -/
noncomputable def run_A
    (h1 : k0_cond1 i = 1#1) (h2 : k0_cond2 (word arg1 T1 i) (word arg2 T2 i) = 1#1) (h3 : k0_cond3 (word arg1 T1 i) (word arg2 T2 i) ≠ 1#1) (h4 : k0_cond4 (word arg1 T1 i) (word arg2 T2 i) = 1#1)
    (h5 : k0_cond5 (word arg1 T1 i) ≠ 1#1) (hck : k0_chk1 (word arg1 T1 i) (word arg2 T2 i)) :
    Σ' (a' : arg9.view.ty.Contents (Elt F)) (L10 : Stores F S4x1024x128 .f32), { L12 : Stores F S4x1024x128 .f32 //
    ∀ (a : Vec F S4x8192x128 .f32) (b : Vec F S4x1024x128 .f32) (y : Vec F S1024x256 .bf16) (s : Vec F S4x1024x128 .f32) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ owns (c : Thread nD τ) arg9 fullShare a ∗ owns (c : Thread nD τ) arg10 fullShare b ∗ owns (c : Thread nD τ) arg11 fullShare y ∗ owns (c : Thread nD τ) arg12 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ (arg9.view.loc (c : Thread nD τ) ↦[arg9.view.set]{fullShare} a' : sProp 𝕄) ∗ (arg10.view.loc (c : Thread nD τ) ↦[arg10.view.set]{fullShare} arg10.view.writes (Elt F) (harg10.unread b) L10 : sProp 𝕄) ∗ owns (c : Thread nD τ) arg11 fullShare y ∗ (arg12.view.loc (c : Thread nD τ) ↦[arg12.view.set]{fullShare} arg12.view.writes (Elt F) (harg12.unread s) L12 : sProp 𝕄)) -∗ K ⟨⟩))
      ⊢ wp frame (wpE (defs₀ (F := F)) Variants.none c none) Set.univ (cc0_flash_bwd i arg1 harg1 arg2 harg2 arg3 harg3 arg4 harg4 arg5 harg5 arg6 harg6 arg7 harg7 arg8 harg8 arg9 harg9 arg10 harg10 arg11 harg11 arg12 harg12) K } := by
  refine ⟨?_, ?_, ?_, fun a b y s K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, HT1, HT2, ⟨%f9, %hf9, H9⟩, ⟨%f10, %hf10, H10⟩, ⟨%f11, %hf11, H11⟩, ⟨%f12, %hf12, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact h1 | exact hck | exact h2 | exact h3 | exact h4 | exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HT1]; · iexact HT1
    isplitl [HT2]; · iexact HT2
    isplitl [H9]; · iexact H9
    isplitl [H10]; · iexact H10
    isplitl [H11]
    · iexists _; isplitr; · ipureintro; exact harg11.read_unread _
      iexact H11
    iexact H12

end Cert.FlashIdeal.Mine
-- ==== Proof.RunB.lean ====
module

public import proofs.«01_k».proof.Proof.RunCommon
public import Idealize.ShloMosaic.Lib.Tactic
public import Idealize.ShloMosaic.Lib.Pipeline.FrameSuffix
public import Idealize.ShloMosaic.Lib.Pipeline.TableIdle

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

variable (c : Dev nD) (i : grid0.Coords)
  (arg1 : Memref sig .tc .smem S36 .i32) (harg1 : arg1.IsWhole)
  (arg2 : Memref sig .tc .smem S36 .i32) (harg2 : arg2.IsWhole)
  (arg3 : Memref sig .tc .vmem S4x1024x128 .bf16) (harg3 : arg3.IsWhole)
  (arg4 : Memref sig .tc .vmem S4x1024x128 .bf16) (harg4 : arg4.IsWhole)
  (arg5 : Memref sig .tc .vmem S1024x256 .bf16) (harg5 : arg5.IsWhole)
  (arg6 : Memref sig .tc .vmem S1024x256 .bf16) (harg6 : arg6.IsWhole)
  (arg7 : Memref sig .tc .vmem S1024x256 .f32) (harg7 : arg7.IsWhole)
  (arg8 : Memref sig .tc .vmem S4x1024x128 .f32) (harg8 : arg8.IsWhole)
  (arg9 : Memref sig .tc .vmem S4x8192x128 .f32) (harg9 : arg9.IsWhole)
  (arg10 : Memref sig .tc .vmem S4x1024x128 .f32) (harg10 : arg10.IsWhole)
  (arg11 : Memref sig .tc .vmem S1024x256 .bf16) (harg11 : arg11.IsWhole)
  (arg12 : Memref sig .tc .vmem S4x1024x128 .f32) (harg12 : arg12.IsWhole)
  (T1 : arg1.view.ty.Contents (Elt F)) (T2 : arg2.view.ty.Contents (Elt F))
  (x0 : Vec F S4x1024x128 .bf16) (x1 : Vec F S4x1024x128 .bf16) (x2 : Vec F S1024x256 .bf16) (x3 : Vec F S1024x256 .bf16) (x4 : Vec F S1024x256 .f32) (x5 : Vec F S4x1024x128 .f32)

set_option maxHeartbeats 16000000 in
/-- A block below the diagonal, not the last of its column. -/
noncomputable def run_B (a : Vec F S4x8192x128 .f32) (b : Vec F S4x1024x128 .f32) (s : Vec F S4x1024x128 .f32)
    (h1 : k0_cond1 i ≠ 1#1) (h2 : k0_cond2 (word arg1 T1 i) (word arg2 T2 i) ≠ 1#1) (h3 : k0_cond3 (word arg1 T1 i) (word arg2 T2 i) = 1#1) (h4 : k0_cond4 (word arg1 T1 i) (word arg2 T2 i) ≠ 1#1)
    (h5 : k0_cond5 (word arg1 T1 i) ≠ 1#1) (hck : k0_chk1 (word arg1 T1 i) (word arg2 T2 i)) :
    Σ' (a' : arg9.view.ty.Contents (Elt F)) (b' : arg10.view.ty.Contents (Elt F)), { s' : arg12.view.ty.Contents (Elt F) //
    ∀ (y : Vec F S1024x256 .bf16) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ owns (c : Thread nD τ) arg9 fullShare a ∗ owns (c : Thread nD τ) arg10 fullShare b ∗ owns (c : Thread nD τ) arg11 fullShare y ∗ owns (c : Thread nD τ) arg12 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ (arg9.view.loc (c : Thread nD τ) ↦[arg9.view.set]{fullShare} a' : sProp 𝕄) ∗ (arg10.view.loc (c : Thread nD τ) ↦[arg10.view.set]{fullShare} b' : sProp 𝕄) ∗ owns (c : Thread nD τ) arg11 fullShare y ∗ (arg12.view.loc (c : Thread nD τ) ↦[arg12.view.set]{fullShare} s' : sProp 𝕄)) -∗ K ⟨⟩))
      ⊢ wp frame (wpE (defs₀ (F := F)) Variants.none c none) Set.univ (cc0_flash_bwd i arg1 harg1 arg2 harg2 arg3 harg3 arg4 harg4 arg5 harg5 arg6 harg6 arg7 harg7 arg8 harg8 arg9 harg9 arg10 harg10 arg11 harg11 arg12 harg12) K } := by
  refine ⟨?_, ?_, ?_, fun y K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, HT1, HT2, ⟨%f9, %hf9, H9⟩, ⟨%f10, %hf10, H10⟩, ⟨%f11, %hf11, H11⟩, ⟨%f12, %hf12, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact h1 | exact hck | exact h2 | exact h3 | exact h4 | exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HT1]; · iexact HT1
    isplitl [HT2]; · iexact HT2
    isplitl [H9]; · iexact H9
    isplitl [H10]; · iexact H10
    isplitl [H11]
    · iexists _; isplitr; · ipureintro; exact harg11.read_unread _
      iexact H11
    iexact H12

end Cert.FlashIdeal.Mine
-- ==== Proof.RunC.lean ====
module

public import proofs.«01_k».proof.Proof.RunCommon
public import Idealize.ShloMosaic.Lib.Tactic
public import Idealize.ShloMosaic.Lib.Pipeline.FrameSuffix
public import Idealize.ShloMosaic.Lib.Pipeline.TableIdle

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

variable (c : Dev nD) (i : grid0.Coords)
  (arg1 : Memref sig .tc .smem S36 .i32) (harg1 : arg1.IsWhole)
  (arg2 : Memref sig .tc .smem S36 .i32) (harg2 : arg2.IsWhole)
  (arg3 : Memref sig .tc .vmem S4x1024x128 .bf16) (harg3 : arg3.IsWhole)
  (arg4 : Memref sig .tc .vmem S4x1024x128 .bf16) (harg4 : arg4.IsWhole)
  (arg5 : Memref sig .tc .vmem S1024x256 .bf16) (harg5 : arg5.IsWhole)
  (arg6 : Memref sig .tc .vmem S1024x256 .bf16) (harg6 : arg6.IsWhole)
  (arg7 : Memref sig .tc .vmem S1024x256 .f32) (harg7 : arg7.IsWhole)
  (arg8 : Memref sig .tc .vmem S4x1024x128 .f32) (harg8 : arg8.IsWhole)
  (arg9 : Memref sig .tc .vmem S4x8192x128 .f32) (harg9 : arg9.IsWhole)
  (arg10 : Memref sig .tc .vmem S4x1024x128 .f32) (harg10 : arg10.IsWhole)
  (arg11 : Memref sig .tc .vmem S1024x256 .bf16) (harg11 : arg11.IsWhole)
  (arg12 : Memref sig .tc .vmem S4x1024x128 .f32) (harg12 : arg12.IsWhole)
  (T1 : arg1.view.ty.Contents (Elt F)) (T2 : arg2.view.ty.Contents (Elt F))
  (x0 : Vec F S4x1024x128 .bf16) (x1 : Vec F S4x1024x128 .bf16) (x2 : Vec F S1024x256 .bf16) (x3 : Vec F S1024x256 .bf16) (x4 : Vec F S1024x256 .f32) (x5 : Vec F S4x1024x128 .f32)

set_option maxHeartbeats 16000000 in
/-- A block below the diagonal, the last of its column: the value gradient is written out. -/
noncomputable def run_C (a : Vec F S4x8192x128 .f32) (b : Vec F S4x1024x128 .f32) (s : Vec F S4x1024x128 .f32)
    (h1 : k0_cond1 i ≠ 1#1) (h2 : k0_cond2 (word arg1 T1 i) (word arg2 T2 i) ≠ 1#1) (h3 : k0_cond3 (word arg1 T1 i) (word arg2 T2 i) = 1#1) (h4 : k0_cond4 (word arg1 T1 i) (word arg2 T2 i) ≠ 1#1)
    (h5 : k0_cond5 (word arg1 T1 i) = 1#1) (hck : k0_chk1 (word arg1 T1 i) (word arg2 T2 i)) :
    Σ' (a' : arg9.view.ty.Contents (Elt F)) (b' : arg10.view.ty.Contents (Elt F)) (L11 : Stores F S1024x256 .bf16), { s' : arg12.view.ty.Contents (Elt F) //
    ∀ (y : Vec F S1024x256 .bf16) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ owns (c : Thread nD τ) arg9 fullShare a ∗ owns (c : Thread nD τ) arg10 fullShare b ∗ owns (c : Thread nD τ) arg11 fullShare y ∗ owns (c : Thread nD τ) arg12 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ (arg9.view.loc (c : Thread nD τ) ↦[arg9.view.set]{fullShare} a' : sProp 𝕄) ∗ (arg10.view.loc (c : Thread nD τ) ↦[arg10.view.set]{fullShare} b' : sProp 𝕄) ∗ (arg11.view.loc (c : Thread nD τ) ↦[arg11.view.set]{fullShare} arg11.view.writes (Elt F) (harg11.unread y) L11 : sProp 𝕄) ∗ (arg12.view.loc (c : Thread nD τ) ↦[arg12.view.set]{fullShare} s' : sProp 𝕄)) -∗ K ⟨⟩))
      ⊢ wp frame (wpE (defs₀ (F := F)) Variants.none c none) Set.univ (cc0_flash_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun y K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, HT1, HT2, ⟨%f9, %hf9, H9⟩, ⟨%f10, %hf10, H10⟩, ⟨%f11, %hf11, H11⟩, ⟨%f12, %hf12, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact h1 | exact hck | exact h2 | exact h3 | exact h4 | exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HT1]; · iexact HT1
    isplitl [HT2]; · iexact HT2
    isplitl [H9]; · iexact H9
    isplitl [H10]; · iexact H10
    isplitl [H11]; · iexact H11
    iexact H12

end Cert.FlashIdeal.Mine
-- ==== Proof.RunD.lean ====
module

public import proofs.«01_k».proof.Proof.RunCommon
public import Idealize.ShloMosaic.Lib.Tactic
public import Idealize.ShloMosaic.Lib.Pipeline.FrameSuffix
public import Idealize.ShloMosaic.Lib.Pipeline.TableIdle

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

variable (c : Dev nD) (i : grid0.Coords)
  (arg1 : Memref sig .tc .smem S36 .i32) (harg1 : arg1.IsWhole)
  (arg2 : Memref sig .tc .smem S36 .i32) (harg2 : arg2.IsWhole)
  (arg3 : Memref sig .tc .vmem S4x1024x128 .bf16) (harg3 : arg3.IsWhole)
  (arg4 : Memref sig .tc .vmem S4x1024x128 .bf16) (harg4 : arg4.IsWhole)
  (arg5 : Memref sig .tc .vmem S1024x256 .bf16) (harg5 : arg5.IsWhole)
  (arg6 : Memref sig .tc .vmem S1024x256 .bf16) (harg6 : arg6.IsWhole)
  (arg7 : Memref sig .tc .vmem S1024x256 .f32) (harg7 : arg7.IsWhole)
  (arg8 : Memref sig .tc .vmem S4x1024x128 .f32) (harg8 : arg8.IsWhole)
  (arg9 : Memref sig .tc .vmem S4x8192x128 .f32) (harg9 : arg9.IsWhole)
  (arg10 : Memref sig .tc .vmem S4x1024x128 .f32) (harg10 : arg10.IsWhole)
  (arg11 : Memref sig .tc .vmem S1024x256 .bf16) (harg11 : arg11.IsWhole)
  (arg12 : Memref sig .tc .vmem S4x1024x128 .f32) (harg12 : arg12.IsWhole)
  (T1 : arg1.view.ty.Contents (Elt F)) (T2 : arg2.view.ty.Contents (Elt F))
  (x0 : Vec F S4x1024x128 .bf16) (x1 : Vec F S4x1024x128 .bf16) (x2 : Vec F S1024x256 .bf16) (x3 : Vec F S1024x256 .bf16) (x4 : Vec F S1024x256 .f32) (x5 : Vec F S4x1024x128 .f32)

set_option maxHeartbeats 16000000 in
/-- A diagonal block, neither the first nor the last: the column's accumulators are cleared first. -/
noncomputable def run_D (a : Vec F S4x8192x128 .f32)
    (h1 : k0_cond1 i ≠ 1#1) (h2 : k0_cond2 (word arg1 T1 i) (word arg2 T2 i) = 1#1) (h3 : k0_cond3 (word arg1 T1 i) (word arg2 T2 i) ≠ 1#1) (h4 : k0_cond4 (word arg1 T1 i) (word arg2 T2 i) = 1#1)
    (h5 : k0_cond5 (word arg1 T1 i) ≠ 1#1) (hck : k0_chk1 (word arg1 T1 i) (word arg2 T2 i)) :
    Σ' (a' : arg9.view.ty.Contents (Elt F)) (L10 : Stores F S4x1024x128 .f32), { L12 : Stores F S4x1024x128 .f32 //
    ∀ (b : Vec F S4x1024x128 .f32) (y : Vec F S1024x256 .bf16) (s : Vec F S4x1024x128 .f32) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ owns (c : Thread nD τ) arg9 fullShare a ∗ owns (c : Thread nD τ) arg10 fullShare b ∗ owns (c : Thread nD τ) arg11 fullShare y ∗ owns (c : Thread nD τ) arg12 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ (arg9.view.loc (c : Thread nD τ) ↦[arg9.view.set]{fullShare} a' : sProp 𝕄) ∗ (arg10.view.loc (c : Thread nD τ) ↦[arg10.view.set]{fullShare} arg10.view.writes (Elt F) (harg10.unread b) L10 : sProp 𝕄) ∗ owns (c : Thread nD τ) arg11 fullShare y ∗ (arg12.view.loc (c : Thread nD τ) ↦[arg12.view.set]{fullShare} arg12.view.writes (Elt F) (harg12.unread s) L12 : sProp 𝕄)) -∗ K ⟨⟩))
      ⊢ wp frame (wpE (defs₀ (F := F)) Variants.none c none) Set.univ (cc0_flash_bwd i arg1 harg1 arg2 harg2 arg3 harg3 arg4 harg4 arg5 harg5 arg6 harg6 arg7 harg7 arg8 harg8 arg9 harg9 arg10 harg10 arg11 harg11 arg12 harg12) K } := by
  refine ⟨?_, ?_, ?_, fun b y s K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, HT1, HT2, ⟨%f9, %hf9, H9⟩, ⟨%f10, %hf10, H10⟩, ⟨%f11, %hf11, H11⟩, ⟨%f12, %hf12, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact h1 | exact hck | exact h2 | exact h3 | exact h4 | exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HT1]; · iexact HT1
    isplitl [HT2]; · iexact HT2
    isplitl [H9]; · iexact H9
    isplitl [H10]; · iexact H10
    isplitl [H11]
    · iexists _; isplitr; · ipureintro; exact harg11.read_unread _
      iexact H11
    iexact H12

end Cert.FlashIdeal.Mine
-- ==== Proof.RunE.lean ====
module

public import proofs.«01_k».proof.Proof.RunCommon
public import Idealize.ShloMosaic.Lib.Tactic
public import Idealize.ShloMosaic.Lib.Pipeline.FrameSuffix
public import Idealize.ShloMosaic.Lib.Pipeline.TableIdle

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

variable (c : Dev nD) (i : grid0.Coords)
  (arg1 : Memref sig .tc .smem S36 .i32) (harg1 : arg1.IsWhole)
  (arg2 : Memref sig .tc .smem S36 .i32) (harg2 : arg2.IsWhole)
  (arg3 : Memref sig .tc .vmem S4x1024x128 .bf16) (harg3 : arg3.IsWhole)
  (arg4 : Memref sig .tc .vmem S4x1024x128 .bf16) (harg4 : arg4.IsWhole)
  (arg5 : Memref sig .tc .vmem S1024x256 .bf16) (harg5 : arg5.IsWhole)
  (arg6 : Memref sig .tc .vmem S1024x256 .bf16) (harg6 : arg6.IsWhole)
  (arg7 : Memref sig .tc .vmem S1024x256 .f32) (harg7 : arg7.IsWhole)
  (arg8 : Memref sig .tc .vmem S4x1024x128 .f32) (harg8 : arg8.IsWhole)
  (arg9 : Memref sig .tc .vmem S4x8192x128 .f32) (harg9 : arg9.IsWhole)
  (arg10 : Memref sig .tc .vmem S4x1024x128 .f32) (harg10 : arg10.IsWhole)
  (arg11 : Memref sig .tc .vmem S1024x256 .bf16) (harg11 : arg11.IsWhole)
  (arg12 : Memref sig .tc .vmem S4x1024x128 .f32) (harg12 : arg12.IsWhole)
  (T1 : arg1.view.ty.Contents (Elt F)) (T2 : arg2.view.ty.Contents (Elt F))
  (x0 : Vec F S4x1024x128 .bf16) (x1 : Vec F S4x1024x128 .bf16) (x2 : Vec F S1024x256 .bf16) (x3 : Vec F S1024x256 .bf16) (x4 : Vec F S1024x256 .f32) (x5 : Vec F S4x1024x128 .f32)

set_option maxHeartbeats 16000000 in
/-- The last block, on the diagonal. -/
noncomputable def run_E (a : Vec F S4x8192x128 .f32)
    (h1 : k0_cond1 i ≠ 1#1) (h2 : k0_cond2 (word arg1 T1 i) (word arg2 T2 i) = 1#1) (h3 : k0_cond3 (word arg1 T1 i) (word arg2 T2 i) ≠ 1#1) (h4 : k0_cond4 (word arg1 T1 i) (word arg2 T2 i) = 1#1)
    (h5 : k0_cond5 (word arg1 T1 i) = 1#1) (hck : k0_chk1 (word arg1 T1 i) (word arg2 T2 i)) :
    Σ' (a' : arg9.view.ty.Contents (Elt F)) (L10 : Stores F S4x1024x128 .f32) (L11 : Stores F S1024x256 .bf16), { L12 : Stores F S4x1024x128 .f32 //
    ∀ (b : Vec F S4x1024x128 .f32) (y : Vec F S1024x256 .bf16) (s : Vec F S4x1024x128 .f32) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ owns (c : Thread nD τ) arg9 fullShare a ∗ owns (c : Thread nD τ) arg10 fullShare b ∗ owns (c : Thread nD τ) arg11 fullShare y ∗ owns (c : Thread nD τ) arg12 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg1.view.loc (c : Thread nD τ) ↦{fullShare.right} T1) ∗ (arg2.view.loc (c : Thread nD τ) ↦{fullShare.right} T2) ∗ (arg9.view.loc (c : Thread nD τ) ↦[arg9.view.set]{fullShare} a' : sProp 𝕄) ∗ (arg10.view.loc (c : Thread nD τ) ↦[arg10.view.set]{fullShare} arg10.view.writes (Elt F) (harg10.unread b) L10 : sProp 𝕄) ∗ (arg11.view.loc (c : Thread nD τ) ↦[arg11.view.set]{fullShare} arg11.view.writes (Elt F) (harg11.unread y) L11 : sProp 𝕄) ∗ (arg12.view.loc (c : Thread nD τ) ↦[arg12.view.set]{fullShare} arg12.view.writes (Elt F) (harg12.unread s) L12 : sProp 𝕄)) -∗ K ⟨⟩))
      ⊢ wp frame (wpE (defs₀ (F := F)) Variants.none c none) Set.univ (cc0_flash_bwd i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun b y s K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, HT1, HT2, ⟨%f9, %hf9, H9⟩, ⟨%f10, %hf10, H10⟩, ⟨%f11, %hf11, H11⟩, ⟨%f12, %hf12, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact h1 | exact hck | exact h2 | exact h3 | exact h4 | exact h5)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HT1]; · iexact HT1
    isplitl [HT2]; · iexact HT2
    isplitl [H9]; · iexact H9
    isplitl [H10]; · iexact H10
    isplitl [H11]; · iexact H11
    iexact H12

end Cert.FlashIdeal.Mine
-- ==== Proof.FlashStep.lean ====
module

public import proofs.«01_k».proof.Proof.FlashPoints
public import proofs.«01_k».proof.Proof.RunA
public import proofs.«01_k».proof.Proof.RunB
public import proofs.«01_k».proof.Proof.RunC
public import proofs.«01_k».proof.Proof.RunD
public import proofs.«01_k».proof.Proof.RunE
public import Idealize.ShloMosaic.Lib.Ring

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

/-! # What the buffers hold from point to point -/

variable (m : (ℓ : Loc nD τ sig) → Buf (Elt F) ℓ) (c : Dev nD)

/-- Window 0's staging buffer at a point, -/
abbrev ms0 (t : Fin grid0.N) : Memref sig .tc .vmem S4x1024x128 .bf16 := spec0_0.stage ((cfg0 (F := F) admissible).slots t 0)
/-- a whole buffer. -/
abbrev hs0 (t : Fin grid0.N) : (ms0 (F := F) t).IsWhole := hstage0_0 (((cfg0 (F := F) admissible).slots t 0).cast nbuf0_0)
/-- Window 1's staging buffer at a point, -/
abbrev ms1 (t : Fin grid0.N) : Memref sig .tc .vmem S4x1024x128 .bf16 := spec0_1.stage ((cfg0 (F := F) admissible).slots t 1)
/-- a whole buffer. -/
abbrev hs1 (t : Fin grid0.N) : (ms1 (F := F) t).IsWhole := hstage0_1 (((cfg0 (F := F) admissible).slots t 1).cast nbuf0_1)
/-- Window 2's staging buffer at a point, -/
abbrev ms2 (t : Fin grid0.N) : Memref sig .tc .vmem S1024x256 .bf16 := spec0_2.stage ((cfg0 (F := F) admissible).slots t 2)
/-- a whole buffer. -/
abbrev hs2 (t : Fin grid0.N) : (ms2 (F := F) t).IsWhole := hstage0_2 (((cfg0 (F := F) admissible).slots t 2).cast nbuf0_2)
/-- Window 3's staging buffer at a point, -/
abbrev ms3 (t : Fin grid0.N) : Memref sig .tc .vmem S1024x256 .bf16 := spec0_3.stage ((cfg0 (F := F) admissible).slots t 3)
/-- a whole buffer. -/
abbrev hs3 (t : Fin grid0.N) : (ms3 (F := F) t).IsWhole := hstage0_3 (((cfg0 (F := F) admissible).slots t 3).cast nbuf0_3)
/-- Window 4's staging buffer at a point, -/
abbrev ms4 (t : Fin grid0.N) : Memref sig .tc .vmem S1024x256 .f32 := spec0_4.stage ((cfg0 (F := F) admissible).slots t 4)
/-- a whole buffer. -/
abbrev hs4 (t : Fin grid0.N) : (ms4 (F := F) t).IsWhole := hstage0_4 (((cfg0 (F := F) admissible).slots t 4).cast nbuf0_4)
/-- Window 5's staging buffer at a point, -/
abbrev ms5 (t : Fin grid0.N) : Memref sig .tc .vmem S4x1024x128 .f32 := spec0_5.stage ((cfg0 (F := F) admissible).slots t 5)
/-- a whole buffer. -/
abbrev hs5 (t : Fin grid0.N) : (ms5 (F := F) t).IsWhole := hstage0_5 (((cfg0 (F := F) admissible).slots t 5).cast nbuf0_5)
/-- Window 6's staging buffer at a point, -/
abbrev ms6 (t : Fin grid0.N) : Memref sig .tc .vmem S4x8192x128 .f32 := spec0_6.stage ((cfg0 (F := F) admissible).slots t 6)
/-- a whole buffer. -/
abbrev hs6 (t : Fin grid0.N) : (ms6 (F := F) t).IsWhole := hstage0_6 (((cfg0 (F := F) admissible).slots t 6).cast nbuf0_6)
/-- Window 7's staging buffer at a point, -/
abbrev ms7 (t : Fin grid0.N) : Memref sig .tc .vmem S4x1024x128 .f32 := spec0_7.stage ((cfg0 (F := F) admissible).slots t 7)
/-- a whole buffer. -/
abbrev hs7 (t : Fin grid0.N) : (ms7 (F := F) t).IsWhole := hstage0_7 (((cfg0 (F := F) admissible).slots t 7).cast nbuf0_7)
/-- Window 8's staging buffer at a point, -/
abbrev ms8 (t : Fin grid0.N) : Memref sig .tc .vmem S1024x256 .bf16 := spec0_8.stage ((cfg0 (F := F) admissible).slots t 8)
/-- a whole buffer. -/
abbrev hs8 (t : Fin grid0.N) : (ms8 (F := F) t).IsWhole := hstage0_8 (((cfg0 (F := F) admissible).slots t 8).cast nbuf0_8)

/-- An input window's block at a point. -/
def iblk (w : Fin 9) (t : Fin grid0.N) : (((cfg0 (F := F) admissible).win w).xblock (grid0.coords t)).Idx → Elt F ((cfg0 (F := F) admissible).win w).elt :=
  (((cfg0 (F := F) admissible).win w).blk t).view.read (Elt F) (V m c (Pipeline.arrRef spec0 w))

theorem word1 (t : Fin grid0.N) : (k0_cond2 (read0 (F := F) (grid0.coords t)) (read1 (F := F) (grid0.coords t)) = 1#1 ↔ diagonal t.val = true)
    ∧ (k0_cond3 (read0 (F := F) (grid0.coords t)) (read1 (F := F) (grid0.coords t)) = 1#1 ↔ diagonal t.val = false)
    ∧ (k0_cond4 (read0 (F := F) (grid0.coords t)) (read1 (F := F) (grid0.coords t)) = 1#1 ↔ diagonal t.val = true)
    ∧ (k0_cond5 (read0 (F := F) (grid0.coords t)) = 1#1 ↔ closing t.val = true)
    ∧ k0_chk1 (read0 (F := F) (grid0.coords t)) (read1 (F := F) (grid0.coords t)) := by
  rw [read0_eq, read1_eq]
  exact ⟨cond2_iff t, cond3_iff t, cond4_iff t, cond5_iff t, check t⟩

/-- What the outputs and the scratch hold: the query gradient, a column block's key and value gradients, and the value gradient's sum. -/
structure State (F : FTy → Type) where
  dq : Vec F S4x8192x128 .f32
  dk : Vec F S4x1024x128 .f32
  dv : Vec F S1024x256 .bf16
  sum : Vec F S4x1024x128 .f32

/-- The first point: the body's run there, from the state before. -/
abbrev atA (t : Fin grid0.N) (hz : t.val = 0) (hd : diagonal t.val = true) (hl : closing t.val = false) :=
  run_A (F := F) c (grid0.coords t) (Memref.whole main_c) (Memref.isWhole_whole _) (Memref.whole main_c_0) (Memref.isWhole_whole _)
    (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t)
    (Memref.whole cc0_scratch0) (Memref.isWhole_whole _) (tables 0) (tables 1)
    (iblk m c 0 t) (iblk m c 1 t) (iblk m c 2 t) (iblk m c 3 t) (iblk m c 4 t) (iblk m c 5 t)
    ((cond1_iff t).mpr hz) ((word1 t).1.mpr hd) (fun h => absurd ((word1 t).2.1.mp h) (by rw [hd]; decide)) ((word1 t).2.2.1.mpr hd) (fun h => absurd ((word1 t).2.2.2.1.mp h) (by rw [hl]; decide)) (word1 t).2.2.2.2

/-- And the state it leaves. -/
def nextA (t : Fin grid0.N) (hz : t.val = 0) (hd : diagonal t.val = true) (hl : closing t.val = false) (p : State F) : State F where
  dq := (ms6 (F := F) t).view.read (Elt F) (atA m c t hz hd hl).1
  dk := (ms7 (F := F) t).view.read (Elt F) ((ms7 (F := F) t).view.writes (Elt F) (ms7 (F := F) t).view.junk (atA m c t hz hd hl).2.1)
  sum := (Memref.whole (sig := sig) cc0_scratch0).view.read (Elt F) ((Memref.whole (sig := sig) cc0_scratch0).view.writes (Elt F) (Memref.whole (sig := sig) cc0_scratch0).view.junk (atA m c t hz hd hl).2.2.1)
  dv := p.dv

/-- The stores into `dk` cover it. -/
theorem coverA_dk (t : Fin grid0.N) (hz : t.val = 0) (hd : diagonal t.val = true) (hl : closing t.val = false) (y) : ∃ w ∈ (atA m c t hz hd hl).2.1, y ∈ w.1.set :=
  View.cover_of_wholeMem _ (by sl_whole_mem) y

set_option maxHeartbeats 4000000 in
/-- So they leave the next state's, whatever it held before. -/
theorem readsA_dk (t : Fin grid0.N) (hz : t.val = 0) (hd : diagonal t.val = true) (hl : closing t.val = false) (p : State F) (prior) : (ms7 (F := F) t).view.read (Elt F) ((ms7 (F := F) t).view.writes (Elt F) prior (atA m c t hz hd hl).2.1) = (nextA m c t hz hd hl p).dk :=
  View.read_writes_of_cover (ms7 (F := F) t).view prior (ms7 (F := F) t).view (ms7 (F := F) t).view.junk (atA m c t hz hd hl).2.1 (coverA_dk m c t hz hd hl)

/-- The stores into `sum` cover it. -/
theorem coverA_sum (t : Fin grid0.N) (hz : t.val = 0) (hd : diagonal t.val = true) (hl : closing t.val = false) (y) : ∃ w ∈ (atA m c t hz hd hl).2.2.1, y ∈ w.1.set :=
  View.cover_of_wholeMem _ (by sl_whole_mem) y

set_option maxHeartbeats 4000000 in
/-- So they leave the next state's, whatever it held before. -/
theorem readsA_sum (t : Fin grid0.N) (hz : t.val = 0) (hd : diagonal t.val = true) (hl : closing t.val = false) (p : State F) (prior) : (Memref.whole (sig := sig) cc0_scratch0).view.read (Elt F) ((Memref.whole (sig := sig) cc0_scratch0).view.writes (Elt F) prior (atA m c t hz hd hl).2.2.1) = (nextA m c t hz hd hl p).sum :=
  View.read_writes_of_cover (Memref.whole (sig := sig) cc0_scratch0).view prior (Memref.whole (sig := sig) cc0_scratch0).view (Memref.whole (sig := sig) cc0_scratch0).view.junk (atA m c t hz hd hl).2.2.1 (coverA_sum m c t hz hd hl)

/-- A point below the diagonal and not its column's last: the body's run there, from the state before. -/
abbrev atB (t : Fin grid0.N) (hz : t.val ≠ 0) (hd : diagonal t.val = false) (hl : closing t.val = false) (p : State F) :=
  run_B (F := F) c (grid0.coords t) (Memref.whole main_c) (Memref.isWhole_whole _) (Memref.whole main_c_0) (Memref.isWhole_whole _)
    (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t)
    (Memref.whole cc0_scratch0) (Memref.isWhole_whole _) (tables 0) (tables 1)
    (iblk m c 0 t) (iblk m c 1 t) (iblk m c 2 t) (iblk m c 3 t) (iblk m c 4 t) (iblk m c 5 t) p.dq p.dk p.sum
    (fun h => hz ((cond1_iff t).mp h)) (fun h => absurd ((word1 t).1.mp h) (by rw [hd]; decide)) ((word1 t).2.1.mpr hd) (fun h => absurd ((word1 t).2.2.1.mp h) (by rw [hd]; decide)) (fun h => absurd ((word1 t).2.2.2.1.mp h) (by rw [hl]; decide)) (word1 t).2.2.2.2

/-- And the state it leaves. -/
def nextB (t : Fin grid0.N) (hz : t.val ≠ 0) (hd : diagonal t.val = false) (hl : closing t.val = false) (p : State F) : State F where
  dq := (ms6 (F := F) t).view.read (Elt F) (atB m c t hz hd hl p).1
  dk := (ms7 (F := F) t).view.read (Elt F) (atB m c t hz hd hl p).2.1
  sum := (Memref.whole (sig := sig) cc0_scratch0).view.read (Elt F) (atB m c t hz hd hl p).2.2.1
  dv := p.dv

/-- A column's last point, below the diagonal: the body's run there, from the state before. -/
abbrev atC (t : Fin grid0.N) (hz : t.val ≠ 0) (hd : diagonal t.val = false) (hl : closing t.val = true) (p : State F) :=
  run_C (F := F) c (grid0.coords t) (Memref.whole main_c) (Memref.isWhole_whole _) (Memref.whole main_c_0) (Memref.isWhole_whole _)
    (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t)
    (Memref.whole cc0_scratch0) (Memref.isWhole_whole _) (tables 0) (tables 1)
    (iblk m c 0 t) (iblk m c 1 t) (iblk m c 2 t) (iblk m c 3 t) (iblk m c 4 t) (iblk m c 5 t) p.dq p.dk p.sum
    (fun h => hz ((cond1_iff t).mp h)) (fun h => absurd ((word1 t).1.mp h) (by rw [hd]; decide)) ((word1 t).2.1.mpr hd) (fun h => absurd ((word1 t).2.2.1.mp h) (by rw [hd]; decide)) ((word1 t).2.2.2.1.mpr hl) (word1 t).2.2.2.2

/-- And the state it leaves. -/
def nextC (t : Fin grid0.N) (hz : t.val ≠ 0) (hd : diagonal t.val = false) (hl : closing t.val = true) (p : State F) : State F where
  dq := (ms6 (F := F) t).view.read (Elt F) (atC m c t hz hd hl p).1
  dk := (ms7 (F := F) t).view.read (Elt F) (atC m c t hz hd hl p).2.1
  dv := (ms8 (F := F) t).view.read (Elt F) ((ms8 (F := F) t).view.writes (Elt F) (ms8 (F := F) t).view.junk (atC m c t hz hd hl p).2.2.1)
  sum := (Memref.whole (sig := sig) cc0_scratch0).view.read (Elt F) (atC m c t hz hd hl p).2.2.2.1

/-- The stores into `dv` cover it. -/
theorem coverC_dv (t : Fin grid0.N) (hz : t.val ≠ 0) (hd : diagonal t.val = false) (hl : closing t.val = true) (p : State F) (y) : ∃ w ∈ (atC m c t hz hd hl p).2.2.1, y ∈ w.1.set :=
  View.cover_of_tiledL (s := S1024x256) _ ![1024, 128] (by sl_kernel_rfl) y

set_option maxHeartbeats 4000000 in
/-- So they leave the next state's, whatever it held before. -/
theorem readsC_dv (t : Fin grid0.N) (hz : t.val ≠ 0) (hd : diagonal t.val = false) (hl : closing t.val = true) (p : State F) (prior) : (ms8 (F := F) t).view.read (Elt F) ((ms8 (F := F) t).view.writes (Elt F) prior (atC m c t hz hd hl p).2.2.1) = (nextC m c t hz hd hl p).dv :=
  View.read_writes_of_cover (ms8 (F := F) t).view prior (ms8 (F := F) t).view (ms8 (F := F) t).view.junk (atC m c t hz hd hl p).2.2.1 (coverC_dv m c t hz hd hl p)

/-- A diagonal point, not the first, not the last: the body's run there, from the state before. -/
abbrev atD (t : Fin grid0.N) (hz : t.val ≠ 0) (hd : diagonal t.val = true) (hl : closing t.val = false) (p : State F) :=
  run_D (F := F) c (grid0.coords t) (Memref.whole main_c) (Memref.isWhole_whole _) (Memref.whole main_c_0) (Memref.isWhole_whole _)
    (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t)
    (Memref.whole cc0_scratch0) (Memref.isWhole_whole _) (tables 0) (tables 1)
    (iblk m c 0 t) (iblk m c 1 t) (iblk m c 2 t) (iblk m c 3 t) (iblk m c 4 t) (iblk m c 5 t) p.dq
    (fun h => hz ((cond1_iff t).mp h)) ((word1 t).1.mpr hd) (fun h => absurd ((word1 t).2.1.mp h) (by rw [hd]; decide)) ((word1 t).2.2.1.mpr hd) (fun h => absurd ((word1 t).2.2.2.1.mp h) (by rw [hl]; decide)) (word1 t).2.2.2.2

/-- And the state it leaves. -/
def nextD (t : Fin grid0.N) (hz : t.val ≠ 0) (hd : diagonal t.val = true) (hl : closing t.val = false) (p : State F) : State F where
  dq := (ms6 (F := F) t).view.read (Elt F) (atD m c t hz hd hl p).1
  dk := (ms7 (F := F) t).view.read (Elt F) ((ms7 (F := F) t).view.writes (Elt F) (ms7 (F := F) t).view.junk (atD m c t hz hd hl p).2.1)
  sum := (Memref.whole (sig := sig) cc0_scratch0).view.read (Elt F) ((Memref.whole (sig := sig) cc0_scratch0).view.writes (Elt F) (Memref.whole (sig := sig) cc0_scratch0).view.junk (atD m c t hz hd hl p).2.2.1)
  dv := p.dv

/-- The stores into `dk` cover it. -/
theorem coverD_dk (t : Fin grid0.N) (hz : t.val ≠ 0) (hd : diagonal t.val = true) (hl : closing t.val = false) (p : State F) (y) : ∃ w ∈ (atD m c t hz hd hl p).2.1, y ∈ w.1.set :=
  View.cover_of_wholeMem _ (by sl_whole_mem) y

set_option maxHeartbeats 4000000 in
/-- So they leave the next state's, whatever it held before. -/
theorem readsD_dk (t : Fin grid0.N) (hz : t.val ≠ 0) (hd : diagonal t.val = true) (hl : closing t.val = false) (p : State F) (prior) : (ms7 (F := F) t).view.read (Elt F) ((ms7 (F := F) t).view.writes (Elt F) prior (atD m c t hz hd hl p).2.1) = (nextD m c t hz hd hl p).dk :=
  View.read_writes_of_cover (ms7 (F := F) t).view prior (ms7 (F := F) t).view (ms7 (F := F) t).view.junk (atD m c t hz hd hl p).2.1 (coverD_dk m c t hz hd hl p)

/-- The stores into `sum` cover it. -/
theorem coverD_sum (t : Fin grid0.N) (hz : t.val ≠ 0) (hd : diagonal t.val = true) (hl : closing t.val = false) (p : State F) (y) : ∃ w ∈ (atD m c t hz hd hl p).2.2.1, y ∈ w.1.set :=
  View.cover_of_wholeMem _ (by sl_whole_mem) y

set_option maxHeartbeats 4000000 in
/-- So they leave the next state's, whatever it held before. -/
theorem readsD_sum (t : Fin grid0.N) (hz : t.val ≠ 0) (hd : diagonal t.val = true) (hl : closing t.val = false) (p : State F) (prior) : (Memref.whole (sig := sig) cc0_scratch0).view.read (Elt F) ((Memref.whole (sig := sig) cc0_scratch0).view.writes (Elt F) prior (atD m c t hz hd hl p).2.2.1) = (nextD m c t hz hd hl p).sum :=
  View.read_writes_of_cover (Memref.whole (sig := sig) cc0_scratch0).view prior (Memref.whole (sig := sig) cc0_scratch0).view (Memref.whole (sig := sig) cc0_scratch0).view.junk (atD m c t hz hd hl p).2.2.1 (coverD_sum m c t hz hd hl p)

/-- The last point, on the diagonal: the body's run there, from the state before. -/
abbrev atE (t : Fin grid0.N) (hz : t.val ≠ 0) (hd : diagonal t.val = true) (hl : closing t.val = true) (p : State F) :=
  run_E (F := F) c (grid0.coords t) (Memref.whole main_c) (Memref.isWhole_whole _) (Memref.whole main_c_0) (Memref.isWhole_whole _)
    (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t)
    (Memref.whole cc0_scratch0) (Memref.isWhole_whole _) (tables 0) (tables 1)
    (iblk m c 0 t) (iblk m c 1 t) (iblk m c 2 t) (iblk m c 3 t) (iblk m c 4 t) (iblk m c 5 t) p.dq
    (fun h => hz ((cond1_iff t).mp h)) ((word1 t).1.mpr hd) (fun h => absurd ((word1 t).2.1.mp h) (by rw [hd]; decide)) ((word1 t).2.2.1.mpr hd) ((word1 t).2.2.2.1.mpr hl) (word1 t).2.2.2.2

/-- And the state it leaves. -/
def nextE (t : Fin grid0.N) (hz : t.val ≠ 0) (hd : diagonal t.val = true) (hl : closing t.val = true) (p : State F) : State F where
  dq := (ms6 (F := F) t).view.read (Elt F) (atE m c t hz hd hl p).1
  dk := (ms7 (F := F) t).view.read (Elt F) ((ms7 (F := F) t).view.writes (Elt F) (ms7 (F := F) t).view.junk (atE m c t hz hd hl p).2.1)
  dv := (ms8 (F := F) t).view.read (Elt F) ((ms8 (F := F) t).view.writes (Elt F) (ms8 (F := F) t).view.junk (atE m c t hz hd hl p).2.2.1)
  sum := (Memref.whole (sig := sig) cc0_scratch0).view.read (Elt F) ((Memref.whole (sig := sig) cc0_scratch0).view.writes (Elt F) (Memref.whole (sig := sig) cc0_scratch0).view.junk (atE m c t hz hd hl p).2.2.2.1)

/-- The stores into `dk` cover it. -/
theorem coverE_dk (t : Fin grid0.N) (hz : t.val ≠ 0) (hd : diagonal t.val = true) (hl : closing t.val = true) (p : State F) (y) : ∃ w ∈ (atE m c t hz hd hl p).2.1, y ∈ w.1.set :=
  View.cover_of_wholeMem _ (by sl_whole_mem) y

set_option maxHeartbeats 4000000 in
/-- So they leave the next state's, whatever it held before. -/
theorem readsE_dk (t : Fin grid0.N) (hz : t.val ≠ 0) (hd : diagonal t.val = true) (hl : closing t.val = true) (p : State F) (prior) : (ms7 (F := F) t).view.read (Elt F) ((ms7 (F := F) t).view.writes (Elt F) prior (atE m c t hz hd hl p).2.1) = (nextE m c t hz hd hl p).dk :=
  View.read_writes_of_cover (ms7 (F := F) t).view prior (ms7 (F := F) t).view (ms7 (F := F) t).view.junk (atE m c t hz hd hl p).2.1 (coverE_dk m c t hz hd hl p)

/-- The stores into `dv` cover it. -/
theorem coverE_dv (t : Fin grid0.N) (hz : t.val ≠ 0) (hd : diagonal t.val = true) (hl : closing t.val = true) (p : State F) (y) : ∃ w ∈ (atE m c t hz hd hl p).2.2.1, y ∈ w.1.set :=
  View.cover_of_tiledL (s := S1024x256) _ ![1024, 128] (by sl_kernel_rfl) y

set_option maxHeartbeats 4000000 in
/-- So they leave the next state's, whatever it held before. -/
theorem readsE_dv (t : Fin grid0.N) (hz : t.val ≠ 0) (hd : diagonal t.val = true) (hl : closing t.val = true) (p : State F) (prior) : (ms8 (F := F) t).view.read (Elt F) ((ms8 (F := F) t).view.writes (Elt F) prior (atE m c t hz hd hl p).2.2.1) = (nextE m c t hz hd hl p).dv :=
  View.read_writes_of_cover (ms8 (F := F) t).view prior (ms8 (F := F) t).view (ms8 (F := F) t).view.junk (atE m c t hz hd hl p).2.2.1 (coverE_dv m c t hz hd hl p)

/-- The stores into `sum` cover it. -/
theorem coverE_sum (t : Fin grid0.N) (hz : t.val ≠ 0) (hd : diagonal t.val = true) (hl : closing t.val = true) (p : State F) (y) : ∃ w ∈ (atE m c t hz hd hl p).2.2.2.1, y ∈ w.1.set :=
  View.cover_of_wholeMem _ (by sl_whole_mem) y

set_option maxHeartbeats 4000000 in
/-- So they leave the next state's, whatever it held before. -/
theorem readsE_sum (t : Fin grid0.N) (hz : t.val ≠ 0) (hd : diagonal t.val = true) (hl : closing t.val = true) (p : State F) (prior) : (Memref.whole (sig := sig) cc0_scratch0).view.read (Elt F) ((Memref.whole (sig := sig) cc0_scratch0).view.writes (Elt F) prior (atE m c t hz hd hl p).2.2.2.1) = (nextE m c t hz hd hl p).sum :=
  View.read_writes_of_cover (Memref.whole (sig := sig) cc0_scratch0).view prior (Memref.whole (sig := sig) cc0_scratch0).view (Memref.whole (sig := sig) cc0_scratch0).view.junk (atE m c t hz hd hl p).2.2.2.1 (coverE_sum m c t hz hd hl p)

/-- The state a point leaves, by the branches it takes. -/
def next (t : Fin grid0.N) (p : State F) : State F :=
  if hd : diagonal t.val = true then
    if hl : closing t.val = true then
      if hz : t.val ≠ 0 then nextE m c t hz hd hl p else p
    else if hz : t.val = 0 then nextA m c t hz hd (Bool.eq_false_iff.mpr hl) p else nextD m c t hz hd (Bool.eq_false_iff.mpr hl) p
  else if hz : t.val ≠ 0 then
    if hl : closing t.val = true then nextC m c t hz (Bool.eq_false_iff.mpr hd) hl p
    else nextB m c t hz (Bool.eq_false_iff.mpr hd) (Bool.eq_false_iff.mpr hl) p
  else p

theorem next_A (t : Fin grid0.N) (hz : t.val = 0) (hd : diagonal t.val = true) (hl : closing t.val = false) (p : State F) : next m c t p = nextA m c t hz hd hl p := by
  unfold next; rw [dif_pos hd, dif_neg (by rw [hl]; decide), dif_pos hz]
theorem next_B (t : Fin grid0.N) (hz : t.val ≠ 0) (hd : diagonal t.val = false) (hl : closing t.val = false) (p : State F) : next m c t p = nextB m c t hz hd hl p := by
  unfold next; rw [dif_neg (by rw [hd]; decide), dif_pos hz, dif_neg (by rw [hl]; decide)]
theorem next_C (t : Fin grid0.N) (hz : t.val ≠ 0) (hd : diagonal t.val = false) (hl : closing t.val = true) (p : State F) : next m c t p = nextC m c t hz hd hl p := by
  unfold next; rw [dif_neg (by rw [hd]; decide), dif_pos hz, dif_pos hl]
theorem next_D (t : Fin grid0.N) (hz : t.val ≠ 0) (hd : diagonal t.val = true) (hl : closing t.val = false) (p : State F) : next m c t p = nextD m c t hz hd hl p := by
  unfold next; rw [dif_pos hd, dif_neg (by rw [hl]; decide), dif_neg hz]
theorem next_E (t : Fin grid0.N) (hz : t.val ≠ 0) (hd : diagonal t.val = true) (hl : closing t.val = true) (p : State F) : next m c t p = nextE m c t hz hd hl p := by
  unfold next; rw [dif_pos hd, dif_pos hl, dif_pos hz]

/-- The state before the first point: arbitrary. -/
def start : State F := ⟨constant _ .f32 0#32, constant _ .f32 0#32, constant _ .bf16 0#16, constant _ .f32 0#32⟩

/-- The state after the first `n` points. -/
def state : ℕ → State F
  | 0 => start
  | n + 1 => if h : n < grid0.N then next m c ⟨n, h⟩ (state n) else state n

theorem state_succ (t : Fin grid0.N) : state m c (t.val + 1) = next m c t (state m c t.val) := by
  rw [state, dif_pos t.isLt]

end Cert.FlashIdeal.Mine
-- ==== Proof.FlashBody.lean ====
module

public import proofs.«01_k».proof.Proof.FlashStep

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal Cert.FlashIdeal.Gen

variable {F : FTy → Type} [FloatOps F]

local notation "𝕄" => MT nD τ sig Unit (Elt F) ℕ (UR sig nD τ) ℕ

/-! # The body at every point, and the launch -/

variable (m : (ℓ : Loc nD τ sig) → Buf (Elt F) ℓ) (ρ : Dev nD → PrngReg) (c : Dev nD)

/-- The body the pipeline runs at a point. -/
abbrev bodyAt (t : Fin grid0.N) : Prog (TpuEff nD τ sig (Elt F) Λ₀ .tc) PUnit :=
  cc0_flash_bwd (grid0.coords t) (Memref.whole main_c) (Memref.isWhole_whole _) (Memref.whole main_c_0) (Memref.isWhole_whole _)
    (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t)
    (Memref.whole cc0_scratch0) (Memref.isWhole_whole _)

/-- The half of the first table the body reads through, -/
abbrev table0 : sProp 𝕄 := ((Memref.whole (sig := sig) main_c).view.loc (c : Thread nD τ) ↦{fullShare.right} (tables (F := F) 0))
/-- and of the second. -/
abbrev table1 : sProp 𝕄 := ((Memref.whole (sig := sig) main_c_0).view.loc (c : Thread nD τ) ↦{fullShare.right} (tables (F := F) 1))

/-- A buffer held at contents that read as `X` is owned at `X`. -/
theorem owned {sp : Space} {sh : Shape} {e : EltTy} (r : Memref sig .tc sp sh e) (f : r.view.ty.Contents (Elt F)) (X : sh.Idx → Elt F e)
    (h : r.view.read (Elt F) f = X) : (r.view.loc (c : Thread nD τ) ↦[r.view.set]{fullShare} f : sProp 𝕄) ⊢ owns (c : Thread nD τ) r fullShare X := by
  unfold owns
  iintro H
  iexists f
  isplitr
  · ipureintro; exact h
  iexact H

set_option maxHeartbeats 3200000 in
/-- The first point: the body turns the state before into the next one. -/
theorem bodyA (t : Fin grid0.N) (hz : t.val = 0) (hd : diagonal t.val = true) (hl : closing t.val = false) (p : State F) (a : Vec F S4x8192x128 .f32) (b : Vec F S4x1024x128 .f32)
    (y : Vec F S1024x256 .bf16) (s : Vec F S4x1024x128 .f32)  (K : PUnit → sProp 𝕄) :
    iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare a ∗ owns (c : Thread nD τ) (ms7 (F := F) t) fullShare b ∗ owns (c : Thread nD τ) (ms8 (F := F) t) fullShare y ∗ owns (c : Thread nD τ) (Memref.whole cc0_scratch0) fullShare s
      ∗ (iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare (nextA m c t hz hd hl p).dq ∗ owns (c : Thread nD τ) (ms7 (F := F) t) fullShare (nextA m c t hz hd hl p).dk ∗ owns (c : Thread nD τ) (ms8 (F := F) t) fullShare y ∗ owns (c : Thread nD τ) (Memref.whole cc0_scratch0) fullShare (nextA m c t hz hd hl p).sum) -∗ K ⟨⟩))
      ⊢ wp frame (wpE (defs₀ (F := F)) Variants.none c none) Set.univ (bodyAt (F := F) t) K := by
  skip
  iintro ⟨H0, H1, H2, H3, H4, H5, HT0, HT1, H6, H7, H8, Hs, Hk⟩
  iapply ((atA m c t hz hd hl).2.2.2 a b y s K)
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iexact H6
  isplitl [H7]; · iexact H7
  isplitl [H8]; · iexact H8
  isplitl [Hs]; · iexact Hs
  iintro ⟨H0, H1, H2, H3, H4, H5, HT0, HT1, H6, H7, H8, Hs⟩
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iapply (owned c (ms6 (F := F) t) _ (nextA m c t hz hd hl p).dq rfl); iexact H6
  isplitl [H7]; · iapply (owned c (ms7 (F := F) t) _ (nextA m c t hz hd hl p).dk (readsA_dk m c t hz hd hl p _)); iexact H7
  isplitl [H8]; · iexact H8
  iapply (owned c (Memref.whole (sig := sig) cc0_scratch0) _ (nextA m c t hz hd hl p).sum (readsA_sum m c t hz hd hl p _)); iexact Hs

set_option maxHeartbeats 3200000 in
/-- A point below the diagonal and not its column's last: the body turns the state before into the next one. -/
theorem bodyB (t : Fin grid0.N) (hz : t.val ≠ 0) (hd : diagonal t.val = false) (hl : closing t.val = false) (p : State F) (a : Vec F S4x8192x128 .f32) (b : Vec F S4x1024x128 .f32)
    (y : Vec F S1024x256 .bf16) (s : Vec F S4x1024x128 .f32) (ha : a = p.dq) (hb : b = p.dk) (hs : s = p.sum) (K : PUnit → sProp 𝕄) :
    iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare a ∗ owns (c : Thread nD τ) (ms7 (F := F) t) fullShare b ∗ owns (c : Thread nD τ) (ms8 (F := F) t) fullShare y ∗ owns (c : Thread nD τ) (Memref.whole cc0_scratch0) fullShare s
      ∗ (iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare (nextB m c t hz hd hl p).dq ∗ owns (c : Thread nD τ) (ms7 (F := F) t) fullShare (nextB m c t hz hd hl p).dk ∗ owns (c : Thread nD τ) (ms8 (F := F) t) fullShare y ∗ owns (c : Thread nD τ) (Memref.whole cc0_scratch0) fullShare (nextB m c t hz hd hl p).sum) -∗ K ⟨⟩))
      ⊢ wp frame (wpE (defs₀ (F := F)) Variants.none c none) Set.univ (bodyAt (F := F) t) K := by
  subst ha; subst hb; subst hs
  iintro ⟨H0, H1, H2, H3, H4, H5, HT0, HT1, H6, H7, H8, Hs, Hk⟩
  iapply ((atB m c t hz hd hl p).2.2.2 y K)
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iexact H6
  isplitl [H7]; · iexact H7
  isplitl [H8]; · iexact H8
  isplitl [Hs]; · iexact Hs
  iintro ⟨H0, H1, H2, H3, H4, H5, HT0, HT1, H6, H7, H8, Hs⟩
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iapply (owned c (ms6 (F := F) t) _ (nextB m c t hz hd hl p).dq rfl); iexact H6
  isplitl [H7]; · iapply (owned c (ms7 (F := F) t) _ (nextB m c t hz hd hl p).dk rfl); iexact H7
  isplitl [H8]; · iexact H8
  iapply (owned c (Memref.whole (sig := sig) cc0_scratch0) _ (nextB m c t hz hd hl p).sum rfl); iexact Hs

set_option maxHeartbeats 3200000 in
/-- A column's last point, below the diagonal: the body turns the state before into the next one. -/
theorem bodyC (t : Fin grid0.N) (hz : t.val ≠ 0) (hd : diagonal t.val = false) (hl : closing t.val = true) (p : State F) (a : Vec F S4x8192x128 .f32) (b : Vec F S4x1024x128 .f32)
    (y : Vec F S1024x256 .bf16) (s : Vec F S4x1024x128 .f32) (ha : a = p.dq) (hb : b = p.dk) (hs : s = p.sum) (K : PUnit → sProp 𝕄) :
    iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare a ∗ owns (c : Thread nD τ) (ms7 (F := F) t) fullShare b ∗ owns (c : Thread nD τ) (ms8 (F := F) t) fullShare y ∗ owns (c : Thread nD τ) (Memref.whole cc0_scratch0) fullShare s
      ∗ (iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare (nextC m c t hz hd hl p).dq ∗ owns (c : Thread nD τ) (ms7 (F := F) t) fullShare (nextC m c t hz hd hl p).dk ∗ owns (c : Thread nD τ) (ms8 (F := F) t) fullShare (nextC m c t hz hd hl p).dv ∗ owns (c : Thread nD τ) (Memref.whole cc0_scratch0) fullShare (nextC m c t hz hd hl p).sum) -∗ K ⟨⟩))
      ⊢ wp frame (wpE (defs₀ (F := F)) Variants.none c none) Set.univ (bodyAt (F := F) t) K := by
  subst ha; subst hb; subst hs
  iintro ⟨H0, H1, H2, H3, H4, H5, HT0, HT1, H6, H7, H8, Hs, Hk⟩
  iapply ((atC m c t hz hd hl p).2.2.2.2 y K)
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iexact H6
  isplitl [H7]; · iexact H7
  isplitl [H8]; · iexact H8
  isplitl [Hs]; · iexact Hs
  iintro ⟨H0, H1, H2, H3, H4, H5, HT0, HT1, H6, H7, H8, Hs⟩
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iapply (owned c (ms6 (F := F) t) _ (nextC m c t hz hd hl p).dq rfl); iexact H6
  isplitl [H7]; · iapply (owned c (ms7 (F := F) t) _ (nextC m c t hz hd hl p).dk rfl); iexact H7
  isplitl [H8]; · iapply (owned c (ms8 (F := F) t) _ (nextC m c t hz hd hl p).dv (readsC_dv m c t hz hd hl p _)); iexact H8
  iapply (owned c (Memref.whole (sig := sig) cc0_scratch0) _ (nextC m c t hz hd hl p).sum rfl); iexact Hs

set_option maxHeartbeats 3200000 in
/-- A diagonal point, not the first, not the last: the body turns the state before into the next one. -/
theorem bodyD (t : Fin grid0.N) (hz : t.val ≠ 0) (hd : diagonal t.val = true) (hl : closing t.val = false) (p : State F) (a : Vec F S4x8192x128 .f32) (b : Vec F S4x1024x128 .f32)
    (y : Vec F S1024x256 .bf16) (s : Vec F S4x1024x128 .f32) (ha : a = p.dq) (K : PUnit → sProp 𝕄) :
    iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare a ∗ owns (c : Thread nD τ) (ms7 (F := F) t) fullShare b ∗ owns (c : Thread nD τ) (ms8 (F := F) t) fullShare y ∗ owns (c : Thread nD τ) (Memref.whole cc0_scratch0) fullShare s
      ∗ (iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare (nextD m c t hz hd hl p).dq ∗ owns (c : Thread nD τ) (ms7 (F := F) t) fullShare (nextD m c t hz hd hl p).dk ∗ owns (c : Thread nD τ) (ms8 (F := F) t) fullShare y ∗ owns (c : Thread nD τ) (Memref.whole cc0_scratch0) fullShare (nextD m c t hz hd hl p).sum) -∗ K ⟨⟩))
      ⊢ wp frame (wpE (defs₀ (F := F)) Variants.none c none) Set.univ (bodyAt (F := F) t) K := by
  subst ha
  iintro ⟨H0, H1, H2, H3, H4, H5, HT0, HT1, H6, H7, H8, Hs, Hk⟩
  iapply ((atD m c t hz hd hl p).2.2.2 b y s K)
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iexact H6
  isplitl [H7]; · iexact H7
  isplitl [H8]; · iexact H8
  isplitl [Hs]; · iexact Hs
  iintro ⟨H0, H1, H2, H3, H4, H5, HT0, HT1, H6, H7, H8, Hs⟩
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iapply (owned c (ms6 (F := F) t) _ (nextD m c t hz hd hl p).dq rfl); iexact H6
  isplitl [H7]; · iapply (owned c (ms7 (F := F) t) _ (nextD m c t hz hd hl p).dk (readsD_dk m c t hz hd hl p _)); iexact H7
  isplitl [H8]; · iexact H8
  iapply (owned c (Memref.whole (sig := sig) cc0_scratch0) _ (nextD m c t hz hd hl p).sum (readsD_sum m c t hz hd hl p _)); iexact Hs

set_option maxHeartbeats 3200000 in
/-- The last point, on the diagonal: the body turns the state before into the next one. -/
theorem bodyE (t : Fin grid0.N) (hz : t.val ≠ 0) (hd : diagonal t.val = true) (hl : closing t.val = true) (p : State F) (a : Vec F S4x8192x128 .f32) (b : Vec F S4x1024x128 .f32)
    (y : Vec F S1024x256 .bf16) (s : Vec F S4x1024x128 .f32) (ha : a = p.dq) (K : PUnit → sProp 𝕄) :
    iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare a ∗ owns (c : Thread nD τ) (ms7 (F := F) t) fullShare b ∗ owns (c : Thread nD τ) (ms8 (F := F) t) fullShare y ∗ owns (c : Thread nD τ) (Memref.whole cc0_scratch0) fullShare s
      ∗ (iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare (nextE m c t hz hd hl p).dq ∗ owns (c : Thread nD τ) (ms7 (F := F) t) fullShare (nextE m c t hz hd hl p).dk ∗ owns (c : Thread nD τ) (ms8 (F := F) t) fullShare (nextE m c t hz hd hl p).dv ∗ owns (c : Thread nD τ) (Memref.whole cc0_scratch0) fullShare (nextE m c t hz hd hl p).sum) -∗ K ⟨⟩))
      ⊢ wp frame (wpE (defs₀ (F := F)) Variants.none c none) Set.univ (bodyAt (F := F) t) K := by
  subst ha
  iintro ⟨H0, H1, H2, H3, H4, H5, HT0, HT1, H6, H7, H8, Hs, Hk⟩
  iapply ((atE m c t hz hd hl p).2.2.2.2 b y s K)
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iexact H6
  isplitl [H7]; · iexact H7
  isplitl [H8]; · iexact H8
  isplitl [Hs]; · iexact Hs
  iintro ⟨H0, H1, H2, H3, H4, H5, HT0, HT1, H6, H7, H8, Hs⟩
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iapply (owned c (ms6 (F := F) t) _ (nextE m c t hz hd hl p).dq rfl); iexact H6
  isplitl [H7]; · iapply (owned c (ms7 (F := F) t) _ (nextE m c t hz hd hl p).dk (readsE_dk m c t hz hd hl p _)); iexact H7
  isplitl [H8]; · iapply (owned c (ms8 (F := F) t) _ (nextE m c t hz hd hl p).dv (readsE_dv m c t hz hd hl p _)); iexact H8
  iapply (owned c (Memref.whole (sig := sig) cc0_scratch0) _ (nextE m c t hz hd hl p).sum (readsE_sum m c t hz hd hl p _)); iexact Hs

/-- No point takes the branches of none of the five cases. -/
theorem first_diagonal (t : Fin grid0.N) (hz : t.val = 0) : diagonal t.val = true ∧ closing t.val = false := by
  rw [hz]; decide

set_option maxHeartbeats 1600000 in
/-- The body at any point, over the state before it. -/
theorem body (t : Fin grid0.N) (p : State F) (a : Vec F S4x8192x128 .f32) (b : Vec F S4x1024x128 .f32)
    (y : Vec F S1024x256 .bf16) (s : Vec F S4x1024x128 .f32) (ha : t.val ≠ 0 → a = p.dq) (hb : diagonal t.val = false → b = p.dk)
    (hs : diagonal t.val = false → s = p.sum) (K : PUnit → sProp 𝕄) :
    iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare a ∗ owns (c : Thread nD τ) (ms7 (F := F) t) fullShare b ∗ owns (c : Thread nD τ) (ms8 (F := F) t) fullShare y ∗ owns (c : Thread nD τ) (Memref.whole cc0_scratch0) fullShare s
      ∗ (iprop(owns (c : Thread nD τ) (ms0 (F := F) t) fullShare (iblk m c 0 t) ∗ owns (c : Thread nD τ) (ms1 (F := F) t) fullShare (iblk m c 1 t) ∗ owns (c : Thread nD τ) (ms2 (F := F) t) fullShare (iblk m c 2 t) ∗ owns (c : Thread nD τ) (ms3 (F := F) t) fullShare (iblk m c 3 t) ∗ owns (c : Thread nD τ) (ms4 (F := F) t) fullShare (iblk m c 4 t) ∗ owns (c : Thread nD τ) (ms5 (F := F) t) fullShare (iblk m c 5 t) ∗ table0 (F := F) c ∗ table1 (F := F) c ∗ owns (c : Thread nD τ) (ms6 (F := F) t) fullShare (next m c t p).dq ∗ owns (c : Thread nD τ) (ms7 (F := F) t) fullShare (next m c t p).dk ∗ owns (c : Thread nD τ) (ms8 (F := F) t) fullShare (if closing t.val = true then (next m c t p).dv else y) ∗ owns (c : Thread nD τ) (Memref.whole cc0_scratch0) fullShare (next m c t p).sum) -∗ K ⟨⟩))
      ⊢ wp frame (wpE (defs₀ (F := F)) Variants.none c none) Set.univ (bodyAt (F := F) t) K := by
  by_cases hz : t.val = 0
  · obtain ⟨hd, hl⟩ := first_diagonal t hz
    rw [if_neg (by rw [hl]; decide), next_A m c t hz hd hl p]
    exact bodyA m c t hz hd hl p a b y s K
  · cases hd : diagonal t.val
    · cases hl : closing t.val
      · rw [if_neg (by decide), next_B m c t hz hd hl p]
        exact bodyB m c t hz hd hl p a b y s (ha hz) (hb hd) (hs hd) K
      · rw [if_pos rfl, next_C m c t hz hd hl p]
        exact bodyC m c t hz hd hl p a b y s (ha hz) (hb hd) (hs hd) K
    · cases hl : closing t.val
      · rw [if_neg (by decide), next_D m c t hz hd hl p]
        exact bodyD m c t hz hd hl p a b y s (ha hz) K
      · rw [if_pos rfl, next_E m c t hz hd hl p]
        exact bodyE m c t hz hd hl p a b y s (ha hz) K

end Cert.FlashIdeal.Mine
-- ==== Proof.FlashFrame.lean ====
module

public import proofs.«01_k».proof.Proof.FlashBody
public import Idealize.ShloMosaic.Lib.Pipeline.FrameBody
public import Idealize.ShloMosaic.Lib.Claim

@[expose] public section

set_option maxRecDepth 16384

noncomputable section

namespace Cert.FlashIdeal.Mine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.FlashIdeal Cert.FlashIdeal.Gen

variable {F : FTy → Type} [FloatOps F]

local notation "𝕄" => MT nD τ sig Unit (Elt F) ℕ (UR sig nD τ) ℕ

/-! # The launch: what every window holds at every point, and the frame -/

variable (m : (ℓ : Loc nD τ sig) → Buf (Elt F) ℓ) (ρ : Dev nD → PrngReg)

/-- What the body keeps between its points: the scratch at the state's row sums once a point has run, the generator's register, the
    two tables. -/
def kept (c : Dev nD) (n : ℕ) : sProp 𝕄 :=
  iprop((∃ d : Vec F S4x1024x128 .f32, ⌜n ≠ 0 → d = (state m c n).sum⌝ ∗ owns (c : Thread nD τ) (Memref.whole cc0_scratch0) fullShare d)
    ∗ (∃ r, prngReg c r) ∗ table0 (F := F) c ∗ table1 (F := F) c)

/-- The proof data: the arrays at entry, what every window's buffer holds after every point, and what the body keeps. -/
def dats (_ : Fin 1) (c : Dev nD) : Dat τ (Elt F) Unit ℕ (UR sig nD τ) ℕ (cfg0 (F := F) admissible) c where
  A w := V m c (Pipeline.arrRef spec0 w)
  after w := match w with
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => (state m c (t.val + 1)).dq
    | 7 => fun t => (state m c (t.val + 1)).dk
    | 8 => fun t => (state m c (t.val + 1)).dv
  Φ t := kept m c t.val
  q _ := fullShare
  owed _ := 0

theorem A_eq (c : Dev nD) (w : Fin 9) : (dats m 0 c).A w = V m c (Pipeline.arrRef spec0 w) := by dsimp only [dats]
theorem after_0 (c : Dev nD) (t : Fin grid0.N) : (dats m 0 c).after 0 t = iblk m c 0 t := rfl
theorem after_1 (c : Dev nD) (t : Fin grid0.N) : (dats m 0 c).after 1 t = iblk m c 1 t := rfl
theorem after_2 (c : Dev nD) (t : Fin grid0.N) : (dats m 0 c).after 2 t = iblk m c 2 t := rfl
theorem after_3 (c : Dev nD) (t : Fin grid0.N) : (dats m 0 c).after 3 t = iblk m c 3 t := rfl
theorem after_4 (c : Dev nD) (t : Fin grid0.N) : (dats m 0 c).after 4 t = iblk m c 4 t := rfl
theorem after_5 (c : Dev nD) (t : Fin grid0.N) : (dats m 0 c).after 5 t = iblk m c 5 t := rfl
theorem after_6 (c : Dev nD) (t : Fin grid0.N) : (dats m 0 c).after 6 t = (state m c (t.val + 1)).dq := rfl
theorem after_7 (c : Dev nD) (t : Fin grid0.N) : (dats m 0 c).after 7 t = (state m c (t.val + 1)).dk := rfl
theorem after_8 (c : Dev nD) (t : Fin grid0.N) : (dats m 0 c).after 8 t = (state m c (t.val + 1)).dv := rfl
theorem before_0 (c : Dev nD) (t : Fin grid0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin grid0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin grid0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)
theorem before_3 (c : Dev nD) (t : Fin grid0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans (by unfold Dat.fetched Dat.blockOf iblk; rw [A_eq]; try rfl)
theorem before_4 (c : Dev nD) (t : Fin grid0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans (by unfold Dat.fetched Dat.blockOf iblk; rw [A_eq]; try rfl)
theorem before_5 (c : Dev nD) (t : Fin grid0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans (by unfold Dat.fetched Dat.blockOf iblk; rw [A_eq]; try rfl)

/-- The row gradient's buffer is new at the first point only, -/
theorem fresh6 (n : ℕ) (h : n ≤ (cfg0 (F := F) admissible).N) : (cfg0 (F := F) admissible).fresh 6 n = (n == 0 || n == 36) :=
  (cfg0 (F := F) admissible).fresh_tab 6 (fun n => n == 0 || n == 36) rfl (fun t => by
    rw [show ((cfg0 (F := F) admissible).win 6).flush t = _ from flush6 t, show (cfg0 (F := F) admissible).idle 6 _ = _ from idle_eq t 6]
    revert t; exact (by decide : ∀ t : Fin 36, (t.val + 1 == 0 || t.val + 1 == 36) = (t.val == 35 || ((6 : Fin 9) == 8 && !closing t.val) && (t.val == 0 || t.val == 36)))) n h
/-- the column gradient's at every column's first point. -/
theorem fresh7 (n : ℕ) (h : n ≤ (cfg0 (F := F) admissible).N) : (cfg0 (F := F) admissible).fresh 7 n = (diagonal n || n == 36) :=
  (cfg0 (F := F) admissible).fresh_tab 7 (fun n => diagonal n || n == 36) rfl (fun t => by
    rw [show ((cfg0 (F := F) admissible).win 7).flush t = _ from flush7 t, show (cfg0 (F := F) admissible).idle 7 _ = _ from idle_eq t 7]
    revert t; exact (by decide : ∀ t : Fin 36, (diagonal (t.val + 1) || t.val + 1 == 36) = (closing t.val || ((7 : Fin 9) == 8 && !closing t.val) && (diagonal t.val || t.val == 36)))) n h

theorem before_6 (c : Dev nD) (t : Fin grid0.N) (hz : t.val ≠ 0) (d) : (dats m 0 c).before 6 t d = (state m c t.val).dq := by
  have hN : t.val < 36 := lt_of_lt_of_eq t.isLt N_0
  rw [Dat.before_out_traj _ 6 rfl (fun _ _ => rfl) (fun t _ hi => absurd (hi.symm.trans (idle_eq t 6)) (by simp)) t.val t rfl d,
    fresh6 t.val (le_of_lt t.isLt), if_neg (by simp; omega), after_6]
  rw [show t.val - 1 + 1 = t.val by omega]
theorem before_7 (c : Dev nD) (t : Fin grid0.N) (hd : diagonal t.val = false) (d) : (dats m 0 c).before 7 t d = (state m c t.val).dk := by
  have hN : t.val < 36 := lt_of_lt_of_eq t.isLt N_0
  have hz : t.val ≠ 0 := by rintro h; rw [h] at hd; exact absurd hd (by decide)
  rw [Dat.before_out_traj _ 7 rfl (fun _ _ => rfl) (fun t _ hi => absurd (hi.symm.trans (idle_eq t 7)) (by simp)) t.val t rfl d,
    fresh7 t.val (le_of_lt t.isLt), if_neg (by rw [hd]; simp; omega), after_7]
  rw [show t.val - 1 + 1 = t.val by omega]

theorem of_same {P Q : sProp 𝕄} (h : P = Q) : P ⊢ Q := h ▸ .rfl

/-- A window that is not idle leaves what the data say. -/
theorem leaves_live (c : Dev nD) (t : Fin grid0.N) (w : Fin 9) (h : (w == 8 && !closing t.val) = false) :
    (dats m 0 c).leavesExact w t = owns (c : Thread nD τ) (((cfg0 (F := F) admissible).win w).stage ((cfg0 (F := F) admissible).slots t w)) fullShare ((dats m 0 c).after w t) := by
  unfold Dat.leavesExact; rw [show (cfg0 (F := F) admissible).idle w _ = _ from idle_eq t w, h]
/-- The value gradient's buffer is left alone at a point that does not close its column. -/
theorem leaves_idle (c : Dev nD) (t : Fin grid0.N) (h : closing t.val = false) :
    (dats m 0 c).leavesExact 8 t = iprop(∃ d, owns (c : Thread nD τ) (((cfg0 (F := F) admissible).win 8).stage ((cfg0 (F := F) admissible).slots t 8)) fullShare ((dats m 0 c).before 8 t d)) := by
  unfold Dat.leavesExact
  rw [show (cfg0 (F := F) admissible).idle 8 _ = _ from idle_eq t 8, show ((cfg0 (F := F) admissible).win 8).flush t = _ from flush8 t, h]
  rfl

theorem leave_0 (c : Dev nD) (t : Fin grid0.N) : (owns (c : Thread nD τ) (ms0 (F := F) t) fullShare (iblk m c 0 t) : sProp 𝕄) ⊢ (dats m 0 c).leavesExact 0 t :=
  of_same (leaves_live m c t 0 rfl).symm
theorem leave_1 (c : Dev nD) (t : Fin grid0.N) : (owns (c : Thread nD τ) (ms1 (F := F) t) fullShare (iblk m c 1 t) : sProp 𝕄) ⊢ (dats m 0 c).leavesExact 1 t :=
  of_same (leaves_live m c t 1 rfl).symm
theorem leave_2 (c : Dev nD) (t : Fin grid0.N) : (owns (c : Thread nD τ) (ms2 (F := F) t) fullShare (iblk m c 2 t) : sProp 𝕄) ⊢ (dats m 0 c).leavesExact 2 t :=
  of_same (leaves_live m c t 2 rfl).symm
theorem leave_3 (c : Dev nD) (t : Fin grid0.N) : (owns (c : Thread nD τ) (ms3 (F := F) t) fullShare (iblk m c 3 t) : sProp 𝕄) ⊢ (dats m 0 c).leavesExact 3 t :=
  of_same (leaves_live m c t 3 rfl).symm
theorem leave_4 (c : Dev nD) (t : Fin grid0.N) : (owns (c : Thread nD τ) (ms4 (F := F) t) fullShare (iblk m c 4 t) : sProp 𝕄) ⊢ (dats m 0 c).leavesExact 4 t :=
  of_same (leaves_live m c t 4 rfl).symm
theorem leave_5 (c : Dev nD) (t : Fin grid0.N) : (owns (c : Thread nD τ) (ms5 (F := F) t) fullShare (iblk m c 5 t) : sProp 𝕄) ⊢ (dats m 0 c).leavesExact 5 t :=
  of_same (leaves_live m c t 5 rfl).symm
theorem leave_6 (c : Dev nD) (t : Fin grid0.N) : (owns (c : Thread nD τ) (ms6 (F := F) t) fullShare (state m c (t.val + 1)).dq : sProp 𝕄) ⊢ (dats m 0 c).leavesExact 6 t :=
  of_same (leaves_live m c t 6 rfl).symm
theorem leave_7 (c : Dev nD) (t : Fin grid0.N) : (owns (c : Thread nD τ) (ms7 (F := F) t) fullShare (state m c (t.val + 1)).dk : sProp 𝕄) ⊢ (dats m 0 c).leavesExact 7 t :=
  of_same (leaves_live m c t 7 rfl).symm
theorem leave_8 (c : Dev nD) (t : Fin grid0.N) (d) (y : Vec F S1024x256 .bf16) (hy : y = (dats m 0 c).before 8 t d) :
    (owns (c : Thread nD τ) (ms8 (F := F) t) fullShare (if closing t.val = true then (state m c (t.val + 1)).dv else y) : sProp 𝕄)
      ⊢ (dats m 0 c).leavesExact 8 t := by
  cases hl : closing t.val
  · rw [if_neg (by decide)]
    refine .trans ?_ (of_same (leaves_idle m c t hl).symm)
    subst hy
    iintro H; iexists d; iexact H
  · rw [if_pos rfl]
    exact of_same (leaves_live m c t 8 (by rw [hl]; rfl)).symm

/-- What the body is called with at a point, -/
def bodyPre (c : Dev nD) (t : Fin grid0.N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d))
    ∗ (∃ d, owns (c : Thread nD τ) (ms4 (F := F) t) fullShare ((dats m 0 c).before 4 t d))
    ∗ (∃ d, owns (c : Thread nD τ) (ms5 (F := F) t) fullShare ((dats m 0 c).before 5 t d))
    ∗ (∃ d, owns (c : Thread nD τ) (ms6 (F := F) t) fullShare ((dats m 0 c).before 6 t d))
    ∗ (∃ d, owns (c : Thread nD τ) (ms7 (F := F) t) fullShare ((dats m 0 c).before 7 t d))
    ∗ (∃ d, owns (c : Thread nD τ) (ms8 (F := F) t) fullShare ((dats m 0 c).before 8 t d)))
/-- and what it returns. -/
def bodyPost (c : Dev nD) (t : Fin grid0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem kept_at (c : Dev nD) (t : Fin grid0.N) : (dats m 0 c).Φ t.castSucc = kept m c t.val := by
  dsimp only [dats]; exact Pipeline.Dat.Φ_castSucc (fun n _ => kept m c n) t
theorem kept_next (c : Dev nD) (t : Fin grid0.N) : (dats m 0 c).Φ t.succ = kept m c (t.val + 1) := rfl

set_option maxHeartbeats 1600000 in
/-- The body at every point. -/
theorem sound_body (c : Dev nD) (t : Fin grid0.N) :
    bodyPre m c t ⊢ wp frame (wpE (defs₀ (F := F)) Variants.none c none) Set.univ (bodyAt (F := F) t) (fun _ => bodyPost m c t) := by
  unfold bodyPre
  simp only [before_0, before_1, before_2, before_3, before_4, before_5]
  rw [kept_at]
  unfold kept
  iintro ⟨⟨⟨%s, %hs, Hs⟩, Hr, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body m c t (state m c t.val) ((dats m 0 c).before 6 t d6) ((dats m 0 c).before 7 t d7) ((dats m 0 c).before 8 t d8) s
    (fun hz => before_6 m c t hz d6) (fun hd => before_7 m c t hd d7)
    (fun hd => hs (fun h => by rw [h] at hd; exact absurd hd (by decide))) (fun _ => bodyPost m c t))
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [H6]; · iexact H6
  isplitl [H7]; · iexact H7
  isplitl [H8]; · iexact H8
  isplitl [Hs]; · iexact Hs
  iintro ⟨H0, H1, H2, H3, H4, H5, HT0, HT1, H6, H7, H8, Hs⟩
  rw [← state_succ]
  unfold bodyPost
  rw [kept_next, show (dats m 0 c).owesAt () t.succ = (dats m 0 c).owesAt () t.castSucc from rfl]
  unfold kept
  isplitl [Hs Hr HT0 HT1]
  · isplitl [Hs]
    · iexists _; isplitr
      swap; · iexact Hs
      ipureintro; exact fun _ => rfl
    isplitl [Hr]; · iexact Hr
    isplitl [HT0]; · iexact HT0
    iexact HT1
  isplitl [Ho]; · iexact Ho
  isplitl [H0]; · iapply (leave_0 m c t); iexact H0
  isplitl [H1]; · iapply (leave_1 m c t); iexact H1
  isplitl [H2]; · iapply (leave_2 m c t); iexact H2
  isplitl [H3]; · iapply (leave_3 m c t); iexact H3
  isplitl [H4]; · iapply (leave_4 m c t); iexact H4
  isplitl [H5]; · iapply (leave_5 m c t); iexact H5
  isplitl [H6]; · iapply (leave_6 m c t); iexact H6
  isplitl [H7]; · iapply (leave_7 m c t); iexact H7
  iapply (leave_8 m c t d8 _ rfl); iexact H8

/-- The body the pipeline runs is the one stated. -/
theorem defs₀_row (t : Fin grid0.N) :
    defs₀ (F := F) .tc (cfg0 (F := F) admissible).body ((cfg0 (F := F) admissible).bodyArgs t ((cfg0 (F := F) admissible).slots t)) = bodyAt (F := F) t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem held_tables (c : Dev nD) : (Pipeline.ΦT pre0 (tables (F := F)) c : sProp 𝕄) = iprop(table0 (F := F) c ∗ table1 (F := F) c) := by
  unfold Pipeline.ΦT Pipeline.prefHeld
  rw [show (Finset.univ : Finset (Fin 2)) = insert (0 : Fin 2) {(1 : Fin 2)} from by decide, bigSep_insert (by decide), bigSep_singleton]
  rfl

/-- What the launch hands over is what the body keeps before the first point, -/
theorem enter (c : Dev nD) : iprop(Pipeline.ΦA spec0 c ∗ Pipeline.ΦT pre0 (tables (F := F)) c) ⊢ (kept m c 0 : sProp 𝕄) := by
  unfold Pipeline.ΦA kept
  rw [held_tables, scopedRest0_eq]
  iintro ⟨⟨⟨%f, Hf⟩, Hr⟩, HT0, HT1⟩
  isplitl [Hf]
  · iexists f; isplitr
    · ipureintro; exact fun h => absurd rfl h
    rw [owns_whole]; iexact Hf
  isplitl [Hr]; · iexact Hr
  isplitl [HT0]; · iexact HT0
  iexact HT1
/-- and what it keeps after the last one gives it back. -/
theorem leave (c : Dev nD) (n : ℕ) : (kept m c n : sProp 𝕄) ⊢ Pipeline.ΦA spec0 c := by
  unfold Pipeline.ΦA kept
  rw [scopedRest0_eq]
  iintro ⟨⟨%d, -, Hs⟩, Hr, -, -⟩
  isplitl [Hs]
  · iexists d
    iapply (show (owns (c : Thread nD τ) (Memref.whole cc0_scratch0) fullShare d : sProp 𝕄) ⊢ _ from by rw [owns_whole])
    iexact Hs
  iexact Hr

set_option backward.isDefEq.respectTransparency.types false in
set_option maxHeartbeats 1600000 in
/-- The launch: every execution ends, with every array at what the data compute, every other buffer as the lines after the call
    leave it, and no semaphore raised. -/
theorem run_main_quiescent : θ_run defs (onTc (τ := τ) (main (F := F))) (s₀ m ρ)
    (fun r => (Pipeline.FramePost (Pipeline.pin pcfgs fun _ => admissible) (dats m) 0
      (Pipeline.afterTail pcfgs (fun _ => admissible) (dats m) 0 (V0 m) [hostOps1])) r ∧ r.2.sem = fun _ => 0) :=
  Pipeline.θ_run_frameP_around_track (Q' := _) pcfgs (fun _ => admissible) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := after_sub) (hfresh := after_fresh) (hkeep := after_keeps)
    (hmain := hmain m) (hA := A_eq m) (hpf := V_pre m) (hin := enter m) (hout := fun c => leave m c _)

/-- An argument no window moves is left alone by the call and the lines after it. -/
theorem arg_kept {b : Ref sig .tc} (hb : b ∉ main_c :: main_c_0 :: written)
    (ha : b ∉ [main_v46, main_v47, main_cst_10, main_v48, main_v49, main_v50, main_v51])
    (hw : ∀ w : Fin 9, Pipeline.arrRef spec0 w ≠ b) (c : Dev nD) :
    Pipeline.afterTail pcfgs (fun _ => admissible) (dats m) 0 (V0 m) [hostOps1] c b = m (c, Proc.devRef .tc b) := by
  unfold Pipeline.afterTail
  rw [StableHlo.after_unwritten [main_v46, main_v47, main_cst_10, main_v48, main_v49, main_v50, main_v51] rfl ha _]
  exact (Pipeline.withArrays_of_ne _ c (V0 m c) _ b hw).trans (V_kept m hb c)

end Cert.FlashIdeal.Mine
-- ==== Proof.FlashStages.lean ====
/- The attention's stages on whole arrays, and what each is at an index over the extended reals. -/
module

public import proofs.«01_k».proof.Proof.Gen.FlashRefIdeal
public import Idealize.ShloMosaic.Lib.Pipeline.ValueKit
public import Idealize.ShloMosaic.Lib.Pointwise
public import Idealize.ShloMosaic.Lib.WordCmp

@[expose] public section

set_option maxRecDepth 16384

noncomputable section

namespace Cert.FlashRefIdeal.Mine

open Idealize.ShloMosaic Idealize.ShloMosaic.TcCoe Idealize.ShloMosaic.Tactic
open Cert.FlashRefIdeal Cert.FlashRefIdeal.Gen

/-- Scores' entries, rows' entries. -/
abbrev Scores := FVec Ideal S4x8192x8192 .f32
abbrev Rows := FVec Ideal S4x8192 .f32

/-- The scale of the scores. -/
abbrev scale : EReal := Scalar.ofBits (F := Ideal) .f32 0x3DD105EC#32

/-- The causal mask, -/
def mask : IVec S4x8192x8192 1 :=
  broadcastInDim S4x8192x8192 ![1, 2] bcast_S8192x8192_S4x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
/-- the masked scores, -/
def masked (A0 A1 : FVec Ideal S8192x4x96 .f32) : Scores :=
  select mask (mulf (Host.dotGeneral dot_S8192x4x96_S8192x4x96_S4x8192x8192_2_2_0_0_1_1 none A0 A1) (broadcastInDim S4x8192x8192 ![] bcast_S_S4x8192x8192 (constant S_ .f32 0x3DD105EC#32))) (broadcastInDim S4x8192x8192 ![] bcast_S_S4x8192x8192 (id (constant S_ .f32 0xFF800000#32)))
/-- their rows' maxima, -/
def rowMax (s : Scores) : Rows := Host.reduce FloatOps.maximumf s (constant S_ .f32 0xFF800000#32) reducesTo_S4x8192x8192_S4x8192_d2 h_S_
/-- a row's value in all its columns, -/
def spread (x : Rows) : Scores := broadcastInDim S4x8192x8192 ![0, 1, 2] bcast_S4x8192x1_S4x8192x8192_0_1_2 (broadcastInDim S4x8192x1 ![0, 1] bcast_S4x8192_S4x8192x1_0_1 x)
/-- the exponentials, -/
def expo (s : Scores) (μ : Rows) : Scores := Host.exp (subf s (spread μ))
/-- and their sums. -/
def rowSum (e : Scores) : Rows := Host.reduceAdd e (constant S_ .f32 0x00000000#32) reducesTo_S4x8192x8192_S4x8192_d2 h_S_

theorem mask_select (x y : Scores) (h : Fin 4) (r c : Fin 8192) : select mask x y (ix3 h r c) = if c.val ≤ r.val then x (ix3 h r c) else y (ix3 h r c) := by
  have e : mask (ix3 h r c) = IntOp.cmpi .sle (BitVec.ofNat 32 c.val) (BitVec.ofNat 32 r.val) := by
    unfold mask
    pointwise []
  show Scalar.select (mask (ix3 h r c)) _ _ = _
  rw [e, WordCmp.cmpi_sle_ofNat (by omega) (by omega)]
  exact WordCmp.select_decide _ _ _

theorem spread_at (x : Rows) (h : Fin 4) (r c : Fin 8192) : spread x (ix3 h r c) = x (ix2 h r) := by
  unfold spread
  pointwise []

theorem masked_at (A0 A1 : FVec Ideal S8192x4x96 .f32) (h : Fin 4) (r c : Fin 8192) :
    masked A0 A1 (ix3 h r c) = if c.val ≤ r.val then (∑ d : Fin 96, (A0 (ix3 r h d) : EReal) * (A1 (ix3 c h d) : EReal)) * scale else ⊥ := by
  unfold masked
  rw [mask_select]
  congr 1
  pointwise []

theorem lowest : Ideal.ofBits .f32 0xFF800000#32 = ⊥ := by
  simp [Ideal.ofBits, Ideal.ieee]

theorem rowMax_at (s : Scores) (h : Fin 4) (r : Fin 8192) : rowMax s (ix2 h r) = Finset.univ.sup fun c : Fin 8192 => (s (ix3 h r c) : EReal) := by
  unfold rowMax
  pointwise []
  rw [lowest]
  rfl

theorem expo_at (s : Scores) (μ : Rows) (h : Fin 4) (r c : Fin 8192) : expo s μ (ix3 h r c) = Ideal.exp ((s (ix3 h r c) : EReal) - (μ (ix2 h r) : EReal)) := by
  unfold expo
  pointwise [spread_at]

theorem rowSum_at (e : Scores) (h : Fin 4) (r : Fin 8192) : rowSum e (ix2 h r) = ∑ c : Fin 8192, (e (ix3 h r c) : EReal) := by
  unfold rowSum
  pointwise []

/-- The rows' maxima, no lower than the lowest value. -/
def atLeast (x : Rows) : Rows := maximumf (broadcastInDim S4x8192 ![] bcast_S_S4x8192 (constant S_ .f32 0xFF800000#32)) x
theorem atLeast_eq (x : Rows) : atLeast x = x := by
  funext i
  unfold atLeast
  show max (Ideal.ofBits .f32 0xFF800000#32) (x i : EReal) = x i
  rw [lowest]
  exact max_bot_left _

/-- The columns' shares of a row. -/
def share (e : Scores) (L : Rows) : Scores := Host.divf e (spread L)
theorem share_at (e : Scores) (L : Rows) (h : Fin 4) (r c : Fin 8192) : share e L (ix3 h r c) = Ideal.div (e (ix3 h r c)) (L (ix2 h r)) := by
  unfold share
  pointwise [spread_at]

/-- A head's column among all heads' columns. -/
abbrev column (h : Fin 4) (e : Fin 64) : Fin 256 := ⟨64 * h.val + e.val, by omega⟩

/-- A row of values, head by head, -/
def heads (A : FVec Ideal S8192x256 .f32) : FVec Ideal S8192x4x64 .f32 := shapeCast S8192x4x64 A shapeCasts_S8192x256_S8192x4x64
theorem heads_at (A : FVec Ideal S8192x256 .f32) (r : Fin 8192) (h : Fin 4) (e : Fin 64) : heads A (ix3 r h e) = A (ix2 r (column h e)) := by
  unfold heads
  pointwise []
  exact congrArg A (congrArg (ix2 r) (Fin.ext (by show h.val * 64 + e.val = 64 * h.val + e.val; omega)))
/-- heads and columns first. -/
def headsFirst (A : FVec Ideal S8192x256 .f32) : FVec Ideal S4x64x8192 .f32 := transpose S4x64x8192 [1, 2, 0] (heads A) transposes_S8192x4x64_S4x64x8192_1_2_0
theorem headsFirst_at (A : FVec Ideal S8192x256 .f32) (h : Fin 4) (e : Fin 64) (r : Fin 8192) : headsFirst A (ix3 h e r) = A (ix2 r (column h e)) := by
  unfold headsFirst
  pointwise [heads_at]

/-- The shares' gradients. -/
def shareGrad (A2 A3 : FVec Ideal S8192x256 .f32) : Scores := Host.dotGeneral dot_S4x64x8192_S8192x4x64_S4x8192x8192_1_2_2_0_0_1 none (headsFirst A3) (heads A2)
theorem shareGrad_at (A2 A3 : FVec Ideal S8192x256 .f32) (h : Fin 4) (r c : Fin 8192) :
    shareGrad A2 A3 (ix3 h r c) = ∑ e : Fin 64, (A3 (ix2 r (column h e)) : EReal) * (A2 (ix2 c (column h e)) : EReal) := by
  unfold shareGrad
  pointwise [heads_at, headsFirst_at]

/-- A row's sum of the shares' gradients, each by its exponential and by the inverse square of the exponentials' sum, negated. -/
def rowGrad (dp e : Scores) (L : Rows) : Rows :=
  Host.reduceAdd (Host.negf (shapeCast S4x8192x1 (Host.reduceAdd (mulf (mulf dp (broadcastInDim S4x8192x8192 ![0, 1, 2] bcast_S4x8192x1_S4x8192x8192_0_1_2 (Host.divf (broadcastInDim S4x8192x1 ![] bcast_S_S4x8192x1 (constant S_ .f32 0x3F800000#32)) (mulf (broadcastInDim S4x8192x1 ![0, 1] bcast_S4x8192_S4x8192x1_0_1 L) (broadcastInDim S4x8192x1 ![0, 1] bcast_S4x8192_S4x8192x1_0_1 L))))) e) (constant S_ .f32 0x00000000#32) reducesTo_S4x8192x8192_S4x8192_d2 h_S_) shapeCasts_S4x8192_S4x8192x1)) (constant S_ .f32 0x00000000#32) reducesTo_S4x8192x1_S4x8192_d2 h_S_
theorem rowGrad_at (dp e : Scores) (L : Rows) (h : Fin 4) (r : Fin 8192) :
    rowGrad dp e L (ix2 h r) = -(∑ c : Fin 8192, (dp (ix3 h r c) : EReal) * Ideal.div (Ideal.ofBits .f32 0x3F800000#32) ((L (ix2 h r) : EReal) * (L (ix2 h r) : EReal)) * (e (ix3 h r c) : EReal)) := by
  unfold rowGrad
  pointwise []
  simp only [Fin.sum_univ_one]

/-- The scores' gradients. -/
def scoreGrad (dp e : Scores) (L G : Rows) : Scores :=
  mulf (select mask (mulf (addf (Host.divf dp (spread L)) (broadcastInDim S4x8192x8192 ![0, 1] bcast_S4x8192_S4x8192x8192_0_1 G)) e) (broadcastInDim S4x8192x8192 ![] bcast_S_S4x8192x8192 (constant S_ .f32 0x00000000#32))) (broadcastInDim S4x8192x8192 ![] bcast_S_S4x8192x8192 (constant S_ .f32 0x3DD105EC#32))
theorem scoreGrad_at (dp e : Scores) (L G : Rows) (h : Fin 4) (r c : Fin 8192) :
    scoreGrad dp e L G (ix3 h r c) = (if c.val ≤ r.val then (Ideal.div (dp (ix3 h r c)) (L (ix2 h r)) + (G (ix2 h r) : EReal)) * (e (ix3 h r c) : EReal) else (0 : EReal)) * scale := by
  unfold scoreGrad
  show (select mask _ _ (ix3 h r c) : EReal) * _ = _
  rw [mask_select]
  congr 1
  congr 1
  · pointwise [spread_at]
  · pointwise []

/-- The three gradients of the scores' gradients and the shares. -/
def queryGrad (ds : Scores) (A1 : FVec Ideal S8192x4x96 .f32) : FVec Ideal S8192x4x96 .f32 :=
  transpose S8192x4x96 [1, 0, 2] (Host.dotGeneral dot_S4x8192x8192_S8192x4x96_S4x8192x96_2_0_1_2_0_1 none ds A1) transposes_S4x8192x96_S8192x4x96_1_0_2
theorem queryGrad_at (ds : Scores) (A1 : FVec Ideal S8192x4x96 .f32) (r : Fin 8192) (h : Fin 4) (d : Fin 96) :
    queryGrad ds A1 (ix3 r h d) = ∑ c : Fin 8192, (ds (ix3 h r c) : EReal) * (A1 (ix3 c h d) : EReal) := by
  unfold queryGrad
  pointwise []
def keyGrad (ds : Scores) (A0 : FVec Ideal S8192x4x96 .f32) : FVec Ideal S8192x4x96 .f32 :=
  transpose S8192x4x96 [1, 0, 2] (Host.dotGeneral dot_S4x8192x8192_S8192x4x96_S4x8192x96_1_0_2_2_0_1 none ds A0) transposes_S4x8192x96_S8192x4x96_1_0_2
theorem keyGrad_at (ds : Scores) (A0 : FVec Ideal S8192x4x96 .f32) (c : Fin 8192) (h : Fin 4) (d : Fin 96) :
    keyGrad ds A0 (ix3 c h d) = ∑ r : Fin 8192, (ds (ix3 h r c) : EReal) * (A0 (ix3 r h d) : EReal) := by
  unfold keyGrad
  pointwise []
def valueGrad (p : Scores) (A3 : FVec Ideal S8192x256 .f32) : FVec Ideal S8192x256 .bf16 :=
  truncf .bf16 (shapeCast S8192x256 (transpose S8192x4x64 [2, 0, 1] (Host.dotGeneral dot_S4x64x8192_S4x8192x8192_S4x64x8192_2_1_1_2_0_0 none (headsFirst A3) p) transposes_S4x64x8192_S8192x4x64_2_0_1) shapeCasts_S8192x4x64_S8192x256) bitsLt_bf16_f32
theorem valueGrad_at (p : Scores) (A3 : FVec Ideal S8192x256 .f32) (c : Fin 8192) (h : Fin 4) (e : Fin 64) :
    valueGrad p A3 (ix2 c (column h e)) = ∑ r : Fin 8192, (A3 (ix2 r (column h e)) : EReal) * (p (ix3 h r c) : EReal) := by
  unfold valueGrad
  pointwise [headsFirst_at]
  simp only [show (64 * h.val + e.val) / 64 = h.val by omega, show (64 * h.val + e.val) % 64 = e.val by omega]

end Cert.FlashRefIdeal.Mine
-- ==== Proof.FlashRefValue.lean ====
/- The reference's three results are the stages of FlashStages. -/
module

public import proofs.«01_k».proof.Proof.FlashStages
public import proofs.«01_k».proof.Proof.Gen.FlashRefIdeal.Run

@[expose] public section

set_option maxRecDepth 16384

noncomputable section

namespace Cert.FlashRefIdeal.Mine

open Idealize.ShloMosaic Idealize.ShloMosaic.TcCoe Idealize.ShloMosaic.Tactic
open Cert.FlashRefIdeal Cert.FlashRefIdeal.Gen

variable (m : (ℓ : Loc nD τ sig) → Buf (Elt Ideal) ℓ) (c : Dev nD)

/-- The arguments. -/
abbrev arg0 : FVec Ideal S8192x4x96 .f32 := m ((c.tc : Thread nD τ).loc main_arg0)
abbrev arg1 : FVec Ideal S8192x4x96 .f32 := m ((c.tc : Thread nD τ).loc main_arg1)
abbrev arg2 : FVec Ideal S8192x256 .f32 := m ((c.tc : Thread nD τ).loc main_arg2)
abbrev arg3 : FVec Ideal S8192x256 .f32 := m ((c.tc : Thread nD τ).loc main_arg3)

/-- The exponentials, their sums -/
def refExpo (A0 A1 : FVec Ideal S8192x4x96 .f32) : Scores := expo (masked A0 A1) (atLeast (rowMax (masked A0 A1)))
def refSum (A0 A1 : FVec Ideal S8192x4x96 .f32) : Rows := rowSum (refExpo A0 A1)
/-- and the scores' gradients. -/
def refGrad (A0 A1 : FVec Ideal S8192x4x96 .f32) (A2 A3 : FVec Ideal S8192x256 .f32) : Scores :=
  scoreGrad (shareGrad A2 A3) (refExpo A0 A1) (refSum A0 A1) (rowGrad (shareGrad A2 A3) (refExpo A0 A1) (refSum A0 A1))

theorem result0 : Cert.FlashRefIdeal.Value.res_main_v66 m c = queryGrad (refGrad (arg0 m c) (arg1 m c) (arg2 m c) (arg3 m c)) (arg1 m c) := by
  sl_kernel_rfl
theorem result1 : Cert.FlashRefIdeal.Value.res_main_v64 m c = keyGrad (refGrad (arg0 m c) (arg1 m c) (arg2 m c) (arg3 m c)) (arg0 m c) := by
  sl_kernel_rfl
theorem result2 : Cert.FlashRefIdeal.Value.res_main_v67 m c = valueGrad (share (refExpo (arg0 m c) (arg1 m c)) (refSum (arg0 m c) (arg1 m c))) (arg3 m c) := by
  sl_kernel_rfl

end Cert.FlashRefIdeal.Mine
-- ==== Proof.FlashSoft.lean ====
/- The reference's stages at real arguments: every entry is a real number, and a score's gradient is the share's times its
   gradient less the row's mean of them. -/
module

public import proofs.«01_k».proof.Proof.FlashRefValue
public import proofs.«01_k».proof.Proof.Reals

@[expose] public section

set_option maxRecDepth 16384

noncomputable section

namespace Cert.FlashRefIdeal.Mine

open Idealize.ShloMosaic Idealize.ShloMosaic.TcCoe Idealize.ShloMosaic.Tactic
open Cert.FlashRefIdeal Cert.FlashRefIdeal.Gen

/-- A sum of real numbers is one. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- The scale is a real number. -/
def σ : ℝ := 13698540 / 134217728
theorem scale_eq : scale = ((σ : ℝ) : EReal) := by
  show Ideal.ofBits .f32 0x3DD105EC#32 = _
  unfold σ
  simp [Ideal.ofBits, Ideal.ieee, -EReal.coe_mul]
  norm_num

/-- The arguments' entries as real numbers, and the rows' maxima. -/
structure Finite (A0 A1 : FVec Ideal S8192x4x96 .f32) (A2 A3 : FVec Ideal S8192x256 .f32) where
  q : Fin 8192 → Fin 4 → Fin 96 → ℝ
  k : Fin 8192 → Fin 4 → Fin 96 → ℝ
  v : Fin 8192 → Fin 256 → ℝ
  g : Fin 8192 → Fin 256 → ℝ
  hq : ∀ r h d, (A0 (ix3 r h d) : EReal) = ((q r h d : ℝ) : EReal)
  hk : ∀ r h d, (A1 (ix3 r h d) : EReal) = ((k r h d : ℝ) : EReal)
  hv : ∀ r e, (A2 (ix2 r e) : EReal) = ((v r e : ℝ) : EReal)
  hg : ∀ r e, (A3 (ix2 r e) : EReal) = ((g r e : ℝ) : EReal)

namespace Finite
variable {A0 A1 : FVec Ideal S8192x4x96 .f32} {A2 A3 : FVec Ideal S8192x256 .f32} (W : Finite A0 A1 A2 A3)

/-- The scores, -/
def score (h : Fin 4) (r c : Fin 8192) : ℝ := (∑ d, W.q r h d * W.k c h d) * σ

theorem masked_eq (h : Fin 4) (r c : Fin 8192) : masked A0 A1 (ix3 h r c) = if c.val ≤ r.val then ((W.score h r c : ℝ) : EReal) else ⊥ := by
  rw [masked_at, scale_eq]
  refine if_congr Iff.rfl ?_ rfl
  unfold score
  rw [EReal.coe_mul, ← sum_coe]
  simp only [EReal.coe_mul, W.hq, W.hk]

include W in
theorem top_real (h : Fin 4) (r : Fin 8192) : ∃ x : ℝ, (rowMax (masked A0 A1) (ix2 h r) : EReal) = ((x : ℝ) : EReal) := by
  rw [rowMax_at]
  obtain ⟨c, -, e⟩ := Finset.exists_mem_eq_sup (Finset.univ : Finset (Fin 8192)) ⟨r, Finset.mem_univ _⟩ fun c : Fin 8192 => (masked A0 A1 (ix3 h r c) : EReal)
  have own : ((W.score h r r : ℝ) : EReal) ≤ Finset.univ.sup fun c : Fin 8192 => (masked A0 A1 (ix3 h r c) : EReal) := by
    refine le_trans (le_of_eq ?_) (Finset.le_sup (f := fun c : Fin 8192 => (masked A0 A1 (ix3 h r c) : EReal)) (Finset.mem_univ r))
    exact ((W.masked_eq h r r).trans (if_pos le_rfl)).symm
  by_cases hc : c.val ≤ r.val
  · exact ⟨W.score h r c, e.trans ((W.masked_eq h r c).trans (if_pos hc))⟩
  · rw [e, W.masked_eq h r c, if_neg hc] at own
    exact absurd own (not_le.mpr (EReal.bot_lt_coe _))

/-- a row's maximum, -/
def top (h : Fin 4) (r : Fin 8192) : ℝ := (W.top_real h r).choose
theorem top_eq (h : Fin 4) (r : Fin 8192) : (rowMax (masked A0 A1) (ix2 h r) : EReal) = ((W.top h r : ℝ) : EReal) := (W.top_real h r).choose_spec

/-- the exponentials, -/
def e (h : Fin 4) (r c : Fin 8192) : ℝ := if c.val ≤ r.val then Real.exp (W.score h r c - W.top h r) else 0
theorem expo_eq (h : Fin 4) (r c : Fin 8192) : (expo (masked A0 A1) (rowMax (masked A0 A1)) (ix3 h r c) : EReal) = ((W.e h r c : ℝ) : EReal) := by
  rw [expo_at, W.masked_eq, W.top_eq]
  unfold e
  by_cases hc : c.val ≤ r.val
  · rw [if_pos hc, if_pos hc, ← EReal.coe_sub, Ideal.exp_coe]
  · rw [if_neg hc, if_neg hc, sub_eq_add_neg, EReal.bot_add, Ideal.exp_bot, EReal.coe_zero]

/-- their sum, which is positive, -/
def total (h : Fin 4) (r : Fin 8192) : ℝ := ∑ c, W.e h r c
theorem total_eq (h : Fin 4) (r : Fin 8192) : (rowSum (expo (masked A0 A1) (rowMax (masked A0 A1))) (ix2 h r) : EReal) = ((W.total h r : ℝ) : EReal) := by
  rw [rowSum_at]
  simp only [W.expo_eq]
  exact sum_coe _ _
theorem e_nonneg (h : Fin 4) (r c : Fin 8192) : 0 ≤ W.e h r c := by
  unfold e
  split
  · exact (Real.exp_pos _).le
  · exact le_rfl
theorem total_pos (h : Fin 4) (r : Fin 8192) : 0 < W.total h r :=
  Finset.sum_pos' (fun c _ => W.e_nonneg h r c) ⟨r, Finset.mem_univ _, by unfold e; rw [if_pos le_rfl]; exact Real.exp_pos _⟩

/-- the shares, -/
def P (h : Fin 4) (r c : Fin 8192) : ℝ := W.e h r c / W.total h r
theorem share_eq (h : Fin 4) (r c : Fin 8192) : (share (expo (masked A0 A1) (rowMax (masked A0 A1))) (rowSum (expo (masked A0 A1) (rowMax (masked A0 A1)))) (ix3 h r c) : EReal) = ((W.P h r c : ℝ) : EReal) := by
  rw [share_at, W.expo_eq, W.total_eq, Ideal.div_coe (W.total_pos h r).ne', ← EReal.coe_mul]
  unfold P
  rw [mul_one_div]

/-- their gradients, the row's mean of them -/
def dp (h : Fin 4) (r c : Fin 8192) : ℝ := ∑ l : Fin 64, W.g r (column h l) * W.v c (column h l)
def mean (h : Fin 4) (r : Fin 8192) : ℝ := ∑ c, W.P h r c * W.dp h r c
/-- and the scores' gradients. -/
def D (h : Fin 4) (r c : Fin 8192) : ℝ := W.P h r c * (W.dp h r c - W.mean h r)

theorem shareGrad_eq (h : Fin 4) (r c : Fin 8192) : (shareGrad A2 A3 (ix3 h r c) : EReal) = ((W.dp h r c : ℝ) : EReal) := by
  rw [shareGrad_at]
  simp only [W.hg, W.hv, ← EReal.coe_mul]
  exact sum_coe _ _

theorem inverse_square (h : Fin 4) (r : Fin 8192) :
    Ideal.div (Ideal.ofBits .f32 0x3F800000#32) (((W.total h r : ℝ) : EReal) * ((W.total h r : ℝ) : EReal)) = ((1 / (W.total h r * W.total h r) : ℝ) : EReal) := by
  have hp := W.total_pos h r
  rw [← EReal.coe_mul, Ideal.div_coe (by positivity), Cert.Tools.word_one, ← EReal.coe_mul, one_mul]

theorem rowGrad_eq (h : Fin 4) (r : Fin 8192) :
    (rowGrad (shareGrad A2 A3) (expo (masked A0 A1) (rowMax (masked A0 A1))) (rowSum (expo (masked A0 A1) (rowMax (masked A0 A1)))) (ix2 h r) : EReal)
      = ((-(∑ c, W.dp h r c * (1 / (W.total h r * W.total h r)) * W.e h r c) : ℝ) : EReal) := by
  rw [rowGrad_at]
  simp only [W.shareGrad_eq, W.total_eq, W.expo_eq, W.inverse_square]
  simp only [← EReal.coe_mul]
  rw [sum_coe, ← EReal.coe_neg]

/-- The two ways of writing a score's gradient. -/
theorem two_ways (h : Fin 4) (r c : Fin 8192) :
    (W.dp h r c * (1 / W.total h r) + -(∑ c, W.dp h r c * (1 / (W.total h r * W.total h r)) * W.e h r c)) * W.e h r c = W.D h r c := by
  have hp := (W.total_pos h r).ne'
  have hm : ∑ c, W.dp h r c * (1 / (W.total h r * W.total h r)) * W.e h r c = W.mean h r * (1 / W.total h r) := by
    unfold mean P
    rw [Finset.sum_mul]
    refine Finset.sum_congr rfl fun c _ => ?_
    field_simp
  rw [hm]
  unfold D P
  field_simp
  ring

theorem grad_eq (h : Fin 4) (r c : Fin 8192) : (refGrad A0 A1 A2 A3 (ix3 h r c) : EReal) = ((W.D h r c * σ : ℝ) : EReal) := by
  unfold refGrad refSum refExpo
  rw [atLeast_eq, scoreGrad_at, W.shareGrad_eq, W.rowGrad_eq, W.expo_eq, W.total_eq, Ideal.div_coe (W.total_pos h r).ne', scale_eq, ← EReal.coe_mul, ← EReal.coe_add, ← EReal.coe_mul, W.two_ways, EReal.coe_mul]
  refine congrArg (· * ((σ : ℝ) : EReal)) ?_
  by_cases hc : c.val ≤ r.val
  · exact if_pos hc
  · rw [if_neg hc]
    unfold D P e
    rw [if_neg hc, zero_div, zero_mul, EReal.coe_zero]

end Finite

end Cert.FlashRefIdeal.Mine
-- ==== Proof.FlashOps.lean ====
/- The attention gradient's arithmetic on one pair of blocks: the operations of one head, and what they are at an index
over the extended reals. -/
module

public import proofs.«01_k».proof.Proof.Gen.FlashIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

/-- Choosing by `lane < 64`, -/
theorem select_low (x : ℕ) (hx : x < 128) (a b : EReal) :
    Scalar.select (IntOp.cmpi .slt (BitVec.ofNat 32 x) 64#32) a b = if x < 64 then a else b := by
  rw [show (64#32 : BitVec 32) = BitVec.ofNat 32 64 from rfl, WordCmp.cmpi_slt_ofNat (by omega) (by omega)]
  exact WordCmp.select_decide _ _ _

/-- by `lane ≥ 64`, -/
theorem select_high (x : ℕ) (hx : x < 128) (a b : EReal) :
    Scalar.select (IntOp.cmpi .sge (BitVec.ofNat 32 x) 64#32) a b = if 64 ≤ x then a else b := by
  rw [show (64#32 : BitVec 32) = BitVec.ofNat 32 64 from rfl, WordCmp.cmpi_sge_ofNat (by omega) (by omega)]
  exact WordCmp.select_decide _ _ _

/-- by `column ≤ row`. -/
theorem select_causal (c r : ℕ) (hc : c < 1024) (hr : r < 1024) (a b : EReal) :
    Scalar.select (IntOp.cmpi .sle (BitVec.ofNat 32 c) (BitVec.ofNat 32 r)) a b = if c ≤ r then a else b := by
  rw [WordCmp.cmpi_sle_ofNat (by omega) (by omega)]
  exact WordCmp.select_decide _ _ _

/-- Two heads share a row's 128 lanes, the even one the first 64: a head's own lanes, -/
def mine (h : Fin 4) (l : Fin 128) : Prop := if h.val % 2 = 0 then l.val < 64 else 64 ≤ l.val
instance (h : Fin 4) (l : Fin 128) : Decidable (mine h l) := by unfold mine; infer_instance
/-- and a lane among the 256 of the four heads. -/
def lane (h : Fin 4) (l : Fin 128) : Fin 256 := ⟨h.val / 2 * 128 + l.val, by omega⟩

/-- A lane of a column, for a value repeated every 128 columns. -/
def wrap {n : ℕ} (c : Fin n) : Fin 128 := ⟨c.val % 128, Nat.mod_lt _ (by decide)⟩

/-! ## Blocks of 1024 rows and columns -/

/-- A column of lanes, repeated over all columns. -/
def spread (z : FVec Ideal S1024x128 .f32) : FVec Ideal S1024x1024 .f32 := concatenate S1024x1024 1 [⟨S1024x128, z⟩, ⟨S1024x128, z⟩, ⟨S1024x128, z⟩, ⟨S1024x128, z⟩, ⟨S1024x128, z⟩, ⟨S1024x128, z⟩, ⟨S1024x128, z⟩, ⟨S1024x128, z⟩] concatenates_S1024x128_S1024x128_S1024x128_S1024x128_S1024x128_S1024x128_S1024x128_S1024x128_S1024x1024_d1

theorem spread_at (z : FVec Ideal S1024x128 .f32) (r c : Fin 1024) : spread z (ix2 r c) = z (ix2 r (wrap c)) := by
  refine concatenate_replicate_apply (t := S1024x1024) (s₁ := S1024x128) 1 8 z concatenates_S1024x128_S1024x128_S1024x128_S1024x128_S1024x128_S1024x128_S1024x128_S1024x128_S1024x1024_d1 rfl (ix2 r c) (ix2 r (wrap c)) rfl ?_
  intro b hb
  fin_cases b
  · rfl
  · exact absurd rfl hb

/-- A head's scores against all columns, -/
def score (q k : Vec Ideal S1x1024x128 .bf16) : FVec Ideal S1024x1024 .f32 :=
  matmul (φ₁ := .bf16) (φ₂ := .bf16) dot_S1024x128_S1024x128_S1024x1024_1_1_0_0_n_n none (shapeCast S1024x128 q shapeCasts_S1x1024x128_S1024x128 : FVec Ideal S1024x128 .bf16) (shapeCast S1024x128 k shapeCasts_S1x1024x128_S1024x128 : FVec Ideal S1024x128 .bf16) (constant S1024x1024 .f32 0x00000000#32)
/-- the weights those give, the row's log-sum taken off, -/
def weight (s : FVec Ideal S1024x1024 .f32) (l : Vec Ideal S1x1024x128 .f32) : FVec Ideal S1024x1024 .f32 :=
  exp (subf s (spread (shapeCast S1024x128 l shapeCasts_S1x1024x128_S1024x128)))
/-- The lanes of one head among its pair's. -/
def lanes (h : Fin 4) : IVec S1024x128 1 :=
  match h with
  | 0 | 2 => cmpi .slt (iota .tc S1024x128 32 [1] iota_S1024x128_d1_w32) (broadcast S1024x128 64#32)
  | 1 | 3 => cmpi .sge (iota .tc S1024x128 32 [1] iota_S1024x128_d1_w32) (broadcast S1024x128 64#32)
/-- A pair of heads' columns. -/
def pair (h : Fin 4) (x : Vec Ideal S1024x256 .f32) : FVec Ideal S1024x128 .f32 :=
  match h with
  | 0 | 1 => extractStridedSlice S1024x128 ![0, 0] x slices_S1024x256_o0_0_S1024x128
  | 2 | 3 => extractStridedSlice S1024x128 ![0, 128] x slices_S1024x256_o0_128_S1024x128
/-- A head's own part of its pair's columns. -/
def own (h : Fin 4) (x : Vec Ideal S1024x256 .f32) : FVec Ideal S1024x128 .f32 :=
  select (lanes h) (pair h x) (broadcast S1024x128 (Scalar.ofBits .f32 0x00000000#32))
/-- A head's row sum of the output times its gradient. -/
def delta (h : Fin 4) (g : Vec Ideal S1024x256 .f32) (o : Vec Ideal S1024x256 .bf16) : FVec Ideal S1024x128 .f32 :=
  broadcastTo S1024x128 (shapeCast S1024x1 (shapeCast S1024x1 (multiReduction .add [1] S1024 (own h (mulf (F := Ideal) (φ := .f32) (extf .f32 (φ := .bf16) (shapeCast S1024x256 o shapeCasts_S1024x256_S1024x256) bitsLt_bf16_f32) g)) 0x00000000#32 reduces_S1024x128_S1024 (.inl rfl) rfl) shapeCasts_S1024_S1024x1) shapeCasts_S1024x1_S1024x1) broadcasts_S1024x1_S1024x128
/-- The scores' gradient. -/
def grad (w : FVec Ideal S1024x1024 .f32) (g : FVec Ideal S1024x128 .f32) (v : Vec Ideal S1024x128 .bf16) (d : FVec Ideal S1024x128 .f32) : FVec Ideal S1024x1024 .bf16 :=
  truncf .bf16 (mulf w (subf (matmul (φ₁ := .bf16) (φ₂ := .bf16) dot_S1024x128_S1024x128_S1024x1024_1_1_0_0_n_n none (truncf .bf16 g bitsLt_bf16_f32) (shapeCast S1024x128 v shapeCasts_S1024x128_S1024x128) (constant S1024x1024 .f32 0x00000000#32)) (spread d))) bitsLt_bf16_f32
/-- Added to a head's key gradient, -/
def addKey (ds : FVec Ideal S1024x1024 .bf16) (q : Vec Ideal S1x1024x128 .bf16) (old : Vec Ideal S1x1024x128 .f32) : FVec Ideal S1x1024x128 .f32 :=
  shapeCast S1x1024x128 (addf (φ := .f32) (shapeCast S1024x128 old shapeCasts_S1x1024x128_S1024x128) (matmul (φ₁ := .bf16) (φ₂ := .bf16) dot_S1024x1024_S1024x128_S1024x128_0_0_1_1_n_n none ds (shapeCast S1024x128 q shapeCasts_S1x1024x128_S1024x128) (constant S1024x128 .f32 0x00000000#32))) shapeCasts_S1024x128_S1x1024x128
/-- to its query gradient, -/
def addQuery (ds : FVec Ideal S1024x1024 .bf16) (k : Vec Ideal S1x1024x128 .bf16) (old : Vec Ideal S1x1024x128 .f32) : FVec Ideal S1x1024x128 .f32 :=
  shapeCast S1x1024x128 (addf (φ := .f32) (shapeCast S1024x128 old shapeCasts_S1x1024x128_S1024x128) (matmul (φ₁ := .bf16) (φ₂ := .bf16) dot_S1024x1024_S1024x128_S1024x128_1_0_0_1_n_n none ds (shapeCast S1024x128 k shapeCasts_S1x1024x128_S1024x128) (constant S1024x128 .f32 0x00000000#32))) shapeCasts_S1024x128_S1x1024x128
/-- to the sum for the value gradient. -/
def addValue (w : FVec Ideal S1024x1024 .f32) (g : FVec Ideal S1024x128 .f32) (old : Vec Ideal S1x1024x128 .f32) : FVec Ideal S1x1024x128 .f32 :=
  shapeCast S1x1024x128 (addf (φ := .f32) (shapeCast S1024x128 old shapeCasts_S1x1024x128_S1024x128) (matmul (φ₁ := .bf16) (φ₂ := .bf16) dot_S1024x1024_S1024x128_S1024x128_0_0_1_1_n_n none (truncf .bf16 w bitsLt_bf16_f32) (truncf .bf16 g bitsLt_bf16_f32) (constant S1024x128 .f32 0x00000000#32))) shapeCasts_S1024x128_S1x1024x128

theorem score_at (q k : Vec Ideal S1x1024x128 .bf16) (r c : Fin 1024) :
    score q k (ix2 r c) = ∑ d : Fin 128, (q (ix3 0 r d) : EReal) * (k (ix3 0 c d) : EReal) := by
  unfold score
  pointwise []

theorem weight_at (s : FVec Ideal S1024x1024 .f32) (l : Vec Ideal S1x1024x128 .f32) (r c : Fin 1024) :
    weight s l (ix2 r c) = Ideal.exp ((s (ix2 r c) : EReal) - (l (ix3 0 r (wrap c)) : EReal)) := by
  unfold weight
  pointwise [spread_at]

theorem pair_at (h : Fin 4) (x : Vec Ideal S1024x256 .f32) (r : Fin 1024) (l : Fin 128) :
    pair h x (ix2 r l) = x (ix2 r (lane h l)) := by
  match h with
  | 0 | 1 => (show extractStridedSlice S1024x128 ![0, 0] x slices_S1024x256_o0_0_S1024x128 (ix2 r l) = _); pointwise [lane]
  | 2 | 3 => (show extractStridedSlice S1024x128 ![0, 128] x slices_S1024x256_o0_128_S1024x128 (ix2 r l) = _); pointwise [lane]

theorem own_at (h : Fin 4) (x : Vec Ideal S1024x256 .f32) (r : Fin 1024) (l : Fin 128) :
    own h x (ix2 r l) = if mine h l then (x (ix2 r (lane h l)) : EReal) else 0 := by
  have e : own h x (ix2 r l) = Scalar.select (lanes h (ix2 r l)) (x (ix2 r (lane h l)) : EReal) 0 := by
    unfold own
    pointwise [pair_at]
  have even : IntOp.cmpi .slt (BitVec.ofNat 32 l.val) 64#32 = (cmpi .slt (iota .tc S1024x128 32 [1] iota_S1024x128_d1_w32) (broadcast S1024x128 64#32)) (ix2 r l) := by
    pointwise []
  have odd : IntOp.cmpi .sge (BitVec.ofNat 32 l.val) 64#32 = (cmpi .sge (iota .tc S1024x128 32 [1] iota_S1024x128_d1_w32) (broadcast S1024x128 64#32)) (ix2 r l) := by
    pointwise []
  rw [e]
  match h with
  | 0 | 2 => exact (congrArg (fun w => Scalar.select w _ _) even.symm).trans (select_low _ l.isLt _ _)
  | 1 | 3 => exact (congrArg (fun w => Scalar.select w _ _) odd.symm).trans (select_high _ l.isLt _ _)

theorem delta_at (h : Fin 4) (g : Vec Ideal S1024x256 .f32) (o : Vec Ideal S1024x256 .bf16) (r : Fin 1024) (l : Fin 128) :
    delta h g o (ix2 r l)
      = ∑ l : Fin 128, if mine h l then (o (ix2 r (lane h l)) : EReal) * (g (ix2 r (lane h l)) : EReal) else 0 := by
  unfold delta
  pointwise [own_at]

theorem grad_at (w : FVec Ideal S1024x1024 .f32) (g : FVec Ideal S1024x128 .f32) (v : Vec Ideal S1024x128 .bf16) (d : FVec Ideal S1024x128 .f32) (r c : Fin 1024) :
    grad w g v d (ix2 r c) = (w (ix2 r c) : EReal) * ((∑ l : Fin 128, (g (ix2 r l) : EReal) * (v (ix2 c l) : EReal)) - (d (ix2 r (wrap c)) : EReal)) := by
  unfold grad
  pointwise [spread_at]

theorem addKey_at (ds : FVec Ideal S1024x1024 .bf16) (q : Vec Ideal S1x1024x128 .bf16) (old : Vec Ideal S1x1024x128 .f32) (c : Fin 1024) (l : Fin 128) :
    addKey ds q old (ix3 0 c l) = (old (ix3 0 c l) : EReal) + ∑ r : Fin 1024, (ds (ix2 r c) : EReal) * (q (ix3 0 r l) : EReal) := by
  unfold addKey
  pointwise []

theorem addQuery_at (ds : FVec Ideal S1024x1024 .bf16) (k : Vec Ideal S1x1024x128 .bf16) (old : Vec Ideal S1x1024x128 .f32) (r : Fin 1024) (l : Fin 128) :
    addQuery ds k old (ix3 0 r l) = (old (ix3 0 r l) : EReal) + ∑ c : Fin 1024, (ds (ix2 r c) : EReal) * (k (ix3 0 c l) : EReal) := by
  unfold addQuery
  pointwise []

theorem addValue_at (w : FVec Ideal S1024x1024 .f32) (g : FVec Ideal S1024x128 .f32) (old : Vec Ideal S1x1024x128 .f32) (c : Fin 1024) (l : Fin 128) :
    addValue w g old (ix3 0 c l) = (old (ix3 0 c l) : EReal) + ∑ r : Fin 1024, (w (ix2 r c) : EReal) * (g (ix2 r l) : EReal) := by
  unfold addValue
  pointwise []

/-! ## Blocks of 512 rows and columns -/

/-- A column of lanes, repeated over all columns. -/
def spread' (z : FVec Ideal S512x128 .f32) : FVec Ideal S512x512 .f32 := concatenate S512x512 1 [⟨S512x128, z⟩, ⟨S512x128, z⟩, ⟨S512x128, z⟩, ⟨S512x128, z⟩] concatenates_S512x128_S512x128_S512x128_S512x128_S512x512_d1

theorem spread'_at (z : FVec Ideal S512x128 .f32) (r c : Fin 512) : spread' z (ix2 r c) = z (ix2 r (wrap c)) := by
  refine concatenate_replicate_apply (t := S512x512) (s₁ := S512x128) 1 4 z concatenates_S512x128_S512x128_S512x128_S512x128_S512x512_d1 rfl (ix2 r c) (ix2 r (wrap c)) rfl ?_
  intro b hb
  fin_cases b
  · rfl
  · exact absurd rfl hb

/-- A head's scores against all columns, -/
def score' (q k : Vec Ideal S1x512x128 .bf16) : FVec Ideal S512x512 .f32 :=
  matmul (φ₁ := .bf16) (φ₂ := .bf16) dot_S512x128_S512x128_S512x512_1_1_0_0_n_n none (shapeCast S512x128 q shapeCasts_S1x512x128_S512x128 : FVec Ideal S512x128 .bf16) (shapeCast S512x128 k shapeCasts_S1x512x128_S512x128 : FVec Ideal S512x128 .bf16) (constant S512x512 .f32 0x00000000#32)
/-- the weights those give, the row's log-sum taken off, -/
def weight' (s : FVec Ideal S512x512 .f32) (l : Vec Ideal S1x512x128 .f32) : FVec Ideal S512x512 .f32 :=
  exp (subf s (spread' (shapeCast S512x128 l shapeCasts_S1x512x128_S512x128)))
/-- and the scores of a block on the diagonal, later columns masked. -/
def causal' (s : FVec Ideal S512x512 .f32) : FVec Ideal S512x512 .f32 :=
  select (cmpi .sle (iota .tc S512x512 32 [1] iota_S512x512_d1_w32) (iota .tc S512x512 32 [0] iota_S512x512_d0_w32)) s (broadcast S512x512 (Scalar.ofBits .f32 0xFF800000#32))
/-- The lanes of one head among its pair's. -/
def lanes' (h : Fin 4) : IVec S512x128 1 :=
  match h with
  | 0 | 2 => cmpi .slt (iota .tc S512x128 32 [1] iota_S512x128_d1_w32) (broadcast S512x128 64#32)
  | 1 | 3 => cmpi .sge (iota .tc S512x128 32 [1] iota_S512x128_d1_w32) (broadcast S512x128 64#32)
/-- A pair of heads' columns. -/
def pair' (h : Fin 4) (x : Vec Ideal S512x256 .f32) : FVec Ideal S512x128 .f32 :=
  match h with
  | 0 | 1 => extractStridedSlice S512x128 ![0, 0] x slices_S512x256_o0_0_S512x128
  | 2 | 3 => extractStridedSlice S512x128 ![0, 128] x slices_S512x256_o0_128_S512x128
/-- A head's own part of its pair's columns. -/
def own' (h : Fin 4) (x : Vec Ideal S512x256 .f32) : FVec Ideal S512x128 .f32 :=
  select (lanes' h) (pair' h x) (broadcast S512x128 (Scalar.ofBits .f32 0x00000000#32))
/-- A head's row sum of the output times its gradient. -/
def delta' (h : Fin 4) (g : Vec Ideal S512x256 .f32) (o : Vec Ideal S512x256 .bf16) : FVec Ideal S512x128 .f32 :=
  broadcastTo S512x128 (shapeCast S512x1 (shapeCast S512x1 (multiReduction .add [1] S512 (own' h (mulf (F := Ideal) (φ := .f32) (extf .f32 (φ := .bf16) (shapeCast S512x256 o shapeCasts_S512x256_S512x256) bitsLt_bf16_f32) g)) 0x00000000#32 reduces_S512x128_S512 (.inl rfl) rfl) shapeCasts_S512_S512x1) shapeCasts_S512x1_S512x1) broadcasts_S512x1_S512x128
/-- The scores' gradient. -/
def grad' (w : FVec Ideal S512x512 .f32) (g : FVec Ideal S512x128 .f32) (v : Vec Ideal S512x128 .bf16) (d : FVec Ideal S512x128 .f32) : FVec Ideal S512x512 .bf16 :=
  truncf .bf16 (mulf w (subf (matmul (φ₁ := .bf16) (φ₂ := .bf16) dot_S512x128_S512x128_S512x512_1_1_0_0_n_n none (truncf .bf16 g bitsLt_bf16_f32) (shapeCast S512x128 v shapeCasts_S512x128_S512x128) (constant S512x512 .f32 0x00000000#32)) (spread' d))) bitsLt_bf16_f32
/-- Added to a head's key gradient, -/
def addKey' (ds : FVec Ideal S512x512 .bf16) (q : Vec Ideal S1x512x128 .bf16) (old : Vec Ideal S1x512x128 .f32) : FVec Ideal S1x512x128 .f32 :=
  shapeCast S1x512x128 (addf (φ := .f32) (shapeCast S512x128 old shapeCasts_S1x512x128_S512x128) (matmul (φ₁ := .bf16) (φ₂ := .bf16) dot_S512x512_S512x128_S512x128_0_0_1_1_n_n none ds (shapeCast S512x128 q shapeCasts_S1x512x128_S512x128) (constant S512x128 .f32 0x00000000#32))) shapeCasts_S512x128_S1x512x128
/-- to its query gradient, -/
def addQuery' (ds : FVec Ideal S512x512 .bf16) (k : Vec Ideal S1x512x128 .bf16) (old : Vec Ideal S1x512x128 .f32) : FVec Ideal S1x512x128 .f32 :=
  shapeCast S1x512x128 (addf (φ := .f32) (shapeCast S512x128 old shapeCasts_S1x512x128_S512x128) (matmul (φ₁ := .bf16) (φ₂ := .bf16) dot_S512x512_S512x128_S512x128_1_0_0_1_n_n none ds (shapeCast S512x128 k shapeCasts_S1x512x128_S512x128) (constant S512x128 .f32 0x00000000#32))) shapeCasts_S512x128_S1x512x128
/-- to the sum for the value gradient. -/
def addValue' (w : FVec Ideal S512x512 .f32) (g : FVec Ideal S512x128 .f32) (old : Vec Ideal S1x512x128 .f32) : FVec Ideal S1x512x128 .f32 :=
  shapeCast S1x512x128 (addf (φ := .f32) (shapeCast S512x128 old shapeCasts_S1x512x128_S512x128) (matmul (φ₁ := .bf16) (φ₂ := .bf16) dot_S512x512_S512x128_S512x128_0_0_1_1_n_n none (truncf .bf16 w bitsLt_bf16_f32) (truncf .bf16 g bitsLt_bf16_f32) (constant S512x128 .f32 0x00000000#32))) shapeCasts_S512x128_S1x512x128

theorem score'_at (q k : Vec Ideal S1x512x128 .bf16) (r c : Fin 512) :
    score' q k (ix2 r c) = ∑ d : Fin 128, (q (ix3 0 r d) : EReal) * (k (ix3 0 c d) : EReal) := by
  unfold score'
  pointwise []

theorem weight'_at (s : FVec Ideal S512x512 .f32) (l : Vec Ideal S1x512x128 .f32) (r c : Fin 512) :
    weight' s l (ix2 r c) = Ideal.exp ((s (ix2 r c) : EReal) - (l (ix3 0 r (wrap c)) : EReal)) := by
  unfold weight'
  pointwise [spread'_at]

theorem causal'_at (s : FVec Ideal S512x512 .f32) (r c : Fin 512) :
    causal' s (ix2 r c) = if c.val ≤ r.val then (s (ix2 r c) : EReal) else ⊥ := by
  unfold causal'
  pointwise []
  exact select_causal _ _ (by omega) (by omega) _ _

theorem pair'_at (h : Fin 4) (x : Vec Ideal S512x256 .f32) (r : Fin 512) (l : Fin 128) :
    pair' h x (ix2 r l) = x (ix2 r (lane h l)) := by
  match h with
  | 0 | 1 => (show extractStridedSlice S512x128 ![0, 0] x slices_S512x256_o0_0_S512x128 (ix2 r l) = _); pointwise [lane]
  | 2 | 3 => (show extractStridedSlice S512x128 ![0, 128] x slices_S512x256_o0_128_S512x128 (ix2 r l) = _); pointwise [lane]

theorem own'_at (h : Fin 4) (x : Vec Ideal S512x256 .f32) (r : Fin 512) (l : Fin 128) :
    own' h x (ix2 r l) = if mine h l then (x (ix2 r (lane h l)) : EReal) else 0 := by
  have e : own' h x (ix2 r l) = Scalar.select (lanes' h (ix2 r l)) (x (ix2 r (lane h l)) : EReal) 0 := by
    unfold own'
    pointwise [pair'_at]
  have even : IntOp.cmpi .slt (BitVec.ofNat 32 l.val) 64#32 = (cmpi .slt (iota .tc S512x128 32 [1] iota_S512x128_d1_w32) (broadcast S512x128 64#32)) (ix2 r l) := by
    pointwise []
  have odd : IntOp.cmpi .sge (BitVec.ofNat 32 l.val) 64#32 = (cmpi .sge (iota .tc S512x128 32 [1] iota_S512x128_d1_w32) (broadcast S512x128 64#32)) (ix2 r l) := by
    pointwise []
  rw [e]
  match h with
  | 0 | 2 => exact (congrArg (fun w => Scalar.select w _ _) even.symm).trans (select_low _ l.isLt _ _)
  | 1 | 3 => exact (congrArg (fun w => Scalar.select w _ _) odd.symm).trans (select_high _ l.isLt _ _)

theorem delta'_at (h : Fin 4) (g : Vec Ideal S512x256 .f32) (o : Vec Ideal S512x256 .bf16) (r : Fin 512) (l : Fin 128) :
    delta' h g o (ix2 r l)
      = ∑ l : Fin 128, if mine h l then (o (ix2 r (lane h l)) : EReal) * (g (ix2 r (lane h l)) : EReal) else 0 := by
  unfold delta'
  pointwise [own'_at]

theorem grad'_at (w : FVec Ideal S512x512 .f32) (g : FVec Ideal S512x128 .f32) (v : Vec Ideal S512x128 .bf16) (d : FVec Ideal S512x128 .f32) (r c : Fin 512) :
    grad' w g v d (ix2 r c) = (w (ix2 r c) : EReal) * ((∑ l : Fin 128, (g (ix2 r l) : EReal) * (v (ix2 c l) : EReal)) - (d (ix2 r (wrap c)) : EReal)) := by
  unfold grad'
  pointwise [spread'_at]

theorem addKey'_at (ds : FVec Ideal S512x512 .bf16) (q : Vec Ideal S1x512x128 .bf16) (old : Vec Ideal S1x512x128 .f32) (c : Fin 512) (l : Fin 128) :
    addKey' ds q old (ix3 0 c l) = (old (ix3 0 c l) : EReal) + ∑ r : Fin 512, (ds (ix2 r c) : EReal) * (q (ix3 0 r l) : EReal) := by
  unfold addKey'
  pointwise []

theorem addQuery'_at (ds : FVec Ideal S512x512 .bf16) (k : Vec Ideal S1x512x128 .bf16) (old : Vec Ideal S1x512x128 .f32) (r : Fin 512) (l : Fin 128) :
    addQuery' ds k old (ix3 0 r l) = (old (ix3 0 r l) : EReal) + ∑ c : Fin 512, (ds (ix2 r c) : EReal) * (k (ix3 0 c l) : EReal) := by
  unfold addQuery'
  pointwise []

theorem addValue'_at (w : FVec Ideal S512x512 .f32) (g : FVec Ideal S512x128 .f32) (old : Vec Ideal S1x512x128 .f32) (c : Fin 512) (l : Fin 128) :
    addValue' w g old (ix3 0 c l) = (old (ix3 0 c l) : EReal) + ∑ r : Fin 512, (w (ix2 r c) : EReal) * (g (ix2 r l) : EReal) := by
  unfold addValue'
  pointwise []

end Cert.FlashIdeal.Mine
-- ==== Proof.FlashPut.lean ====
/- Four heads' stores of one block of rows: what a run of loads, additions and stores leaves. -/
module

public import proofs.«01_k».proof.Proof.FlashOps
public import Idealize.ShloMosaic.Lib.WritesUnit

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

variable {κ : Kind} {sp : Space} {R n : ℕ}

/-- Four heads of `R` rows, -/
abbrev Heads (R : ℕ) : Shape := ⟨3, ![4, R, 128]⟩
/-- and one head's `n` rows. -/
abbrev Head (n : ℕ) : Shape := ⟨3, ![1, n, 128]⟩

/-- Contributions added to one head's rows `o … o + n`. -/
def added (h : Fin 4) (o : ℕ) (C : Fin n → Fin 128 → EReal) (G : Fin 4 → Fin R → Fin 128 → EReal) (g : Fin 4) (k : Fin R) (l : Fin 128) : EReal :=
  if e : g = h ∧ o ≤ k.val ∧ k.val < o + n then G g k l + C ⟨k.val - o, by omega⟩ l else G g k l

/-- Contributions added to all heads' rows `o … o + n`. -/
def addedAll (o : ℕ) (C : Fin 4 → Fin n → Fin 128 → EReal) (G : Fin 4 → Fin R → Fin 128 → EReal) (g : Fin 4) (k : Fin R) (l : Fin 128) : EReal :=
  if e : o ≤ k.val ∧ k.val < o + n then G g k l + C g ⟨k.val - o, by omega⟩ l else G g k l

theorem added_all (o : ℕ) (C : Fin 4 → Fin n → Fin 128 → EReal) (G : Fin 4 → Fin R → Fin 128 → EReal) :
    added 3 o (C 3) (added 2 o (C 2) (added 1 o (C 1) (added 0 o (C 0) G))) = addedAll o C G := by
  funext g k l
  unfold added addedAll
  by_cases e : o ≤ k.val ∧ k.val < o + n <;> fin_cases g <;> simp [e]

/-- Rows a head's contributions leave alone. -/
theorem added_other {h g : Fin 4} (ne : g ≠ h) (o : ℕ) (C : Fin n → Fin 128 → EReal) (G : Fin 4 → Fin R → Fin 128 → EReal) (k : Fin R) (l : Fin 128) :
    added h o C G g k l = G g k l := by
  unfold added
  rw [dif_neg (fun e => ne e.1)]

/-- A load of one head's rows reads them. -/
theorem load_head {e : EltTy} (v : View sig κ sp (Heads R) e) (f : v.ty.Contents (Elt Ideal)) (h : Fin 4) (o : ℕ) {off : Fin 3 → ℕ}
    (inb : ∀ a, off a + (Head n).size a ≤ (Heads R).size a) (ho : off = ![h.val, o, 0]) (r : Fin n) (l : Fin 128) (hr : o + r.val < R) :
    v.readAt (Elt Ideal) (Rect.unit (s := Heads R) off (Head n).size inb).toLoadRect f (ix3 0 r l)
      = v.read (Elt Ideal) f (ix3 h ⟨o + r.val, hr⟩ l) := by
  subst ho
  rw [View.readAt_apply]
  congr 1
  funext a
  apply Fin.ext
  fin_cases a
  · show h.val + 1 * 0 = h.val
    omega
  · show o + 1 * r.val = o + r.val
    omega
  · show 0 + 1 * l.val = l.val
    omega

/-- A store of one head's rows. -/
theorem put (v : View sig κ sp (Heads R) .f32) (f : v.ty.Contents (Elt Ideal)) (L : List (View.Piece (Elt Ideal) (Heads R) .f32))
    (h : Fin 4) (o : ℕ) {off : Fin 3 → ℕ} (inb : ∀ a, off a + (Head n).size a ≤ (Heads R).size a) (ho : off = ![h.val, o, 0])
    (pay : Vec Ideal (Head n) .f32) (C : Fin n → Fin 128 → EReal) (G : Fin 4 → Fin R → Fin 128 → EReal)
    (hG : ∀ g k l, v.read (Elt Ideal) (v.writes (Elt Ideal) f L) (ix3 g k l) = G g k l)
    (hpay : ∀ r l (hr : o + r.val < R), pay (ix3 0 r l) = G h ⟨o + r.val, hr⟩ l + C r l) (g : Fin 4) (k : Fin R) (l : Fin 128) :
    v.read (Elt Ideal) (v.writes (Elt Ideal) f (⟨Rect.unit (s := Heads R) off (Head n).size inb, pay⟩ :: L)) (ix3 g k l) = added h o C G g k l := by
  unfold added
  by_cases e : g = h ∧ o ≤ k.val ∧ k.val < o + n
  · rw [dif_pos e]
    have hr : o + (k.val - o) < R := by have := k.isLt; omega
    refine (View.read_writes_cons_unit_of_mem v f inb pay L (ix3 g k l) (ix3 0 ⟨k.val - o, by omega⟩ l) ho ?_).trans ?_
    · intro a
      fin_cases a
      · show g.val = h.val + 0
        rw [e.1]; rfl
      · show k.val = o + (k.val - o)
        omega
      · show l.val = 0 + l.val
        omega
    · refine (hpay _ l hr).trans (congrArg (· + C _ l) ?_)
      exact congrArg₂ (fun a b => G a b l) e.1.symm (Fin.ext (by show o + (k.val - o) = k.val; omega))
  · rw [dif_neg e]
    refine Eq.trans ?_ (hG g k l)
    by_cases e0 : g = h
    · refine View.read_writes_cons_unit_of_not_mem v f inb pay L (ix3 g k l) ho 1 ?_
      show k.val < o ∨ o + n ≤ k.val
      by_contra hc
      exact e ⟨e0, by omega, by omega⟩
    · refine View.read_writes_cons_unit_of_not_mem v f inb pay L (ix3 g k l) ho 0 ?_
      show g.val < h.val ∨ h.val + 1 ≤ g.val
      have : g.val ≠ h.val := fun x => e0 (Fin.ext x)
      omega

/-- Four heads' stores in turn, each loading its rows from what the stores before it left. -/
def step (v : View sig κ sp (Heads R) .f32) (f : v.ty.Contents (Elt Ideal)) (off : Fin 4 → Fin 3 → ℕ)
    (inb : ∀ h a, off h a + (Head n).size a ≤ (Heads R).size a) (pay : Fin 4 → Vec Ideal (Head n) .f32 → Vec Ideal (Head n) .f32)
    (h : Fin 4) (K : List (View.Piece (Elt Ideal) (Heads R) .f32)) : List (View.Piece (Elt Ideal) (Heads R) .f32) :=
  ⟨Rect.unit (s := Heads R) (off h) (Head n).size (inb h),
    pay h (v.readAt (Elt Ideal) (Rect.unit (s := Heads R) (off h) (Head n).size (inb h)).toLoadRect (v.writes (Elt Ideal) f K))⟩ :: K
def four (v : View sig κ sp (Heads R) .f32) (f : v.ty.Contents (Elt Ideal)) (off : Fin 4 → Fin 3 → ℕ)
    (inb : ∀ h a, off h a + (Head n).size a ≤ (Heads R).size a) (pay : Fin 4 → Vec Ideal (Head n) .f32 → Vec Ideal (Head n) .f32)
    (L : List (View.Piece (Elt Ideal) (Heads R) .f32)) : List (View.Piece (Elt Ideal) (Heads R) .f32) :=
  step v f off inb pay 3 (step v f off inb pay 2 (step v f off inb pay 1 (step v f off inb pay 0 L)))

/-- Four heads in turn, each loading its rows from what the stores before it left. -/
theorem put_all (v : View sig κ sp (Heads R) .f32) (f : v.ty.Contents (Elt Ideal)) (L : List (View.Piece (Elt Ideal) (Heads R) .f32))
    (o : ℕ) (off : Fin 4 → Fin 3 → ℕ) (inb : ∀ h a, off h a + (Head n).size a ≤ (Heads R).size a) (ho : ∀ h, off h = ![h.val, o, 0])
    (pay : Fin 4 → Vec Ideal (Head n) .f32 → Vec Ideal (Head n) .f32) (C : Fin 4 → Fin n → Fin 128 → EReal) (G : Fin 4 → Fin R → Fin 128 → EReal)
    (hG : ∀ g k l, v.read (Elt Ideal) (v.writes (Elt Ideal) f L) (ix3 g k l) = G g k l)
    (hpay : ∀ h old r l, pay h old (ix3 0 r l) = (old (ix3 0 r l) : EReal) + C h r l) :
    let load (h : Fin 4) (K) : Vec Ideal (Head n) .f32 := v.readAt (Elt Ideal) (Rect.unit (s := Heads R) (off h) (Head n).size (inb h)).toLoadRect (v.writes (Elt Ideal) f K)
    let step (h : Fin 4) (K) : List (View.Piece (Elt Ideal) (Heads R) .f32) := ⟨Rect.unit (s := Heads R) (off h) (Head n).size (inb h), pay h (load h K)⟩ :: K
    ∀ g k l, v.read (Elt Ideal) (v.writes (Elt Ideal) f (step 3 (step 2 (step 1 (step 0 L))))) (ix3 g k l) = addedAll o C G g k l := by
  intro load step
  have one : ∀ (h : Fin 4) (K) (H : Fin 4 → Fin R → Fin 128 → EReal), (∀ g k l, v.read (Elt Ideal) (v.writes (Elt Ideal) f K) (ix3 g k l) = H g k l) →
      ∀ g k l, v.read (Elt Ideal) (v.writes (Elt Ideal) f (step h K)) (ix3 g k l) = added h o (C h) H g k l := fun h K H hH =>
    put v f K h o (inb h) (ho h) _ (C h) H hH (fun r l hr => by rw [hpay, ← hH]; congr 1; exact load_head v _ h o (inb h) (ho h) r l hr)
  rw [← added_all]
  exact one 3 _ _ (one 2 _ _ (one 1 _ _ (one 0 _ _ hG)))

/-- So they add each head's contributions. -/
theorem put_four (v : View sig κ sp (Heads R) .f32) (f : v.ty.Contents (Elt Ideal)) (L : List (View.Piece (Elt Ideal) (Heads R) .f32))
    (o : ℕ) (off : Fin 4 → Fin 3 → ℕ) (inb : ∀ h a, off h a + (Head n).size a ≤ (Heads R).size a) (ho : ∀ h, off h = ![h.val, o, 0])
    (pay : Fin 4 → Vec Ideal (Head n) .f32 → Vec Ideal (Head n) .f32) (C : Fin 4 → Fin n → Fin 128 → EReal) (G : Fin 4 → Fin R → Fin 128 → EReal)
    (hG : ∀ g k l, v.read (Elt Ideal) (v.writes (Elt Ideal) f L) (ix3 g k l) = G g k l)
    (hpay : ∀ h old r l, pay h old (ix3 0 r l) = (old (ix3 0 r l) : EReal) + C h r l) (g : Fin 4) (k : Fin R) (l : Fin 128) :
    v.read (Elt Ideal) (v.writes (Elt Ideal) f (four v f off inb pay L)) (ix3 g k l) = addedAll o C G g k l :=
  put_all v f L o off inb ho pay C G hG hpay g k l

/-- Four heads in turn, each loading its rows from the contents before all four. -/
theorem put_each (v : View sig κ sp (Heads R) .f32) (f : v.ty.Contents (Elt Ideal))
    (o : ℕ) (off : Fin 4 → Fin 3 → ℕ) (inb : ∀ h a, off h a + (Head n).size a ≤ (Heads R).size a) (ho : ∀ h, off h = ![h.val, o, 0])
    (pay : Fin 4 → Vec Ideal (Head n) .f32 → Vec Ideal (Head n) .f32) (C : Fin 4 → Fin n → Fin 128 → EReal) (G : Fin 4 → Fin R → Fin 128 → EReal)
    (hG : ∀ g k l, v.read (Elt Ideal) f (ix3 g k l) = G g k l)
    (hpay : ∀ h old r l, pay h old (ix3 0 r l) = (old (ix3 0 r l) : EReal) + C h r l) :
    let load (h : Fin 4) : Vec Ideal (Head n) .f32 := v.readAt (Elt Ideal) (Rect.unit (s := Heads R) (off h) (Head n).size (inb h)).toLoadRect f
    let step (h : Fin 4) (K) : List (View.Piece (Elt Ideal) (Heads R) .f32) := ⟨Rect.unit (s := Heads R) (off h) (Head n).size (inb h), pay h (load h)⟩ :: K
    ∀ g k l, v.read (Elt Ideal) (v.writes (Elt Ideal) f (step 3 (step 2 (step 1 (step 0 []))))) (ix3 g k l) = addedAll o C G g k l := by
  intro load step
  have one : ∀ (h : Fin 4) (K) (H : Fin 4 → Fin R → Fin 128 → EReal), (∀ g k l, v.read (Elt Ideal) (v.writes (Elt Ideal) f K) (ix3 g k l) = H g k l) →
      (∀ k l, H h k l = G h k l) → ∀ g k l, v.read (Elt Ideal) (v.writes (Elt Ideal) f (step h K)) (ix3 g k l) = added h o (C h) H g k l := fun h K H hH e =>
    put v f K h o (inb h) (ho h) _ (C h) H hH (fun r l hr => by rw [hpay, e, ← hG]; congr 1; exact load_head v _ h o (inb h) (ho h) r l hr)
  rw [← added_all]
  refine one 3 _ _ (one 2 _ _ (one 1 _ _ (one 0 _ _ hG fun _ _ => rfl) fun _ _ => ?_) fun _ _ => ?_) fun _ _ => ?_
  · exact added_other (by decide) _ _ _ _ _
  · exact (added_other (by decide) _ _ _ _ _).trans (added_other (by decide) _ _ _ _ _)
  · exact ((added_other (by decide) _ _ _ _ _).trans (added_other (by decide) _ _ _ _ _)).trans (added_other (by decide) _ _ _ _ _)

end Cert.FlashIdeal.Mine
-- ==== Proof.FlashTerms.lean ====
/- A pair of blocks' contributions to the three gradients: what they are of the blocks' entries, and that the operations
compute them. -/
module

public import proofs.«01_k».proof.Proof.FlashPut

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

/-- A block's entries: queries and keys of four heads, values, outputs and their gradients in the heads' lanes, and the rows'
log-sums, lane by lane. -/
structure Entries where
  q : Fin 4 → Fin 1024 → Fin 128 → EReal
  k : Fin 4 → Fin 1024 → Fin 128 → EReal
  v : Fin 1024 → Fin 256 → EReal
  o : Fin 1024 → Fin 256 → EReal
  g : Fin 1024 → Fin 256 → EReal
  s : Fin 4 → Fin 1024 → Fin 128 → EReal

namespace Entries
variable (B : Entries) (diag : Bool)

/-- The weight of column `c` in row `r`: of a block on the diagonal, later columns have none. -/
def weight (h : Fin 4) (r c : Fin 1024) : EReal :=
  if diag = true → c.val ≤ r.val then Ideal.exp ((∑ d, B.q h r d * B.k h c d) - B.s h r (wrap c)) else 0
/-- A weight's gradient less the row's mean of them. -/
def slope (h : Fin 4) (r c : Fin 1024) : EReal :=
  (∑ l, (if mine h l then B.g r (lane h l) else 0) * B.v c (lane h l)) - ∑ l, if mine h l then B.o r (lane h l) * B.g r (lane h l) else 0
/-- A score's gradient. -/
def grad (h : Fin 4) (r c : Fin 1024) : EReal := B.weight diag h r c * B.slope h r c

/-- Some columns' contribution to a query's gradient, -/
def toQuery {n : ℕ} (κ : Fin n → Fin 1024) (h : Fin 4) (r : Fin 1024) (l : Fin 128) : EReal := ∑ c, B.grad diag h r (κ c) * B.k h (κ c) l
/-- some rows' to a key's gradient, -/
def toKey {n : ℕ} (ρ : Fin n → Fin 1024) (h : Fin 4) (c : Fin 1024) (l : Fin 128) : EReal := ∑ r, B.grad diag h (ρ r) c * B.q h (ρ r) l
/-- and to a value's. -/
def toValue {n : ℕ} (ρ : Fin n → Fin 1024) (h : Fin 4) (c : Fin 1024) (l : Fin 128) : EReal := ∑ r, B.weight diag h (ρ r) c * B.g (ρ r) (lane h l)

end Entries

/-! ## The operations on blocks of 1024 rows and columns -/

theorem weight_plain (B : Entries) (h : Fin 4) (ρ κ : Fin 1024 → Fin 1024) (hκ : ∀ c, wrap (κ c) = wrap c) (q k : Vec Ideal S1x1024x128 .bf16) (s : Vec Ideal S1x1024x128 .f32)
    (hq : ∀ r d, q (ix3 0 r d) = B.q h (ρ r) d) (hk : ∀ c d, k (ix3 0 c d) = B.k h (κ c) d) (hs : ∀ r l, s (ix3 0 r l) = B.s h (ρ r) l)
    (diag : Bool) (hd : ∀ r c, diag = true → (κ c).val ≤ (ρ r).val) (r c : Fin 1024) :
    weight (score q k) s (ix2 r c) = B.weight diag h (ρ r) (κ c) := by
  rw [weight_at, score_at, hs, ← hκ c, Entries.weight, if_pos (hd r c)]
  simp only [hq, hk]

theorem grad_eq (B : Entries) (diag : Bool) (h : Fin 4) (ρ κ : Fin 1024 → Fin 1024) (w : FVec Ideal S1024x1024 .f32) (v : Vec Ideal S1024x128 .bf16) (g : Vec Ideal S1024x256 .f32) (o : Vec Ideal S1024x256 .bf16)
    (hw : ∀ r c, w (ix2 r c) = B.weight diag h (ρ r) (κ c)) (hv : ∀ c l, v (ix2 c l) = B.v (κ c) (lane h l))
    (hg : ∀ r j, g (ix2 r j) = B.g (ρ r) j) (ho : ∀ r j, o (ix2 r j) = B.o (ρ r) j) (r c : Fin 1024) :
    grad w (own h g) v (delta h g o) (ix2 r c) = B.grad diag h (ρ r) (κ c) := by
  rw [grad_at, hw, delta_at, Entries.grad, Entries.slope]
  simp only [own_at, hv, hg, ho]

theorem addQuery_eq (B : Entries) (diag : Bool) (h : Fin 4) (ρ κ : Fin 1024 → Fin 1024) (ds : FVec Ideal S1024x1024 .bf16) (k : Vec Ideal S1x1024x128 .bf16)
    (hds : ∀ r c, ds (ix2 r c) = B.grad diag h (ρ r) (κ c)) (hk : ∀ c d, k (ix3 0 c d) = B.k h (κ c) d) (old : Vec Ideal S1x1024x128 .f32) (r : Fin 1024) (l : Fin 128) :
    addQuery ds k old (ix3 0 r l) = (old (ix3 0 r l) : EReal) + B.toQuery diag κ h (ρ r) l := by
  rw [addQuery_at]
  simp only [hds, hk, Entries.toQuery]

theorem addKey_eq (B : Entries) (diag : Bool) (h : Fin 4) (ρ κ : Fin 1024 → Fin 1024) (ds : FVec Ideal S1024x1024 .bf16) (q : Vec Ideal S1x1024x128 .bf16)
    (hds : ∀ r c, ds (ix2 r c) = B.grad diag h (ρ r) (κ c)) (hq : ∀ r d, q (ix3 0 r d) = B.q h (ρ r) d) (old : Vec Ideal S1x1024x128 .f32) (c : Fin 1024) (l : Fin 128) :
    addKey ds q old (ix3 0 c l) = (old (ix3 0 c l) : EReal) + B.toKey diag ρ h (κ c) l := by
  rw [addKey_at]
  simp only [hds, hq, Entries.toKey]

theorem addValue_eq (B : Entries) (diag : Bool) (h : Fin 4) (ρ κ : Fin 1024 → Fin 1024) (w : FVec Ideal S1024x1024 .f32) (g : Vec Ideal S1024x256 .f32)
    (hw : ∀ r c, w (ix2 r c) = B.weight diag h (ρ r) (κ c)) (hg : ∀ r j, g (ix2 r j) = B.g (ρ r) j) (old : Vec Ideal S1x1024x128 .f32) (c : Fin 1024) (l : Fin 128) :
    addValue w (pair h g) old (ix3 0 c l) = (old (ix3 0 c l) : EReal) + B.toValue diag ρ h (κ c) l := by
  rw [addValue_at]
  simp only [hw, pair_at, hg, Entries.toValue]

/-! ## The operations on blocks of 512 rows and columns -/

theorem weight'_plain (B : Entries) (h : Fin 4) (ρ κ : Fin 512 → Fin 1024) (hκ : ∀ c, wrap (κ c) = wrap c) (q k : Vec Ideal S1x512x128 .bf16) (s : Vec Ideal S1x512x128 .f32)
    (hq : ∀ r d, q (ix3 0 r d) = B.q h (ρ r) d) (hk : ∀ c d, k (ix3 0 c d) = B.k h (κ c) d) (hs : ∀ r l, s (ix3 0 r l) = B.s h (ρ r) l)
    (diag : Bool) (hd : ∀ r c, diag = true → (κ c).val ≤ (ρ r).val) (r c : Fin 512) :
    weight' (score' q k) s (ix2 r c) = B.weight diag h (ρ r) (κ c) := by
  rw [weight'_at, score'_at, hs, ← hκ c, Entries.weight, if_pos (hd r c)]
  simp only [hq, hk]

theorem weight'_causal (B : Entries) (h : Fin 4) (ρ κ : Fin 512 → Fin 1024) (hκ : ∀ c, wrap (κ c) = wrap c) (q k : Vec Ideal S1x512x128 .bf16) (s : Vec Ideal S1x512x128 .f32)
    (hq : ∀ r d, q (ix3 0 r d) = B.q h (ρ r) d) (hk : ∀ c d, k (ix3 0 c d) = B.k h (κ c) d) (hs : ∀ r l, s (ix3 0 r l) = B.s h (ρ r) l)
    (hd : ∀ r c, (κ c).val ≤ (ρ r).val ↔ c.val ≤ r.val) (r c : Fin 512) :
    weight' (causal' (score' q k)) s (ix2 r c) = B.weight true h (ρ r) (κ c) := by
  rw [weight'_at, causal'_at, Entries.weight]
  by_cases e : c.val ≤ r.val
  · rw [if_pos e, if_pos (fun _ => (hd r c).mpr e), score'_at, hs, ← hκ c]
    simp only [hq, hk]
  · rw [if_neg e, if_neg (fun x => e ((hd r c).mp (x rfl))), sub_eq_add_neg, EReal.bot_add]
    exact Ideal.exp_bot

theorem grad'_eq (B : Entries) (diag : Bool) (h : Fin 4) (ρ κ : Fin 512 → Fin 1024) (w : FVec Ideal S512x512 .f32) (v : Vec Ideal S512x128 .bf16) (g : Vec Ideal S512x256 .f32) (o : Vec Ideal S512x256 .bf16)
    (hw : ∀ r c, w (ix2 r c) = B.weight diag h (ρ r) (κ c)) (hv : ∀ c l, v (ix2 c l) = B.v (κ c) (lane h l))
    (hg : ∀ r j, g (ix2 r j) = B.g (ρ r) j) (ho : ∀ r j, o (ix2 r j) = B.o (ρ r) j) (r c : Fin 512) :
    grad' w (own' h g) v (delta' h g o) (ix2 r c) = B.grad diag h (ρ r) (κ c) := by
  rw [grad'_at, hw, delta'_at, Entries.grad, Entries.slope]
  simp only [own'_at, hv, hg, ho]

theorem addQuery'_eq (B : Entries) (diag : Bool) (h : Fin 4) (ρ κ : Fin 512 → Fin 1024) (ds : FVec Ideal S512x512 .bf16) (k : Vec Ideal S1x512x128 .bf16)
    (hds : ∀ r c, ds (ix2 r c) = B.grad diag h (ρ r) (κ c)) (hk : ∀ c d, k (ix3 0 c d) = B.k h (κ c) d) (old : Vec Ideal S1x512x128 .f32) (r : Fin 512) (l : Fin 128) :
    addQuery' ds k old (ix3 0 r l) = (old (ix3 0 r l) : EReal) + B.toQuery diag κ h (ρ r) l := by
  rw [addQuery'_at]
  simp only [hds, hk, Entries.toQuery]

theorem addKey'_eq (B : Entries) (diag : Bool) (h : Fin 4) (ρ κ : Fin 512 → Fin 1024) (ds : FVec Ideal S512x512 .bf16) (q : Vec Ideal S1x512x128 .bf16)
    (hds : ∀ r c, ds (ix2 r c) = B.grad diag h (ρ r) (κ c)) (hq : ∀ r d, q (ix3 0 r d) = B.q h (ρ r) d) (old : Vec Ideal S1x512x128 .f32) (c : Fin 512) (l : Fin 128) :
    addKey' ds q old (ix3 0 c l) = (old (ix3 0 c l) : EReal) + B.toKey diag ρ h (κ c) l := by
  rw [addKey'_at]
  simp only [hds, hq, Entries.toKey]

theorem addValue'_eq (B : Entries) (diag : Bool) (h : Fin 4) (ρ κ : Fin 512 → Fin 1024) (w : FVec Ideal S512x512 .f32) (g : Vec Ideal S512x256 .f32)
    (hw : ∀ r c, w (ix2 r c) = B.weight diag h (ρ r) (κ c)) (hg : ∀ r j, g (ix2 r j) = B.g (ρ r) j) (old : Vec Ideal S1x512x128 .f32) (c : Fin 512) (l : Fin 128) :
    addValue' w (pair' h g) old (ix3 0 c l) = (old (ix3 0 c l) : EReal) + B.toValue diag ρ h (κ c) l := by
  rw [addValue'_at]
  simp only [hw, pair'_at, hg, Entries.toValue]

end Cert.FlashIdeal.Mine
-- ==== Proof.FlashLoads.lean ====
/- What the body loads at a grid point: rows of its input blocks. -/
module

public import proofs.«01_k».proof.Proof.FlashTerms
public import proofs.«01_k».proof.Proof.FlashStep

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

/-- One head's rows `o … o + n` of a block, -/
abbrev headLoad {e : EltTy} (M : Memref sig .tc .vmem (Heads 1024) e) (hM : M.IsWhole) (x : Vec Ideal (Heads 1024) e) (n o : ℕ)
    (inb : ∀ (h : Fin 4) a, (![h.val, o, 0] : Fin 3 → ℕ) a + (Head n).size a ≤ (Heads 1024).size a) (h : Fin 4) : Vec Ideal (Head n) e :=
  M.view.readAt (Elt Ideal) (Rect.unit (s := Heads 1024) ![h.val, o, 0] (Head n).size (inb h)).toLoadRect (hM.unread x)

theorem headLoad_at {e : EltTy} (M : Memref sig .tc .vmem (Heads 1024) e) (hM : M.IsWhole) (x : Vec Ideal (Heads 1024) e) (n o : ℕ)
    (inb : ∀ (h : Fin 4) a, (![h.val, o, 0] : Fin 3 → ℕ) a + (Head n).size a ≤ (Heads 1024).size a) (h : Fin 4) (r : Fin n) (l : Fin 128) (hr : o + r.val < 1024) :
    headLoad M hM x n o inb h (ix3 0 r l) = x (ix3 h ⟨o + r.val, hr⟩ l) := by
  refine (load_head M.view _ h o (inb h) rfl r l hr).trans ?_
  rw [hM.read_unread]

/-- rows of a block of all lanes, -/
abbrev rowLoad {e : EltTy} (M : Memref sig .tc .vmem S1024x256 e) (hM : M.IsWhole) (x : Vec Ideal S1024x256 e) (n o : ℕ)
    (inb : ∀ a, (![o, 0] : Fin 2 → ℕ) a + (![n, 256] : Fin 2 → ℕ) a ≤ S1024x256.size a) : Vec Ideal ⟨2, ![n, 256]⟩ e :=
  M.view.readAt (Elt Ideal) (Rect.unit (s := S1024x256) ![o, 0] ![n, 256] inb).toLoadRect (hM.unread x)

theorem rowLoad_at {e : EltTy} (M : Memref sig .tc .vmem S1024x256 e) (hM : M.IsWhole) (x : Vec Ideal S1024x256 e) (n o : ℕ)
    (inb : ∀ a, (![o, 0] : Fin 2 → ℕ) a + (![n, 256] : Fin 2 → ℕ) a ≤ S1024x256.size a) (r : Fin n) (j : Fin 256) (hr : o + r.val < 1024) :
    rowLoad M hM x n o inb (ix2 r j) = x (ix2 ⟨o + r.val, hr⟩ j) := by
  rw [rowLoad, View.readAt_apply, hM.read_unread]
  congr 1
  funext a
  apply Fin.ext
  fin_cases a
  · show o + 1 * r.val = o + r.val
    omega
  · show 0 + 1 * j.val = j.val
    omega

/-- and rows of one pair's lanes. -/
abbrev pairLoad {e : EltTy} (M : Memref sig .tc .vmem S1024x256 e) (hM : M.IsWhole) (x : Vec Ideal S1024x256 e) (n o : ℕ)
    (inb : ∀ (h : Fin 4) a, (![o, h.val / 2 * 128] : Fin 2 → ℕ) a + (![n, 128] : Fin 2 → ℕ) a ≤ S1024x256.size a) (h : Fin 4) : Vec Ideal ⟨2, ![n, 128]⟩ e :=
  M.view.readAt (Elt Ideal) (Rect.unit (s := S1024x256) ![o, h.val / 2 * 128] ![n, 128] (inb h)).toLoadRect (hM.unread x)

theorem pairLoad_at {e : EltTy} (M : Memref sig .tc .vmem S1024x256 e) (hM : M.IsWhole) (x : Vec Ideal S1024x256 e) (n o : ℕ)
    (inb : ∀ (h : Fin 4) a, (![o, h.val / 2 * 128] : Fin 2 → ℕ) a + (![n, 128] : Fin 2 → ℕ) a ≤ S1024x256.size a) (h : Fin 4) (r : Fin n) (l : Fin 128) (hr : o + r.val < 1024) :
    pairLoad M hM x n o inb h (ix2 r l) = x (ix2 ⟨o + r.val, hr⟩ (lane h l)) := by
  rw [pairLoad, View.readAt_apply, hM.read_unread]
  congr 1
  funext a
  apply Fin.ext
  fin_cases a
  · show o + 1 * r.val = o + r.val
    omega
  · show h.val / 2 * 128 + 1 * l.val = h.val / 2 * 128 + l.val
    omega

variable (m : (ℓ : Loc nD τ sig) → Buf (Elt Ideal) ℓ) (c : Dev nD) (t : Fin grid0.N)

/-- The input blocks at a point: queries, -/
abbrev blk0 : Vec Ideal S4x1024x128 .bf16 := iblk m c 0 t
/-- keys, -/
abbrev blk1 : Vec Ideal S4x1024x128 .bf16 := iblk m c 1 t
/-- values, -/
abbrev blk2 : Vec Ideal S1024x256 .bf16 := iblk m c 2 t
/-- outputs, -/
abbrev blk3 : Vec Ideal S1024x256 .bf16 := iblk m c 3 t
/-- their gradients, -/
abbrev blk4 : Vec Ideal S1024x256 .f32 := iblk m c 4 t
/-- and the rows' log-sums; -/
abbrev blk5 : Vec Ideal S4x1024x128 .f32 := iblk m c 5 t

/-- the same, entry by entry. -/
def entries : Entries where
  q h r d := blk0 m c t (ix3 h r d)
  k h r d := blk1 m c t (ix3 h r d)
  v r j := blk2 m c t (ix2 r j)
  o r j := blk3 m c t (ix2 r j)
  g r j := blk4 m c t (ix2 r j)
  s h r l := blk5 m c t (ix3 h r l)

/-- The row block of a point, -/
def rowBlock : ℕ := (lit0 (t.cast N_0)).toNat
/-- and the rows the body's offsets name: the block, -/
theorem offs_whole : ∀ t : Fin grid0.N, k0_off2 (lit0 (t.cast N_0)) = ![0, 1024 * rowBlock t, 0] ∧ k0_off3 (lit0 (t.cast N_0)) = ![1, 1024 * rowBlock t, 0]
    ∧ k0_off4 (lit0 (t.cast N_0)) = ![2, 1024 * rowBlock t, 0] ∧ k0_off5 (lit0 (t.cast N_0)) = ![3, 1024 * rowBlock t, 0] := by decide +kernel
/-- its first half, -/
theorem offs_lower : ∀ t : Fin grid0.N, k0_off6 (lit0 (t.cast N_0)) 0#32 = ![0, 1024 * rowBlock t, 0] ∧ k0_off7 (lit0 (t.cast N_0)) 0#32 = ![1, 1024 * rowBlock t, 0]
    ∧ k0_off8 (lit0 (t.cast N_0)) 0#32 = ![2, 1024 * rowBlock t, 0] ∧ k0_off9 (lit0 (t.cast N_0)) 0#32 = ![3, 1024 * rowBlock t, 0] := by decide +kernel
/-- and its second. -/
theorem offs_upper : ∀ t : Fin grid0.N, k0_off6 (lit0 (t.cast N_0)) 512#32 = ![0, 1024 * rowBlock t + 512, 0] ∧ k0_off7 (lit0 (t.cast N_0)) 512#32 = ![1, 1024 * rowBlock t + 512, 0]
    ∧ k0_off8 (lit0 (t.cast N_0)) 512#32 = ![2, 1024 * rowBlock t + 512, 0] ∧ k0_off9 (lit0 (t.cast N_0)) 512#32 = ![3, 1024 * rowBlock t + 512, 0] := by decide +kernel

/-- The body's offsets for the four heads, -/
def offW (v : BitVec 32) (h : Fin 4) : Fin 3 → ℕ := match h with | 0 => k0_off2 v | 1 => k0_off3 v | 2 => k0_off4 v | 3 => k0_off5 v
/-- and for a half of the rows. -/
def offH (v w : BitVec 32) (h : Fin 4) : Fin 3 → ℕ := match h with | 0 => k0_off6 v w | 1 => k0_off7 v w | 2 => k0_off8 v w | 3 => k0_off9 v w

theorem offW_eq (h : Fin 4) : offW (read0 (F := Ideal) (grid0.coords t)) h = ![h.val, 1024 * rowBlock t, 0] := by
  rw [read0_eq]
  match h with
  | 0 => exact (offs_whole t).1
  | 1 => exact (offs_whole t).2.1
  | 2 => exact (offs_whole t).2.2.1
  | 3 => exact (offs_whole t).2.2.2
theorem offL_eq (h : Fin 4) : offH (read0 (F := Ideal) (grid0.coords t)) 0#32 h = ![h.val, 1024 * rowBlock t, 0] := by
  rw [read0_eq]
  match h with
  | 0 => exact (offs_lower t).1
  | 1 => exact (offs_lower t).2.1
  | 2 => exact (offs_lower t).2.2.1
  | 3 => exact (offs_lower t).2.2.2
theorem offU_eq (h : Fin 4) : offH (read0 (F := Ideal) (grid0.coords t)) 512#32 h = ![h.val, 1024 * rowBlock t + 512, 0] := by
  rw [read0_eq]
  match h with
  | 0 => exact (offs_upper t).1
  | 1 => exact (offs_upper t).2.1
  | 2 => exact (offs_upper t).2.2.1
  | 3 => exact (offs_upper t).2.2.2

theorem rowBlock_lt : ∀ t : Fin grid0.N, rowBlock t < 8 := by decide +kernel

theorem inb_head {R n o h : ℕ} (hh : h < 4) (hr : o + n ≤ R) (a : Fin 3) : (![h, o, 0] : Fin 3 → ℕ) a + (Head n).size a ≤ (Heads R).size a := by
  fin_cases a
  · show h + 1 ≤ 4
    omega
  · show o + n ≤ R
    omega
  · show 0 + 128 ≤ 128
    omega
theorem inb_row {n o : ℕ} (hr : o + n ≤ 1024) (a : Fin 2) : (![o, 0] : Fin 2 → ℕ) a + (![n, 256] : Fin 2 → ℕ) a ≤ S1024x256.size a := by
  fin_cases a
  · show o + n ≤ 1024
    omega
  · show 0 + 256 ≤ 256
    omega
theorem inb_pair {n o : ℕ} (hr : o + n ≤ 1024) (h : Fin 4) (a : Fin 2) : (![o, h.val / 2 * 128] : Fin 2 → ℕ) a + (![n, 128] : Fin 2 → ℕ) a ≤ S1024x256.size a := by
  fin_cases a
  · show o + n ≤ 1024
    omega
  · show h.val / 2 * 128 + 128 ≤ 256
    omega

end Cert.FlashIdeal.Mine
-- ==== Proof.FlashColumn.lean ====
/- The column block of each point. -/
module

public import proofs.«01_k».proof.Proof.FlashLoads

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

/-- The column block of a point. -/
def colBlock (t : Fin grid0.N) : ℕ := (lit1 (t.cast N_0)).toNat

theorem colBlock_lt : ∀ t : Fin grid0.N, colBlock t < 8 := by decide +kernel
theorem col_le_row : ∀ t : Fin grid0.N, colBlock t ≤ rowBlock t := by decide +kernel
theorem diagonal_iff : ∀ t : Fin grid0.N, diagonal t.val = true ↔ colBlock t = rowBlock t := by decide +kernel

end Cert.FlashIdeal.Mine
-- ==== Proof.FlashBlocks.lean ====
/- Which rows of the arrays each point's blocks hold. -/
module

public import proofs.«01_k».proof.Proof.FlashColumn
public import Idealize.ShloMosaic.Lib.Pipeline.ValueKit

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

theorem index : ∀ t : Fin grid0.N, ((win0 (F := Ideal) admissible) 0).index t = ![0, rowBlock t, 0] ∧ ((win0 (F := Ideal) admissible) 1).index t = ![0, colBlock t, 0]
    ∧ ((win0 (F := Ideal) admissible) 2).index t = ![colBlock t, 0] ∧ ((win0 (F := Ideal) admissible) 3).index t = ![rowBlock t, 0]
    ∧ ((win0 (F := Ideal) admissible) 4).index t = ![rowBlock t, 0] ∧ ((win0 (F := Ideal) admissible) 5).index t = ![0, rowBlock t, 0]
    ∧ ((win0 (F := Ideal) admissible) 6).index t = ![0, 0, 0] ∧ ((win0 (F := Ideal) admissible) 7).index t = ![0, colBlock t, 0]
    ∧ ((win0 (F := Ideal) admissible) 8).index t = ![colBlock t, 0] := by decide +kernel

/-- Row `r` of block `i`, among all rows. -/
def at' (i : ℕ) (hi : i < 8) (r : Fin 1024) : Fin 8192 := ⟨1024 * i + r.val, by omega⟩

/-- A point's rows, and its columns. -/
abbrev rowAt (t : Fin grid0.N) (r : Fin 1024) : Fin 8192 := at' (rowBlock t) (rowBlock_lt t) r
abbrev colAt (t : Fin grid0.N) (r : Fin 1024) : Fin 8192 := at' (colBlock t) (colBlock_lt t) r

theorem emb0 (t : Fin grid0.N) (h : Fin 4) (r : Fin 1024) (d : Fin 128) :
    (((cfg0 (F := Ideal) admissible).win 0).blk t).view.emb (ix3 h r d : S4x1024x128.Idx) = (ix3 h (rowAt t r) d : S4x8192x128.Idx) := by
  unfold rowAt at'
  blk_ext [index t]
theorem emb1 (t : Fin grid0.N) (h : Fin 4) (r : Fin 1024) (d : Fin 128) :
    (((cfg0 (F := Ideal) admissible).win 1).blk t).view.emb (ix3 h r d : S4x1024x128.Idx) = (ix3 h (colAt t r) d : S4x8192x128.Idx) := by
  unfold colAt at'
  blk_ext [index t]
theorem emb2 (t : Fin grid0.N) (r : Fin 1024) (j : Fin 256) :
    (((cfg0 (F := Ideal) admissible).win 2).blk t).view.emb (ix2 r j : S1024x256.Idx) = (ix2 (colAt t r) j : S8192x256.Idx) := by
  unfold colAt at'
  blk_ext [index t]
theorem emb3 (t : Fin grid0.N) (r : Fin 1024) (j : Fin 256) :
    (((cfg0 (F := Ideal) admissible).win 3).blk t).view.emb (ix2 r j : S1024x256.Idx) = (ix2 (rowAt t r) j : S8192x256.Idx) := by
  unfold rowAt at'
  blk_ext [index t]
theorem emb4 (t : Fin grid0.N) (r : Fin 1024) (j : Fin 256) :
    (((cfg0 (F := Ideal) admissible).win 4).blk t).view.emb (ix2 r j : S1024x256.Idx) = (ix2 (rowAt t r) j : S8192x256.Idx) := by
  unfold rowAt at'
  blk_ext [index t]
theorem emb5 (t : Fin grid0.N) (h : Fin 4) (r : Fin 1024) (d : Fin 128) :
    (((cfg0 (F := Ideal) admissible).win 5).blk t).view.emb (ix3 h r d : S4x1024x128.Idx) = (ix3 h (rowAt t r) d : S4x8192x128.Idx) := by
  unfold rowAt at'
  blk_ext [index t]
theorem emb6 (t : Fin grid0.N) (h : Fin 4) (r : Fin 8192) (d : Fin 128) :
    (((cfg0 (F := Ideal) admissible).win 6).blk t).view.emb (ix3 h r d : S4x8192x128.Idx) = (ix3 h r d : S4x8192x128.Idx) := by
  blk_ext [index t]
theorem emb7 (t : Fin grid0.N) (h : Fin 4) (r : Fin 1024) (d : Fin 128) :
    (((cfg0 (F := Ideal) admissible).win 7).blk t).view.emb (ix3 h r d : S4x1024x128.Idx) = (ix3 h (colAt t r) d : S4x8192x128.Idx) := by
  unfold colAt at'
  blk_ext [index t]
theorem emb8 (t : Fin grid0.N) (r : Fin 1024) (j : Fin 256) :
    (((cfg0 (F := Ideal) admissible).win 8).blk t).view.emb (ix2 r j : S1024x256.Idx) = (ix2 (colAt t r) j : S8192x256.Idx) := by
  unfold colAt at'
  blk_ext [index t]

variable (m : (ℓ : Loc nD τ sig) → Buf (Elt Ideal) ℓ) (c : Dev nD) (t : Fin grid0.N)

theorem block0 (A : FVec Ideal S4x8192x128 .bf16) (h : Fin 4) (r : Fin 1024) (d : Fin 128) : (((cfg0 (F := Ideal) admissible).win 0).blk t).view.read (Elt Ideal) A (ix3 h r d : S4x1024x128.Idx) = A (ix3 h (rowAt t r) d) := by
  rw [View.read_apply]
  exact congrArg A (emb0 t h r d)
theorem entries_q (A : FVec Ideal S4x8192x128 .bf16) (hA : V m c main_v40 = A) (h : Fin 4) (r : Fin 1024) (d : Fin 128) : (entries m c t).q h r d = A (ix3 h (rowAt t r) d) :=
  (congrArg (fun A : FVec Ideal S4x8192x128 .bf16 => (((cfg0 (F := Ideal) admissible).win 0).blk t).view.read (Elt Ideal) A (ix3 h r d : S4x1024x128.Idx)) hA).trans (block0 t A h r d)
theorem block1 (A : FVec Ideal S4x8192x128 .bf16) (h : Fin 4) (r : Fin 1024) (d : Fin 128) : (((cfg0 (F := Ideal) admissible).win 1).blk t).view.read (Elt Ideal) A (ix3 h r d : S4x1024x128.Idx) = A (ix3 h (colAt t r) d) := by
  rw [View.read_apply]
  exact congrArg A (emb1 t h r d)
theorem entries_k (A : FVec Ideal S4x8192x128 .bf16) (hA : V m c main_v43 = A) (h : Fin 4) (r : Fin 1024) (d : Fin 128) : (entries m c t).k h r d = A (ix3 h (colAt t r) d) :=
  (congrArg (fun A : FVec Ideal S4x8192x128 .bf16 => (((cfg0 (F := Ideal) admissible).win 1).blk t).view.read (Elt Ideal) A (ix3 h r d : S4x1024x128.Idx)) hA).trans (block1 t A h r d)
theorem block2 (A : FVec Ideal S8192x256 .bf16) (r : Fin 1024) (j : Fin 256) : (((cfg0 (F := Ideal) admissible).win 2).blk t).view.read (Elt Ideal) A (ix2 r j : S1024x256.Idx) = A (ix2 (colAt t r) j) := by
  rw [View.read_apply]
  exact congrArg A (emb2 t r j)
theorem entries_v (A : FVec Ideal S8192x256 .bf16) (hA : V m c main_v44 = A) (r : Fin 1024) (j : Fin 256) : (entries m c t).v r j = A (ix2 (colAt t r) j) :=
  (congrArg (fun A : FVec Ideal S8192x256 .bf16 => (((cfg0 (F := Ideal) admissible).win 2).blk t).view.read (Elt Ideal) A (ix2 r j : S1024x256.Idx)) hA).trans (block2 t A r j)
theorem block3 (A : FVec Ideal S8192x256 .bf16) (r : Fin 1024) (j : Fin 256) : (((cfg0 (F := Ideal) admissible).win 3).blk t).view.read (Elt Ideal) A (ix2 r j : S1024x256.Idx) = A (ix2 (rowAt t r) j) := by
  rw [View.read_apply]
  exact congrArg A (emb3 t r j)
theorem entries_o (A : FVec Ideal S8192x256 .bf16) (hA : V m c main_v35 = A) (r : Fin 1024) (j : Fin 256) : (entries m c t).o r j = A (ix2 (rowAt t r) j) :=
  (congrArg (fun A : FVec Ideal S8192x256 .bf16 => (((cfg0 (F := Ideal) admissible).win 3).blk t).view.read (Elt Ideal) A (ix2 r j : S1024x256.Idx)) hA).trans (block3 t A r j)
theorem block4 (A : FVec Ideal S8192x256 .f32) (r : Fin 1024) (j : Fin 256) : (((cfg0 (F := Ideal) admissible).win 4).blk t).view.read (Elt Ideal) A (ix2 r j : S1024x256.Idx) = A (ix2 (rowAt t r) j) := by
  rw [View.read_apply]
  exact congrArg A (emb4 t r j)
theorem entries_g (A : FVec Ideal S8192x256 .f32) (hA : V m c main_arg3 = A) (r : Fin 1024) (j : Fin 256) : (entries m c t).g r j = A (ix2 (rowAt t r) j) :=
  (congrArg (fun A : FVec Ideal S8192x256 .f32 => (((cfg0 (F := Ideal) admissible).win 4).blk t).view.read (Elt Ideal) A (ix2 r j : S1024x256.Idx)) hA).trans (block4 t A r j)
theorem block5 (A : FVec Ideal S4x8192x128 .f32) (h : Fin 4) (r : Fin 1024) (d : Fin 128) : (((cfg0 (F := Ideal) admissible).win 5).blk t).view.read (Elt Ideal) A (ix3 h r d : S4x1024x128.Idx) = A (ix3 h (rowAt t r) d) := by
  rw [View.read_apply]
  exact congrArg A (emb5 t h r d)
theorem entries_s (A : FVec Ideal S4x8192x128 .f32) (hA : V m c main_v19 = A) (h : Fin 4) (r : Fin 1024) (d : Fin 128) : (entries m c t).s h r d = A (ix3 h (rowAt t r) d) :=
  (congrArg (fun A : FVec Ideal S4x8192x128 .f32 => (((cfg0 (F := Ideal) admissible).win 5).blk t).view.read (Elt Ideal) A (ix3 h r d : S4x1024x128.Idx)) hA).trans (block5 t A h r d)

end Cert.FlashIdeal.Mine
-- ==== Proof.FlashHalf.lean ====
/- A point on the diagonal: its block in halves, and what each adds. -/
module

public import proofs.«01_k».proof.Proof.FlashLoads

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

variable (m : (ℓ : Loc nD τ sig) → Buf (Elt Ideal) ℓ) (c : Dev nD) (t : Fin grid0.N)

/-- The rows of a half, from `o` on. -/
abbrev from' (o : ℕ) (ho : o + 512 ≤ 1024) (r : Fin 512) : Fin 1024 := ⟨o + r.val, by omega⟩

/-- A head's queries, of the half from `o` on, -/
abbrev qH (o : ℕ) (ho : o + 512 ≤ 1024) (h : Fin 4) := headLoad (ms0 (F := Ideal) t) (hs0 t) (blk0 m c t) 512 o (fun h => inb_head h.isLt ho) h
/-- keys, -/
abbrev kH (o : ℕ) (ho : o + 512 ≤ 1024) (h : Fin 4) := headLoad (ms1 (F := Ideal) t) (hs1 t) (blk1 m c t) 512 o (fun h => inb_head h.isLt ho) h
/-- values, -/
abbrev vH (o : ℕ) (ho : o + 512 ≤ 1024) (h : Fin 4) := pairLoad (ms2 (F := Ideal) t) (hs2 t) (blk2 m c t) 512 o (inb_pair ho) h
/-- the outputs, -/
abbrev oH (o : ℕ) (ho : o + 512 ≤ 1024) := rowLoad (ms3 (F := Ideal) t) (hs3 t) (blk3 m c t) 512 o (inb_row ho)
/-- their gradients -/
abbrev gH (o : ℕ) (ho : o + 512 ≤ 1024) := rowLoad (ms4 (F := Ideal) t) (hs4 t) (blk4 m c t) 512 o (inb_row ho)
/-- and the log-sums, as loaded. -/
abbrev sH (o : ℕ) (ho : o + 512 ≤ 1024) (h : Fin 4) := headLoad (ms5 (F := Ideal) t) (hs5 t) (blk5 m c t) 512 o (fun h => inb_head h.isLt ho) h

theorem qH_at (o : ℕ) (ho : o + 512 ≤ 1024) (h : Fin 4) (r : Fin 512) (d : Fin 128) : qH m c t o ho h (ix3 0 r d) = (entries m c t).q h (from' o ho r) d :=
  headLoad_at (ms0 (F := Ideal) t) (hs0 t) (blk0 m c t) 512 o _ h r d (by omega)
theorem kH_at (o : ℕ) (ho : o + 512 ≤ 1024) (h : Fin 4) (r : Fin 512) (d : Fin 128) : kH m c t o ho h (ix3 0 r d) = (entries m c t).k h (from' o ho r) d :=
  headLoad_at (ms1 (F := Ideal) t) (hs1 t) (blk1 m c t) 512 o _ h r d (by omega)
theorem vH_at (o : ℕ) (ho : o + 512 ≤ 1024) (h : Fin 4) (r : Fin 512) (l : Fin 128) : vH m c t o ho h (ix2 r l) = (entries m c t).v (from' o ho r) (lane h l) :=
  pairLoad_at (ms2 (F := Ideal) t) (hs2 t) (blk2 m c t) 512 o _ h r l (by omega)
theorem oH_at (o : ℕ) (ho : o + 512 ≤ 1024) (r : Fin 512) (j : Fin 256) : oH m c t o ho (ix2 r j) = (entries m c t).o (from' o ho r) j :=
  rowLoad_at (ms3 (F := Ideal) t) (hs3 t) (blk3 m c t) 512 o _ r j (by omega)
theorem gH_at (o : ℕ) (ho : o + 512 ≤ 1024) (r : Fin 512) (j : Fin 256) : gH m c t o ho (ix2 r j) = (entries m c t).g (from' o ho r) j :=
  rowLoad_at (ms4 (F := Ideal) t) (hs4 t) (blk4 m c t) 512 o _ r j (by omega)
theorem sH_at (o : ℕ) (ho : o + 512 ≤ 1024) (h : Fin 4) (r : Fin 512) (l : Fin 128) : sH m c t o ho h (ix3 0 r l) = (entries m c t).s h (from' o ho r) l :=
  headLoad_at (ms5 (F := Ideal) t) (hs5 t) (blk5 m c t) 512 o _ h r l (by omega)

variable (a b : ℕ) (ha : a + 512 ≤ 1024) (hb : b + 512 ≤ 1024)

/-- The weights of rows from `a` on against columns from `b` on: in a half on the diagonal later columns masked, -/
abbrev wH (mask : Bool) (h : Fin 4) :=
  match mask with
  | true => weight' (causal' (score' (qH m c t a ha h) (kH m c t b hb h))) (sH m c t a ha h)
  | false => weight' (score' (qH m c t a ha h) (kH m c t b hb h)) (sH m c t a ha h)
/-- and the scores' gradients. -/
abbrev dsH (mask : Bool) (h : Fin 4) := grad' (wH m c t a b ha hb mask h) (own' h (gH m c t a ha)) (vH m c t b hb h) (delta' h (gH m c t a ha) (oH m c t a ha))

/-- Which halves are masked: those on the diagonal, and no other may reach past it. -/
def Fits (mask : Bool) : Prop := if mask = true then a = b else b + 512 ≤ a

theorem wrap_from (o : ℕ) (ho : o + 512 ≤ 1024) (h5 : o % 128 = 0) (k : Fin 512) : wrap (from' o ho k) = wrap k := by
  apply Fin.ext
  show (o + k.val) % 128 = k.val % 128
  omega

theorem wH_eq (mask : Bool) (hm : Fits a b mask) (h5 : b % 128 = 0) (h : Fin 4) (r k : Fin 512) :
    wH m c t a b ha hb mask h (ix2 r k) = (entries m c t).weight true h (from' a ha r) (from' b hb k) := by
  match mask with
  | true =>
    refine weight'_causal (entries m c t) h (from' a ha) (from' b hb) (wrap_from b hb h5) (qH m c t a ha h) (kH m c t b hb h) (sH m c t a ha h)
      (qH_at m c t a ha h) (kH_at m c t b hb h) (sH_at m c t a ha h) ?_ r k
    intro r k
    have hm : a = b := hm
    show b + k.val ≤ a + r.val ↔ k.val ≤ r.val
    omega
  | false =>
    refine weight'_plain (entries m c t) h (from' a ha) (from' b hb) (wrap_from b hb h5) (qH m c t a ha h) (kH m c t b hb h) (sH m c t a ha h)
      (qH_at m c t a ha h) (kH_at m c t b hb h) (sH_at m c t a ha h) true ?_ r k
    intro r k _
    have hm : b + 512 ≤ a := hm
    show b + k.val ≤ a + r.val
    omega

theorem dsH_eq (mask : Bool) (hm : Fits a b mask) (h5 : b % 128 = 0) (h : Fin 4) (r k : Fin 512) :
    dsH m c t a b ha hb mask h (ix2 r k) = (entries m c t).grad true h (from' a ha r) (from' b hb k) :=
  grad'_eq (entries m c t) true h (from' a ha) (from' b hb) _ _ _ _ (wH_eq m c t a b ha hb mask hm h5 h) (vH_at m c t b hb h) (gH_at m c t a ha) (oH_at m c t a ha) r k

/-- A head's addition to the query gradient, -/
abbrev payHQ (mask : Bool) (h : Fin 4) (old : Vec Ideal (Head 512) .f32) : Vec Ideal (Head 512) .f32 := addQuery' (dsH m c t a b ha hb mask h) (kH m c t b hb h) old
/-- the key gradient -/
abbrev payHK (mask : Bool) (h : Fin 4) (old : Vec Ideal (Head 512) .f32) : Vec Ideal (Head 512) .f32 := addKey' (dsH m c t a b ha hb mask h) (qH m c t a ha h) old
/-- and the value gradient's sum. -/
abbrev payHV (mask : Bool) (h : Fin 4) (old : Vec Ideal (Head 512) .f32) : Vec Ideal (Head 512) .f32 := addValue' (wH m c t a b ha hb mask h) (pair' h (gH m c t a ha)) old

/-- The contributions of the half's columns to its rows' queries, -/
abbrev gainQ (h : Fin 4) (r : Fin 512) (l : Fin 128) : EReal := (entries m c t).toQuery true (from' b hb) h (from' a ha r) l
/-- of its rows to its columns' keys, -/
abbrev gainK (h : Fin 4) (k : Fin 512) (l : Fin 128) : EReal := (entries m c t).toKey true (from' a ha) h (from' b hb k) l
/-- and values. -/
abbrev gainV (h : Fin 4) (k : Fin 512) (l : Fin 128) : EReal := (entries m c t).toValue true (from' a ha) h (from' b hb k) l

theorem payHQ_eq (mask : Bool) (hm : Fits a b mask) (h5 : b % 128 = 0) (h : Fin 4) (old) (r : Fin 512) (l : Fin 128) :
    payHQ m c t a b ha hb mask h old (ix3 0 r l) = (old (ix3 0 r l) : EReal) + gainQ m c t a b ha hb h r l :=
  addQuery'_eq (entries m c t) true h (from' a ha) (from' b hb) _ _ (dsH_eq m c t a b ha hb mask hm h5 h) (kH_at m c t b hb h) old r l
theorem payHK_eq (mask : Bool) (hm : Fits a b mask) (h5 : b % 128 = 0) (h : Fin 4) (old) (r : Fin 512) (l : Fin 128) :
    payHK m c t a b ha hb mask h old (ix3 0 r l) = (old (ix3 0 r l) : EReal) + gainK m c t a b ha hb h r l :=
  addKey'_eq (entries m c t) true h (from' a ha) (from' b hb) _ _ (dsH_eq m c t a b ha hb mask hm h5 h) (qH_at m c t a ha h) old r l
theorem payHV_eq (mask : Bool) (hm : Fits a b mask) (h5 : b % 128 = 0) (h : Fin 4) (old) (r : Fin 512) (l : Fin 128) :
    payHV m c t a b ha hb mask h old (ix3 0 r l) = (old (ix3 0 r l) : EReal) + gainV m c t a b ha hb h r l :=
  addValue'_eq (entries m c t) true h (from' a ha) (from' b hb) _ _ (wH_eq m c t a b ha hb mask hm h5 h) (gH_at m c t a ha) old r l

/-- All three halves' gains: lower rows and columns, upper rows and lower columns, upper rows and columns. -/
abbrev lo : 0 + 512 ≤ 1024 := by decide
abbrev hi : 512 + 512 ≤ 1024 := by decide
theorem fits1 : Fits 0 0 true := rfl
theorem fits2 : Fits 512 0 false := le_refl 512
theorem fits3 : Fits 512 512 true := rfl

/-- A query gradient's three gains, -/
abbrev threeQ (G : Fin 4 → Fin 8192 → Fin 128 → EReal) : Fin 4 → Fin 8192 → Fin 128 → EReal :=
  addedAll (1024 * rowBlock t + 512) (gainQ m c t 512 512 hi hi) (addedAll (1024 * rowBlock t + 512) (gainQ m c t 512 0 hi lo) (addedAll (1024 * rowBlock t) (gainQ m c t 0 0 lo lo) G))
/-- a key gradient's -/
abbrev threeK : Fin 4 → Fin 1024 → Fin 128 → EReal :=
  addedAll 512 (gainK m c t 512 512 hi hi) (addedAll 0 (gainK m c t 512 0 hi lo) (addedAll 0 (gainK m c t 0 0 lo lo) fun _ _ _ => 0))
/-- and a value gradient's. -/
abbrev threeV : Fin 4 → Fin 1024 → Fin 128 → EReal :=
  addedAll 512 (gainV m c t 512 512 hi hi) (addedAll 0 (gainV m c t 512 0 hi lo) (addedAll 0 (gainV m c t 0 0 lo lo) fun _ _ _ => 0))

/-- A whole store of zeros reads zero. -/
theorem zeros_at {κ : Kind} {sp : Space} {R : ℕ} (v : View sig κ sp (Heads R) .f32) (f : v.ty.Contents (Elt Ideal)) (inb) (pay : Vec Ideal (Heads R) .f32)
    (hp : ∀ y, pay y = (0 : EReal)) (g : Fin 4) (k : Fin R) (l : Fin 128) :
    v.read (Elt Ideal) (v.writes (Elt Ideal) f [⟨Rect.unit (s := Heads R) ![0, 0, 0] ![4, R, 128] inb, pay⟩]) (ix3 g k l) = (0 : EReal) := by
  refine (View.read_writes_cons_unit_of_mem v f inb pay [] (ix3 g k l) (ix3 g k l) rfl ?_).trans (hp _)
  intro a
  fin_cases a
  · exact (Nat.zero_add _).symm
  · exact (Nat.zero_add _).symm
  · exact (Nat.zero_add _).symm

theorem zero_dk (y : S4x1024x128.Idx) : (k0_pay2 (F := Ideal)) y = (0 : EReal) := by
  unfold k0_pay2
  pointwise []
theorem zero_sum (y : S4x1024x128.Idx) : (k0_pay3 (F := Ideal)) y = (0 : EReal) := by
  unfold k0_pay3
  pointwise []
theorem zero_dq (y : S4x8192x128.Idx) : (k0_pay1 (F := Ideal)) y = (0 : EReal) := by
  unfold k0_pay1
  pointwise []

theorem inb_low (h : Fin 4) (x : Fin 3) : offH (read0 (F := Ideal) (grid0.coords t)) 0#32 h x + (Head 512).size x ≤ (Heads 8192).size x := by
  rw [offL_eq]
  exact inb_head h.isLt (by have := rowBlock_lt t; omega) x
theorem inb_high (h : Fin 4) (x : Fin 3) : offH (read0 (F := Ideal) (grid0.coords t)) 512#32 h x + (Head 512).size x ≤ (Heads 8192).size x := by
  rw [offU_eq]
  exact inb_head h.isLt (by have := rowBlock_lt t; omega) x

/-- A diagonal point's stores into the key gradient, in order, -/
def putsK : List (View.Piece (Elt Ideal) (Heads 1024) .f32) :=
  four (ms7 (F := Ideal) t).view (ms7 (F := Ideal) t).view.junk (fun h => ![h.val, 512, 0]) (fun h => inb_head h.isLt (by decide)) (payHK m c t 512 512 hi hi true)
  (four (ms7 (F := Ideal) t).view (ms7 (F := Ideal) t).view.junk (fun h => ![h.val, 0, 0]) (fun h => inb_head h.isLt (by decide)) (payHK m c t 512 0 hi lo false)
  (four (ms7 (F := Ideal) t).view (ms7 (F := Ideal) t).view.junk (fun h => ![h.val, 0, 0]) (fun h => inb_head h.isLt (by decide)) (payHK m c t 0 0 lo lo true) [⟨Rect.unit (s := Heads 1024) ![0, 0, 0] ![4, 1024, 128] (fun a => by fin_cases a <;> decide), k0_pay2 (F := Ideal)⟩]))

theorem putsK_at (g : Fin 4) (k : Fin 1024) (l : Fin 128) :
    (ms7 (F := Ideal) t).view.read (Elt Ideal) ((ms7 (F := Ideal) t).view.writes (Elt Ideal) (ms7 (F := Ideal) t).view.junk (putsK m c t)) (ix3 g k l) = threeK m c t g k l :=
  put_four (ms7 (F := Ideal) t).view (ms7 (F := Ideal) t).view.junk _ (512) (fun h => ![h.val, 512, 0]) (fun h => inb_head h.isLt (by decide)) (fun _ => rfl) (payHK m c t 512 512 hi hi true) (gainK m c t 512 512 hi hi) _
    (put_four (ms7 (F := Ideal) t).view (ms7 (F := Ideal) t).view.junk _ (0) (fun h => ![h.val, 0, 0]) (fun h => inb_head h.isLt (by decide)) (fun _ => rfl) (payHK m c t 512 0 hi lo false) (gainK m c t 512 0 hi lo) _
    (put_four (ms7 (F := Ideal) t).view (ms7 (F := Ideal) t).view.junk _ (0) (fun h => ![h.val, 0, 0]) (fun h => inb_head h.isLt (by decide)) (fun _ => rfl) (payHK m c t 0 0 lo lo true) (gainK m c t 0 0 lo lo) _
    (zeros_at _ _ _ _ zero_dk) (payHK_eq m c t 0 0 lo lo true fits1 rfl)) (payHK_eq m c t 512 0 hi lo false fits2 rfl)) (payHK_eq m c t 512 512 hi hi true fits3 rfl) g k l

/-- and its stores into the value gradient's sum, -/
def putsV : List (View.Piece (Elt Ideal) (Heads 1024) .f32) :=
  four (Memref.whole (sig := sig) cc0_scratch0).view (Memref.whole (sig := sig) cc0_scratch0).view.junk (fun h => ![h.val, 512, 0]) (fun h => inb_head h.isLt (by decide)) (payHV m c t 512 512 hi hi true)
  (four (Memref.whole (sig := sig) cc0_scratch0).view (Memref.whole (sig := sig) cc0_scratch0).view.junk (fun h => ![h.val, 0, 0]) (fun h => inb_head h.isLt (by decide)) (payHV m c t 512 0 hi lo false)
  (four (Memref.whole (sig := sig) cc0_scratch0).view (Memref.whole (sig := sig) cc0_scratch0).view.junk (fun h => ![h.val, 0, 0]) (fun h => inb_head h.isLt (by decide)) (payHV m c t 0 0 lo lo true) [⟨Rect.unit (s := Heads 1024) ![0, 0, 0] ![4, 1024, 128] (fun a => by fin_cases a <;> decide), k0_pay3 (F := Ideal)⟩]))

theorem putsV_at (g : Fin 4) (k : Fin 1024) (l : Fin 128) :
    (Memref.whole (sig := sig) cc0_scratch0).view.read (Elt Ideal) ((Memref.whole (sig := sig) cc0_scratch0).view.writes (Elt Ideal) (Memref.whole (sig := sig) cc0_scratch0).view.junk (putsV m c t)) (ix3 g k l) = threeV m c t g k l :=
  put_four (Memref.whole (sig := sig) cc0_scratch0).view (Memref.whole (sig := sig) cc0_scratch0).view.junk _ (512) (fun h => ![h.val, 512, 0]) (fun h => inb_head h.isLt (by decide)) (fun _ => rfl) (payHV m c t 512 512 hi hi true) (gainV m c t 512 512 hi hi) _
    (put_four (Memref.whole (sig := sig) cc0_scratch0).view (Memref.whole (sig := sig) cc0_scratch0).view.junk _ (0) (fun h => ![h.val, 0, 0]) (fun h => inb_head h.isLt (by decide)) (fun _ => rfl) (payHV m c t 512 0 hi lo false) (gainV m c t 512 0 hi lo) _
    (put_four (Memref.whole (sig := sig) cc0_scratch0).view (Memref.whole (sig := sig) cc0_scratch0).view.junk _ (0) (fun h => ![h.val, 0, 0]) (fun h => inb_head h.isLt (by decide)) (fun _ => rfl) (payHV m c t 0 0 lo lo true) (gainV m c t 0 0 lo lo) _
    (zeros_at _ _ _ _ zero_sum) (payHV_eq m c t 0 0 lo lo true fits1 rfl)) (payHV_eq m c t 512 0 hi lo false fits2 rfl)) (payHV_eq m c t 512 512 hi hi true fits3 rfl) g k l

/-- and into the query gradient, after earlier ones. -/
def putsQ (f : (ms6 (F := Ideal) t).view.ty.Contents (Elt Ideal)) (L : List (View.Piece (Elt Ideal) (Heads 8192) .f32)) : List (View.Piece (Elt Ideal) (Heads 8192) .f32) :=
  four (ms6 (F := Ideal) t).view f (offH (read0 (F := Ideal) (grid0.coords t)) 512#32) (inb_high t) (payHQ m c t 512 512 hi hi true)
  (four (ms6 (F := Ideal) t).view f (offH (read0 (F := Ideal) (grid0.coords t)) 512#32) (inb_high t) (payHQ m c t 512 0 hi lo false)
  (four (ms6 (F := Ideal) t).view f (offH (read0 (F := Ideal) (grid0.coords t)) 0#32) (inb_low t) (payHQ m c t 0 0 lo lo true) L))

theorem putsQ_at (f : (ms6 (F := Ideal) t).view.ty.Contents (Elt Ideal)) (L : List (View.Piece (Elt Ideal) (Heads 8192) .f32)) (G : Fin 4 → Fin 8192 → Fin 128 → EReal) (hG : ∀ g k l, (ms6 (F := Ideal) t).view.read (Elt Ideal) ((ms6 (F := Ideal) t).view.writes (Elt Ideal) f L) (ix3 g k l) = G g k l) (g : Fin 4) (k : Fin 8192) (l : Fin 128) :
    (ms6 (F := Ideal) t).view.read (Elt Ideal) ((ms6 (F := Ideal) t).view.writes (Elt Ideal) f (putsQ m c t f L)) (ix3 g k l) = threeQ m c t G g k l :=
  put_four (ms6 (F := Ideal) t).view f _ (1024 * rowBlock t + 512) (offH (read0 (F := Ideal) (grid0.coords t)) 512#32) (inb_high t) (offU_eq t) (payHQ m c t 512 512 hi hi true) (gainQ m c t 512 512 hi hi) _
    (put_four (ms6 (F := Ideal) t).view f _ (1024 * rowBlock t + 512) (offH (read0 (F := Ideal) (grid0.coords t)) 512#32) (inb_high t) (offU_eq t) (payHQ m c t 512 0 hi lo false) (gainQ m c t 512 0 hi lo) _
    (put_four (ms6 (F := Ideal) t).view f _ (1024 * rowBlock t) (offH (read0 (F := Ideal) (grid0.coords t)) 0#32) (inb_low t) (offL_eq t) (payHQ m c t 0 0 lo lo true) (gainQ m c t 0 0 lo lo) _
    (hG) (payHQ_eq m c t 0 0 lo lo true fits1 rfl)) (payHQ_eq m c t 512 0 hi lo false fits2 rfl)) (payHQ_eq m c t 512 512 hi hi true fits3 rfl) g k l

end Cert.FlashIdeal.Mine
-- ==== Proof.FlashGainA.lean ====
/- The first point: what it adds. -/
module

public import proofs.«01_k».proof.Proof.FlashHalf

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

variable (m : (ℓ : Loc nD τ sig) → Buf (Elt Ideal) ℓ) (c : Dev nD) (t : Fin grid0.N)
variable (hz : t.val = 0) (hd : diagonal t.val = true) (hl : closing t.val = false) (p : State Ideal)

theorem queryA_puts : (nextA m c t hz hd hl p).dq = (ms6 (F := Ideal) t).view.read (Elt Ideal) ((ms6 (F := Ideal) t).view.writes (Elt Ideal) ((ms6 (F := Ideal) t).view.junk) (putsQ m c t ((ms6 (F := Ideal) t).view.junk) [⟨Rect.unit (s := Heads 8192) ![0, 0, 0] ![4, 8192, 128] (fun a => by fin_cases a <;> decide), k0_pay1 (F := Ideal)⟩])) := by
  sl_kernel_rfl

/-- The query gradient, from nothing: the three halves' gains, -/
theorem queryA (g : Fin 4) (k : Fin 8192) (l : Fin 128) : (nextA m c t hz hd hl p).dq (ix3 g k l) = threeQ m c t (fun _ _ _ => 0) g k l :=
  (congrFun (queryA_puts m c t hz hd hl p) (ix3 g k l)).trans (putsQ_at m c t ((ms6 (F := Ideal) t).view.junk) [⟨Rect.unit (s := Heads 8192) ![0, 0, 0] ![4, 8192, 128] (fun a => by fin_cases a <;> decide), k0_pay1 (F := Ideal)⟩] _ (zeros_at _ _ _ _ zero_dq) g k l)

theorem keyA_puts : (nextA m c t hz hd hl p).dk = (ms7 (F := Ideal) t).view.read (Elt Ideal) ((ms7 (F := Ideal) t).view.writes (Elt Ideal) ((ms7 (F := Ideal) t).view.junk) (putsK m c t)) := by
  sl_kernel_rfl

/-- the key gradient starts from theirs, -/
theorem keyA (g : Fin 4) (k : Fin 1024) (l : Fin 128) : (nextA m c t hz hd hl p).dk (ix3 g k l) = threeK m c t g k l :=
  (congrFun (keyA_puts m c t hz hd hl p) (ix3 g k l)).trans (putsK_at m c t g k l)

theorem valueA_puts : (nextA m c t hz hd hl p).sum = (Memref.whole (sig := sig) cc0_scratch0).view.read (Elt Ideal) ((Memref.whole (sig := sig) cc0_scratch0).view.writes (Elt Ideal) ((Memref.whole (sig := sig) cc0_scratch0).view.junk) (putsV m c t)) := by
  sl_kernel_rfl

/-- and so does the value gradient's sum. -/
theorem valueA (g : Fin 4) (k : Fin 1024) (l : Fin 128) : (nextA m c t hz hd hl p).sum (ix3 g k l) = threeV m c t g k l :=
  (congrFun (valueA_puts m c t hz hd hl p) (ix3 g k l)).trans (putsV_at m c t g k l)

end Cert.FlashIdeal.Mine
-- ==== Proof.FlashFull.lean ====
/- A point below the diagonal: what its body adds to the gradients. -/
module

public import proofs.«01_k».proof.Proof.FlashLoads

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

variable (m : (ℓ : Loc nD τ sig) → Buf (Elt Ideal) ℓ) (c : Dev nD) (t : Fin grid0.N)

/-- A head's queries, -/
abbrev qF (h : Fin 4) := headLoad (ms0 (F := Ideal) t) (hs0 t) (blk0 m c t) 1024 0 (fun h => inb_head h.isLt (by decide)) h
/-- keys, -/
abbrev kF (h : Fin 4) := headLoad (ms1 (F := Ideal) t) (hs1 t) (blk1 m c t) 1024 0 (fun h => inb_head h.isLt (by decide)) h
/-- values, -/
abbrev vF (h : Fin 4) := pairLoad (ms2 (F := Ideal) t) (hs2 t) (blk2 m c t) 1024 0 (inb_pair (by decide)) h
/-- the outputs, -/
abbrev oF := rowLoad (ms3 (F := Ideal) t) (hs3 t) (blk3 m c t) 1024 0 (inb_row (by decide))
/-- their gradients -/
abbrev gF := rowLoad (ms4 (F := Ideal) t) (hs4 t) (blk4 m c t) 1024 0 (inb_row (by decide))
/-- and the log-sums, as loaded. -/
abbrev sF (h : Fin 4) := headLoad (ms5 (F := Ideal) t) (hs5 t) (blk5 m c t) 1024 0 (fun h => inb_head h.isLt (by decide)) h

/-- The weights -/
abbrev wF (h : Fin 4) := weight (score (qF m c t h) (kF m c t h)) (sF m c t h)
/-- and the scores' gradients. -/
abbrev dsF (h : Fin 4) := grad (wF m c t h) (own h (gF m c t)) (vF m c t h) (delta h (gF m c t) (oF m c t))

theorem head_zero {e : EltTy} (M : Memref sig .tc .vmem (Heads 1024) e) (hM : M.IsWhole) (x : Vec Ideal (Heads 1024) e) (inb) (h : Fin 4) (r : Fin 1024) (l : Fin 128) :
    headLoad M hM x 1024 0 inb h (ix3 0 r l) = x (ix3 h r l) := by
  have hr : 0 + r.val < 1024 := by omega
  refine (headLoad_at M hM x 1024 0 inb h r l hr).trans (congrArg (fun r => x (ix3 h r l)) (Fin.ext ?_))
  show 0 + r.val = r.val
  omega
theorem row_zero {e : EltTy} (M : Memref sig .tc .vmem S1024x256 e) (hM : M.IsWhole) (x : Vec Ideal S1024x256 e) (inb) (r : Fin 1024) (j : Fin 256) :
    rowLoad M hM x 1024 0 inb (ix2 r j) = x (ix2 r j) := by
  have hr : 0 + r.val < 1024 := by omega
  refine (rowLoad_at M hM x 1024 0 inb r j hr).trans (congrArg (fun r => x (ix2 r j)) (Fin.ext ?_))
  show 0 + r.val = r.val
  omega
theorem pair_zero {e : EltTy} (M : Memref sig .tc .vmem S1024x256 e) (hM : M.IsWhole) (x : Vec Ideal S1024x256 e) (inb) (h : Fin 4) (r : Fin 1024) (l : Fin 128) :
    pairLoad M hM x 1024 0 inb h (ix2 r l) = x (ix2 r (lane h l)) := by
  have hr : 0 + r.val < 1024 := by omega
  refine (pairLoad_at M hM x 1024 0 inb h r l hr).trans (congrArg (fun r => x (ix2 r (lane h l))) (Fin.ext ?_))
  show 0 + r.val = r.val
  omega

theorem wF_eq (h : Fin 4) (r k : Fin 1024) : wF m c t h (ix2 r k) = (entries m c t).weight false h r k :=
  weight_plain (entries m c t) h id id (fun _ => rfl) (qF m c t h) (kF m c t h) (sF m c t h) (head_zero _ _ _ _ h) (head_zero _ _ _ _ h) (head_zero _ _ _ _ h) false
    (fun _ _ e => absurd e Bool.false_ne_true) r k

theorem dsF_eq (h : Fin 4) (r k : Fin 1024) : dsF m c t h (ix2 r k) = (entries m c t).grad false h r k :=
  grad_eq (entries m c t) false h id id _ _ _ _ (wF_eq m c t h) (pair_zero _ _ _ _ h) (row_zero _ _ _ _) (row_zero _ _ _ _) r k

/-- A head's addition to the query gradient, -/
abbrev payQ (h : Fin 4) (old : Vec Ideal (Head 1024) .f32) : Vec Ideal (Head 1024) .f32 := addQuery (dsF m c t h) (kF m c t h) old
/-- the key gradient -/
abbrev payK (h : Fin 4) (old : Vec Ideal (Head 1024) .f32) : Vec Ideal (Head 1024) .f32 := addKey (dsF m c t h) (qF m c t h) old
/-- and the value gradient's sum. -/
abbrev payV (h : Fin 4) (old : Vec Ideal (Head 1024) .f32) : Vec Ideal (Head 1024) .f32 := addValue (wF m c t h) (pair h (gF m c t)) old

theorem payQ_eq (h : Fin 4) (old) (r : Fin 1024) (l : Fin 128) :
    payQ m c t h old (ix3 0 r l) = (old (ix3 0 r l) : EReal) + (entries m c t).toQuery false id h r l :=
  addQuery_eq (entries m c t) false h id id _ _ (dsF_eq m c t h) (head_zero _ _ _ _ h) old r l
theorem payK_eq (h : Fin 4) (old) (r : Fin 1024) (l : Fin 128) :
    payK m c t h old (ix3 0 r l) = (old (ix3 0 r l) : EReal) + (entries m c t).toKey false id h r l :=
  addKey_eq (entries m c t) false h id id _ _ (dsF_eq m c t h) (head_zero _ _ _ _ h) old r l
theorem payV_eq (h : Fin 4) (old) (r : Fin 1024) (l : Fin 128) :
    payV m c t h old (ix3 0 r l) = (old (ix3 0 r l) : EReal) + (entries m c t).toValue false id h r l :=
  addValue_eq (entries m c t) false h id id _ _ (wF_eq m c t h) (row_zero _ _ _ _) old r l

end Cert.FlashIdeal.Mine
-- ==== Proof.FlashGainB.lean ====
/- A point below the diagonal and not its column's last: what it adds. -/
module

public import proofs.«01_k».proof.Proof.FlashFull

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

variable (m : (ℓ : Loc nD τ sig) → Buf (Elt Ideal) ℓ) (c : Dev nD) (t : Fin grid0.N)
variable (hz : t.val ≠ 0) (hd : diagonal t.val = false) (hl : closing t.val = false) (p : State Ideal)

set_option maxHeartbeats 8000000 in
/-- Its block's rows of the query gradient gain the block's columns' contributions, -/
theorem queryB (g : Fin 4) (k : Fin 8192) (l : Fin 128) :
    (nextB m c t hz hd hl p).dq (ix3 g k l) = addedAll (1024 * rowBlock t) ((entries m c t).toQuery false id) (fun g k l => (p.dq (ix3 g k l) : EReal)) g k l :=
  put_all (ms6 (F := Ideal) t).view ((hs6 t).unread p.dq) [] (1024 * rowBlock t) (offW (read0 (F := Ideal) (grid0.coords t)))
    (fun h a => by rw [offW_eq]; exact inb_head h.isLt (by have := rowBlock_lt t; omega) a) (offW_eq t) (payQ m c t)
    ((entries m c t).toQuery false id) (fun g k l => (p.dq (ix3 g k l) : EReal)) (fun g k l => congrFun ((hs6 t).read_unread p.dq) (ix3 g k l)) (payQ_eq m c t) g k l

set_option maxHeartbeats 8000000 in
/-- its columns' key gradient the rows', -/
theorem keyB (g : Fin 4) (k : Fin 1024) (l : Fin 128) :
    (nextB m c t hz hd hl p).dk (ix3 g k l) = addedAll 0 ((entries m c t).toKey false id) (fun g k l => (p.dk (ix3 g k l) : EReal)) g k l :=
  put_each (ms7 (F := Ideal) t).view ((hs7 t).unread p.dk) 0 (fun h => ![h.val, 0, 0]) (fun h => inb_head h.isLt (by decide)) (fun _ => rfl) (payK m c t)
    ((entries m c t).toKey false id) (fun g k l => (p.dk (ix3 g k l) : EReal)) (fun g k l => congrFun ((hs7 t).read_unread p.dk) (ix3 g k l)) (payK_eq m c t) g k l

set_option maxHeartbeats 8000000 in
/-- and so does the value gradient's sum. -/
theorem valueB (g : Fin 4) (k : Fin 1024) (l : Fin 128) :
    (nextB m c t hz hd hl p).sum (ix3 g k l) = addedAll 0 ((entries m c t).toValue false id) (fun g k l => (p.sum (ix3 g k l) : EReal)) g k l :=
  put_each (Memref.whole (sig := sig) cc0_scratch0).view ((Memref.isWhole_whole cc0_scratch0).unread p.sum) 0 (fun h => ![h.val, 0, 0]) (fun h => inb_head h.isLt (by decide)) (fun _ => rfl) (payV m c t)
    ((entries m c t).toValue false id) (fun g k l => (p.sum (ix3 g k l) : EReal)) (fun g k l => congrFun ((Memref.isWhole_whole cc0_scratch0).read_unread p.sum) (ix3 g k l)) (payV_eq m c t) g k l

end Cert.FlashIdeal.Mine
-- ==== Proof.FlashGainC.lean ====
/- A column's last point, below the diagonal: what it adds. -/
module

public import proofs.«01_k».proof.Proof.FlashFull

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

variable (m : (ℓ : Loc nD τ sig) → Buf (Elt Ideal) ℓ) (c : Dev nD) (t : Fin grid0.N)
variable (hz : t.val ≠ 0) (hd : diagonal t.val = false) (hl : closing t.val = true) (p : State Ideal)

set_option maxHeartbeats 8000000 in
/-- Its block's rows of the query gradient gain the block's columns' contributions, -/
theorem queryC (g : Fin 4) (k : Fin 8192) (l : Fin 128) :
    (nextC m c t hz hd hl p).dq (ix3 g k l) = addedAll (1024 * rowBlock t) ((entries m c t).toQuery false id) (fun g k l => (p.dq (ix3 g k l) : EReal)) g k l :=
  put_all (ms6 (F := Ideal) t).view ((hs6 t).unread p.dq) [] (1024 * rowBlock t) (offW (read0 (F := Ideal) (grid0.coords t)))
    (fun h a => by rw [offW_eq]; exact inb_head h.isLt (by have := rowBlock_lt t; omega) a) (offW_eq t) (payQ m c t)
    ((entries m c t).toQuery false id) (fun g k l => (p.dq (ix3 g k l) : EReal)) (fun g k l => congrFun ((hs6 t).read_unread p.dq) (ix3 g k l)) (payQ_eq m c t) g k l

set_option maxHeartbeats 8000000 in
/-- its columns' key gradient the rows', -/
theorem keyC (g : Fin 4) (k : Fin 1024) (l : Fin 128) :
    (nextC m c t hz hd hl p).dk (ix3 g k l) = addedAll 0 ((entries m c t).toKey false id) (fun g k l => (p.dk (ix3 g k l) : EReal)) g k l :=
  put_each (ms7 (F := Ideal) t).view ((hs7 t).unread p.dk) 0 (fun h => ![h.val, 0, 0]) (fun h => inb_head h.isLt (by decide)) (fun _ => rfl) (payK m c t)
    ((entries m c t).toKey false id) (fun g k l => (p.dk (ix3 g k l) : EReal)) (fun g k l => congrFun ((hs7 t).read_unread p.dk) (ix3 g k l)) (payK_eq m c t) g k l

set_option maxHeartbeats 8000000 in
/-- and so does the value gradient's sum. -/
theorem valueC (g : Fin 4) (k : Fin 1024) (l : Fin 128) :
    (nextC m c t hz hd hl p).sum (ix3 g k l) = addedAll 0 ((entries m c t).toValue false id) (fun g k l => (p.sum (ix3 g k l) : EReal)) g k l :=
  put_each (Memref.whole (sig := sig) cc0_scratch0).view ((Memref.isWhole_whole cc0_scratch0).unread p.sum) 0 (fun h => ![h.val, 0, 0]) (fun h => inb_head h.isLt (by decide)) (fun _ => rfl) (payV m c t)
    ((entries m c t).toValue false id) (fun g k l => (p.sum (ix3 g k l) : EReal)) (fun g k l => congrFun ((Memref.isWhole_whole cc0_scratch0).read_unread p.sum) (ix3 g k l)) (payV_eq m c t) g k l

end Cert.FlashIdeal.Mine
-- ==== Proof.FlashGainD.lean ====
/- A diagonal point, not the first, not the last: what it adds. -/
module

public import proofs.«01_k».proof.Proof.FlashHalf

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

variable (m : (ℓ : Loc nD τ sig) → Buf (Elt Ideal) ℓ) (c : Dev nD) (t : Fin grid0.N)
variable (hz : t.val ≠ 0) (hd : diagonal t.val = true) (hl : closing t.val = false) (p : State Ideal)

theorem queryD_puts : (nextD m c t hz hd hl p).dq = (ms6 (F := Ideal) t).view.read (Elt Ideal) ((ms6 (F := Ideal) t).view.writes (Elt Ideal) ((hs6 t).unread p.dq) (putsQ m c t ((hs6 t).unread p.dq) [])) := by
  sl_kernel_rfl

/-- The query gradient gains the three halves', -/
theorem queryD (g : Fin 4) (k : Fin 8192) (l : Fin 128) : (nextD m c t hz hd hl p).dq (ix3 g k l) = threeQ m c t (fun g k l => (p.dq (ix3 g k l) : EReal)) g k l :=
  (congrFun (queryD_puts m c t hz hd hl p) (ix3 g k l)).trans (putsQ_at m c t ((hs6 t).unread p.dq) [] _ (fun g k l => congrFun ((hs6 t).read_unread p.dq) (ix3 g k l)) g k l)

theorem keyD_puts : (nextD m c t hz hd hl p).dk = (ms7 (F := Ideal) t).view.read (Elt Ideal) ((ms7 (F := Ideal) t).view.writes (Elt Ideal) ((ms7 (F := Ideal) t).view.junk) (putsK m c t)) := by
  sl_kernel_rfl

/-- the key gradient starts from theirs, -/
theorem keyD (g : Fin 4) (k : Fin 1024) (l : Fin 128) : (nextD m c t hz hd hl p).dk (ix3 g k l) = threeK m c t g k l :=
  (congrFun (keyD_puts m c t hz hd hl p) (ix3 g k l)).trans (putsK_at m c t g k l)

theorem valueD_puts : (nextD m c t hz hd hl p).sum = (Memref.whole (sig := sig) cc0_scratch0).view.read (Elt Ideal) ((Memref.whole (sig := sig) cc0_scratch0).view.writes (Elt Ideal) ((Memref.whole (sig := sig) cc0_scratch0).view.junk) (putsV m c t)) := by
  sl_kernel_rfl

/-- and so does the value gradient's sum. -/
theorem valueD (g : Fin 4) (k : Fin 1024) (l : Fin 128) : (nextD m c t hz hd hl p).sum (ix3 g k l) = threeV m c t g k l :=
  (congrFun (valueD_puts m c t hz hd hl p) (ix3 g k l)).trans (putsV_at m c t g k l)

end Cert.FlashIdeal.Mine
-- ==== Proof.FlashGainE.lean ====
/- The last point, on the diagonal: what it adds. -/
module

public import proofs.«01_k».proof.Proof.FlashHalf

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

variable (m : (ℓ : Loc nD τ sig) → Buf (Elt Ideal) ℓ) (c : Dev nD) (t : Fin grid0.N)
variable (hz : t.val ≠ 0) (hd : diagonal t.val = true) (hl : closing t.val = true) (p : State Ideal)

theorem queryE_puts : (nextE m c t hz hd hl p).dq = (ms6 (F := Ideal) t).view.read (Elt Ideal) ((ms6 (F := Ideal) t).view.writes (Elt Ideal) ((hs6 t).unread p.dq) (putsQ m c t ((hs6 t).unread p.dq) [])) := by
  sl_kernel_rfl

/-- The query gradient gains the three halves', -/
theorem queryE (g : Fin 4) (k : Fin 8192) (l : Fin 128) : (nextE m c t hz hd hl p).dq (ix3 g k l) = threeQ m c t (fun g k l => (p.dq (ix3 g k l) : EReal)) g k l :=
  (congrFun (queryE_puts m c t hz hd hl p) (ix3 g k l)).trans (putsQ_at m c t ((hs6 t).unread p.dq) [] _ (fun g k l => congrFun ((hs6 t).read_unread p.dq) (ix3 g k l)) g k l)

theorem keyE_puts : (nextE m c t hz hd hl p).dk = (ms7 (F := Ideal) t).view.read (Elt Ideal) ((ms7 (F := Ideal) t).view.writes (Elt Ideal) ((ms7 (F := Ideal) t).view.junk) (putsK m c t)) := by
  sl_kernel_rfl

/-- the key gradient starts from theirs, -/
theorem keyE (g : Fin 4) (k : Fin 1024) (l : Fin 128) : (nextE m c t hz hd hl p).dk (ix3 g k l) = threeK m c t g k l :=
  (congrFun (keyE_puts m c t hz hd hl p) (ix3 g k l)).trans (putsK_at m c t g k l)

theorem valueE_puts : (nextE m c t hz hd hl p).sum = (Memref.whole (sig := sig) cc0_scratch0).view.read (Elt Ideal) ((Memref.whole (sig := sig) cc0_scratch0).view.writes (Elt Ideal) ((Memref.whole (sig := sig) cc0_scratch0).view.junk) (putsV m c t)) := by
  sl_kernel_rfl

/-- and so does the value gradient's sum. -/
theorem valueE (g : Fin 4) (k : Fin 1024) (l : Fin 128) : (nextE m c t hz hd hl p).sum (ix3 g k l) = threeV m c t g k l :=
  (congrFun (valueE_puts m c t hz hd hl p) (ix3 g k l)).trans (putsV_at m c t g k l)

end Cert.FlashIdeal.Mine
-- ==== Proof.FlashGain.lean ====
/- What one grid point adds to the three gradients, whatever branches it takes. -/
module

public import proofs.«01_k».proof.Proof.FlashGainA
public import proofs.«01_k».proof.Proof.FlashGainB
public import proofs.«01_k».proof.Proof.FlashGainC
public import proofs.«01_k».proof.Proof.FlashGainD
public import proofs.«01_k».proof.Proof.FlashGainE

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

/-- A sum over a block is the sum over its two halves. -/
theorem sum_halves (f : Fin 1024 → EReal) : ∑ c, f c = (∑ c : Fin 512, f (from' 0 lo c)) + ∑ c : Fin 512, f (from' 512 hi c) := by
  rw [show ∑ c, f c = ∑ c : Fin (512 + 512), f c from rfl, Fin.sum_univ_add]
  refine congrArg (· + _) (Finset.sum_congr rfl fun c _ => congrArg f (Fin.ext ?_))
  exact (Nat.zero_add _).symm

/-- Where the second half is zero, the first is all; -/
theorem sum_first (f : Fin 1024 → EReal) (hf : ∀ c, f (from' 512 hi c) = 0) : ∑ c : Fin 512, f (from' 0 lo c) = ∑ c, f c := by
  rw [sum_halves, Finset.sum_eq_zero fun c _ => hf c, add_zero]
/-- where the first is, the second. -/
theorem sum_second (f : Fin 1024 → EReal) (hf : ∀ c, f (from' 0 lo c) = 0) : ∑ c : Fin 512, f (from' 512 hi c) = ∑ c, f c := by
  rw [sum_halves, Finset.sum_eq_zero fun c _ => hf c, zero_add]

namespace Entries
variable (B : Entries)

theorem weight_later (h : Fin 4) (r c : Fin 1024) (hc : r.val < c.val) : B.weight true h r c = 0 := by
  unfold weight
  exact if_neg fun e => absurd (e rfl) (by omega)
theorem grad_later (h : Fin 4) (r c : Fin 1024) (hc : r.val < c.val) : B.grad true h r c = 0 := by
  unfold grad
  rw [B.weight_later h r c hc]
  exact zero_mul _

end Entries

theorem gainQ_low (m : (ℓ : Loc nD τ sig) → Buf (Elt Ideal) ℓ) (c : Dev nD) (t : Fin grid0.N) (h : Fin 4) (r : Fin 512) (l : Fin 128) :
    gainQ m c t 0 0 lo lo h r l = (entries m c t).toQuery true id h (from' 0 lo r) l :=
  sum_first (fun k => (entries m c t).grad true h (from' 0 lo r) k * (entries m c t).k h k l) fun k => by
    rw [(entries m c t).grad_later h _ _ (by show 0 + r.val < 512 + k.val; omega)]
    exact zero_mul _

variable (m : (ℓ : Loc nD τ sig) → Buf (Elt Ideal) ℓ) (c : Dev nD) (t : Fin grid0.N)

/-- The three gains of a query's gradient are one sum over the block's columns, -/
theorem threeQ_eq (G : Fin 4 → Fin 8192 → Fin 128 → EReal) (g : Fin 4) (k : Fin 8192) (l : Fin 128) :
    threeQ m c t G g k l = addedAll (1024 * rowBlock t) ((entries m c t).toQuery true id) G g k l := by
  unfold threeQ addedAll
  by_cases h1 : 1024 * rowBlock t ≤ k.val ∧ k.val < 1024 * rowBlock t + 512
  · rw [dif_neg (by omega), dif_neg (by omega), dif_pos h1, dif_pos (by omega), gainQ_low]
    congr 2
    exact Fin.ext (Nat.zero_add _)
  · by_cases h2 : 1024 * rowBlock t + 512 ≤ k.val ∧ k.val < 1024 * rowBlock t + 512 + 512
    · rw [dif_pos h2, dif_pos h2, dif_neg h1, dif_pos (by omega), add_assoc (G := EReal)]
      congr 1
      have e : from' 512 hi ⟨k.val - (1024 * rowBlock t + 512), by omega⟩ = (⟨k.val - 1024 * rowBlock t, by omega⟩ : Fin 1024) := Fin.ext (by show 512 + (k.val - (1024 * rowBlock t + 512)) = k.val - 1024 * rowBlock t; omega)
      unfold gainQ
      rw [e]
      exact (sum_halves fun j => (entries m c t).grad true g _ j * (entries m c t).k g j l).symm
    · rw [dif_neg h2, dif_neg h2, dif_neg h1, dif_neg (by omega)]

/-- a key's are one over its rows, -/
theorem threeK_eq (g : Fin 4) (k : Fin 1024) (l : Fin 128) : threeK m c t g k l = (0 : EReal) + (entries m c t).toKey true id g k l := by
  unfold threeK addedAll
  by_cases h1 : k.val < 512
  · rw [dif_neg (by omega), dif_pos (by omega), dif_pos (by omega), add_assoc (G := EReal)]
    congr 1
    have e : from' 0 lo ⟨k.val - 0, by omega⟩ = k := Fin.ext (by show 0 + (k.val - 0) = _; omega)
    unfold gainK
    rw [e]
    exact (sum_halves fun j => (entries m c t).grad true g j k * (entries m c t).q g j l).symm
  · rw [dif_pos (by omega), dif_neg (by omega), dif_neg (by omega)]
    congr 1
    have e : from' 512 hi ⟨k.val - 512, by omega⟩ = k := Fin.ext (by show 512 + (k.val - 512) = _; omega)
    unfold gainK
    rw [e]
    refine sum_second (fun j => (entries m c t).grad true g j k * (entries m c t).q g j l) fun j => ?_
    rw [(entries m c t).grad_later g _ _ (by show 0 + j.val < k.val; omega)]
    exact zero_mul _

/-- and a value's too. -/
theorem threeV_eq (g : Fin 4) (k : Fin 1024) (l : Fin 128) : threeV m c t g k l = (0 : EReal) + (entries m c t).toValue true id g k l := by
  unfold threeV addedAll
  by_cases h1 : k.val < 512
  · rw [dif_neg (by omega), dif_pos (by omega), dif_pos (by omega), add_assoc (G := EReal)]
    congr 1
    have e : from' 0 lo ⟨k.val - 0, by omega⟩ = k := Fin.ext (by show 0 + (k.val - 0) = _; omega)
    unfold gainV
    rw [e]
    exact (sum_halves fun j => (entries m c t).weight true g j k * (entries m c t).g j (lane g l)).symm
  · rw [dif_pos (by omega), dif_neg (by omega), dif_neg (by omega)]
    congr 1
    have e : from' 512 hi ⟨k.val - 512, by omega⟩ = k := Fin.ext (by show 512 + (k.val - 512) = _; omega)
    unfold gainV
    rw [e]
    refine sum_second (fun j => (entries m c t).weight true g j k * (entries m c t).g j (lane g l)) fun j => ?_
    rw [(entries m c t).weight_later g _ _ (by show 0 + j.val < k.val; omega)]
    exact zero_mul _

/-- A block added to from its first row on gains everywhere. -/
theorem addedAll_whole (C G : Fin 4 → Fin 1024 → Fin 128 → EReal) (g : Fin 4) (k : Fin 1024) (l : Fin 128) : addedAll 0 C G g k l = G g k l + C g k l := by
  unfold addedAll
  exact dif_pos ⟨Nat.zero_le _, by have := k.isLt; omega⟩

theorem first_diagonal : ∀ t : Fin grid0.N, t.val = 0 → diagonal t.val = true ∧ closing t.val = false := by decide +kernel

variable (p : State Ideal)

/-- The query gradient after a point, -/
theorem next_dq (g : Fin 4) (k : Fin 8192) (l : Fin 128) :
    (next m c t p).dq (ix3 g k l) = addedAll (1024 * rowBlock t) ((entries m c t).toQuery (diagonal t.val) id) (fun g k l => if t.val = 0 then (0 : EReal) else p.dq (ix3 g k l)) g k l := by
  by_cases hz : t.val = 0
  · obtain ⟨hd, hl⟩ := first_diagonal t hz
    rw [next_A m c t hz hd hl, queryA, threeQ_eq, hd]
    simp only [if_pos hz]
  · simp only [if_neg hz]
    cases hd : diagonal t.val <;> cases hl : closing t.val
    · rw [next_B m c t hz hd hl, queryB]
    · rw [next_C m c t hz hd hl, queryC]
    · rw [next_D m c t hz hd hl, queryD, threeQ_eq]
    · rw [next_E m c t hz hd hl, queryE, threeQ_eq]

/-- the key gradient -/
theorem next_dk (g : Fin 4) (k : Fin 1024) (l : Fin 128) :
    (next m c t p).dk (ix3 g k l) = (if diagonal t.val = true then (0 : EReal) else p.dk (ix3 g k l)) + (entries m c t).toKey (diagonal t.val) id g k l := by
  by_cases hz : t.val = 0
  · obtain ⟨hd, hl⟩ := first_diagonal t hz
    rw [next_A m c t hz hd hl, keyA, threeK_eq, hd]
    rfl
  · cases hd : diagonal t.val <;> cases hl : closing t.val
    · rw [next_B m c t hz hd hl, keyB, addedAll_whole]; rfl
    · rw [next_C m c t hz hd hl, keyC, addedAll_whole]; rfl
    · rw [next_D m c t hz hd hl, keyD, threeK_eq]; rfl
    · rw [next_E m c t hz hd hl, keyE, threeK_eq]; rfl

/-- and the value gradient's sum. -/
theorem next_sum (g : Fin 4) (k : Fin 1024) (l : Fin 128) :
    (next m c t p).sum (ix3 g k l) = (if diagonal t.val = true then (0 : EReal) else p.sum (ix3 g k l)) + (entries m c t).toValue (diagonal t.val) id g k l := by
  by_cases hz : t.val = 0
  · obtain ⟨hd, hl⟩ := first_diagonal t hz
    rw [next_A m c t hz hd hl, valueA, threeV_eq, hd]
    rfl
  · cases hd : diagonal t.val <;> cases hl : closing t.val
    · rw [next_B m c t hz hd hl, valueB, addedAll_whole]; rfl
    · rw [next_C m c t hz hd hl, valueC, addedAll_whole]; rfl
    · rw [next_D m c t hz hd hl, valueD, threeV_eq]; rfl
    · rw [next_E m c t hz hd hl, valueE, threeV_eq]; rfl

end Cert.FlashIdeal.Mine
-- ==== Proof.FlashSum.lean ====
/- What the points leave together: a query's gradient gathers its row of blocks, a key's and a value's their columns. -/
module

public import proofs.«01_k».proof.Proof.FlashGain
public import proofs.«01_k».proof.Proof.FlashColumn
public import proofs.«01_k».proof.Proof.Sums

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

theorem closing_row : ∀ t : Fin grid0.N, closing t.val = true → rowBlock t = 7 := by decide +kernel
/-- A point off the diagonal follows the one above it in its column. -/
theorem above : ∀ t : Fin grid0.N, diagonal t.val = false → ∃ s : Fin grid0.N, s.val + 1 = t.val ∧ colBlock s = colBlock t ∧ rowBlock s + 1 = rowBlock t := by decide +kernel
/-- The points of a row of blocks, one for every column up to the diagonal. -/
theorem row_inj : ∀ i : Fin 8, ∀ s t : Fin grid0.N, rowBlock s = i.val → rowBlock t = i.val → colBlock s = colBlock t → s = t := by decide +kernel
theorem row_surj : ∀ i j : Fin 8, j.val ≤ i.val → ∃ t : Fin grid0.N, rowBlock t = i.val ∧ colBlock t = j.val := by decide +kernel

theorem sum_row (T : ℕ → EReal) (i : Fin 8) : (∑ t : Fin grid0.N, if rowBlock t = i.val then T (colBlock t) else 0) = ∑ j : Fin 8, if j.val ≤ i.val then T j.val else 0 := by
  rw [← Finset.sum_filter, ← Finset.sum_filter]
  refine Finset.sum_nbij (fun t => (⟨colBlock t, colBlock_lt t⟩ : Fin 8)) ?_ ?_ ?_ ?_
  · intro t ht
    have e := (Finset.mem_filter.mp ht).2
    exact Finset.mem_filter.mpr ⟨Finset.mem_univ _, e ▸ col_le_row t⟩
  · intro s hs t ht e
    exact row_inj i s t (Finset.mem_filter.mp hs).2 (Finset.mem_filter.mp ht).2 (congrArg (fun x : Fin 8 => x.val) e : colBlock s = colBlock t)
  · intro j hj
    obtain ⟨t, h1, h2⟩ := row_surj i j (Finset.mem_filter.mp hj).2
    exact ⟨t, Finset.mem_filter.mpr ⟨Finset.mem_univ _, h1⟩, Fin.ext h2⟩
  · intro t _
    rfl

/-- What starts afresh on the diagonal and gains at every point is, after a point, its column's sum down to it. -/
theorem sum_column (f : ℕ → EReal) (T : ℕ → ℕ → EReal)
    (hf : ∀ t : Fin grid0.N, f (t.val + 1) = (if diagonal t.val = true then (0 : EReal) else f t.val) + T (rowBlock t) (colBlock t)) :
    ∀ (n : ℕ) (t : Fin grid0.N), t.val = n → f (t.val + 1) = ∑ i ∈ Finset.Icc (colBlock t) (rowBlock t), T i (colBlock t) := by
  intro n
  induction n using Nat.strong_induction_on with
  | _ n ih =>
    intro t ht
    rw [hf t]
    cases hd : diagonal t.val with
    | true =>
      rw [if_pos rfl, ← (diagonal_iff t).mp hd, Finset.Icc_self, Finset.sum_singleton, zero_add]
    | false =>
      obtain ⟨s, h1, h2, h3⟩ := above t hd
      rw [if_neg Bool.false_ne_true, ← h1, ih s.val (by omega) s rfl, ← h3, h2]
      exact (Finset.sum_Icc_succ_top (by have := col_le_row s; omega) _).symm

variable (m : (ℓ : Loc nD τ sig) → Buf (Elt Ideal) ℓ) (c : Dev nD)

/-- The key gradient after a point, -/
theorem dk_sum (g : Fin 4) (k : Fin 1024) (l : Fin 128) (T : ℕ → ℕ → EReal)
    (hT : ∀ t, (entries m c t).toKey (diagonal t.val) id g k l = T (rowBlock t) (colBlock t)) (t : Fin grid0.N) :
    (state m c (t.val + 1)).dk (ix3 g k l) = ∑ i ∈ Finset.Icc (colBlock t) (rowBlock t), T i (colBlock t) :=
  sum_column (fun n => ((state m c n).dk (ix3 g k l) : EReal)) T (fun t => by
    show ((state m c (t.val + 1)).dk (ix3 g k l) : EReal) = _
    rw [state_succ, next_dk, hT]) t.val t rfl

/-- the value gradient's sum, -/
theorem dv_sum (g : Fin 4) (k : Fin 1024) (l : Fin 128) (T : ℕ → ℕ → EReal)
    (hT : ∀ t, (entries m c t).toValue (diagonal t.val) id g k l = T (rowBlock t) (colBlock t)) (t : Fin grid0.N) :
    (state m c (t.val + 1)).sum (ix3 g k l) = ∑ i ∈ Finset.Icc (colBlock t) (rowBlock t), T i (colBlock t) :=
  sum_column (fun n => ((state m c n).sum (ix3 g k l) : EReal)) T (fun t => by
    show ((state m c (t.val + 1)).sum (ix3 g k l) : EReal) = _
    rw [state_succ, next_sum, hT]) t.val t rfl

/-- A row, within its block. -/
abbrev within (k : Fin 8192) : Fin 1024 := ⟨k.val % 1024, Nat.mod_lt _ (by decide)⟩

theorem added_row (i : ℕ) (C : Fin 4 → Fin 1024 → Fin 128 → EReal) (G : Fin 4 → Fin 8192 → Fin 128 → EReal) (g : Fin 4) (k : Fin 8192) (l : Fin 128) :
    addedAll (1024 * i) C G g k l = G g k l + if i = k.val / 1024 then C g (within k) l else 0 := by
  unfold addedAll
  by_cases e : i = k.val / 1024
  · rw [dif_pos (by omega), if_pos e]
    congr 2
    exact Fin.ext (by show k.val - 1024 * i = k.val % 1024; omega)
  · rw [dif_neg (by omega), if_neg e, add_zero]

/-- and the query gradient after the last point. -/
theorem dq_sum (g : Fin 4) (k : Fin 8192) (l : Fin 128) (T : ℕ → EReal)
    (hT : ∀ t, rowBlock t = k.val / 1024 → (entries m c t).toQuery (diagonal t.val) id g (within k) l = T (colBlock t)) :
    (state m c 36).dq (ix3 g k l) = ∑ j : Fin 8, if j.val ≤ k.val / 1024 then T j.val else (0 : EReal) := by
  have hk := k.isLt
  have step : ∀ t : Fin grid0.N, ((state m c (t.val + 1)).dq (ix3 g k l) : EReal) = (if t.val = 0 then (0 : EReal) else (state m c t.val).dq (ix3 g k l))
      + if rowBlock t = k.val / 1024 then T (colBlock t) else 0 := fun t => by
    rw [state_succ, next_dq, added_row]
    congr 1
    split
    · exact hT t ‹_›
    · rfl
  have N36 : (36 : ℕ) = grid0.N := by decide
  have key := Cert.Tools.fold_univ (M := EReal) grid0.N (fun n _ => ((state m c (n + 1)).dq (ix3 g k l) : EReal)) (fun t => if rowBlock t = k.val / 1024 then T (colBlock t) else 0)
    (fun h => (step ⟨0, h⟩).trans (by rw [if_pos rfl, zero_add])) (fun n h => (step ⟨n + 1, h⟩).trans (by rw [if_neg (Nat.succ_ne_zero n)]))
    35 (by decide) N36
  exact key.trans (sum_row T ⟨k.val / 1024, by omega⟩)

end Cert.FlashIdeal.Mine
-- ==== Proof.FlashWhole.lean ====
/- The gradients over all rows and columns, of whole arrays: what the blocks' contributions add up to. -/
module

public import proofs.«01_k».proof.Proof.FlashBlocks
public import proofs.«01_k».proof.Proof.FlashSum

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

/-- The entries of the whole arrays. -/
structure Arrays where
  q : Fin 4 → Fin 8192 → Fin 128 → EReal
  k : Fin 4 → Fin 8192 → Fin 128 → EReal
  v : Fin 8192 → Fin 256 → EReal
  o : Fin 8192 → Fin 256 → EReal
  g : Fin 8192 → Fin 256 → EReal
  s : Fin 4 → Fin 8192 → EReal

namespace Arrays
variable (A : Arrays)

/-- The weight of column `c` in row `r`, -/
def weight (h : Fin 4) (r c : Fin 8192) : EReal :=
  if c.val ≤ r.val then Ideal.exp ((∑ d, A.q h r d * A.k h c d) - A.s h r) else 0
/-- its gradient less the row's mean of them, -/
def slope (h : Fin 4) (r c : Fin 8192) : EReal :=
  (∑ l, (if mine h l then A.g r (lane h l) else 0) * A.v c (lane h l)) - ∑ l, if mine h l then A.o r (lane h l) * A.g r (lane h l) else 0
/-- and a score's. -/
def grad (h : Fin 4) (r c : Fin 8192) : EReal := A.weight h r c * A.slope h r c

theorem weight_later (h : Fin 4) (r c : Fin 8192) (hc : r.val < c.val) : A.weight h r c = 0 := if_neg (by omega)
theorem grad_later (h : Fin 4) (r c : Fin 8192) (hc : r.val < c.val) : A.grad h r c = 0 := by
  unfold grad
  rw [A.weight_later h r c hc]
  exact zero_mul _

/-- One block's rows and columns. -/
def block (i j : ℕ) (hi : i < 8) (hj : j < 8) : Entries where
  q h r d := A.q h (at' i hi r) d
  k h r d := A.k h (at' j hj r) d
  v r e := A.v (at' j hj r) e
  o r e := A.o (at' i hi r) e
  g r e := A.g (at' i hi r) e
  s h r _ := A.s h (at' i hi r)

variable {i j : ℕ} (hi : i < 8) (hj : j < 8) {diag : Bool} (hd : diag = true ↔ j = i) (hle : j ≤ i)

include hd hle in
theorem weight_block (h : Fin 4) (r c : Fin 1024) : (A.block i j hi hj).weight diag h r c = A.weight h (at' i hi r) (at' j hj c) := by
  unfold Entries.weight weight
  refine if_congr ?_ rfl rfl
  show (diag = true → c.val ≤ r.val) ↔ 1024 * j + c.val ≤ 1024 * i + r.val
  by_cases e : j = i
  · subst e
    exact ⟨fun f => by have := f (hd.mpr rfl); omega, fun f _ => by omega⟩
  · exact ⟨fun _ => by omega, fun _ f => absurd (hd.mp f) e⟩

include hd hle in
theorem grad_block (h : Fin 4) (r c : Fin 1024) : (A.block i j hi hj).grad diag h r c = A.grad h (at' i hi r) (at' j hj c) := by
  unfold Entries.grad grad
  rw [A.weight_block hi hj hd hle]
  rfl

end Arrays

/-- A function that is zero above its column's first block, summed over the blocks from there on, is summed over all rows; -/
theorem column_all (f : Fin 8192 → EReal) (j : ℕ) (hj : j < 8) (hz : ∀ R : Fin 8192, R.val < 1024 * j → f R = 0) :
    (∑ i ∈ Finset.Icc j 7, if h : i < 8 ∧ j < 8 then ∑ r : Fin 1024, f (at' i h.1 r) else 0) = ∑ R, f R := by
  rw [← Cert.Tools.sum_tiles (n := 8) (b := 1024) (by decide) f fun t r => by omega]
  rw [Finset.sum_subset (s₂ := Finset.range 8) (fun i hi => Finset.mem_range.mpr (by have := Finset.mem_Icc.mp hi; omega)) ?_, Finset.sum_range]
  · exact Finset.sum_congr (M := EReal) rfl fun t _ => dif_pos ⟨t.isLt, hj⟩
  · intro i h1 h2
    have h3 := Finset.mem_range.mp h1
    have h4 : i < j := by
      by_contra h5
      exact h2 (Finset.mem_Icc.mpr ⟨by omega, by omega⟩)
    rw [dif_pos ⟨h3, hj⟩]
    exact Finset.sum_eq_zero fun r _ => hz _ (by show 1024 * i + r.val < 1024 * j; omega)

/-- and one that is zero past its row's last block likewise over all columns. -/
theorem row_all (f : Fin 8192 → EReal) (i : ℕ) (hz : ∀ C : Fin 8192, 1024 * (i + 1) ≤ C.val → f C = 0) :
    (∑ j : Fin 8, if j.val ≤ i then (if h : j.val < 8 then ∑ c : Fin 1024, f (at' j.val h c) else 0) else 0) = ∑ C, f C := by
  rw [← Cert.Tools.sum_tiles (n := 8) (b := 1024) (by decide) f fun t r => by omega]
  refine Finset.sum_congr (M := EReal) rfl fun t _ => ?_
  rw [dif_pos t.isLt]
  by_cases e : t.val ≤ i
  · rw [if_pos e]
    rfl
  · rw [if_neg e]
    exact (Finset.sum_eq_zero fun c _ => hz _ (by show 1024 * (i + 1) ≤ 1024 * t.val + c.val; omega)).symm

variable (m : (ℓ : Loc nD τ sig) → Buf (Elt Ideal) ℓ) (c : Dev nD)

section
variable (A : Arrays) (hA : ∀ t, entries m c t = A.block (rowBlock t) (colBlock t) (rowBlock_lt t) (colBlock_lt t))
include hA

/-- The query gradient after the last point, -/
theorem dq_whole (h : Fin 4) (R : Fin 8192) (l : Fin 128) : (state m c 36).dq (ix3 h R l) = ∑ C, A.grad h R C * A.k h C l := by
  have hR := R.isLt
  rw [dq_sum m c h R l (fun j => if hj : j < 8 then ∑ k : Fin 1024, A.grad h R (at' j hj k) * A.k h (at' j hj k) l else 0) fun t ht => ?_]
  · refine row_all (fun C => A.grad h R C * A.k h C l) (R.val / 1024) fun C hC => ?_
    show A.grad h R C * A.k h C l = 0
    rw [A.grad_later h R C (by omega)]
    exact zero_mul _
  · rw [hA t, dif_pos (colBlock_lt t)]
    unfold Entries.toQuery
    refine Finset.sum_congr (M := EReal) rfl fun k _ => ?_
    rw [A.grad_block _ _ (diagonal_iff t) (col_le_row t)]
    have e : at' (rowBlock t) (rowBlock_lt t) (within R) = R := Fin.ext (by show 1024 * rowBlock t + R.val % 1024 = R.val; omega)
    rw [e]
    rfl

/-- the key gradient after a column's last point, -/
theorem dk_whole (t : Fin grid0.N) (ht : closing t.val = true) (h : Fin 4) (k : Fin 1024) (l : Fin 128) :
    (state m c (t.val + 1)).dk (ix3 h k l) = ∑ R, A.grad h R (colAt t k) * A.q h R l := by
  rw [dk_sum m c h k l (fun i j => if e : i < 8 ∧ j < 8 then ∑ r : Fin 1024, A.grad h (at' i e.1 r) (at' j e.2 k) * A.q h (at' i e.1 r) l else 0) (fun t => ?_) t, closing_row t ht]
  · refine Eq.trans ?_ (column_all (fun R => A.grad h R (colAt t k) * A.q h R l) (colBlock t) (colBlock_lt t) fun R hR => ?_)
    · rfl
    · show A.grad h R (colAt t k) * A.q h R l = 0
      rw [A.grad_later h R _ (by show R.val < 1024 * colBlock t + k.val; omega)]
      exact zero_mul _
  · rw [hA t, dif_pos ⟨rowBlock_lt t, colBlock_lt t⟩]
    unfold Entries.toKey
    refine Finset.sum_congr (M := EReal) rfl fun r _ => ?_
    rw [A.grad_block _ _ (diagonal_iff t) (col_le_row t)]
    rfl

/-- and the value gradient's sum. -/
theorem dv_whole (t : Fin grid0.N) (ht : closing t.val = true) (h : Fin 4) (k : Fin 1024) (l : Fin 128) :
    (state m c (t.val + 1)).sum (ix3 h k l) = ∑ R, A.weight h R (colAt t k) * A.g R (lane h l) := by
  rw [dv_sum m c h k l (fun i j => if e : i < 8 ∧ j < 8 then ∑ r : Fin 1024, A.weight h (at' i e.1 r) (at' j e.2 k) * A.g (at' i e.1 r) (lane h l) else 0) (fun t => ?_) t, closing_row t ht]
  · refine Eq.trans ?_ (column_all (fun R => A.weight h R (colAt t k) * A.g R (lane h l)) (colBlock t) (colBlock_lt t) fun R hR => ?_)
    · rfl
    · show A.weight h R (colAt t k) * A.g R (lane h l) = 0
      rw [A.weight_later h R _ (by show R.val < 1024 * colBlock t + k.val; omega)]
      exact zero_mul _
  · rw [hA t, dif_pos ⟨rowBlock_lt t, colBlock_lt t⟩]
    unfold Entries.toValue
    refine Finset.sum_congr (M := EReal) rfl fun r _ => ?_
    rw [A.weight_block _ _ (diagonal_iff t) (col_le_row t)]
    rfl

end

end Cert.FlashIdeal.Mine
-- ==== Proof.FlashHost.lean ====
/- The arrays the host hands the backward call, as stages of the arguments. -/
module

public import proofs.«01_k».proof.Proof.FlashLaunch
public import proofs.«01_k».proof.Proof.FlashStages
public import Idealize.ShloMosaic.Lib.StableHlo.ReadAt

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen
open Cert.FlashRefIdeal.Mine (masked rowMax spread expo rowSum atLeast share heads headsFirst scale column)

variable (m : (ℓ : Loc nD τ sig) → Buf (Elt Ideal) ℓ) (c : Dev nD)

/-- The arguments. -/
abbrev arg0 : FVec Ideal S8192x4x96 .f32 := m ((c.tc : Thread nD τ).loc main_arg0)
abbrev arg1 : FVec Ideal S8192x4x96 .f32 := m ((c.tc : Thread nD τ).loc main_arg1)
abbrev arg2 : FVec Ideal S8192x256 .f32 := m ((c.tc : Thread nD τ).loc main_arg2)
abbrev arg3 : FVec Ideal S8192x256 .f32 := m ((c.tc : Thread nD τ).loc main_arg3)

theorem host_v : V m c main_v44 = (truncf .bf16 (arg2 m c) bitsLt_bf16_f32 : FVec Ideal S8192x256 .bf16) := by
  unfold V V0 before hostOps0 hostOps0_1 hostOps0_2 hostOps0_3 hostOps0_4 hostOps0_5 hostOps0_6
  simp only [List.flatten_cons, List.flatten_nil, List.cons_append, List.nil_append]
  after_reads_simp

/-- A row's value in all lanes, -/
def inLanes (x : FVec Ideal S4x8192 .f32) : FVec Ideal S4x8192x128 .f32 :=
  broadcastInDim S4x8192x128 ![0, 1, 2] bcast_S4x8192x1_S4x8192x128_0_1_2 (broadcastInDim S4x8192x1 ![0, 1] bcast_S4x8192_S4x8192x1_0_1 x)
theorem inLanes_at (x : FVec Ideal S4x8192 .f32) (h : Fin 4) (r : Fin 8192) (l : Fin 128) : inLanes x (ix3 h r l) = x (ix2 h r) := by
  unfold inLanes
  pointwise []
/-- the log-sums, -/
def logSum (μ L : FVec Ideal S4x8192 .f32) : FVec Ideal S4x8192 .f32 := addf μ (Host.log L)
theorem logSum_at (μ L : FVec Ideal S4x8192 .f32) (i) : logSum μ L i = (μ i : EReal) + Ideal.log (L i) := by
  rfl
def hostS (A0 A1 : FVec Ideal S8192x4x96 .f32) : FVec Ideal S4x8192x128 .f32 :=
  inLanes (logSum (rowMax (masked A0 A1)) (rowSum (expo (masked A0 A1) (rowMax (masked A0 A1)))))
theorem hostS_at (A0 A1 : FVec Ideal S8192x4x96 .f32) (h : Fin 4) (r : Fin 8192) (l : Fin 128) :
    hostS A0 A1 (ix3 h r l) = (rowMax (masked A0 A1) (ix2 h r) : EReal) + Ideal.log (rowSum (expo (masked A0 A1) (rowMax (masked A0 A1))) (ix2 h r)) := by
  unfold hostS
  rw [inLanes_at, logSum_at]

/-- the outputs, -/
def hostO (A0 A1 : FVec Ideal S8192x4x96 .f32) (A2 : FVec Ideal S8192x256 .f32) : FVec Ideal S8192x256 .bf16 :=
  truncf .bf16 (shapeCast S8192x256 (transpose S8192x4x64 [2, 0, 1] (Host.dotGeneral dot_S8192x4x64_S4x8192x8192_S4x64x8192_0_2_2_1_1_0 none (heads A2)
    (share (expo (masked A0 A1) (atLeast (rowMax (masked A0 A1)))) (rowSum (expo (masked A0 A1) (atLeast (rowMax (masked A0 A1))))))) transposes_S4x64x8192_S8192x4x64_2_0_1) shapeCasts_S8192x4x64_S8192x256) bitsLt_bf16_f32
theorem hostO_at (A0 A1 : FVec Ideal S8192x4x96 .f32) (A2 : FVec Ideal S8192x256 .f32) (r : Fin 8192) (h : Fin 4) (e : Fin 64) :
    hostO A0 A1 A2 (ix2 r (column h e)) = ∑ c : Fin 8192, (A2 (ix2 c (column h e)) : EReal) * (share (expo (masked A0 A1) (rowMax (masked A0 A1))) (rowSum (expo (masked A0 A1) (rowMax (masked A0 A1)))) (ix3 h r c) : EReal) := by
  unfold hostO
  rw [Cert.FlashRefIdeal.Mine.atLeast_eq]
  pointwise [Cert.FlashRefIdeal.Mine.heads_at]
  simp only [show (64 * h.val + e.val) / 64 = h.val by omega, show (64 * h.val + e.val) % 64 = e.val by omega]

/-- the queries, scaled, and the keys, both by head with columns of zeros behind. -/
def padded (x : FVec Ideal S4x8192x96 .f32) : FVec Ideal S4x8192x128 .bf16 :=
  truncf .bf16 (pad S4x8192x128 ![0, 0, 0] ![0, 0, 32] ![0, 0, 0] x (sitofp .f32 (constantI S_ 32 0#32)) pads_S4x8192x96_S4x8192x128_000_000_0320 h_S_) bitsLt_bf16_f32
theorem padded_at (x : FVec Ideal S4x8192x96 .f32) (h : Fin 4) (r : Fin 8192) (d : Fin 128) :
    padded x (ix3 h r d) = if e : d.val < 96 then x (ix3 h r ⟨d.val, e⟩) else (0 : EReal) := by
  unfold padded
  pointwise []
  refine dite_congr rfl (fun _ => rfl) fun _ => ?_
  show (((0#32 : BitVec 32).toInt : ℝ) : EReal) = 0
  simp

def hostQ (A0 : FVec Ideal S8192x4x96 .f32) : FVec Ideal S4x8192x128 .bf16 :=
  padded (transpose S4x8192x96 [1, 0, 2] (mulf A0 (broadcastInDim S8192x4x96 ![] bcast_S_S8192x4x96 (constant S_ .f32 0x3DD105EC#32))) transposes_S8192x4x96_S4x8192x96_1_0_2)
def hostK (A1 : FVec Ideal S8192x4x96 .f32) : FVec Ideal S4x8192x128 .bf16 :=
  padded (transpose S4x8192x96 [1, 0, 2] A1 transposes_S8192x4x96_S4x8192x96_1_0_2)
theorem hostQ_at (A0 : FVec Ideal S8192x4x96 .f32) (h : Fin 4) (r : Fin 8192) (d : Fin 128) :
    hostQ A0 (ix3 h r d) = if e : d.val < 96 then (A0 (ix3 r h ⟨d.val, e⟩) : EReal) * scale else (0 : EReal) := by
  unfold hostQ
  rw [padded_at]
  split
  · pointwise []
  · rfl
theorem hostK_at (A1 : FVec Ideal S8192x4x96 .f32) (h : Fin 4) (r : Fin 8192) (d : Fin 128) :
    hostK A1 (ix3 h r d) = if e : d.val < 96 then (A1 (ix3 r h ⟨d.val, e⟩) : EReal) else (0 : EReal) := by
  unfold hostK
  rw [padded_at]
  split
  · pointwise []
  · rfl

end Cert.FlashIdeal.Mine
-- ==== Proof.FlashReal.lean ====
/- The kernel's weights and gradients at real arguments are the reference's: a row's log-sum divides by the row's sum, and the
   row's sum of the output times its cotangent is the row's mean of the shares' gradients. -/
module

public import proofs.«01_k».proof.Proof.FlashSoft
public import proofs.«01_k».proof.Proof.FlashWhole
public import proofs.«01_k».proof.Proof.FlashHost

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen
open Cert.FlashRefIdeal.Mine (masked rowMax expo rowSum atLeast atLeast_eq share scale column sum_coe σ scale_eq queryGrad keyGrad valueGrad queryGrad_at keyGrad_at valueGrad_at refGrad refExpo refSum Finite)

/-- Of 128 lanes only the first 96 count where the others are zero. -/
theorem first_lanes (f : Fin 128 → EReal) (hz : ∀ d : Fin 128, 96 ≤ d.val → f d = 0) : ∑ d, f d = ∑ d : Fin 96, f ⟨d.val, by omega⟩ := by
  refine (Fin.sum_univ_add (a := 96) (b := 32) f).trans ?_
  rw [Finset.sum_eq_zero (s := (Finset.univ : Finset (Fin 32))) fun d _ => hz (Fin.natAdd 96 d) (Nat.le_add_right 96 d.val), add_zero]
  rfl

/-- A head's own lanes are its 64 columns. -/
theorem own_lanes (F : Fin 256 → EReal) (h : Fin 4) : (∑ l : Fin 128, if mine h l then F (lane h l) else 0) = ∑ e : Fin 64, F (column h e) := by
  have hh := h.isLt
  refine (Fin.sum_univ_add (a := 64) (b := 64) fun l : Fin 128 => if mine h l then F (lane h l) else 0).trans ?_
  by_cases e : h.val % 2 = 0
  · rw [Finset.sum_eq_zero (s := (Finset.univ : Finset (Fin 64))) (f := fun l => if mine h (Fin.natAdd 64 l) then F (lane h (Fin.natAdd 64 l)) else 0)
      (fun l _ => if_neg fun (f : mine h (Fin.natAdd 64 l)) => by
        unfold mine at f
        rw [if_pos e] at f
        have : 64 + l.val < 64 := f
        omega), add_zero]
    refine Finset.sum_congr (M := EReal) rfl fun l _ => ?_
    rw [if_pos (show mine h (Fin.castAdd 64 l) by unfold mine; rw [if_pos e]; exact l.isLt)]
    exact congrArg F (Fin.ext (by show h.val / 2 * 128 + l.val = 64 * h.val + l.val; omega))
  · rw [Finset.sum_eq_zero (s := (Finset.univ : Finset (Fin 64))) (f := fun l => if mine h (Fin.castAdd 64 l) then F (lane h (Fin.castAdd 64 l)) else 0)
      (fun l _ => if_neg fun (f : mine h (Fin.castAdd 64 l)) => by
        unfold mine at f
        rw [if_neg e] at f
        have : 64 ≤ l.val := f
        omega), zero_add]
    refine Finset.sum_congr (M := EReal) rfl fun l _ => ?_
    rw [if_pos (show mine h (Fin.natAdd 64 l) by unfold mine; rw [if_neg e]; exact Nat.le_add_right 64 l.val)]
    exact congrArg F (Fin.ext (by show h.val / 2 * 128 + (64 + l.val) = 64 * h.val + l.val; omega))

/-- The whole arrays the kernel is given. -/
def wholeOf (A0 A1 : FVec Ideal S8192x4x96 .f32) (A2 A3 : FVec Ideal S8192x256 .f32) : Arrays where
  q h r d := hostQ A0 (ix3 h r d)
  k h r d := hostK A1 (ix3 h r d)
  v r e := A2 (ix2 r e)
  o r e := hostO A0 A1 A2 (ix2 r e)
  g r e := A3 (ix2 r e)
  s h r := hostS A0 A1 (ix3 h r 0)

variable {A0 A1 : FVec Ideal S8192x4x96 .f32} {A2 A3 : FVec Ideal S8192x256 .f32} (W : Finite A0 A1 A2 A3)

/-- The queries are scaled, -/
theorem q_eq (h : Fin 4) (r : Fin 8192) (d : Fin 96) : hostQ A0 (ix3 h r (⟨d.val, by omega⟩ : Fin 128)) = ((W.q r h d * σ : ℝ) : EReal) := by
  rw [hostQ_at, dif_pos d.isLt, W.hq, scale_eq, ← EReal.coe_mul]
theorem k_eq (h : Fin 4) (r : Fin 8192) (d : Fin 96) : hostK A1 (ix3 h r (⟨d.val, by omega⟩ : Fin 128)) = ((W.k r h d : ℝ) : EReal) := by
  rw [hostK_at, dif_pos d.isLt, W.hk]

/-- so that their products are the scores; -/
theorem product_eq (h : Fin 4) (r c : Fin 8192) : (∑ d, (wholeOf A0 A1 A2 A3).q h r d * (wholeOf A0 A1 A2 A3).k h c d) = ((W.score h r c : ℝ) : EReal) := by
  refine (first_lanes (fun d => (wholeOf A0 A1 A2 A3).q h r d * (wholeOf A0 A1 A2 A3).k h c d) fun d hd => ?_).trans ?_
  · show hostQ A0 (ix3 h r d) * _ = (0 : EReal)
    rw [hostQ_at, dif_neg (by omega)]
    exact zero_mul _
  · refine (Finset.sum_congr (M := EReal) (g := fun d => ((W.q r h d * σ * W.k c h d : ℝ) : EReal)) rfl fun d _ => ?_).trans ?_
    · show hostQ A0 (ix3 h r _) * hostK A1 (ix3 h c _) = _
      rw [q_eq W, k_eq W, ← EReal.coe_mul]
    · rw [sum_coe]
      unfold Finite.score
      rw [Finset.sum_mul]
      exact congrArg _ (Finset.sum_congr rfl fun d _ => by ring)

/-- a weight is the share, -/
theorem weight_eq (h : Fin 4) (r c : Fin 8192) : (wholeOf A0 A1 A2 A3).weight h r c = ((W.P h r c : ℝ) : EReal) := by
  have hp := W.total_pos h r
  unfold Arrays.weight
  rw [product_eq W]
  show (if c.val ≤ r.val then Ideal.exp (_ - hostS A0 A1 (ix3 h r 0)) else 0) = _
  rw [hostS_at, W.top_eq, W.total_eq, Ideal.log_coe, if_neg (not_le.mpr hp), ← EReal.coe_add, ← EReal.coe_sub, Ideal.exp_coe]
  unfold Finite.P Finite.e
  by_cases hc : c.val ≤ r.val
  · rw [if_pos hc, if_pos hc]
    refine congrArg _ ?_
    rw [show W.score h r c - (W.top h r + Real.log (W.total h r)) = W.score h r c - W.top h r - Real.log (W.total h r) by ring, Real.exp_sub, Real.exp_log hp]
  · rw [if_neg hc, if_neg hc, zero_div, EReal.coe_zero]

/-- the row's sum of the output times its cotangent is the mean of the shares' gradients, -/
theorem mean_eq (h : Fin 4) (r : Fin 8192) :
    (∑ l, if mine h l then (wholeOf A0 A1 A2 A3).o r (lane h l) * (wholeOf A0 A1 A2 A3).g r (lane h l) else 0) = ((W.mean h r : ℝ) : EReal) := by
  refine (own_lanes (fun e => (wholeOf A0 A1 A2 A3).o r e * (wholeOf A0 A1 A2 A3).g r e) h).trans ?_
  refine (Finset.sum_congr (M := EReal) (g := fun e => (((∑ c, W.v c (column h e) * W.P h r c) * W.g r (column h e) : ℝ) : EReal)) rfl fun e _ => ?_).trans ?_
  · show hostO A0 A1 A2 (ix2 r (column h e)) * A3 (ix2 r (column h e)) = _
    rw [hostO_at, W.hg]
    simp only [W.hv, W.share_eq, ← EReal.coe_mul]
    rw [sum_coe, ← EReal.coe_mul]
  · rw [sum_coe]
    refine congrArg _ ?_
    unfold Finite.mean Finite.dp
    simp only [Finset.sum_mul, Finset.mul_sum]
    rw [Finset.sum_comm]
    exact Finset.sum_congr rfl fun c _ => Finset.sum_congr rfl fun e _ => by ring

theorem slope_eq (h : Fin 4) (r c : Fin 8192) : (wholeOf A0 A1 A2 A3).slope h r c = ((W.dp h r c - W.mean h r : ℝ) : EReal) := by
  unfold Arrays.slope
  rw [mean_eq W, EReal.coe_sub]
  refine congrArg (fun x : EReal => x - ((W.mean h r : ℝ) : EReal)) ?_
  refine (Finset.sum_congr (M := EReal) (g := fun l => if mine h l then A3 (ix2 r (lane h l)) * A2 (ix2 c (lane h l)) else 0) rfl fun l _ => ?_).trans ?_
  · show (if mine h l then A3 (ix2 r (lane h l)) else 0) * A2 (ix2 c (lane h l)) = _
    by_cases e : mine h l
    · rw [if_pos e, if_pos e]
    · rw [if_neg e, if_neg e]
      exact zero_mul _
  · refine (own_lanes (fun e => A3 (ix2 r e) * A2 (ix2 c e)) h).trans ?_
    unfold Finite.dp
    rw [← sum_coe]
    exact Finset.sum_congr (M := EReal) rfl fun e _ => by rw [W.hg, W.hv, ← EReal.coe_mul]

/-- and a score's gradient is the reference's but for the scale. -/
theorem gradient_eq (h : Fin 4) (r c : Fin 8192) : (wholeOf A0 A1 A2 A3).grad h r c = ((W.D h r c : ℝ) : EReal) := by
  unfold Arrays.grad Finite.D
  rw [weight_eq W, slope_eq W, ← EReal.coe_mul]

include W

/-- The three gradients. -/
theorem query_eq (r : Fin 8192) (h : Fin 4) (d : Fin 96) :
    (∑ c, (wholeOf A0 A1 A2 A3).grad h r c * (wholeOf A0 A1 A2 A3).k h c (⟨d.val, by omega⟩ : Fin 128)) * scale = queryGrad (refGrad A0 A1 A2 A3) A1 (ix3 r h d) := by
  rw [queryGrad_at, scale_eq]
  have hl : (∑ c, (wholeOf A0 A1 A2 A3).grad h r c * (wholeOf A0 A1 A2 A3).k h c (⟨d.val, by omega⟩ : Fin 128)) = ((∑ c, W.D h r c * W.k c h d : ℝ) : EReal) := by
    rw [← sum_coe]
    refine Finset.sum_congr (M := EReal) rfl fun c _ => ?_
    rw [gradient_eq W]
    show _ * hostK A1 (ix3 h c _) = _
    rw [k_eq W, ← EReal.coe_mul]
  rw [hl, ← EReal.coe_mul, Finset.sum_mul, ← sum_coe]
  refine Finset.sum_congr (M := EReal) rfl fun c _ => ?_
  rw [W.grad_eq, W.hk, ← EReal.coe_mul]
  exact congrArg _ (by ring)

theorem key_eq (c : Fin 8192) (h : Fin 4) (d : Fin 96) :
    (∑ r, (wholeOf A0 A1 A2 A3).grad h r c * (wholeOf A0 A1 A2 A3).q h r (⟨d.val, by omega⟩ : Fin 128)) = keyGrad (refGrad A0 A1 A2 A3) A0 (ix3 c h d) := by
  rw [keyGrad_at]
  refine Finset.sum_congr (M := EReal) rfl fun r _ => ?_
  rw [gradient_eq W, W.grad_eq, W.hq]
  show _ * hostQ A0 (ix3 h r _) = _
  rw [q_eq W, ← EReal.coe_mul, ← EReal.coe_mul]
  exact congrArg _ (by ring)

theorem value_eq (c : Fin 8192) (h : Fin 4) (e : Fin 64) :
    (∑ r, (wholeOf A0 A1 A2 A3).weight h r c * (wholeOf A0 A1 A2 A3).g r (column h e)) = valueGrad (share (refExpo A0 A1) (refSum A0 A1)) A3 (ix2 c (column h e)) := by
  rw [valueGrad_at]
  unfold refSum refExpo
  rw [atLeast_eq]
  refine Finset.sum_congr (M := EReal) rfl fun r _ => ?_
  rw [weight_eq W, W.share_eq]
  exact mul_comm _ _

end Cert.FlashIdeal.Mine
-- ==== Proof.FlashDv.lean ====
/- The value gradient's store at a column's last point: each head's own lanes of its pair's. -/
module

public import proofs.«01_k».proof.Proof.FlashGain

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen

/-- Of two heads' rows, the first one's first 64 lanes and the second one's others. -/
theorem own10 (x y : Vec Ideal S1x1024x128 .f32) (k : Fin 1024) (l : Fin 128) :
    k0_pay10 (F := Ideal) x y (ix2 k l) = if l.val < 64 then (x (ix3 0 k l) : EReal) else (y (ix3 0 k l) : EReal) := by
  unfold k0_pay10
  refine Eq.trans ?_ (select_low l.val l.isLt _ _)
  pointwise []
theorem own11 (x y : Vec Ideal S1x1024x128 .f32) (k : Fin 1024) (l : Fin 128) :
    k0_pay11 (F := Ideal) x y (ix2 k l) = if l.val < 64 then (x (ix3 0 k l) : EReal) else (y (ix3 0 k l) : EReal) :=
  own10 x y k l

/-- The head a column belongs to, -/
def headOf (j : Fin 256) : Fin 4 := ⟨j.val / 64, by omega⟩
/-- and its lane among its pair's. -/
def laneOf (j : Fin 256) : Fin 128 := ⟨j.val % 128, by omega⟩

/-- Two stores, one for each pair of heads, leave each column its head's lane. -/
theorem pairs_put {κ : Kind} {sp : Space} (v : View sig κ sp S1024x256 .bf16) (f : v.ty.Contents (Elt Ideal)) (s : Vec Ideal S4x1024x128 .f32)
    (inbA : ∀ a, (![0, 128] : Fin 2 → ℕ) a + (![1024, 128] : Fin 2 → ℕ) a ≤ S1024x256.size a) (inbB : ∀ a, (![0, 0] : Fin 2 → ℕ) a + (![1024, 128] : Fin 2 → ℕ) a ≤ S1024x256.size a)
    (x : Fin 4 → Vec Ideal S1x1024x128 .f32) (hx : ∀ h k l, x h (ix3 0 k l) = s (ix3 h k l)) (k : Fin 1024) (j : Fin 256) :
    v.read (Elt Ideal) (v.writes (Elt Ideal) f [⟨Rect.unit (s := S1024x256) ![0, 128] ![1024, 128] inbA, k0_pay11 (F := Ideal) (x 2) (x 3)⟩,
      ⟨Rect.unit (s := S1024x256) ![0, 0] ![1024, 128] inbB, k0_pay10 (F := Ideal) (x 0) (x 1)⟩]) (ix2 k j) = s (ix3 (headOf j) k (laneOf j)) := by
  have hj := j.isLt
  by_cases e : 128 ≤ j.val
  · refine (View.read_writes_cons_unit_of_mem v f inbA (k0_pay11 (F := Ideal) (x 2) (x 3)) _ (ix2 k j) (ix2 k (laneOf j)) rfl ?_).trans ?_
    · intro a
      fin_cases a
      · exact (Nat.zero_add _).symm
      · show j.val = 128 + j.val % 128
        omega
    · rw [own11, hx, hx]
      by_cases e' : j.val % 128 < 64
      · rw [if_pos (show (laneOf j).val < 64 from e')]
        exact congrArg s (congrArg (fun h => ix3 h k (laneOf j)) (Fin.ext (by show 2 = j.val / 64; omega)))
      · rw [if_neg (show ¬(laneOf j).val < 64 from e')]
        exact congrArg s (congrArg (fun h => ix3 h k (laneOf j)) (Fin.ext (by show 3 = j.val / 64; omega)))
  · refine (View.read_writes_cons_unit_of_not_mem v f inbA _ _ (ix2 k j) rfl 1 (Or.inl (by show j.val < 128; omega))).trans ?_
    refine (View.read_writes_cons_unit_of_mem v f inbB (k0_pay10 (F := Ideal) (x 0) (x 1)) _ (ix2 k j) (ix2 k (laneOf j)) rfl ?_).trans ?_
    · intro a
      fin_cases a
      · exact (Nat.zero_add _).symm
      · show j.val = 0 + j.val % 128
        omega
    · rw [own10, hx, hx]
      by_cases e' : j.val % 128 < 64
      · rw [if_pos (show (laneOf j).val < 64 from e')]
        exact congrArg s (congrArg (fun h => ix3 h k (laneOf j)) (Fin.ext (by show 0 = j.val / 64; omega)))
      · rw [if_neg (show ¬(laneOf j).val < 64 from e')]
        exact congrArg s (congrArg (fun h => ix3 h k (laneOf j)) (Fin.ext (by show 1 = j.val / 64; omega)))

/-- A head's rows of the scratch. -/
def row' (f : (Memref.whole (sig := sig) cc0_scratch0).view.ty.Contents (Elt Ideal)) (h : Fin 4) : Vec Ideal S1x1024x128 .f32 :=
  (Memref.whole (sig := sig) cc0_scratch0).view.readAt (Elt Ideal) (Rect.unit (s := S4x1024x128) ![h.val, 0, 0] S1x1024x128.size (inb_head h.isLt (by decide))).toLoadRect f
theorem row'_at (f : (Memref.whole (sig := sig) cc0_scratch0).view.ty.Contents (Elt Ideal)) (h : Fin 4) (k : Fin 1024) (l : Fin 128) :
    row' f h (ix3 0 k l) = (Memref.whole (sig := sig) cc0_scratch0).view.read (Elt Ideal) f (ix3 h k l) := by
  refine (load_head (Memref.whole (sig := sig) cc0_scratch0).view f h 0 (inb_head h.isLt (by decide)) rfl k l (by have := k.isLt; omega)).trans ?_
  exact congrArg (fun r => (Memref.whole (sig := sig) cc0_scratch0).view.read (Elt Ideal) f (ix3 h r l)) (Fin.ext (Nat.zero_add _))

/-- What the two stores put. -/
def putsD (x : Fin 4 → Vec Ideal S1x1024x128 .f32) : List (View.Piece (Elt Ideal) S1024x256 .bf16) :=
  [⟨Rect.unit (s := S1024x256) ![0, 128] ![1024, 128] (by decide), k0_pay11 (F := Ideal) (x 2) (x 3)⟩,
    ⟨Rect.unit (s := S1024x256) ![0, 0] ![1024, 128] (by decide), k0_pay10 (F := Ideal) (x 0) (x 1)⟩]

variable (m : (ℓ : Loc nD τ sig) → Buf (Elt Ideal) ℓ) (c : Dev nD) (t : Fin grid0.N) (p : State Ideal)

/-- Stores of the four heads' rows, read back. -/
def piece (x : Fin 4 → Vec Ideal S1x1024x128 .f32) (h : Fin 4) : View.Piece (Elt Ideal) S4x1024x128 .f32 :=
  ⟨Rect.unit (s := S4x1024x128) ![h.val, 0, 0] S1x1024x128.size (inb_head h.isLt (by decide)), x h⟩
theorem piece_own {κ : Kind} {sp : Space} (v : View sig κ sp S4x1024x128 .f32) (f : v.ty.Contents (Elt Ideal)) (x : Fin 4 → Vec Ideal S1x1024x128 .f32) (K) (g : Fin 4) (k : Fin 1024) (l : Fin 128) :
    v.read (Elt Ideal) (v.writes (Elt Ideal) f (piece x g :: K)) (ix3 g k l) = x g (ix3 0 k l) :=
  View.read_writes_cons_unit_of_mem v f _ (x g) K (ix3 g k l) (ix3 0 k l) rfl (by
    intro a
    fin_cases a
    · rfl
    · exact (Nat.zero_add _).symm
    · exact (Nat.zero_add _).symm)
theorem piece_other {κ : Kind} {sp : Space} (v : View sig κ sp S4x1024x128 .f32) (f : v.ty.Contents (Elt Ideal)) (x : Fin 4 → Vec Ideal S1x1024x128 .f32) (K) (g h : Fin 4) (n : g.val < h.val) (k : Fin 1024) (l : Fin 128) :
    v.read (Elt Ideal) (v.writes (Elt Ideal) f (piece x h :: K)) (ix3 g k l) = v.read (Elt Ideal) (v.writes (Elt Ideal) f K) (ix3 g k l) :=
  View.read_writes_cons_unit_of_not_mem v f _ _ K (ix3 g k l) rfl 0 (Or.inl n)
def pieces (x : Fin 4 → Vec Ideal S1x1024x128 .f32) : List (View.Piece (Elt Ideal) S4x1024x128 .f32) := [piece x 3, piece x 2, piece x 1, piece x 0]
theorem read_pieces {κ : Kind} {sp : Space} (v : View sig κ sp S4x1024x128 .f32) (f : v.ty.Contents (Elt Ideal)) (x : Fin 4 → Vec Ideal S1x1024x128 .f32) (g : Fin 4) (k : Fin 1024) (l : Fin 128) :
    v.read (Elt Ideal) (v.writes (Elt Ideal) f (pieces x)) (ix3 g k l) = x g (ix3 0 k l) := by
  unfold pieces
  fin_cases g
  · exact (piece_other v f x _ 0 3 (by decide) k l).trans ((piece_other v f x _ 0 2 (by decide) k l).trans ((piece_other v f x _ 0 1 (by decide) k l).trans (piece_own v f x _ 0 k l)))
  · exact (piece_other v f x _ 1 3 (by decide) k l).trans ((piece_other v f x _ 1 2 (by decide) k l).trans (piece_own v f x _ 1 k l))
  · exact (piece_other v f x _ 2 3 (by decide) k l).trans (piece_own v f x _ 2 k l)
  · exact piece_own v f x _ 3 k l

/-- A head's rows after the point's own addition, as stored and as read back, -/
def addC (h : Fin 4) : Vec Ideal S1x1024x128 .f32 := payV m c t h (row' ((Memref.isWhole_whole cc0_scratch0).unread p.sum) h)
def rowC : Fin 4 → Vec Ideal S1x1024x128 .f32 :=
  row' ((Memref.whole (sig := sig) cc0_scratch0).view.writes (Elt Ideal) (Memref.whole (sig := sig) cc0_scratch0).view.junk (pieces (addC m c t p)))
/-- or after the three additions of a diagonal one. -/
def rowE (hz : t.val ≠ 0) (hd : diagonal t.val = true) (hl : closing t.val = true) : Fin 4 → Vec Ideal S1x1024x128 .f32 :=
  row' ((Memref.whole (sig := sig) cc0_scratch0).view.writes (Elt Ideal) (Memref.whole (sig := sig) cc0_scratch0).view.junk (atE m c t hz hd hl p).2.2.2.1)

theorem valueC_store (hz : t.val ≠ 0) (hd : diagonal t.val = false) (hl : closing t.val = true) :
    (nextC m c t hz hd hl p).dv = (ms8 (F := Ideal) t).view.read (Elt Ideal) ((ms8 (F := Ideal) t).view.writes (Elt Ideal) (ms8 (F := Ideal) t).view.junk (putsD (rowC m c t p))) := by
  sl_kernel_rfl
theorem valueE_store (hz : t.val ≠ 0) (hd : diagonal t.val = true) (hl : closing t.val = true) :
    (nextE m c t hz hd hl p).dv = (ms8 (F := Ideal) t).view.read (Elt Ideal) ((ms8 (F := Ideal) t).view.writes (Elt Ideal) (ms8 (F := Ideal) t).view.junk (putsD (rowE m c t p hz hd hl))) := by
  sl_kernel_rfl
theorem valueE_sum (hz : t.val ≠ 0) (hd : diagonal t.val = true) (hl : closing t.val = true) :
    (nextE m c t hz hd hl p).sum = (Memref.whole (sig := sig) cc0_scratch0).view.read (Elt Ideal) ((Memref.whole (sig := sig) cc0_scratch0).view.writes (Elt Ideal) (Memref.whole (sig := sig) cc0_scratch0).view.junk (atE m c t hz hd hl p).2.2.2.1) := by
  sl_kernel_rfl

theorem rowC_eq (hz : t.val ≠ 0) (hd : diagonal t.val = false) (hl : closing t.val = true) (h : Fin 4) (k : Fin 1024) (l : Fin 128) :
    rowC m c t p h (ix3 0 k l) = (nextC m c t hz hd hl p).sum (ix3 h k l) := by
  refine (row'_at _ h k l).trans ((read_pieces _ _ _ h k l).trans ?_)
  refine (payV_eq m c t h _ k l).trans (Eq.trans ?_ ((valueC m c t hz hd hl p h k l).trans (addedAll_whole _ _ h k l)).symm)
  refine congrArg (fun x : EReal => x + (entries m c t).toValue false id h k l) ?_
  exact (row'_at _ h k l).trans (congrFun ((Memref.isWhole_whole cc0_scratch0).read_unread p.sum) (ix3 h k l))
theorem rowE_eq (hz : t.val ≠ 0) (hd : diagonal t.val = true) (hl : closing t.val = true) (h : Fin 4) (k : Fin 1024) (l : Fin 128) :
    rowE m c t p hz hd hl h (ix3 0 k l) = (nextE m c t hz hd hl p).sum (ix3 h k l) :=
  (row'_at _ h k l).trans (congrFun (valueE_sum m c t p hz hd hl) (ix3 h k l)).symm

/-- So at a column's last point the value gradient is the sum's. -/
theorem next_dv (hl : closing t.val = true) (k : Fin 1024) (j : Fin 256) :
    (next m c t p).dv (ix2 k j) = (next m c t p).sum (ix3 (headOf j) k (laneOf j)) := by
  have hz : t.val ≠ 0 := fun e => absurd hl (by rw [(first_diagonal t e).2]; decide)
  cases hd : diagonal t.val
  · rw [next_C m c t hz hd hl]
    exact (congrFun (valueC_store m c t p hz hd hl) (ix2 k j)).trans
      (pairs_put _ _ (nextC m c t hz hd hl p).sum (by decide) (by decide) (rowC m c t p) (rowC_eq m c t p hz hd hl) k j)
  · rw [next_E m c t hz hd hl]
    exact (congrFun (valueE_store m c t p hz hd hl) (ix2 k j)).trans
      (pairs_put _ _ (nextE m c t hz hd hl p).sum (by decide) (by decide) (rowE m c t p hz hd hl) (rowE_eq m c t p hz hd hl) k j)

end Cert.FlashIdeal.Mine
-- ==== Proof.FlashHostQ.lean ====
/- The arrays the host hands the backward call, as stages of the arguments. -/
module

public import proofs.«01_k».proof.Proof.FlashHost
public import Idealize.ShloMosaic.Lib.StableHlo.ReadAt

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen
open Cert.FlashRefIdeal.Mine (masked rowMax spread expo rowSum atLeast share heads headsFirst scale column)

variable (m : (ℓ : Loc nD τ sig) → Buf (Elt Ideal) ℓ) (c : Dev nD)

theorem host_q : V m c main_v40 = hostQ (arg0 m c) := by
  unfold V V0 before hostOps0 hostOps0_1 hostOps0_2 hostOps0_3 hostOps0_4 hostOps0_5 hostOps0_6
  simp only [List.flatten_cons, List.flatten_nil, List.cons_append, List.nil_append]
  after_reads_simp
  try rfl

end Cert.FlashIdeal.Mine
-- ==== Proof.FlashHostK.lean ====
/- The arrays the host hands the backward call, as stages of the arguments. -/
module

public import proofs.«01_k».proof.Proof.FlashHost
public import Idealize.ShloMosaic.Lib.StableHlo.ReadAt

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen
open Cert.FlashRefIdeal.Mine (masked rowMax spread expo rowSum atLeast share heads headsFirst scale column)

variable (m : (ℓ : Loc nD τ sig) → Buf (Elt Ideal) ℓ) (c : Dev nD)

theorem host_k : V m c main_v43 = hostK (arg1 m c) := by
  unfold V V0 before hostOps0 hostOps0_1 hostOps0_2 hostOps0_3 hostOps0_4 hostOps0_5 hostOps0_6
  simp only [List.flatten_cons, List.flatten_nil, List.cons_append, List.nil_append]
  after_reads_simp
  try rfl

end Cert.FlashIdeal.Mine
-- ==== Proof.FlashHostS.lean ====
/- The arrays the host hands the backward call, as stages of the arguments. -/
module

public import proofs.«01_k».proof.Proof.FlashHost
public import Idealize.ShloMosaic.Lib.StableHlo.ReadAt

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen
open Cert.FlashRefIdeal.Mine (masked rowMax spread expo rowSum atLeast share heads headsFirst scale column)

variable (m : (ℓ : Loc nD τ sig) → Buf (Elt Ideal) ℓ) (c : Dev nD)

theorem host_s : V m c main_v19 = hostS (arg0 m c) (arg1 m c) := by
  unfold V V0 before hostOps0 hostOps0_1 hostOps0_2 hostOps0_3 hostOps0_4 hostOps0_5 hostOps0_6
  simp only [List.flatten_cons, List.flatten_nil, List.cons_append, List.nil_append]
  after_reads_simp
  unfold hostS inLanes logSum masked rowMax rowSum expo spread Cert.FlashRefIdeal.Mine.mask
  rfl

end Cert.FlashIdeal.Mine
-- ==== Proof.FlashHostO.lean ====
/- The arrays the host hands the backward call, as stages of the arguments. -/
module

public import proofs.«01_k».proof.Proof.FlashHost
public import Idealize.ShloMosaic.Lib.StableHlo.ReadAt

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen
open Cert.FlashRefIdeal.Mine (masked rowMax spread expo rowSum atLeast share heads headsFirst scale column)

variable (m : (ℓ : Loc nD τ sig) → Buf (Elt Ideal) ℓ) (c : Dev nD)

theorem host_o : V m c main_v35 = hostO (arg0 m c) (arg1 m c) (arg2 m c) := by
  unfold V V0 before hostOps0 hostOps0_1 hostOps0_2 hostOps0_3 hostOps0_4 hostOps0_5 hostOps0_6
  simp only [List.flatten_cons, List.flatten_nil, List.cons_append, List.nil_append]
  after_reads_simp
  unfold hostO atLeast masked rowMax rowSum share expo spread heads Cert.FlashRefIdeal.Mine.mask
  rfl

end Cert.FlashIdeal.Mine
-- ==== Proof.FlashOut.lean ====
/- What the call leaves in its three results: the gradients over all rows and columns. -/
module

public import proofs.«01_k».proof.Proof.FlashReal
public import proofs.«01_k».proof.Proof.FlashDv
public import proofs.«01_k».proof.Proof.FlashFrame
public import proofs.«01_k».proof.Proof.FlashHostQ
public import proofs.«01_k».proof.Proof.FlashHostK
public import proofs.«01_k».proof.Proof.FlashHostS
public import proofs.«01_k».proof.Proof.FlashHostO

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen
open Cert.FlashRefIdeal.Mine (scale column queryGrad keyGrad valueGrad refGrad refExpo refSum share Finite)

variable (m : (ℓ : Loc nD τ sig) → Buf (Elt Ideal) ℓ) (c : Dev nD)

/-- The whole arrays of one device. -/
abbrev whole : Arrays := wholeOf (arg0 m c) (arg1 m c) (arg2 m c) (arg3 m c)

theorem host_g : V m c main_arg3 = arg3 m c := V_kept m (by decide) c

theorem entries_ext {B B' : Entries} (hq : B.q = B'.q) (hk : B.k = B'.k) (hv : B.v = B'.v) (ho : B.o = B'.o) (hg : B.g = B'.g) (hs : B.s = B'.s) : B = B' := by
  cases B
  cases B'
  simp_all

/-- Every point's blocks are taken from them. -/
theorem entries_whole (t : Fin grid0.N) : entries m c t = (whole m c).block (rowBlock t) (colBlock t) (rowBlock_lt t) (colBlock_lt t) := by
  refine entries_ext ?_ ?_ ?_ ?_ ?_ ?_
  · exact funext fun h => funext fun r => funext fun d => entries_q m c t _ (host_q m c) h r d
  · exact funext fun h => funext fun r => funext fun d => entries_k m c t _ (host_k m c) h r d
  · exact funext fun r => funext fun e => entries_v m c t _ (host_v m c) r e
  · exact funext fun r => funext fun e => entries_o m c t _ (host_o m c) r e
  · exact funext fun r => funext fun e => entries_g m c t _ (host_g m c) r e
  · refine funext fun h => funext fun r => funext fun d => (entries_s m c t _ (host_s m c) h r d).trans ?_
    exact (hostS_at (arg0 m c) (arg1 m c) h (rowAt t r) d).trans (hostS_at (arg0 m c) (arg1 m c) h (rowAt t r) 0).symm

/-- The query gradient is written back once, at the last point, -/
theorem last_lt : 35 < (cfg0 (F := Ideal) admissible).N := by
  show 35 < grid0.N
  rw [N_0]
  decide
theorem arr6_last (t : Fin (cfg0 (F := Ideal) admissible).N) (ht : t.val = 35) (h : Fin 4) (R : Fin 8192) (l : Fin 128) :
    ((dats m 0 c).arrAt 6 (cfg0 (F := Ideal) admissible).N : S4x8192x128.Idx → EReal) (ix3 h R l) = ∑ C, (whole m c).grad h R C * (whole m c).k h C l := by
  have e := (dats m 0 c).arrAt_emb_eq_flushed 6
    (fun t t' ht ht' hne => absurd (Fin.ext ((beq_iff_eq.mp ((flush6 (F := Ideal) t).symm.trans ht)).trans (beq_iff_eq.mp ((flush6 (F := Ideal) t').symm.trans ht')).symm)) hne)
    t ((flush6 (F := Ideal) t).trans (beq_iff_eq.mpr ht)) (ix3 h R l : S4x8192x128.Idx)
  rw [emb6] at e
  have k : (state m c (t.val + 1)).dq (ix3 h R l) = ∑ C, (whole m c).grad h R C * (whole m c).k h C l :=
    (congrArg (fun n => (state m c n).dq (ix3 h R l)) (show t.val + 1 = 36 by omega)).trans (dq_whole m c (whole m c) (entries_whole m c) h R l)
  refine e.trans ?_
  rw [← k]
  rfl
theorem arr6_at (h : Fin 4) (R : Fin 8192) (l : Fin 128) :
    ((dats m 0 c).arrAt 6 (cfg0 (F := Ideal) admissible).N : S4x8192x128.Idx → EReal) (ix3 h R l) = ∑ C, (whole m c).grad h R C * (whole m c).k h C l :=
  arr6_last m c ⟨35, last_lt⟩ rfl h R l

/-- the two others a column of blocks at a time, at its last point. -/
theorem last_of : ∀ j : Fin 8, ∃ t : Fin grid0.N, closing t.val = true ∧ colBlock t = j.val := by decide +kernel
def placeOf (C : Fin 8192) : Fin 1024 := ⟨C.val % 1024, by omega⟩
theorem column_of (C : Fin 8192) : ∃ t : Fin grid0.N, closing t.val = true ∧ colAt t (placeOf C) = C := by
  obtain ⟨t, h1, h2⟩ := last_of ⟨C.val / 1024, by omega⟩
  refine ⟨t, h1, Fin.ext ?_⟩
  show 1024 * colBlock t + C.val % 1024 = C.val
  rw [h2]
  show 1024 * (C.val / 1024) + C.val % 1024 = C.val
  omega

theorem disjoint7 : ∀ t t' : Fin (cfg0 (F := Ideal) admissible).N, ((cfg0 (F := Ideal) admissible).win 7).flush t = true → ((cfg0 (F := Ideal) admissible).win 7).flush t' = true → t ≠ t' →
    Disjoint (((cfg0 (F := Ideal) admissible).win 7).blk t).view.set (((cfg0 (F := Ideal) admissible).win 7).blk t').view.set :=
  Pipeline.Window.hdisj_of_index_inj _ fun t t' ht ht' he =>
    row_inj 7 t t' (closing_row t ((flush7 (F := Ideal) t).symm.trans ht)) (closing_row t' ((flush7 (F := Ideal) t').symm.trans ht'))
      (congrFun ((index t).2.2.2.2.2.2.2.1.symm.trans (he.trans (index t').2.2.2.2.2.2.2.1)) 1)
theorem disjoint8 : ∀ t t' : Fin (cfg0 (F := Ideal) admissible).N, ((cfg0 (F := Ideal) admissible).win 8).flush t = true → ((cfg0 (F := Ideal) admissible).win 8).flush t' = true → t ≠ t' →
    Disjoint (((cfg0 (F := Ideal) admissible).win 8).blk t).view.set (((cfg0 (F := Ideal) admissible).win 8).blk t').view.set :=
  Pipeline.Window.hdisj_of_index_inj _ fun t t' ht ht' he =>
    row_inj 7 t t' (closing_row t ((flush8 (F := Ideal) t).symm.trans ht)) (closing_row t' ((flush8 (F := Ideal) t').symm.trans ht'))
      (congrFun ((index t).2.2.2.2.2.2.2.2.symm.trans (he.trans (index t').2.2.2.2.2.2.2.2)) 0)

theorem arr7_at (h : Fin 4) (C : Fin 8192) (l : Fin 128) :
    ((dats m 0 c).arrAt 7 (cfg0 (F := Ideal) admissible).N : S4x8192x128.Idx → EReal) (ix3 h C l) = ∑ R, (whole m c).grad h R C * (whole m c).q h R l := by
  obtain ⟨t, ht, hC⟩ := column_of C
  have e := (dats m 0 c).arrAt_emb_eq_flushed 7 disjoint7 t ((flush7 (F := Ideal) t).trans ht) (ix3 h (placeOf C) l : S4x1024x128.Idx)
  rw [emb7, hC] at e
  have k := dk_whole m c (whole m c) (entries_whole m c) t ht h (placeOf C) l
  rw [hC] at k
  refine e.trans ?_
  rw [← k]
  rfl

theorem arr8_at (C : Fin 8192) (h : Fin 4) (d : Fin 64) :
    ((dats m 0 c).arrAt 8 (cfg0 (F := Ideal) admissible).N : S8192x256.Idx → EReal) (ix2 C (column h d)) = ∑ R, (whole m c).weight h R C * (whole m c).g R (column h d) := by
  obtain ⟨t, ht, hC⟩ := column_of C
  have e := (dats m 0 c).arrAt_emb_eq_flushed 8 disjoint8 t ((flush8 (F := Ideal) t).trans ht) (ix2 (placeOf C) (column h d) : S1024x256.Idx)
  rw [emb8, hC] at e
  have k := dv_whole m c (whole m c) (entries_whole m c) t ht (headOf (column h d)) (placeOf C) (laneOf (column h d))
  rw [hC, show headOf (column h d) = h from Fin.ext (by show (64 * h.val + d.val) / 64 = h.val; omega),
    show lane h (laneOf (column h d)) = column h d from Fin.ext (by show h.val / 2 * 128 + (64 * h.val + d.val) % 128 = 64 * h.val + d.val; omega)] at k
  have n : (state m c (t.val + 1)).dv (ix2 (placeOf C) (column h d)) = (state m c (t.val + 1)).sum (ix3 (headOf (column h d)) (placeOf C) (laneOf (column h d))) := by
    rw [state_succ m c t]
    exact next_dv m c t (state m c t.val) ht (placeOf C) (column h d)
  rw [show headOf (column h d) = h from Fin.ext (by show (64 * h.val + d.val) / 64 = h.val; omega)] at n
  refine e.trans (Eq.trans ?_ (n.trans k))
  rfl

/-- The lines after the call: the first 96 lanes, heads second, the queries' scaled. -/
theorem arrays_differ : Function.Injective (Pipeline.arrRef spec0) := by
  intro a b
  revert a b
  decide
def headsSecond (x : FVec Ideal S4x8192x128 .f32) : FVec Ideal S8192x4x96 .f32 :=
  transpose S8192x4x96 [1, 0, 2] (extractStridedSlice S4x8192x96 ![0, 0, 0] x slices_S4x8192x128_S4x8192x96_0_0_0) transposes_S4x8192x96_S8192x4x96_1_0_2
theorem headsSecond_at (x : FVec Ideal S4x8192x128 .f32) (r : Fin 8192) (h : Fin 4) (d : Fin 96) : headsSecond x (ix3 r h d) = x (ix3 h r (⟨d.val, by omega⟩ : Fin 128)) := by
  unfold headsSecond
  pointwise []
def scaled (x : FVec Ideal S8192x4x96 .f32) : FVec Ideal S8192x4x96 .f32 := mulf x (broadcastInDim S8192x4x96 ![] bcast_S_S8192x4x96 (constant S_ .f32 0x3DD105EC#32))
theorem scaled_at (x : FVec Ideal S8192x4x96 .f32) (i) : scaled x i = (x i : EReal) * scale := rfl

theorem tail_query : Pipeline.afterTail pcfgs (fun _ => admissible) (dats m) 0 (V0 m) [hostOps1] c main_v49 = scaled (headsSecond ((dats m 0 c).arrAt 6 (cfg0 (F := Ideal) admissible).N)) := by
  unfold Pipeline.afterTail
  simp only [List.flatten_cons, List.flatten_nil, List.cons_append, List.nil_append]
  after_reads_simp
  exact congrArg (fun A : FVec Ideal S4x8192x128 .f32 => scaled (headsSecond A)) (Pipeline.withArrays_arr spec0 arrays_differ c _ _ 6)
theorem tail_key : Pipeline.afterTail pcfgs (fun _ => admissible) (dats m) 0 (V0 m) [hostOps1] c main_v51 = headsSecond ((dats m 0 c).arrAt 7 (cfg0 (F := Ideal) admissible).N) := by
  unfold Pipeline.afterTail
  simp only [List.flatten_cons, List.flatten_nil, List.cons_append, List.nil_append]
  after_reads_simp
  exact congrArg (fun A : FVec Ideal S4x8192x128 .f32 => headsSecond A) (Pipeline.withArrays_arr spec0 arrays_differ c _ _ 7)

/-- With real arguments the three results are the reference's. -/
theorem query_result (W : Finite (arg0 m c) (arg1 m c) (arg2 m c) (arg3 m c)) (r : Fin 8192) (h : Fin 4) (d : Fin 96) :
    scaled (headsSecond ((dats m 0 c).arrAt 6 (cfg0 (F := Ideal) admissible).N)) (ix3 r h d) = queryGrad (refGrad (arg0 m c) (arg1 m c) (arg2 m c) (arg3 m c)) (arg1 m c) (ix3 r h d) := by
  rw [scaled_at, headsSecond_at]
  exact (congrArg (fun x : EReal => x * scale) (arr6_at m c h r _)).trans (query_eq W r h d)
theorem key_result (W : Finite (arg0 m c) (arg1 m c) (arg2 m c) (arg3 m c)) (C : Fin 8192) (h : Fin 4) (d : Fin 96) :
    headsSecond ((dats m 0 c).arrAt 7 (cfg0 (F := Ideal) admissible).N) (ix3 C h d) = keyGrad (refGrad (arg0 m c) (arg1 m c) (arg2 m c) (arg3 m c)) (arg0 m c) (ix3 C h d) := by
  rw [headsSecond_at]
  exact (arr7_at m c h C _).trans (key_eq W C h d)
theorem value_result (W : Finite (arg0 m c) (arg1 m c) (arg2 m c) (arg3 m c)) (C : Fin 8192) (e : Fin 256) :
    ((dats m 0 c).arrAt 8 (cfg0 (F := Ideal) admissible).N : S8192x256.Idx → EReal) (ix2 C e)
      = valueGrad (share (refExpo (arg0 m c) (arg1 m c)) (refSum (arg0 m c) (arg1 m c))) (arg3 m c) (ix2 C e) := by
  obtain ⟨h, d, rfl⟩ : ∃ (h : Fin 4) (d : Fin 64), e = column h d := ⟨⟨e.val / 64, by omega⟩, ⟨e.val % 64, by omega⟩, Fin.ext (by show e.val = 64 * (e.val / 64) + e.val % 64; omega)⟩
  exact (arr8_at m c C h d).trans (value_eq W C h d)

end Cert.FlashIdeal.Mine
-- ==== Proof.FlashFinite.lean ====
/- The precondition, that no entry of the four arguments is infinite, names their entries as real numbers. -/
module

public import proofs.«01_k».proof.Defs
public import proofs.«01_k».proof.Proof.FlashSoft
public import proofs.«01_k».proof.Proof.FlashHost
public import proofs.«01_k».proof.Proof.Gen.Pre_finite

@[expose] public section

set_option maxRecDepth 16384

noncomputable section

namespace Cert.FlashIdeal.Mine

open Idealize.ShloMosaic Idealize.ShloMosaic.TcCoe Idealize.ShloMosaic.Tactic
open Cert.FlashIdeal Cert.FlashIdeal.Gen
open Cert.FlashRefIdeal.Mine (Finite)

theorem word_infinity : Ideal.ofBits .f32 0x7F800000#32 = ⊤ := by
  simp [Ideal.ofBits, Ideal.ieee]

/-- A number whose absolute value is below infinity is real. -/
theorem real_of (x : EReal) (h : Ideal.cmp .olt (max x (-x)) (Ideal.ofBits .f32 0x7F800000#32) = 1#1) : ∃ r : ℝ, x = ((r : ℝ) : EReal) := by
  rw [word_infinity] at h
  replace h := (Ideal.cmp_olt_eq_one _ _).mp h
  induction x with
  | bot => simp at h
  | top => simp at h
  | coe r => exact ⟨r, rfl⟩

/-- Four arguments of real entries. -/
def finiteOf {A0 A1 : FVec Ideal S8192x4x96 .f32} {A2 A3 : FVec Ideal S8192x256 .f32} (h0 : ∀ i, ∃ r : ℝ, (A0 i : EReal) = ((r : ℝ) : EReal)) (h1 : ∀ i, ∃ r : ℝ, (A1 i : EReal) = ((r : ℝ) : EReal))
    (h2 : ∀ i, ∃ r : ℝ, (A2 i : EReal) = ((r : ℝ) : EReal)) (h3 : ∀ i, ∃ r : ℝ, (A3 i : EReal) = ((r : ℝ) : EReal)) : Finite A0 A1 A2 A3 where
  q r h d := (h0 (ix3 r h d)).choose
  k r h d := (h1 (ix3 r h d)).choose
  v r e := (h2 (ix2 r e)).choose
  g r e := (h3 (ix2 r e)).choose
  hq r h d := (h0 (ix3 r h d)).choose_spec
  hk r h d := (h1 (ix3 r h d)).choose_spec
  hv r e := (h2 (ix2 r e)).choose_spec
  hg r e := (h3 (ix2 r e)).choose_spec

/-- The precondition says so of every device's. -/
def finite (m : (ℓ : Loc nD τ sig) → Buf (Elt Ideal) ℓ) (hm : Cert.Pre_FlashIdeal_finite m) (c : Dev nD) : Finite (arg0 m c) (arg1 m c) (arg2 m c) (arg3 m c) :=
  finiteOf (fun i => real_of _ (congrFun (hm c).1 i)) (fun i => real_of _ (congrFun (hm c).2.1 i)) (fun i => real_of _ (congrFun (hm c).2.2.1 i)) (fun i => real_of _ (congrFun (hm c).2.2.2 i))

end Cert.FlashIdeal.Mine
-- ==== Proof.FlashClaim.lean ====
/- The attention's gradient: the three frames, and the three results over the reals. -/
module

public import proofs.«01_k».proof.Defs
public import proofs.«01_k».proof.Proof.FlashFrame
public import proofs.«01_k».proof.Proof.FlashOut
public import proofs.«01_k».proof.Proof.FlashFinite
public import proofs.«01_k».proof.Proof.Gen.Flash
public import Idealize.ShloMosaic.Lib.Claim
public import proofs.«01_k».proof.Proof.Gen.FlashRefIdeal.Run

@[expose] public section

set_option maxRecDepth 16384

noncomputable section

open Idealize.ShloMosaic Idealize.ShloMosaic.TcCoe Idealize.ShloMosaic.Tactic Idealize.SL.Sem

namespace Cert.FlashIdeal.Mine

open Cert.FlashIdeal Cert.FlashIdeal.Gen

variable {F : FTy → Type} [FloatOps F]

set_option maxHeartbeats 1600000 in
/-- At any float values: every execution ends, the four arguments are as they were, no semaphore is raised. -/
theorem unchanged (m : (ℓ : Loc nD τ sig) → Buf (Elt F) ℓ) (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
    ⟨((h.1 c).2 main_arg0 (Pipeline.mem_restRefs_of main_arg0 (by decide) (by exact (by decide : ∀ w : Fin 9, Pipeline.arrRef spec0 w ≠ main_arg0)))).trans (arg_kept m (by decide) (by decide) (by decide) c),
     ((h.1 c).2 main_arg1 (Pipeline.mem_restRefs_of main_arg1 (by decide) (by exact (by decide : ∀ w : Fin 9, Pipeline.arrRef spec0 w ≠ main_arg1)))).trans (arg_kept m (by decide) (by decide) (by decide) c),
     ((h.1 c).2 main_arg2 (Pipeline.mem_restRefs_of main_arg2 (by decide) (by exact (by decide : ∀ w : Fin 9, Pipeline.arrRef spec0 w ≠ main_arg2)))).trans (arg_kept m (by decide) (by decide) (by decide) c),
     ((h.1 c).1 4).trans (((dats m 0 c).arrAt_in 4 rfl _).trans ((A_eq m c 4).trans (V_kept m (by decide) c)))⟩, h.2⟩)
    (run_main_quiescent m ρ)

/-- The call runs and leaves its arguments as they were. -/
theorem frame_ideal : Cert.quiescent_FlashIdeal := fun m ρ _ => unchanged m ρ
theorem same_program : Cert.quiescent_Flash = (∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)) := by
  sl_kernel_rfl
theorem frame_kernel : Cert.quiescent_Flash := same_program ▸ fun m ρ _ => unchanged (F := Bits) m ρ

/-- The reference runs and leaves its arguments as they were. -/
theorem frame_reference : Cert.quiescent_FlashRefIdeal := fun m ρ _ =>
  (θ_run Cert.FlashRefIdeal.defs _ _).mono
    (fun r h => ⟨fun c => (h c).2.2.2, Idealize.ShloMosaic.sem_eq_zero_of_no_sems (by decide) r.2⟩)
    (Cert.FlashRefIdeal.Value.run (F := Ideal) m ρ)

set_option maxHeartbeats 1600000 in
/-- Every execution ends with the three results at what the call's arrays hold, the arguments as they were. -/
theorem computed (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49) = scaled (headsSecond ((dats m 0 c).arrAt 6 (cfg0 (F := Ideal) admissible).N))
      ∧ r.2.mem ((c.tc : Thread nD τ).loc main_v51) = headsSecond ((dats m 0 c).arrAt 7 (cfg0 (F := Ideal) admissible).N)
      ∧ r.2.mem ((c.tc : Thread nD τ).loc main_v45_2) = (dats m 0 c).arrAt 8 (cfg0 (F := Ideal) admissible).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h => fun c =>
    ⟨((h.1 c).2 main_v49 (Pipeline.mem_restRefs_of main_v49 (by decide) (by exact (by decide : ∀ w : Fin 9, Pipeline.arrRef spec0 w ≠ main_v49)))).trans (tail_query m c),
     ((h.1 c).2 main_v51 (Pipeline.mem_restRefs_of main_v51 (by decide) (by exact (by decide : ∀ w : Fin 9, Pipeline.arrRef spec0 w ≠ main_v51)))).trans (tail_key m c),
     (h.1 c).1 8,
     ((h.1 c).2 main_arg0 (Pipeline.mem_restRefs_of main_arg0 (by decide) (by exact (by decide : ∀ w : Fin 9, Pipeline.arrRef spec0 w ≠ main_arg0)))).trans (arg_kept m (by decide) (by decide) (by decide) c),
     ((h.1 c).2 main_arg1 (Pipeline.mem_restRefs_of main_arg1 (by decide) (by exact (by decide : ∀ w : Fin 9, Pipeline.arrRef spec0 w ≠ main_arg1)))).trans (arg_kept m (by decide) (by decide) (by decide) c),
     ((h.1 c).2 main_arg2 (Pipeline.mem_restRefs_of main_arg2 (by decide) (by exact (by decide : ∀ w : Fin 9, Pipeline.arrRef spec0 w ≠ main_arg2)))).trans (arg_kept m (by decide) (by decide) (by decide) c),
     ((h.1 c).1 4).trans (((dats m 0 c).arrAt_in 4 rfl _).trans ((A_eq m c 4).trans (V_kept m (by decide) c)))⟩)
    (run_main_quiescent m ρ)

/-- The two programs are given the same arguments. -/
abbrev Agree (m : (ℓ : Loc nD τ sig) → Buf (Elt Ideal) ℓ) (m' : (ℓ : Loc Cert.FlashRefIdeal.nD Cert.FlashRefIdeal.τ Cert.FlashRefIdeal.sig) → Buf (Elt Ideal) ℓ) : Prop :=
  ∀ c : Dev nD, Cert.FlashRefIdeal.Mine.arg0 m' c = arg0 m c ∧ Cert.FlashRefIdeal.Mine.arg1 m' c = arg1 m c
    ∧ Cert.FlashRefIdeal.Mine.arg2 m' c = arg2 m c ∧ Cert.FlashRefIdeal.Mine.arg3 m' c = arg3 m c

/-- Over the reals, where no entry of the arguments is infinite, the call computes the reference's three gradients. -/
theorem value : Cert.algebraic_FlashIdeal_FlashRefIdeal_pre_finite := by
  pair_intro
  · run_from computed m g
  · run_from Cert.FlashRefIdeal.Value.run (F := Ideal) m' g'
    · rw [Cert.FlashRefIdeal.Mine.result0, ((show Agree m m' from hagree) c).1, ((show Agree m m' from hagree) c).2.1, ((show Agree m m' from hagree) c).2.2.1, ((show Agree m m' from hagree) c).2.2.2]
      funext j
      idx_vars j
      exact (query_result m c (finite m hpre c) _ _ _).symm
    · rw [Cert.FlashRefIdeal.Mine.result1, ((show Agree m m' from hagree) c).1, ((show Agree m m' from hagree) c).2.1, ((show Agree m m' from hagree) c).2.2.1, ((show Agree m m' from hagree) c).2.2.2]
      funext j
      idx_vars j
      exact (key_result m c (finite m hpre c) _ _ _).symm
    · rw [Cert.FlashRefIdeal.Mine.result2, ((show Agree m m' from hagree) c).1, ((show Agree m m' from hagree) c).2.1, ((show Agree m m' from hagree) c).2.2.2]
      funext j
      idx_vars j
      exact (value_result m c (finite m hpre c) _ _).symm

end Cert.FlashIdeal.Mine
-- ==== Proof.InprojKernel.lean ====
/- The input projection: what each grid point leaves in its outputs and its two running sums, as the body's own terms. -/
module

public import proofs.«01_k».proof.Proof.Gen.InprojIdeal.Frame
public import proofs.«01_k».proof.Proof.Sums

@[expose] public section

set_option maxRecDepth 16384
set_option maxHeartbeats 4000000

noncomputable section

open Idealize.ShloMosaic Idealize.ShloMosaic.TcCoe Idealize.SL.Sem
open Idealize.ShloMosaic.Pipeline (Dat)

namespace Cert.InprojIdeal.Mine

open Cert.Tools Cert.InprojIdeal Cert.InprojIdeal.Gen

variable {F : FTy → Type} [FloatOps F]
variable (m : (ℓ : Loc nD τ sig) → Buf (Elt F) ℓ) (ρ : Dev nD → PrngReg)

/-- The rows of the packed weight that meet the two compressed parts and the rotary columns, and those that meet the mixer's. -/
def top (w : Vec F S2176x1024 .bf16) : Vec F S640x1024 .bf16 := View.ld w (Rect.unit (s := S2176x1024) ![0, 0] S640x1024.size inb_S2176x1024_S640x1024_0_0)
def low (w : Vec F S2176x1024 .bf16) : Vec F S1536x1024 .bf16 := View.ld w (Rect.unit (s := S2176x1024) ![640, 0] S1536x1024.size inb_S2176x1024_S1536x1024_640_0)
/-- The four blocks of rows of the gates' weight. -/
def gate0 (w : Vec F S4096x1024 .bf16) : Vec F S1024x1024 .bf16 := View.ld w (Rect.unit (s := S4096x1024) ![0, 0] S1024x1024.size inb_S4096x1024_S1024x1024_0_0)
def gate1 (w : Vec F S4096x1024 .bf16) : Vec F S1024x1024 .bf16 := View.ld w (Rect.unit (s := S4096x1024) ![1024, 0] S1024x1024.size inb_S4096x1024_S1024x1024_1024_0)
def gate2 (w : Vec F S4096x1024 .bf16) : Vec F S1024x1024 .bf16 := View.ld w (Rect.unit (s := S4096x1024) ![2048, 0] S1024x1024.size inb_S4096x1024_S1024x1024_2048_0)
def gate3 (w : Vec F S4096x1024 .bf16) : Vec F S1024x1024 .bf16 := View.ld w (Rect.unit (s := S4096x1024) ![3072, 0] S1024x1024.size inb_S4096x1024_S1024x1024_3072_0)

/-- The first four products of one point, -/
def partOf (c : Dev nD) (t : Fin cfg0.N) : FVec F S512x1024 .f32 :=
  k0_pay15 (iblk m c 3 t) (iblk m c 4 t) (top (iblk m c 9 t)) (low (iblk m c 9 t)) (iblk m c 5 t) (gate0 (iblk m c 10 t))
/-- the gradient of its rows of the residual stream, -/
def dxOf (c : Dev nD) (t : Fin cfg0.N) : Vec F S512x1024 .f32 :=
  k0_pay1 (k0_pay17 (iblk m c 0 t)) (k0_pay18 (iblk m c 0 t))
    (k0_pay20 (k0_pay11 (iblk m c 1 t)) (partOf m c t) (iblk m c 6 t) (gate1 (iblk m c 10 t)) (iblk m c 7 t) (gate2 (iblk m c 10 t)) (iblk m c 8 t) (gate3 (iblk m c 10 t)))
    (k0_pay21 (iblk m c 0 t) (k0_pay11 (iblk m c 1 t)) (partOf m c t) (iblk m c 6 t) (gate1 (iblk m c 10 t)) (iblk m c 7 t) (gate2 (iblk m c 10 t)) (iblk m c 8 t) (gate3 (iblk m c 10 t)))
    (iblk m c 2 t)
/-- and what it adds to the gradients of the gain and of the weight's rows. -/
def dgOf (c : Dev nD) (t : Fin cfg0.N) : FVec F S1x1024 .f32 :=
  k0_pay19 (iblk m c 0 t) (partOf m c t) (iblk m c 6 t) (gate1 (iblk m c 10 t)) (iblk m c 7 t) (gate2 (iblk m c 10 t)) (iblk m c 8 t) (gate3 (iblk m c 10 t))
def daOf (c : Dev nD) (t : Fin cfg0.N) : FVec F S640x1024 .f32 := k0_pay3 (k0_pay12 (iblk m c 0 t) (iblk m c 1 t)) (k0_pay13 (iblk m c 3 t))
def dmOf (c : Dev nD) (t : Fin cfg0.N) : FVec F S1536x1024 .f32 := k0_pay7 (k0_pay12 (iblk m c 0 t) (iblk m c 1 t)) (k0_pay14 (iblk m c 4 t))

/-- What the point before left. -/
abbrev before (c : Dev nD) (t : Fin cfg0.N) := outsAt0 m c (t.val - 1) (Nat.lt_of_le_of_lt (Nat.sub_le _ _) t.isLt)

/-- The first point starts the sums. -/
theorem at_A (c : Dev nD) (t : Fin cfg0.N) (h0 : t.val % 16 = 0) (h1 : ¬1 ≤ t.val) (h2 : ¬t.val % 16 = 15) :
    (outsAt0 m c t.val t.isLt).1 = dxOf m c t
    ∧ (outsAt0 m c t.val t.isLt).2.1 = dgOf m c t
    ∧ (outsAt0 m c t.val t.isLt).2.2.2.2.1 = daOf m c t
    ∧ (outsAt0 m c t.val t.isLt).2.2.2.2.2 = dmOf m c t := by
  have e := outsAt0_A m c t h0 h1 h0 h1 h2 h0 h1 h2
  refine ⟨(congrArg (fun p => p.1) e).trans ?_, (congrArg (fun p => p.2.1) e).trans ?_, (congrArg (fun p => p.2.2.2.2.1) e).trans ?_, (congrArg (fun p => p.2.2.2.2.2) e).trans ?_⟩
  all_goals (clear e; dsimp only)
  on_goal 1 => unfold out0_A_11; rw [View.read_writes_eq_canon _ _ _ (fun _ => cover0_A_11 ..)]
  on_goal 2 => unfold out0_A_12; rw [View.read_writes_eq_canon _ _ _ (fun _ => cover0_A_12 ..)]
  on_goal 3 => unfold sout0_A_0; rw [View.read_writes_eq_canon _ _ _ (fun _ => scover0_A_0 ..)]
  on_goal 4 => unfold sout0_A_1; rw [View.read_writes_eq_canon _ _ _ (fun _ => scover0_A_1 ..)]
  all_goals (unfold kernelRun0_A; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, (Memref.isWhole_whole _).read_unread,
    View.readCov_unit_zero (S := S512x1024) _ hz2, View.readCov_unit_zero (S := S1x1024) _ hz2, View.readCov_unit_zero (S := S512x640) _ hz2, View.readCov_unit_zero (S := S512x1536) _ hz2, View.readCov_unit_zero (S := S640x1024) _ hz2, View.readCov_unit_zero (S := S1536x1024) _ hz2,
    View.ld_unit_zero (S := S512x1024) hz2, View.ld_unit_zero (S := S1x1024) hz2, View.ld_unit_zero (S := S512x640) hz2, View.ld_unit_zero (S := S512x1536) hz2, View.ld_unit_zero (S := S640x1024) hz2, View.ld_unit_zero (S := S1536x1024) hz2,
    shapeCast_self, dxOf, dgOf, daOf, dmOf, partOf, top, low, gate0, gate1, gate2, gate3, k0_pay2, k0_pay4, k0_pay5, k0_pay8, k0_pay9]

/-- A point between adds to them. -/
theorem at_B (c : Dev nD) (t : Fin cfg0.N) (h0 : ¬t.val % 16 = 0) (h1 : 1 ≤ t.val) (h2 : ¬t.val % 16 = 15) :
    (outsAt0 m c t.val t.isLt).1 = dxOf m c t
    ∧ (outsAt0 m c t.val t.isLt).2.1 = addf (before m c t).2.1 (dgOf m c t)
    ∧ (outsAt0 m c t.val t.isLt).2.2.2.2.1 = addf (before m c t).2.2.2.2.1 (daOf m c t)
    ∧ (outsAt0 m c t.val t.isLt).2.2.2.2.2 = addf (before m c t).2.2.2.2.2 (dmOf m c t) := by
  have e := outsAt0_B m c t h0 h1 h0 h1 h2 h0 h1 h2
  refine ⟨(congrArg (fun p => p.1) e).trans ?_, (congrArg (fun p => p.2.1) e).trans ?_, (congrArg (fun p => p.2.2.2.2.1) e).trans ?_, (congrArg (fun p => p.2.2.2.2.2) e).trans ?_⟩
  all_goals (clear e; dsimp only)
  on_goal 1 => unfold out0_B_11; rw [View.read_writes_eq_canon _ _ _ (fun _ => cover0_B_11 ..)]
  on_goal 2 => unfold out0_B_12; rw [View.read_writes_eq_canon _ _ _ (fun _ => cover0_B_12 ..)]
  on_goal 3 => unfold sout0_B_0; rw [View.read_writes_eq_canon _ _ _ (fun _ => scover0_B_0 ..)]
  on_goal 4 => unfold sout0_B_1; rw [View.read_writes_eq_canon _ _ _ (fun _ => scover0_B_1 ..)]
  all_goals (unfold kernelRun0_B; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, (Memref.isWhole_whole _).read_unread,
    View.readCov_unit_zero (S := S512x1024) _ hz2, View.readCov_unit_zero (S := S1x1024) _ hz2, View.readCov_unit_zero (S := S512x640) _ hz2, View.readCov_unit_zero (S := S512x1536) _ hz2, View.readCov_unit_zero (S := S640x1024) _ hz2, View.readCov_unit_zero (S := S1536x1024) _ hz2,
    View.ld_unit_zero (S := S512x1024) hz2, View.ld_unit_zero (S := S1x1024) hz2, View.ld_unit_zero (S := S512x640) hz2, View.ld_unit_zero (S := S512x1536) hz2, View.ld_unit_zero (S := S640x1024) hz2, View.ld_unit_zero (S := S1536x1024) hz2,
    shapeCast_self, dxOf, dgOf, daOf, dmOf, partOf, top, low, gate0, gate1, gate2, gate3, k0_pay2, k0_pay4, k0_pay5, k0_pay8, k0_pay9]

/-- The last adds its own and writes them out. -/
theorem at_C (c : Dev nD) (t : Fin cfg0.N) (h0 : ¬t.val % 16 = 0) (h1 : 1 ≤ t.val) (h2 : t.val % 16 = 15) :
    (outsAt0 m c t.val t.isLt).1 = dxOf m c t
    ∧ (outsAt0 m c t.val t.isLt).2.1 = addf (before m c t).2.1 (dgOf m c t)
    ∧ (outsAt0 m c t.val t.isLt).2.2.1 = k0_pay6 (addf (before m c t).2.2.2.2.1 (daOf m c t))
    ∧ (outsAt0 m c t.val t.isLt).2.2.2.1 = k0_pay10 (addf (before m c t).2.2.2.2.2 (dmOf m c t)) := by
  have e := outsAt0_C m c t h0 h1 h0 h1 h2 h0 h1 h2
  refine ⟨(congrArg (fun p => p.1) e).trans ?_, (congrArg (fun p => p.2.1) e).trans ?_, (congrArg (fun p => p.2.2.1) e).trans ?_, (congrArg (fun p => p.2.2.2.1) e).trans ?_⟩
  all_goals (clear e; dsimp only)
  on_goal 1 => unfold out0_C_11; rw [View.read_writes_eq_canon _ _ _ (fun _ => cover0_C_11 ..)]
  on_goal 2 => unfold out0_C_12; rw [View.read_writes_eq_canon _ _ _ (fun _ => cover0_C_12 ..)]
  on_goal 3 => unfold out0_C_13; rw [View.read_writes_eq_canon _ _ _ (fun _ => cover0_C_13 ..)]
  on_goal 4 => unfold out0_C_14; rw [View.read_writes_eq_canon _ _ _ (fun _ => cover0_C_14 ..)]
  all_goals (unfold kernelRun0_C; dsimp only; sl_unfold_words; rw [View.canon_unit_zero hz2])
  all_goals simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread, (Memref.isWhole_whole _).read_unread,
    View.readCov_unit_zero (S := S512x1024) _ hz2, View.readCov_unit_zero (S := S1x1024) _ hz2, View.readCov_unit_zero (S := S512x640) _ hz2, View.readCov_unit_zero (S := S512x1536) _ hz2, View.readCov_unit_zero (S := S640x1024) _ hz2, View.readCov_unit_zero (S := S1536x1024) _ hz2,
    View.ld_unit_zero (S := S512x1024) hz2, View.ld_unit_zero (S := S1x1024) hz2, View.ld_unit_zero (S := S512x640) hz2, View.ld_unit_zero (S := S512x1536) hz2, View.ld_unit_zero (S := S640x1024) hz2, View.ld_unit_zero (S := S1536x1024) hz2,
    shapeCast_self, dxOf, dgOf, daOf, dmOf, partOf, top, low, gate0, gate1, gate2, gate3, k0_pay2, k0_pay4, k0_pay5, k0_pay8, k0_pay9]

end Cert.InprojIdeal.Mine

end
-- ==== Proof.InprojSplit.lean ====
/- Sums over the columns of the input projection, cut into its parts, and the laws of real numbers among the extended ones. -/
module

public import Idealize.ShloMosaic.Lib.Pointwise
public import proofs.«01_k».proof.Proof.Norm

@[expose] public section

noncomputable section

open Idealize.ShloMosaic

namespace Cert.Tools

/-- A sum cut in two. -/
theorem sum_cut {n : ℕ} (a b : ℕ) (h : a + b = n) (f : Fin n → EReal) :
    ∑ k, f k = (∑ i : Fin a, f ⟨i.val, by omega⟩) + ∑ i : Fin b, f ⟨a + i.val, by omega⟩ := by
  subst h
  exact Fin.sum_univ_add f

/-- The columns of the packed gradient: the two compressed parts, and twice the rotary lanes between zeros. -/
theorem sum_packed (f : Fin 640 → EReal) : ∑ k, f k =
    (∑ i : Fin 256, f ⟨i.val, by omega⟩) + (∑ i : Fin 128, f ⟨256 + i.val, by omega⟩)
      + (∑ i : Fin 64, f ⟨384 + i.val, by omega⟩) + (∑ i : Fin 16, f ⟨448 + i.val, by omega⟩) + (∑ i : Fin 16, f ⟨464 + i.val, by omega⟩) + (∑ i : Fin 32, f ⟨480 + i.val, by omega⟩)
      + (∑ i : Fin 64, f ⟨512 + i.val, by omega⟩) + (∑ i : Fin 16, f ⟨576 + i.val, by omega⟩) + (∑ i : Fin 16, f ⟨592 + i.val, by omega⟩) + ∑ i : Fin 32, f ⟨608 + i.val, by omega⟩ := by
  rw [sum_cut 608 32 rfl f, sum_cut 592 16 rfl, sum_cut 576 16 rfl, sum_cut 512 64 rfl, sum_cut 480 32 rfl, sum_cut 464 16 rfl, sum_cut 448 16 rfl, sum_cut 384 64 rfl, sum_cut 256 128 rfl]

/-- The columns of the projection: the two compressed parts, the two rotary halves, the mixer's and the four gates'. -/
theorem sum_columns (f : Fin 6048 → EReal) : ∑ k, f k =
    (∑ i : Fin 256, f ⟨i.val, by omega⟩) + (∑ i : Fin 128, f ⟨256 + i.val, by omega⟩)
      + (∑ i : Fin 16, f ⟨384 + i.val, by omega⟩) + (∑ i : Fin 16, f ⟨400 + i.val, by omega⟩) + (∑ i : Fin 1536, f ⟨416 + i.val, by omega⟩)
      + (∑ i : Fin 1024, f ⟨1952 + i.val, by omega⟩) + (∑ i : Fin 1024, f ⟨2976 + i.val, by omega⟩) + (∑ i : Fin 1024, f ⟨4000 + i.val, by omega⟩) + ∑ i : Fin 1024, f ⟨5024 + i.val, by omega⟩ := by
  rw [sum_cut 5024 1024 rfl f, sum_cut 4000 1024 rfl, sum_cut 2976 1024 rfl, sum_cut 1952 1024 rfl, sum_cut 416 1536 rfl, sum_cut 400 16 rfl, sum_cut 384 16 rfl, sum_cut 256 128 rfl]

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.neg {x : EReal} : IsReal x → IsReal (-x) := by
  rintro ⟨a, rfl⟩; exact ⟨-a, (EReal.coe_neg a).symm⟩
theorem IsReal.cos {x : EReal} : IsReal x → IsReal (Ideal.cos x) := by rintro ⟨a, rfl⟩; exact ⟨_, rfl⟩
theorem IsReal.sin {x : EReal} : IsReal x → IsReal (Ideal.sin x) := by rintro ⟨a, rfl⟩; exact ⟨_, rfl⟩
theorem IsReal.pow {x y : EReal} : IsReal x → IsReal y → IsReal (Ideal.pow x y) := by rintro ⟨a, rfl⟩ ⟨b, rfl⟩; exact ⟨_, rfl⟩
theorem IsReal.div {x : EReal} {b : ℝ} (hb : b ≠ 0) : IsReal x → IsReal (Ideal.div x (b : EReal)) := by
  rintro ⟨a, rfl⟩
  rw [Ideal.div_coe hb]
  exact ⟨a * (1 / b), (EReal.coe_mul _ _).symm⟩

/-- Real factors distribute. -/
theorem real_add_mul {a b w : EReal} (ha : IsReal a) (hb : IsReal b) (hw : IsReal w) : (a + b) * w = a * w + b * w := by
  obtain ⟨x, rfl⟩ := ha
  obtain ⟨y, rfl⟩ := hb
  obtain ⟨z, rfl⟩ := hw
  rw [← EReal.coe_add, ← EReal.coe_mul, ← EReal.coe_mul, ← EReal.coe_mul, ← EReal.coe_add, add_mul]

/-- A normed entry is real, an infinite row's too: its root is zero. -/
theorem normed_real {n : ℕ} (x : Fin n → EReal) (e : Fin n) : IsReal (x e * rms w1024 x) := by
  obtain ⟨q, hq, hqe⟩ := word_eps
  have hs : 0 ≤ ∑ l, x l * x l := Finset.sum_nonneg fun l _ => sq_nonneg' _
  have hle : x e * x e ≤ ∑ l, x l * x l := Finset.single_le_sum (f := fun l => x l * x l) (fun l _ => sq_nonneg' _) (Finset.mem_univ e)
  have hdiv : Ideal.div (∑ l, x l * x l) w1024 = (∑ l, x l * x l) * ((1 / 1024 : ℝ) : EReal) := by rw [show w1024 = ((1024 : ℝ) : EReal) from word_1024]; exact Ideal.div_coe (by norm_num) _
  unfold rms msq
  rw [hdiv, hqe]
  rcases eq_or_ne (∑ l, x l * x l) ⊤ with h | h
  · rw [h, EReal.top_mul_coe_of_pos (by norm_num), EReal.top_add_coe]
    refine ⟨0, ?_⟩
    rw [Ideal.rsqrt_top, mul_zero]
    rfl
  · have hx : IsReal (x e) := by
      generalize x e = y at *
      induction y with
      | bot => exact absurd (top_le_iff.mp (by simpa using hle)) h
      | top => exact absurd (top_le_iff.mp (by simpa using hle)) h
      | coe r => exact ⟨r, rfl⟩
    obtain ⟨s, hs'⟩ : IsReal (∑ l, x l * x l) := ⟨_, (EReal.coe_toReal h (ne_bot_of_le_ne_bot EReal.zero_ne_bot hs)).symm⟩
    rw [hs'] at hs ⊢
    refine hx.mul ?_
    rw [← EReal.coe_mul, ← EReal.coe_add]
    have hp : 0 < s * (1 / 1024) + q := by
      have : 0 ≤ s := by exact_mod_cast hs
      positivity
    generalize s * (1 / 1024) + q = v at hp
    exact ⟨_, by rw [Ideal.rsqrt_coe, if_neg (not_lt.mpr hp.le), if_neg hp.ne']⟩

end Cert.Tools

end
-- ==== Proof.InprojHost.lean ====
/- The arrays the host hands the input projection's backward call, as terms of the arguments. -/
module

public import proofs.«01_k».proof.Proof.InprojKernel
public import proofs.«01_k».proof.Proof.InprojSplit
public import Idealize.ShloMosaic.Lib.StableHlo.ReadAt
public import Idealize.ShloMosaic.Lib.Pipeline.ValueKit

@[expose] public section

set_option maxRecDepth 16384
set_option maxHeartbeats 4000000

noncomputable section

namespace Cert.InprojIdeal.Mine

open Idealize.ShloMosaic Idealize.ShloMosaic.TcCoe Idealize.ShloMosaic.Tactic
open Cert.Tools Cert.InprojIdeal Cert.InprojIdeal.Gen

variable (m : (ℓ : Loc nD τ sig) → Buf (Elt Ideal) ℓ) (c : Dev nD)

/-- The frequencies of the rotary lanes and the angle of every position at each of them. -/
def freq : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
      (mulf (broadcastInDim S16 ![] bcast_S_S16 (constant S_ .f32 0x40000000#32)) (sitofp .f32 (iotaInDim S16 32 0)))))
      (broadcastInDim S16 ![] bcast_S_S16 (constant S_ .f32 0x42000000#32)))
def angle (p : Vec Ideal S8192 .i32) : FVec Ideal S8192x16 .f32 :=
  mulf (broadcastInDim S8192x16 ![0, 1] bcast_S8192x1_S8192x16_0_1 (broadcastInDim S8192x1 ![0] bcast_S8192_S8192x1_0 (sitofp .f32 p)))
    (broadcastInDim S8192x16 ![0, 1] bcast_S1x16_S8192x16_0_1 (broadcastInDim S1x16 ![1] bcast_S16_S1x16_1 freq))

/-- The weight's columns as rows. -/
def rowsOf (w : FVec Ideal S1024x6048 .f32) : FVec Ideal S6048x1024 .bf16 := truncf .bf16 (transpose S6048x1024 [1, 0] w transposes_S1024x6048_S6048x1024_1_0) bitsLt_bf16_f32
def rotary (w : FVec Ideal S1024x6048 .f32) : FVec Ideal S32x1024 .bf16 := extractStridedSlice S32x1024 ![384, 0] (rowsOf w) slices_S6048x1024_S32x1024_384_0
/-- The rotary rows, their halves exchanged, and either among zeros. -/
def swapped (x : FVec Ideal S32x1024 .bf16) : FVec Ideal S32x1024 .bf16 :=
  concatenate S32x1024 0 [⟨S16x1024, extractStridedSlice S16x1024 ![16, 0] x slices_S32x1024_S16x1024_16_0⟩, ⟨S16x1024, extractStridedSlice S16x1024 ![0, 0] x slices_S32x1024_S16x1024_0_0⟩] concatenates_S16x1024_S16x1024_S32x1024_d0
def amongZeros (x : FVec Ideal S32x1024 .bf16) : FVec Ideal S128x1024 .bf16 :=
  pad S128x1024 ![64, 0] ![32, 0] ![0, 0] x (sitofp .bf16 (constantI S_ 32 0#32)) pads_S32x1024_S128x1024_64320_000 h_S_
/-- The packed weight. -/
def packedW (w : FVec Ideal S1024x6048 .f32) : FVec Ideal S2176x1024 .bf16 :=
  concatenate S2176x1024 0 [⟨S384x1024, extractStridedSlice S384x1024 ![0, 0] (rowsOf w) slices_S6048x1024_S384x1024_0_0⟩, ⟨S128x1024, amongZeros (rotary w)⟩, ⟨S128x1024, amongZeros (swapped (rotary w))⟩,
    ⟨S1536x1024, extractStridedSlice S1536x1024 ![416, 0] (rowsOf w) slices_S6048x1024_S1536x1024_416_0⟩] concatenates_S384x1024_S128x1024_S128x1024_S1536x1024_S2176x1024_d0

/-- The rotary tables, and the rotary cotangent among zeros. -/
def cosines (C : FVec Ideal S8192x16 .f32) : FVec Ideal S8192x128 .f32 :=
  concatenate S8192x128 1 [⟨S8192x64, broadcastInDim S8192x64 ![] bcast_S_S8192x64 (constant S_ .f32 0x3F800000#32)⟩, ⟨S8192x16, C⟩, ⟨S8192x16, C⟩, ⟨S8192x32, broadcastInDim S8192x32 ![] bcast_S_S8192x32 (constant S_ .f32 0x00000000#32)⟩] concatenates_S8192x64_S8192x16_S8192x16_S8192x32_S8192x128_d1
def sines (C : FVec Ideal S8192x16 .f32) : FVec Ideal S8192x128 .f32 :=
  concatenate S8192x128 1 [⟨S8192x64, broadcastInDim S8192x64 ![] bcast_S_S8192x64 (constant S_ .f32 0x00000000#32)⟩, ⟨S8192x16, Host.negf C⟩, ⟨S8192x16, C⟩, ⟨S8192x32, broadcastInDim S8192x32 ![] bcast_S_S8192x32 (constant S_ .f32 0x00000000#32)⟩] concatenates_S8192x64_S8192x16_S8192x16_S8192x32_S8192x128_d1
def padded (k : FVec Ideal S8192x32 .f32) : FVec Ideal S8192x128 .f32 :=
  pad S8192x128 ![0, 64] ![0, 32] ![0, 0] k (sitofp .f32 (constantI S_ 32 0#32)) pads_S8192x32_S8192x128_000_64320 h_S_
/-- The packed gradient. -/
def packedG (q : FVec Ideal S8192x256 .f32) (v : FVec Ideal S8192x128 .f32) (k : FVec Ideal S8192x32 .f32) (A : FVec Ideal S8192x16 .f32) : FVec Ideal S8192x640 .bf16 :=
  truncf .bf16 (concatenate S8192x640 1 [⟨S8192x256, q⟩, ⟨S8192x128, v⟩, ⟨S8192x128, mulf (padded k) (cosines (Host.cos A))⟩, ⟨S8192x128, mulf (padded k) (sines (Host.sin A))⟩] concatenates_S8192x256_S8192x128_S8192x128_S8192x128_S8192x640_d1) bitsLt_bf16_f32

theorem host_w : V m c main_v10 = packedW (m (c.tc.loc main_arg2)) := by
  unfold V V0 hostOps0 hostOps0_1 hostOps0_2 hostOps0_3 hostOps0_4 hostOps0_5 hostOps0_6
  simp only [List.flatten_cons, List.flatten_nil, List.cons_append, List.nil_append]
  after_reads_simp
  rfl

theorem host_g : V m c main_v40 = packedG (m (c.tc.loc main_arg5)) (m (c.tc.loc main_arg6)) (m (c.tc.loc main_arg7)) (angle (m (c.tc.loc main_arg3))) := by
  unfold V V0 hostOps0 hostOps0_1 hostOps0_2 hostOps0_3 hostOps0_4 hostOps0_5 hostOps0_6
  simp only [List.flatten_cons, List.flatten_nil, List.cons_append, List.nil_append]
  after_reads_simp
  rfl

theorem host_gates : V m c main_v51 = extractStridedSlice S4096x1024 ![1952, 0] (rowsOf (m (c.tc.loc main_arg2))) slices_S6048x1024_S4096x1024_1952_0 := by
  unfold V V0 hostOps0 hostOps0_1 hostOps0_2 hostOps0_3 hostOps0_4 hostOps0_5 hostOps0_6
  simp only [List.flatten_cons, List.flatten_nil, List.cons_append, List.nil_append]
  after_reads_simp
  rfl

end Cert.InprojIdeal.Mine

end
-- ==== Proof.InprojPacked.lean ====
/- The packed weight and the packed gradient of the input projection, entry by entry, and the plain ones. -/
module

public import proofs.«01_k».proof.Proof.InprojHost
public import proofs.«01_k».proof.Proof.Gen.InprojRefIdeal.Run

@[expose] public section

set_option maxRecDepth 16384
set_option maxHeartbeats 4000000

noncomputable section

namespace Cert.InprojIdeal.Mine

open Idealize.ShloMosaic Idealize.ShloMosaic.TcCoe Idealize.ShloMosaic.Tactic
open Cert.Tools Cert.InprojIdeal Cert.InprojIdeal.Gen

/-- A piece of a stack of rows, and of a row of columns. -/
theorem rows_at {α : Type} {n b p : ℕ} (xs : List ((s : Shape) × (s.Idx → α))) (h : Shape.Concatenates (xs.map (·.1)) ⟨2, ![n, b]⟩ 0)
    (k : ℕ) (hk : k < xs.length) (y : (⟨2, ![p, b]⟩ : Shape).Idx → α) (hy : xs[k] = ⟨⟨2, ![p, b]⟩, y⟩) (pre : ℕ)
    (hpre : (((xs.take k).map (·.1)).map fun s => if h : s.rank = 2 then s.size ((0 : Fin 2).cast h.symm) else 0).sum = pre)
    (r : Fin n) (i : Fin p) (e : Fin b) (hr : pre + i.val = r.val) : concatenate ⟨2, ![n, b]⟩ 0 xs h (ix2 r e) = y (ix2 i e) :=
  concatenate_apply_piece (t := ⟨2, ![n, b]⟩) 0 xs h (ix2 r e) k hk ⟨2, ![p, b]⟩ y hy rfl pre hpre (ix2 i e)
    (fun a ha => match a, ha with | ⟨0, _⟩, ha => absurd rfl ha | ⟨1, _⟩, _ => rfl) hr
theorem columns_at {α : Type} {n b p : ℕ} (xs : List ((s : Shape) × (s.Idx → α))) (h : Shape.Concatenates (xs.map (·.1)) ⟨2, ![n, b]⟩ 1)
    (k : ℕ) (hk : k < xs.length) (y : (⟨2, ![n, p]⟩ : Shape).Idx → α) (hy : xs[k] = ⟨⟨2, ![n, p]⟩, y⟩) (pre : ℕ)
    (hpre : (((xs.take k).map (·.1)).map fun s => if h : s.rank = 2 then s.size ((1 : Fin 2).cast h.symm) else 0).sum = pre)
    (r : Fin n) (i : Fin p) (e : Fin b) (hr : pre + i.val = e.val) : concatenate ⟨2, ![n, b]⟩ 1 xs h (ix2 r e) = y (ix2 r i) :=
  concatenate_apply_piece (t := ⟨2, ![n, b]⟩) 1 xs h (ix2 r e) k hk ⟨2, ![n, p]⟩ y hy rfl pre hpre (ix2 r i)
    (fun a ha => match a, ha with | ⟨1, _⟩, ha => absurd rfl ha | ⟨0, _⟩, _ => rfl) hr

theorem rowsOf_at (w : FVec Ideal S1024x6048 .f32) (k : Fin 6048) (e : Fin 1024) : rowsOf w (ix2 k e) = w (ix2 e k) := by
  unfold rowsOf
  pointwise []
theorem rotary_at (w : FVec Ideal S1024x6048 .f32) (k : Fin 32) (e : Fin 1024) : rotary w (ix2 k e) = w (ix2 e ⟨384 + k.val, by omega⟩) := by
  unfold rotary
  pointwise []
  rw [rowsOf_at]
theorem swapped_low (x : FVec Ideal S32x1024 .bf16) (i : Fin 16) (e : Fin 1024) : swapped x (ix2 ⟨i.val, by omega⟩ e) = x (ix2 ⟨16 + i.val, by omega⟩ e) := by
  unfold swapped
  refine (rows_at _ _ 0 (by show 0 < 2; decide) _ rfl 0 rfl _ i e (by dsimp only; omega)).trans ?_
  pointwise []
theorem swapped_high (x : FVec Ideal S32x1024 .bf16) (i : Fin 16) (e : Fin 1024) : swapped x (ix2 ⟨16 + i.val, by omega⟩ e) = x (ix2 ⟨i.val, by omega⟩ e) := by
  unfold swapped
  refine (rows_at _ _ 1 (by show 1 < 2; decide) _ rfl 16 rfl _ i e (by dsimp only)).trans ?_
  pointwise []
theorem amongZeros_at (x : FVec Ideal S32x1024 .bf16) (i : Fin 32) (e : Fin 1024) : amongZeros x (ix2 ⟨64 + i.val, by omega⟩ e) = x (ix2 i e) := by
  unfold amongZeros
  pointwise []

/-- The packed weight's rows that meet no zeros. -/
theorem packedW_parts (w : FVec Ideal S1024x6048 .f32) (k : Fin 384) (e : Fin 1024) : packedW w (ix2 ⟨k.val, by omega⟩ e) = w (ix2 e ⟨k.val, by omega⟩) := by
  unfold packedW
  refine (rows_at _ _ 0 (by show 0 < 4; decide) _ rfl 0 rfl _ k e (by dsimp only; omega)).trans ?_
  pointwise []
  exact rowsOf_at ..
theorem packedW_first (w : FVec Ideal S1024x6048 .f32) (i : Fin 32) (e : Fin 1024) : packedW w (ix2 ⟨448 + i.val, by omega⟩ e) = w (ix2 e ⟨384 + i.val, by omega⟩) := by
  unfold packedW
  refine (rows_at _ _ 1 (by show 1 < 4; decide) _ rfl 384 rfl _ (⟨64 + i.val, by omega⟩ : Fin 128) e (by dsimp only; omega)).trans ?_
  rw [amongZeros_at, rotary_at]
theorem packedW_second (w : FVec Ideal S1024x6048 .f32) (i : Fin 32) (e : Fin 1024) : packedW w (ix2 ⟨576 + i.val, by omega⟩ e) = swapped (rotary w) (ix2 i e) := by
  unfold packedW
  refine (rows_at _ _ 2 (by show 2 < 4; decide) _ rfl 512 rfl _ (⟨64 + i.val, by omega⟩ : Fin 128) e (by dsimp only; omega)).trans ?_
  rw [amongZeros_at]
theorem packedW_mixer (w : FVec Ideal S1024x6048 .f32) (k : Fin 1536) (e : Fin 1024) : packedW w (ix2 ⟨640 + k.val, by omega⟩ e) = w (ix2 e ⟨416 + k.val, by omega⟩) := by
  unfold packedW
  refine (rows_at _ _ 3 (by show 3 < 4; decide) _ rfl 640 rfl _ k e rfl).trans ?_
  pointwise []
  exact rowsOf_at ..
theorem packedW_448 (w : FVec Ideal S1024x6048 .f32) (i : Fin 16) (e : Fin 1024) : packedW w (ix2 ⟨448 + i.val, by omega⟩ e) = w (ix2 e ⟨384 + i.val, by omega⟩) :=
  packedW_first w ⟨i.val, by omega⟩ e
theorem packedW_464 (w : FVec Ideal S1024x6048 .f32) (i : Fin 16) (e : Fin 1024) : packedW w (ix2 ⟨464 + i.val, by omega⟩ e) = w (ix2 e ⟨400 + i.val, by omega⟩) := by
  have h := packedW_first w ⟨16 + i.val, by omega⟩ e
  simp only [← Nat.add_assoc, Nat.reduceAdd] at h
  exact h
theorem packedW_576 (w : FVec Ideal S1024x6048 .f32) (i : Fin 16) (e : Fin 1024) : packedW w (ix2 ⟨576 + i.val, by omega⟩ e) = w (ix2 e ⟨400 + i.val, by omega⟩) := by
  refine (packedW_second w ⟨i.val, by omega⟩ e).trans ?_
  rw [swapped_low, rotary_at]
  simp only [← Nat.add_assoc, Nat.reduceAdd]
theorem packedW_592 (w : FVec Ideal S1024x6048 .f32) (i : Fin 16) (e : Fin 1024) : packedW w (ix2 ⟨592 + i.val, by omega⟩ e) = w (ix2 e ⟨384 + i.val, by omega⟩) := by
  have h := packedW_second w ⟨16 + i.val, by omega⟩ e
  rw [swapped_high, rotary_at] at h
  simp only [← Nat.add_assoc, Nat.reduceAdd] at h
  exact h

/-- The rotary cotangent among zeros, times a table. -/
theorem padded_in (x : FVec Ideal S8192x32 .f32) (r : Fin 8192) (i : Fin 32) : padded x (ix2 r ⟨64 + i.val, by omega⟩) = x (ix2 r i) := by
  unfold padded
  pointwise []
theorem padded_out (x : FVec Ideal S8192x32 .f32) (r : Fin 8192) (i : Fin 128) (h : ¬(64 ≤ i.val ∧ i.val - 64 < 32)) : padded x (ix2 r i) = (0 : EReal) := by
  unfold padded
  pointwise []
  rw [dif_neg h]
  show (((0#32 : BitVec 32).toInt : ℝ) : EReal) = 0
  simp
theorem cosines_first (C : FVec Ideal S8192x16 .f32) (r : Fin 8192) (i : Fin 16) : cosines C (ix2 r ⟨64 + i.val, by omega⟩) = C (ix2 r i) := by
  unfold cosines
  exact columns_at _ _ 1 (by show 1 < 4; decide) C rfl 64 rfl r i _ rfl
theorem cosines_second (C : FVec Ideal S8192x16 .f32) (r : Fin 8192) (i : Fin 16) : cosines C (ix2 r ⟨80 + i.val, by omega⟩) = C (ix2 r i) := by
  unfold cosines
  exact columns_at _ _ 2 (by show 2 < 4; decide) C rfl 80 rfl r i _ rfl
theorem sines_first (C : FVec Ideal S8192x16 .f32) (r : Fin 8192) (i : Fin 16) : sines C (ix2 r ⟨64 + i.val, by omega⟩) = -(C (ix2 r i) : EReal) := by
  unfold sines
  exact columns_at _ _ 1 (by show 1 < 4; decide) (Host.negf C) rfl 64 rfl r i _ rfl
theorem sines_second (C : FVec Ideal S8192x16 .f32) (r : Fin 8192) (i : Fin 16) : sines C (ix2 r ⟨80 + i.val, by omega⟩) = C (ix2 r i) := by
  unfold sines
  exact columns_at _ _ 2 (by show 2 < 4; decide) C rfl 80 rfl r i _ rfl

variable (q : FVec Ideal S8192x256 .f32) (v : FVec Ideal S8192x128 .f32) (x : FVec Ideal S8192x32 .f32) (A : FVec Ideal S8192x16 .f32)

/-- The packed gradient's columns. -/
def laidG : FVec Ideal S8192x640 .f32 :=
  concatenate S8192x640 1 [⟨S8192x256, q⟩, ⟨S8192x128, v⟩, ⟨S8192x128, mulf (padded x) (cosines (Host.cos A))⟩, ⟨S8192x128, mulf (padded x) (sines (Host.sin A))⟩] concatenates_S8192x256_S8192x128_S8192x128_S8192x128_S8192x640_d1
theorem packedG_eq (i : S8192x640.Idx) : packedG q v x A i = laidG q v x A i := rfl
theorem packedG_q (r : Fin 8192) (i : Fin 256) : packedG q v x A (ix2 r ⟨i.val, by omega⟩) = q (ix2 r i) := by
  rw [packedG_eq]
  unfold laidG
  exact columns_at _ _ 0 (by show 0 < 4; decide) q rfl 0 rfl r i _ (by dsimp only; omega)
theorem packedG_v (r : Fin 8192) (i : Fin 128) : packedG q v x A (ix2 r ⟨256 + i.val, by omega⟩) = v (ix2 r i) := by
  rw [packedG_eq]
  unfold laidG
  exact columns_at _ _ 1 (by show 1 < 4; decide) v rfl 256 rfl r i _ rfl
theorem packedG_third (r : Fin 8192) (i : Fin 128) : packedG q v x A (ix2 r ⟨384 + i.val, by omega⟩) = (padded x (ix2 r i) : EReal) * cosines (Host.cos A) (ix2 r i) := by
  rw [packedG_eq]
  unfold laidG
  exact columns_at _ _ 2 (by show 2 < 4; decide) (mulf (padded x) (cosines (Host.cos A))) rfl 384 rfl r i _ rfl
theorem packedG_fourth (r : Fin 8192) (i : Fin 128) : packedG q v x A (ix2 r ⟨512 + i.val, by omega⟩) = (padded x (ix2 r i) : EReal) * sines (Host.sin A) (ix2 r i) := by
  rw [packedG_eq]
  unfold laidG
  exact columns_at _ _ 3 (by show 3 < 4; decide) (mulf (padded x) (sines (Host.sin A))) rfl 512 rfl r i _ rfl
theorem packedG_384 (r : Fin 8192) (i : Fin 64) : packedG q v x A (ix2 r ⟨384 + i.val, by omega⟩) = (0 : EReal) := by
  refine (packedG_third q v x A r ⟨i.val, by omega⟩).trans ?_
  rw [padded_out _ _ _ (by dsimp only; omega), zero_mul]
theorem packedG_512 (r : Fin 8192) (i : Fin 64) : packedG q v x A (ix2 r ⟨512 + i.val, by omega⟩) = (0 : EReal) := by
  refine (packedG_fourth q v x A r ⟨i.val, by omega⟩).trans ?_
  rw [padded_out _ _ _ (by dsimp only; omega), zero_mul]
theorem packedG_480 (r : Fin 8192) (i : Fin 32) : packedG q v x A (ix2 r ⟨480 + i.val, by omega⟩) = (0 : EReal) := by
  have h := packedG_third q v x A r ⟨96 + i.val, by omega⟩
  simp only [← Nat.add_assoc, Nat.reduceAdd] at h
  rw [h, padded_out _ _ _ (by dsimp only; omega), zero_mul]
theorem packedG_608 (r : Fin 8192) (i : Fin 32) : packedG q v x A (ix2 r ⟨608 + i.val, by omega⟩) = (0 : EReal) := by
  have h := packedG_fourth q v x A r ⟨96 + i.val, by omega⟩
  simp only [← Nat.add_assoc, Nat.reduceAdd] at h
  rw [h, padded_out _ _ _ (by dsimp only; omega), zero_mul]
theorem padded_first (r : Fin 8192) (i : Fin 16) : padded x (ix2 r ⟨64 + i.val, by omega⟩) = x (ix2 r ⟨i.val, by omega⟩) := padded_in x r ⟨i.val, by omega⟩
theorem padded_second (r : Fin 8192) (i : Fin 16) : padded x (ix2 r ⟨80 + i.val, by omega⟩) = x (ix2 r ⟨16 + i.val, by omega⟩) := by
  have h := padded_in x r ⟨16 + i.val, by omega⟩
  simp only [← Nat.add_assoc, Nat.reduceAdd] at h
  exact h
theorem packedG_448 (r : Fin 8192) (i : Fin 16) : packedG q v x A (ix2 r ⟨448 + i.val, by omega⟩) = (x (ix2 r ⟨i.val, by omega⟩) : EReal) * Ideal.cos (A (ix2 r i)) := by
  have h := packedG_third q v x A r ⟨64 + i.val, by omega⟩
  rw [padded_first, cosines_first] at h
  simp only [← Nat.add_assoc, Nat.reduceAdd] at h
  exact h
theorem packedG_464 (r : Fin 8192) (i : Fin 16) : packedG q v x A (ix2 r ⟨464 + i.val, by omega⟩) = (x (ix2 r ⟨16 + i.val, by omega⟩) : EReal) * Ideal.cos (A (ix2 r i)) := by
  have h := packedG_third q v x A r ⟨80 + i.val, by omega⟩
  rw [padded_second, cosines_second] at h
  simp only [← Nat.add_assoc, Nat.reduceAdd] at h
  exact h
theorem packedG_576 (r : Fin 8192) (i : Fin 16) : packedG q v x A (ix2 r ⟨576 + i.val, by omega⟩) = (x (ix2 r ⟨i.val, by omega⟩) : EReal) * -Ideal.sin (A (ix2 r i)) := by
  have h := packedG_fourth q v x A r ⟨64 + i.val, by omega⟩
  rw [padded_first, sines_first] at h
  simp only [← Nat.add_assoc, Nat.reduceAdd] at h
  exact h
theorem packedG_592 (r : Fin 8192) (i : Fin 16) : packedG q v x A (ix2 r ⟨592 + i.val, by omega⟩) = (x (ix2 r ⟨16 + i.val, by omega⟩) : EReal) * Ideal.sin (A (ix2 r i)) := by
  have h := packedG_fourth q v x A r ⟨80 + i.val, by omega⟩
  rw [padded_second, sines_second] at h
  simp only [← Nat.add_assoc, Nat.reduceAdd] at h
  exact h

end Cert.InprojIdeal.Mine

namespace Cert.InprojRefIdeal.Mine

open Idealize.ShloMosaic Idealize.ShloMosaic.TcCoe Idealize.ShloMosaic.Tactic
open Cert.Tools Cert.InprojRefIdeal Cert.InprojRefIdeal.Gen
open Cert.InprojIdeal.Mine (columns_at)

/-- The gradient of the projection's columns, the rotation taken back in its two halves. -/
def columns (q : FVec Ideal S8192x256 .f32) (v : FVec Ideal S8192x128 .f32) (x : FVec Ideal S8192x32 .f32) (A : FVec Ideal S8192x16 .f32) (p : FVec Ideal S8192x1536 .f32) (g : FVec Ideal S8192x4096 .f32) : FVec Ideal S8192x6048 .f32 :=
  concatenate S8192x6048 1 [⟨S8192x256, q⟩, ⟨S8192x128, v⟩, ⟨S8192x32, concatenate S8192x32 1
    [⟨S8192x16, addf (mulf (extractStridedSlice S8192x16 ![0, 16] x slices_S8192x32_S8192x16_0_16) (Host.sin A)) (mulf (extractStridedSlice S8192x16 ![0, 0] x slices_S8192x32_S8192x16_0_0) (Host.cos A))⟩,
     ⟨S8192x16, addf (mulf (extractStridedSlice S8192x16 ![0, 16] x slices_S8192x32_S8192x16_0_16) (Host.cos A)) (mulf (Host.negf (extractStridedSlice S8192x16 ![0, 0] x slices_S8192x32_S8192x16_0_0)) (Host.sin A))⟩]
    concatenates_S8192x16_S8192x16_S8192x32_d1⟩, ⟨S8192x1536, p⟩, ⟨S8192x4096, g⟩] concatenates_S8192x256_S8192x128_S8192x32_S8192x1536_S8192x4096_S8192x6048_d1

variable (q : FVec Ideal S8192x256 .f32) (v : FVec Ideal S8192x128 .f32) (x : FVec Ideal S8192x32 .f32) (A : FVec Ideal S8192x16 .f32) (p : FVec Ideal S8192x1536 .f32) (g : FVec Ideal S8192x4096 .f32)

theorem columns_q (r : Fin 8192) (i : Fin 256) : columns q v x A p g (ix2 r ⟨i.val, by omega⟩) = q (ix2 r i) := by
  unfold columns
  exact columns_at _ _ 0 (by show 0 < 5; decide) q rfl 0 rfl r i _ (by dsimp only; omega)
theorem columns_v (r : Fin 8192) (i : Fin 128) : columns q v x A p g (ix2 r ⟨256 + i.val, by omega⟩) = v (ix2 r i) := by
  unfold columns
  exact columns_at _ _ 1 (by show 1 < 5; decide) v rfl 256 rfl r i _ rfl
theorem columns_384 (r : Fin 8192) (i : Fin 16) : columns q v x A p g (ix2 r ⟨384 + i.val, by omega⟩) = (x (ix2 r ⟨16 + i.val, by omega⟩) : EReal) * Ideal.sin (A (ix2 r i)) + (x (ix2 r ⟨i.val, by omega⟩) : EReal) * Ideal.cos (A (ix2 r i)) := by
  unfold columns
  refine (columns_at _ _ 2 (by show 2 < 5; decide) _ rfl 384 rfl r (⟨i.val, by omega⟩ : Fin 32) _ rfl).trans ?_
  refine (columns_at _ _ 0 (by show 0 < 2; decide) _ rfl 0 rfl r i _ (by dsimp only; omega)).trans ?_
  pointwise []
theorem columns_400 (r : Fin 8192) (i : Fin 16) : columns q v x A p g (ix2 r ⟨400 + i.val, by omega⟩) = (x (ix2 r ⟨16 + i.val, by omega⟩) : EReal) * Ideal.cos (A (ix2 r i)) + -(x (ix2 r ⟨i.val, by omega⟩) : EReal) * Ideal.sin (A (ix2 r i)) := by
  unfold columns
  refine (columns_at _ _ 2 (by show 2 < 5; decide) _ rfl 384 rfl r (⟨16 + i.val, by omega⟩ : Fin 32) _ (by dsimp only; omega)).trans ?_
  refine (columns_at _ _ 1 (by show 1 < 2; decide) _ rfl 16 rfl r i _ rfl).trans ?_
  pointwise []
theorem columns_p (r : Fin 8192) (i : Fin 1536) : columns q v x A p g (ix2 r ⟨416 + i.val, by omega⟩) = p (ix2 r i) := by
  unfold columns
  exact columns_at _ _ 3 (by show 3 < 5; decide) p rfl 416 rfl r i _ rfl
theorem columns_g (r : Fin 8192) (i : Fin 4096) : columns q v x A p g (ix2 r ⟨1952 + i.val, by omega⟩) = g (ix2 r i) := by
  unfold columns
  exact columns_at _ _ 4 (by show 4 < 5; decide) g rfl 1952 rfl r i _ rfl

end Cert.InprojRefIdeal.Mine

end
-- ==== Proof.InprojBlocks.lean ====
/- What the input projection's backward call reads at a grid point: entries of the arguments and of the packed arrays. -/
module

public import proofs.«01_k».proof.Proof.InprojPacked

@[expose] public section

set_option maxRecDepth 16384
set_option maxHeartbeats 4000000

noncomputable section

namespace Cert.InprojIdeal.Mine

open Idealize.ShloMosaic Idealize.ShloMosaic.TcCoe Idealize.ShloMosaic.Tactic
open Cert.Tools Cert.InprojIdeal Cert.InprojIdeal.Gen

theorem index : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ win0_11.index t = ![t.val, 0] ∧ win0_12.index t = ![0, 0] ∧ win0_13.index t = ![0, 0] ∧ win0_14.index t = ![0, 0] := by
  decide +kernel

theorem row_lt (t : Fin cfg0.N) (r : Fin 512) : 512 * t.val + r.val < 8192 := by
  have := t.isLt; have h : cfg0.N = 16 := N_0; omega
/-- Row `r` of tile `t`, among all rows; the tile a row lies in, and its place there. -/
def row (t : Fin cfg0.N) (r : Fin 512) : Fin 8192 := ⟨512 * t.val + r.val, row_lt t r⟩
theorem tile_lt (r : Fin 8192) : r.val / 512 < cfg0.N := by
  have := r.isLt; have h : cfg0.N = 16 := N_0; omega
def tile (r : Fin 8192) : Fin cfg0.N := ⟨r.val / 512, tile_lt r⟩
def place (r : Fin 8192) : Fin 512 := ⟨r.val % 512, Nat.mod_lt _ (by decide)⟩
theorem row_tile (r : Fin 8192) : row (tile r) (place r) = r :=
  Fin.ext (by show 512 * (r.val / 512) + r.val % 512 = r.val; omega)
theorem last_lt : 15 < cfg0.N := lt_of_lt_of_eq (by decide) N_0.symm

variable (m : (ℓ : Loc nD τ sig) → Buf (Elt Ideal) ℓ) (c : Dev nD)

/-- The arguments. -/
abbrev arg0 : FVec Ideal S8192x1024 .f32 := m ((c.tc : Thread nD τ).loc main_arg0)
abbrev arg1 : FVec Ideal S1024 .f32 := m ((c.tc : Thread nD τ).loc main_arg1)
abbrev arg2 : FVec Ideal S1024x6048 .f32 := m ((c.tc : Thread nD τ).loc main_arg2)
abbrev arg3 : Vec Ideal S8192 .i32 := m ((c.tc : Thread nD τ).loc main_arg3)
abbrev arg4 : FVec Ideal S8192x1024 .f32 := m ((c.tc : Thread nD τ).loc main_arg4)
abbrev arg5 : FVec Ideal S8192x256 .f32 := m ((c.tc : Thread nD τ).loc main_arg5)
abbrev arg6 : FVec Ideal S8192x128 .f32 := m ((c.tc : Thread nD τ).loc main_arg6)
abbrev arg7 : FVec Ideal S8192x32 .f32 := m ((c.tc : Thread nD τ).loc main_arg7)
abbrev arg8 : FVec Ideal S8192x1536 .f32 := m ((c.tc : Thread nD τ).loc main_arg8)
abbrev arg9 : FVec Ideal S8192x4096 .f32 := m ((c.tc : Thread nD τ).loc main_arg9)

theorem host_gain : V m c main_v49 = (broadcastInDim S1x1024 ![1] bcast_S1024_S1x1024_1 (arg1 m c) : FVec Ideal S1x1024 .f32) := by
  unfold V V0 hostOps0 hostOps0_1 hostOps0_2 hostOps0_3 hostOps0_4 hostOps0_5 hostOps0_6
  simp only [List.flatten_cons, List.flatten_nil, List.cons_append, List.nil_append]
  after_reads_simp
theorem host_mixer : V m c main_v50 = (truncf .bf16 (arg8 m c) bitsLt_bf16_f32 : FVec Ideal S8192x1536 .bf16) := by
  unfold V V0 hostOps0 hostOps0_1 hostOps0_2 hostOps0_3 hostOps0_4 hostOps0_5 hostOps0_6
  simp only [List.flatten_cons, List.flatten_nil, List.cons_append, List.nil_append]
  after_reads_simp
theorem host_part0 : V m c main_v42 = (truncf .bf16 (extractStridedSlice S8192x1024 ![0, 0] (arg9 m c) slices_S8192x4096_S8192x1024_0_0) bitsLt_bf16_f32 : FVec Ideal S8192x1024 .bf16) := by
  unfold V V0 hostOps0 hostOps0_1 hostOps0_2 hostOps0_3 hostOps0_4 hostOps0_5 hostOps0_6
  simp only [List.flatten_cons, List.flatten_nil, List.cons_append, List.nil_append]
  after_reads_simp

theorem host_part1 : V m c main_v44 = (truncf .bf16 (extractStridedSlice S8192x1024 ![0, 1024] (arg9 m c) slices_S8192x4096_S8192x1024_0_1024) bitsLt_bf16_f32 : FVec Ideal S8192x1024 .bf16) := by
  unfold V V0 hostOps0 hostOps0_1 hostOps0_2 hostOps0_3 hostOps0_4 hostOps0_5 hostOps0_6
  simp only [List.flatten_cons, List.flatten_nil, List.cons_append, List.nil_append]
  after_reads_simp

theorem host_part2 : V m c main_v46 = (truncf .bf16 (extractStridedSlice S8192x1024 ![0, 2048] (arg9 m c) slices_S8192x4096_S8192x1024_0_2048) bitsLt_bf16_f32 : FVec Ideal S8192x1024 .bf16) := by
  unfold V V0 hostOps0 hostOps0_1 hostOps0_2 hostOps0_3 hostOps0_4 hostOps0_5 hostOps0_6
  simp only [List.flatten_cons, List.flatten_nil, List.cons_append, List.nil_append]
  after_reads_simp

theorem host_part3 : V m c main_v48 = (truncf .bf16 (extractStridedSlice S8192x1024 ![0, 3072] (arg9 m c) slices_S8192x4096_S8192x1024_0_3072) bitsLt_bf16_f32 : FVec Ideal S8192x1024 .bf16) := by
  unfold V V0 hostOps0 hostOps0_1 hostOps0_2 hostOps0_3 hostOps0_4 hostOps0_5 hostOps0_6
  simp only [List.flatten_cons, List.flatten_nil, List.cons_append, List.nil_append]
  after_reads_simp

/-- The blocks. -/
theorem blk0 (t : Fin cfg0.N) (r : Fin 512) (e : Fin 1024) : (iblk m c 0 t : Vec Ideal S512x1024 .f32) (ix2 r e) = arg0 m c (ix2 (row t r) e) := by
  refine Eq.trans ?_ (congrFun (V_main_arg0 m c) (ix2 (row t r) e))
  unfold iblk row
  rw [View.read_apply]
  show V m c main_arg0 _ = V m c main_arg0 _
  congr 1
  blk_ext [index t]
theorem blk1 (t : Fin cfg0.N) (e : Fin 1024) : (iblk m c 1 t : Vec Ideal S1x1024 .f32) (ix2 0 e) = arg1 m c (ix1 e) := by
  refine Eq.trans ?_ ((congrFun (host_gain m c) (ix2 0 e)).trans (by pointwise []))
  unfold iblk
  rw [View.read_apply]
  show V m c main_v49 _ = V m c main_v49 _
  congr 1
  blk_ext [index t]
theorem blk2 (t : Fin cfg0.N) (r : Fin 512) (e : Fin 1024) : (iblk m c 2 t : Vec Ideal S512x1024 .f32) (ix2 r e) = arg4 m c (ix2 (row t r) e) := by
  refine Eq.trans ?_ (congrFun (V_main_arg4 m c) (ix2 (row t r) e))
  unfold iblk row
  rw [View.read_apply]
  show V m c main_arg4 _ = V m c main_arg4 _
  congr 1
  blk_ext [index t]
theorem blk3 (t : Fin cfg0.N) (r : Fin 512) (k : Fin 640) : (iblk m c 3 t : Vec Ideal S512x640 .bf16) (ix2 r k) = packedG (arg5 m c) (arg6 m c) (arg7 m c) (angle (arg3 m c)) (ix2 (row t r) k) := by
  refine Eq.trans ?_ (congrFun (host_g m c) (ix2 (row t r) k))
  unfold iblk row
  rw [View.read_apply]
  show V m c main_v40 _ = V m c main_v40 _
  congr 1
  blk_ext [index t]
theorem blk4 (t : Fin cfg0.N) (r : Fin 512) (k : Fin 1536) : (iblk m c 4 t : Vec Ideal S512x1536 .bf16) (ix2 r k) = arg8 m c (ix2 (row t r) k) := by
  refine Eq.trans ?_ ((congrFun (host_mixer m c) (ix2 (row t r) k)).trans rfl)
  unfold iblk row
  rw [View.read_apply]
  show V m c main_v50 _ = V m c main_v50 _
  congr 1
  blk_ext [index t]
theorem blk5 (t : Fin cfg0.N) (r : Fin 512) (k : Fin 1024) : (iblk m c 5 t : Vec Ideal S512x1024 .bf16) (ix2 r k) = arg9 m c (ix2 (row t r) ⟨k.val, by omega⟩) := by
  refine Eq.trans ?_ ((congrFun (host_part0 m c) (ix2 (row t r) k)).trans (by pointwise []))
  unfold iblk row
  rw [View.read_apply]
  show V m c main_v42 _ = V m c main_v42 _
  congr 1
  blk_ext [index t]
theorem blk6 (t : Fin cfg0.N) (r : Fin 512) (k : Fin 1024) : (iblk m c 6 t : Vec Ideal S512x1024 .bf16) (ix2 r k) = arg9 m c (ix2 (row t r) ⟨1024 + k.val, by omega⟩) := by
  refine Eq.trans ?_ ((congrFun (host_part1 m c) (ix2 (row t r) k)).trans (by pointwise []))
  unfold iblk row
  rw [View.read_apply]
  show V m c main_v44 _ = V m c main_v44 _
  congr 1
  blk_ext [index t]
theorem blk7 (t : Fin cfg0.N) (r : Fin 512) (k : Fin 1024) : (iblk m c 7 t : Vec Ideal S512x1024 .bf16) (ix2 r k) = arg9 m c (ix2 (row t r) ⟨2048 + k.val, by omega⟩) := by
  refine Eq.trans ?_ ((congrFun (host_part2 m c) (ix2 (row t r) k)).trans (by pointwise []))
  unfold iblk row
  rw [View.read_apply]
  show V m c main_v46 _ = V m c main_v46 _
  congr 1
  blk_ext [index t]
theorem blk8 (t : Fin cfg0.N) (r : Fin 512) (k : Fin 1024) : (iblk m c 8 t : Vec Ideal S512x1024 .bf16) (ix2 r k) = arg9 m c (ix2 (row t r) ⟨3072 + k.val, by omega⟩) := by
  refine Eq.trans ?_ ((congrFun (host_part3 m c) (ix2 (row t r) k)).trans (by pointwise []))
  unfold iblk row
  rw [View.read_apply]
  show V m c main_v48 _ = V m c main_v48 _
  congr 1
  blk_ext [index t]
theorem blk9 (t : Fin cfg0.N) (k : Fin 2176) (e : Fin 1024) : (iblk m c 9 t : Vec Ideal S2176x1024 .bf16) (ix2 k e) = packedW (arg2 m c) (ix2 k e) := by
  refine Eq.trans ?_ (congrFun (host_w m c) (ix2 k e))
  unfold iblk
  rw [View.read_apply]
  show V m c main_v10 _ = V m c main_v10 _
  congr 1
  blk_ext [index t]
theorem blk10 (t : Fin cfg0.N) (k : Fin 4096) (e : Fin 1024) : (iblk m c 10 t : Vec Ideal S4096x1024 .bf16) (ix2 k e) = arg2 m c (ix2 e ⟨1952 + k.val, by omega⟩) := by
  refine Eq.trans ?_ ((congrFun (host_gates m c) (ix2 k e)).trans (by pointwise []; exact rowsOf_at ..))
  unfold iblk
  rw [View.read_apply]
  show V m c main_v51 _ = V m c main_v51 _
  congr 1
  blk_ext [index t]

end Cert.InprojIdeal.Mine

end
-- ==== Proof.InprojMath.lean ====
/- With real rotary lanes the packed products are the plain ones. -/
module

public import proofs.«01_k».proof.Proof.InprojPacked

@[expose] public section

set_option maxRecDepth 16384
set_option maxHeartbeats 4000000

noncomputable section

namespace Cert.InprojIdeal.Mine

open Idealize.ShloMosaic Idealize.ShloMosaic.TcCoe Idealize.ShloMosaic.Tactic
open Cert.Tools Cert.InprojIdeal Cert.InprojIdeal.Gen
open Cert.InprojRefIdeal.Mine

theorem word_10000 : Ideal.ofBits .f32 0x461C4000#32 = ((10000 : ℝ) : EReal) := by
  simp [Ideal.ofBits, Ideal.ieee, -EReal.coe_mul]; norm_num
theorem word_32 : Ideal.ofBits .f32 0x42000000#32 = ((32 : ℝ) : EReal) := by
  simp [Ideal.ofBits, Ideal.ieee, -EReal.coe_mul]; norm_num

/-- The angles are real: positions are whole numbers. -/
theorem angle_real (p : Vec Ideal S8192 .i32) (r : Fin 8192) (i : Fin 16) : IsReal (angle p (ix2 r i)) := by
  unfold angle freq
  pointwise []
  rw [word_10000, word_32, word_two]
  refine IsReal.mul ⟨_, rfl⟩ (IsReal.pow ⟨_, rfl⟩ (IsReal.div (by norm_num) (IsReal.neg (IsReal.mul ⟨_, rfl⟩ ⟨_, rfl⟩))))

variable (q : FVec Ideal S8192x256 .f32) (v : FVec Ideal S8192x128 .f32) (x : FVec Ideal S8192x32 .f32) (A : FVec Ideal S8192x16 .f32) (p : FVec Ideal S8192x1536 .f32) (g : FVec Ideal S8192x4096 .f32)
variable (w : FVec Ideal S1024x6048 .f32)

theorem packedW_q (i : Fin 256) (e : Fin 1024) : packedW w (ix2 ⟨i.val, by omega⟩ e) = w (ix2 e ⟨i.val, by omega⟩) := packedW_parts w ⟨i.val, by omega⟩ e
theorem packedW_v (i : Fin 128) (e : Fin 1024) : packedW w (ix2 ⟨256 + i.val, by omega⟩ e) = w (ix2 e ⟨256 + i.val, by omega⟩) := packedW_parts w ⟨256 + i.val, by omega⟩ e
theorem columns_1952 (r : Fin 8192) (i : Fin 1024) : columns q v x A p g (ix2 r ⟨1952 + i.val, by omega⟩) = g (ix2 r ⟨i.val, by omega⟩) := columns_g q v x A p g r ⟨i.val, by omega⟩
theorem columns_2976 (r : Fin 8192) (i : Fin 1024) : columns q v x A p g (ix2 r ⟨2976 + i.val, by omega⟩) = g (ix2 r ⟨1024 + i.val, by omega⟩) := by
  have h := columns_g q v x A p g r ⟨1024 + i.val, by omega⟩
  simp only [← Nat.add_assoc, Nat.reduceAdd] at h
  exact h
theorem columns_4000 (r : Fin 8192) (i : Fin 1024) : columns q v x A p g (ix2 r ⟨4000 + i.val, by omega⟩) = g (ix2 r ⟨2048 + i.val, by omega⟩) := by
  have h := columns_g q v x A p g r ⟨2048 + i.val, by omega⟩
  simp only [← Nat.add_assoc, Nat.reduceAdd] at h
  exact h
theorem columns_5024 (r : Fin 8192) (i : Fin 1024) : columns q v x A p g (ix2 r ⟨5024 + i.val, by omega⟩) = g (ix2 r ⟨3072 + i.val, by omega⟩) := by
  have h := columns_g q v x A p g r ⟨3072 + i.val, by omega⟩
  simp only [← Nat.add_assoc, Nat.reduceAdd] at h
  exact h

/-- The cotangent of the norm's result: the kernel's sum of products, -/
def packedSum (r : Fin 8192) (e : Fin 1024) : EReal :=
  (∑ k : Fin 640, (packedG q v x A (ix2 r k) : EReal) * packedW w (ix2 ⟨k.val, by omega⟩ e)) + (∑ k : Fin 1536, (p (ix2 r k) : EReal) * packedW w (ix2 ⟨640 + k.val, by omega⟩ e))
    + (∑ k : Fin 1024, (g (ix2 r ⟨k.val, by omega⟩) : EReal) * w (ix2 e ⟨1952 + k.val, by omega⟩)) + (∑ k : Fin 1024, (g (ix2 r ⟨1024 + k.val, by omega⟩) : EReal) * w (ix2 e ⟨2976 + k.val, by omega⟩))
    + (∑ k : Fin 1024, (g (ix2 r ⟨2048 + k.val, by omega⟩) : EReal) * w (ix2 e ⟨4000 + k.val, by omega⟩)) + ∑ k : Fin 1024, (g (ix2 r ⟨3072 + k.val, by omega⟩) : EReal) * w (ix2 e ⟨5024 + k.val, by omega⟩)

/-- and the one product it stands for. -/
def plainSum (r : Fin 8192) (e : Fin 1024) : EReal := ∑ k : Fin 6048, (columns q v x A p g (ix2 r k) : EReal) * w (ix2 e k)

theorem packedSum_eq (r : Fin 8192) (e : Fin 1024) (hx : ∀ i, IsReal (x (ix2 r i))) (hA : ∀ i, IsReal (A (ix2 r i))) (hw : ∀ k, IsReal (w (ix2 e k))) :
    packedSum q v x A p g w r e = plainSum q v x A p g w r e := by
  have e1 : ∀ i : Fin 16, ((x (ix2 r ⟨16 + i.val, by omega⟩) : EReal) * Ideal.sin (A (ix2 r i)) + (x (ix2 r ⟨i.val, by omega⟩) : EReal) * Ideal.cos (A (ix2 r i))) * (w (ix2 e ⟨384 + i.val, by omega⟩) : EReal)
      = (x (ix2 r ⟨16 + i.val, by omega⟩) : EReal) * Ideal.sin (A (ix2 r i)) * (w (ix2 e ⟨384 + i.val, by omega⟩) : EReal) + (x (ix2 r ⟨i.val, by omega⟩) : EReal) * Ideal.cos (A (ix2 r i)) * (w (ix2 e ⟨384 + i.val, by omega⟩) : EReal) :=
    fun i => real_add_mul ((hx _).mul (hA _).sin) ((hx _).mul (hA _).cos) (hw _)
  have e2 : ∀ i : Fin 16, ((x (ix2 r ⟨16 + i.val, by omega⟩) : EReal) * Ideal.cos (A (ix2 r i)) + -(x (ix2 r ⟨i.val, by omega⟩) : EReal) * Ideal.sin (A (ix2 r i))) * (w (ix2 e ⟨400 + i.val, by omega⟩) : EReal)
      = (x (ix2 r ⟨16 + i.val, by omega⟩) : EReal) * Ideal.cos (A (ix2 r i)) * (w (ix2 e ⟨400 + i.val, by omega⟩) : EReal) + (x (ix2 r ⟨i.val, by omega⟩) : EReal) * -Ideal.sin (A (ix2 r i)) * (w (ix2 e ⟨400 + i.val, by omega⟩) : EReal) :=
    fun i => (real_add_mul ((hx _).mul (hA _).cos) ((hx _).neg.mul (hA _).sin) (hw _)).trans (by rw [neg_mul, mul_neg])
  unfold packedSum plainSum
  rw [sum_packed, sum_columns]
  simp only [packedG_q, packedG_v, packedG_384, packedG_448, packedG_464, packedG_480, packedG_512, packedG_576, packedG_592, packedG_608,
    packedW_q, packedW_v, packedW_448, packedW_464, packedW_576, packedW_592, packedW_mixer, zero_mul, Finset.sum_const_zero, add_zero,
    columns_q, columns_v, columns_384, columns_400, columns_p, columns_1952, columns_2976, columns_4000, columns_5024, e1, e2, Finset.sum_add_distrib]
  abel

/-- The gradient of the rotary rows of the weight: what two packed rows hold is what one column's sum gives. -/
theorem rows_first (h : Fin 8192 → EReal) (i : Fin 16) (hx : ∀ r k, IsReal (x (ix2 r k))) (hA : ∀ r, IsReal (A (ix2 r i))) (hh : ∀ r, IsReal (h r)) :
    (∑ r, (packedG q v x A (ix2 r ⟨448 + i.val, by omega⟩) : EReal) * h r) + (∑ r, (packedG q v x A (ix2 r ⟨592 + i.val, by omega⟩) : EReal) * h r)
      = ∑ r, (columns q v x A p g (ix2 r ⟨384 + i.val, by omega⟩) : EReal) * h r := by
  rw [← Finset.sum_add_distrib]
  refine Finset.sum_congr rfl fun r _ => ?_
  rw [packedG_448, packedG_592, columns_384]
  exact (add_comm _ _).trans (real_add_mul ((hx _ _).mul (hA _).sin) ((hx _ _).mul (hA _).cos) (hh _)).symm
theorem rows_second (h : Fin 8192 → EReal) (i : Fin 16) (hx : ∀ r k, IsReal (x (ix2 r k))) (hA : ∀ r, IsReal (A (ix2 r i))) (hh : ∀ r, IsReal (h r)) :
    (∑ r, (packedG q v x A (ix2 r ⟨464 + i.val, by omega⟩) : EReal) * h r) + (∑ r, (packedG q v x A (ix2 r ⟨576 + i.val, by omega⟩) : EReal) * h r)
      = ∑ r, (columns q v x A p g (ix2 r ⟨400 + i.val, by omega⟩) : EReal) * h r := by
  rw [← Finset.sum_add_distrib]
  refine Finset.sum_congr rfl fun r _ => ?_
  rw [packedG_464, packedG_576, columns_400]
  refine Eq.trans ?_ (real_add_mul ((hx _ _).mul (hA _).cos) ((hx _ _).neg.mul (hA _).sin) (hh _)).symm
  rw [neg_mul, mul_neg]

end Cert.InprojIdeal.Mine

end
-- ==== Proof.InprojRef.lean ====
/- The reference's three gradients of the input projection, entry by entry. -/
module

public import proofs.«01_k».proof.Proof.InprojMath

@[expose] public section

set_option maxRecDepth 16384
set_option maxHeartbeats 4000000

noncomputable section

namespace Cert.InprojRefIdeal.Mine

open Idealize.ShloMosaic Idealize.ShloMosaic.TcCoe Idealize.ShloMosaic.Tactic
open Cert.Tools Cert.InprojRefIdeal Cert.InprojRefIdeal.Gen
open Cert.InprojIdeal.Mine (plainSum angle)

/-- The reference's columns, under their name. -/
theorem columns_fold (q : FVec Ideal S8192x256 .f32) (v : FVec Ideal S8192x128 .f32) (x : FVec Ideal S8192x32 .f32) (A : FVec Ideal S8192x16 .f32) (p : FVec Ideal S8192x1536 .f32) (g : FVec Ideal S8192x4096 .f32) :
  concatenate S8192x6048 1 [⟨S8192x256, q⟩, ⟨S8192x128, v⟩, ⟨S8192x32, concatenate S8192x32 1
    [⟨S8192x16, addf (mulf (extractStridedSlice S8192x16 ![0, 16] x slices_S8192x32_S8192x16_0_16) (Host.sin A)) (mulf (extractStridedSlice S8192x16 ![0, 0] x slices_S8192x32_S8192x16_0_0) (Host.cos A))⟩,
     ⟨S8192x16, addf (mulf (extractStridedSlice S8192x16 ![0, 16] x slices_S8192x32_S8192x16_0_16) (Host.cos A)) (mulf (Host.negf (extractStridedSlice S8192x16 ![0, 0] x slices_S8192x32_S8192x16_0_0)) (Host.sin A))⟩]
    concatenates_S8192x16_S8192x16_S8192x32_d1⟩, ⟨S8192x1536, p⟩, ⟨S8192x4096, g⟩] concatenates_S8192x256_S8192x128_S8192x32_S8192x1536_S8192x4096_S8192x6048_d1 = columns q v x A p g := rfl

variable (m : (ℓ : Loc nD τ sig) → Buf (Elt Ideal) ℓ) (c : Dev nD)

/-- The arguments. -/
abbrev arg0 : FVec Ideal S8192x1024 .f32 := m ((c.tc : Thread nD τ).loc main_arg0)
abbrev arg1 : FVec Ideal S1024 .f32 := m ((c.tc : Thread nD τ).loc main_arg1)
abbrev arg2 : FVec Ideal S1024x6048 .f32 := m ((c.tc : Thread nD τ).loc main_arg2)
abbrev arg3 : Vec Ideal S8192 .i32 := m ((c.tc : Thread nD τ).loc main_arg3)
abbrev arg4 : FVec Ideal S8192x1024 .f32 := m ((c.tc : Thread nD τ).loc main_arg4)
abbrev arg5 : FVec Ideal S8192x256 .f32 := m ((c.tc : Thread nD τ).loc main_arg5)
abbrev arg6 : FVec Ideal S8192x128 .f32 := m ((c.tc : Thread nD τ).loc main_arg6)
abbrev arg7 : FVec Ideal S8192x32 .f32 := m ((c.tc : Thread nD τ).loc main_arg7)
abbrev arg8 : FVec Ideal S8192x1536 .f32 := m ((c.tc : Thread nD τ).loc main_arg8)
abbrev arg9 : FVec Ideal S8192x4096 .f32 := m ((c.tc : Thread nD τ).loc main_arg9)

/-- A row of the stream and the gain, as numbers. -/
def line (X : FVec Ideal S8192x1024 .f32) (r : Fin 8192) (e : Fin 1024) : EReal := X (ix2 r e)
def gain (G : FVec Ideal S1024 .f32) (e : Fin 1024) : EReal := G (ix1 e)

/-- The three results in closed form. -/
def streamGrad (X : FVec Ideal S8192x1024 .f32) (G : FVec Ideal S1024 .f32) (D : FVec Ideal S8192x1024 .f32) (s : Fin 8192 → Fin 1024 → EReal) (r : Fin 8192) (e : Fin 1024) : EReal :=
  (D (ix2 r e) : EReal) + normBwd w1024 (line X r) (s r) (gain G) e
def gainGrad (X : FVec Ideal S8192x1024 .f32) (s : Fin 8192 → Fin 1024 → EReal) (e : Fin 1024) : EReal :=
  ∑ r, s r e * (line X r e * rms w1024 (line X r))
def normed (X : FVec Ideal S8192x1024 .f32) (G : FVec Ideal S1024 .f32) (e : Fin 1024) (r : Fin 8192) : EReal :=
  line X r e * rms w1024 (line X r) * gain G e

theorem result0 (r : Fin 8192) (e : Fin 1024) : Value.res_main_v83 m c (ix2 r e)
    = streamGrad (arg0 m c) (arg1 m c) (arg4 m c) (plainSum (arg5 m c) (arg6 m c) (arg7 m c) (angle (arg3 m c)) (arg8 m c) (arg9 m c) (arg2 m c)) r e := by
  unfold Value.res_main_v83
  simp only [columns_fold]
  pointwise []
  simp only [Fin.sum_univ_one]
  refine (add_assoc (G := EReal) _ _ _).trans ((add_assoc (G := EReal) _ _ _).trans ?_)
  refine congrArg ((arg4 m c (ix2 r e) : EReal) + ·) ((add_assoc (G := EReal) _ _ _).symm.trans ?_)
  exact norm_vjp_1024 (line (arg0 m c) r) (plainSum (arg5 m c) (arg6 m c) (arg7 m c) (angle (arg3 m c)) (arg8 m c) (arg9 m c) (arg2 m c) r) (gain (arg1 m c)) e
theorem result1 (e : Fin 1024) : Value.res_main_v68 m c (ix1 e)
    = gainGrad (arg0 m c) (plainSum (arg5 m c) (arg6 m c) (arg7 m c) (angle (arg3 m c)) (arg8 m c) (arg9 m c) (arg2 m c)) e := by
  unfold Value.res_main_v68
  simp only [columns_fold]
  pointwise []
  simp only [Fin.sum_univ_one]
  exact Finset.sum_congr (M := EReal) rfl fun r _ => mul_comm (G := EReal) _ _
theorem result2 (k : Fin 1952) (e : Fin 1024) : Value.res_main_v86 m c (ix2 k e)
    = ∑ r : Fin 8192, (columns (arg5 m c) (arg6 m c) (arg7 m c) (angle (arg3 m c)) (arg8 m c) (arg9 m c) (ix2 r ⟨k.val, by omega⟩) : EReal) * normed (arg0 m c) (arg1 m c) e r := by
  unfold Value.res_main_v86
  simp only [columns_fold]
  pointwise []
  rfl

end Cert.InprojRefIdeal.Mine

end
-- ==== Proof.InprojValue.lean ====
/- The input projection's backward call over the extended reals: its four arrays as closed forms of the arguments. -/
module

public import proofs.«01_k».proof.Proof.InprojKernel
public import proofs.«01_k».proof.Proof.InprojBlocks
public import proofs.«01_k».proof.Proof.InprojMath
public import proofs.«01_k».proof.Proof.InprojRef
public import Idealize.ShloMosaic.Lib.Claim
public import Idealize.ShloMosaic.Lib.StableHlo.ReadAt
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.InprojIdeal.Mine

open Cert.Tools Cert.InprojIdeal Cert.InprojIdeal.Gen
open Cert.InprojRefIdeal.Mine (line gain streamGrad gainGrad normed)

variable (m : (ℓ : Loc nD τ sig) → Buf (Elt Ideal) ℓ) (c : Dev nD)

/-- The packed columns and rows, and the gradient of the norm's result they give. -/
abbrev colsOf : FVec Ideal S8192x640 .bf16 := packedG (arg5 m c) (arg6 m c) (arg7 m c) (angle (arg3 m c))
abbrev sums : Fin 8192 → Fin 1024 → EReal := packedSum (arg5 m c) (arg6 m c) (arg7 m c) (angle (arg3 m c)) (arg8 m c) (arg9 m c) (arg2 m c)

/-- The slices of the weights at an index. -/
theorem top_at (t : Fin cfg0.N) (k : Fin 640) (e : Fin 1024) : top (iblk m c 9 t) (ix2 k e) = packedW (arg2 m c) (ix2 ⟨k.val, by omega⟩ e) := by
  unfold top
  exact (View.ld_unit_apply_of _ _ _ _ _ (ix2 ⟨k.val, by omega⟩ e : S2176x1024.Idx) (fun a => by fin_cases a <;> exact (Nat.zero_add _).symm)).trans (blk9 m c t _ _)
theorem low_at (t : Fin cfg0.N) (k : Fin 1536) (e : Fin 1024) : low (iblk m c 9 t) (ix2 k e) = packedW (arg2 m c) (ix2 ⟨640 + k.val, by omega⟩ e) := by
  unfold low
  exact (View.ld_unit_apply_of _ _ _ _ _ (ix2 ⟨640 + k.val, by omega⟩ e : S2176x1024.Idx) (fun a => by fin_cases a; exact rfl; exact (Nat.zero_add _).symm)).trans (blk9 m c t _ _)
theorem gate0_at (t : Fin cfg0.N) (k : Fin 1024) (e : Fin 1024) : gate0 (iblk m c 10 t) (ix2 k e) = arg2 m c (ix2 e ⟨1952 + k.val, by omega⟩) := by
  unfold gate0
  exact (View.ld_unit_apply_of _ _ _ _ _ (ix2 ⟨k.val, by omega⟩ e : S4096x1024.Idx) (fun a => by fin_cases a <;> exact (Nat.zero_add _).symm)).trans (blk10 m c t _ _)
theorem gate1_at (t : Fin cfg0.N) (k : Fin 1024) (e : Fin 1024) : gate1 (iblk m c 10 t) (ix2 k e) = arg2 m c (ix2 e ⟨2976 + k.val, by omega⟩) := by
  unfold gate1
  refine (View.ld_unit_apply_of _ _ _ _ _ (ix2 ⟨1024 + k.val, by omega⟩ e : S4096x1024.Idx) (fun a => by fin_cases a; exact rfl; exact (Nat.zero_add _).symm)).trans ((blk10 m c t _ _).trans ?_)
  exact congrArg (fun i => arg2 m c (ix2 e i)) (Fin.ext (by dsimp only; omega))
theorem gate2_at (t : Fin cfg0.N) (k : Fin 1024) (e : Fin 1024) : gate2 (iblk m c 10 t) (ix2 k e) = arg2 m c (ix2 e ⟨4000 + k.val, by omega⟩) := by
  unfold gate2
  refine (View.ld_unit_apply_of _ _ _ _ _ (ix2 ⟨2048 + k.val, by omega⟩ e : S4096x1024.Idx) (fun a => by fin_cases a; exact rfl; exact (Nat.zero_add _).symm)).trans ((blk10 m c t _ _).trans ?_)
  exact congrArg (fun i => arg2 m c (ix2 e i)) (Fin.ext (by dsimp only; omega))
theorem gate3_at (t : Fin cfg0.N) (k : Fin 1024) (e : Fin 1024) : gate3 (iblk m c 10 t) (ix2 k e) = arg2 m c (ix2 e ⟨5024 + k.val, by omega⟩) := by
  unfold gate3
  refine (View.ld_unit_apply_of _ _ _ _ _ (ix2 ⟨3072 + k.val, by omega⟩ e : S4096x1024.Idx) (fun a => by fin_cases a; exact rfl; exact (Nat.zero_add _).symm)).trans ((blk10 m c t _ _).trans ?_)
  exact congrArg (fun i => arg2 m c (ix2 e i)) (Fin.ext (by dsimp only; omega))

/-- One point's terms at an index. -/
theorem sum_at (t : Fin cfg0.N) (r : Fin 512) (e : Fin 1024) :
    k0_pay16 (partOf m c t) (iblk m c 6 t) (gate1 (iblk m c 10 t)) (iblk m c 7 t) (gate2 (iblk m c 10 t)) (iblk m c 8 t) (gate3 (iblk m c 10 t)) (ix2 r e) = sums m c (row t r) e := by
  unfold partOf
  pointwise [k0_pay16, k0_pay15, k0_pay13, k0_pay14]
  simp only [top_at, low_at, gate0_at, gate1_at, gate2_at, gate3_at, blk3, blk4, blk5, blk6, blk7, blk8]
  rfl
theorem rms_at (t : Fin cfg0.N) (r : Fin 512) : k0_pay17 (iblk m c 0 t) (ix2 r 0) = rms w1024 (line (arg0 m c) (row t r)) := by
  pointwise [k0_pay17]
  simp only [blk0]
  rfl
theorem norm_at (t : Fin cfg0.N) (r : Fin 512) (e : Fin 1024) : k0_pay12 (iblk m c 0 t) (iblk m c 1 t) (ix2 r e) = normed (arg0 m c) (arg1 m c) e (row t r) := by
  pointwise [k0_pay12, k0_pay11]
  simp only [blk0, blk1]
  rfl
theorem dxOf_at (t : Fin cfg0.N) (r : Fin 512) (e : Fin 1024) :
    dxOf m c t (ix2 r e) = streamGrad (arg0 m c) (arg1 m c) (arg4 m c) (sums m c) (row t r) e := by
  unfold dxOf
  pointwise [k0_pay1, k0_pay21, k0_pay20, k0_pay18, k0_pay11]
  simp only [rms_at, sum_at, blk0, blk1, blk2]
  rfl
theorem dgOf_at (t : Fin cfg0.N) (e : Fin 1024) :
    dgOf m c t (ix2 0 e) = ∑ r : Fin 512, sums m c (row t r) e * (line (arg0 m c) (row t r) e * rms w1024 (line (arg0 m c) (row t r))) := by
  unfold dgOf
  pointwise [k0_pay19, k0_pay18]
  simp only [rms_at, sum_at, blk0]
  rfl
theorem daOf_at (t : Fin cfg0.N) (k : Fin 640) (e : Fin 1024) :
    daOf m c t (ix2 k e) = ∑ r : Fin 512, (colsOf m c (ix2 (row t r) k) : EReal) * normed (arg0 m c) (arg1 m c) e (row t r) := by
  unfold daOf
  pointwise [k0_pay3, k0_pay13]
  simp only [norm_at, blk3]
theorem dmOf_at (t : Fin cfg0.N) (k : Fin 1536) (e : Fin 1024) :
    dmOf m c t (ix2 k e) = ∑ r : Fin 512, (arg8 m c (ix2 (row t r) k) : EReal) * normed (arg0 m c) (arg1 m c) e (row t r) := by
  unfold dmOf
  pointwise [k0_pay7, k0_pay14]
  simp only [norm_at, blk4]

end Cert.InprojIdeal.Mine

end
-- ==== Proof.InprojArrays.lean ====
/- The four arrays the input projection's backward call leaves: rows by tiles, and three sums over all rows. -/
module

public import proofs.«01_k».proof.Proof.InprojValue

@[expose] public section

set_option maxRecDepth 16384
set_option maxHeartbeats 200000

noncomputable section

open Idealize.ShloMosaic Idealize.ShloMosaic.TcCoe Idealize.SL.Sem
open Idealize.ShloMosaic.Pipeline (Dat)

namespace Cert.InprojIdeal.Mine

open Cert.Tools Cert.InprojIdeal Cert.InprojIdeal.Gen
open Cert.InprojRefIdeal.Mine (line gain streamGrad gainGrad normed)

variable (m : (ℓ : Loc nD τ sig) → Buf (Elt Ideal) ℓ) (c : Dev nD)

/-- Where an element of a block lies in its whole array. -/
theorem emb11 (t : Fin cfg0.N) (r : Fin 512) (e : Fin 1024) :
    ((cfg0.win 11).blk t).view.emb (ix2 r e : S512x1024.Idx) = (ix2 (row t r) e : S8192x1024.Idx) := by
  unfold row
  blk_ext [index t]
theorem emb12 (t : Fin cfg0.N) (e : Fin 1024) : ((cfg0.win 12).blk t).view.emb (ix2 0 e : S1x1024.Idx) = (ix2 0 e : S1x1024.Idx) := by
  blk_ext [index t]
theorem emb13 (t : Fin cfg0.N) (k : Fin 640) (e : Fin 1024) : ((cfg0.win 13).blk t).view.emb (ix2 k e : S640x1024.Idx) = (ix2 k e : S640x1024.Idx) := by
  blk_ext [index t]
theorem emb14 (t : Fin cfg0.N) (k : Fin 1536) (e : Fin 1024) : ((cfg0.win 14).blk t).view.emb (ix2 k e : S1536x1024.Idx) = (ix2 k e : S1536x1024.Idx) := by
  blk_ext [index t]

/-- Every point leaves its own rows of the stream's gradient, and the whole array consists of them. -/
theorem rows11 (t : Fin cfg0.N) : (outsAt0 m c t.val t.isLt).1 = dxOf m c t := by
  have hN := t.isLt
  have h : cfg0.N = 16 := N_0
  by_cases h0 : t.val % 16 = 0
  · exact (at_A m c t h0 (by omega) (by omega)).1
  · by_cases h2 : t.val % 16 = 15
    · exact (at_C m c t h0 (by omega) h2).1
    · exact (at_B m c t h0 (by omega) h2).1

theorem idx_inj : ∀ t t' : Fin cfg0.N, (cfg0.win 11).index t = (cfg0.win 11).index t' → t = t' := by
  decide +kernel

theorem arr11_at (r : Fin 8192) (e : Fin 1024) :
    ((dats m 0 c).arrAt 11 cfg0.N : S8192x1024.Idx → EReal) (ix2 r e) = streamGrad (arg0 m c) (arg1 m c) (arg4 m c) (sums m c) r e := by
  have h := (dats m 0 c).arrAt_emb_eq_flushed 11 (fun t t' _ _ hne => (cfg0.win 11).disjoint_blk fun hi => hne (idx_inj t t' hi)) (tile r) (flush0_11 _) (ix2 (place r) e : S512x1024.Idx)
  rw [emb11, row_tile] at h
  refine h.trans (Eq.trans ?_ ((dxOf_at m c (tile r) (place r) e).trans (by rw [row_tile])))
  rw [← rows11 m c (tile r)]
  show (cfg0.win 11).cut _ ((dats m 0 c).after 11 (tile r)) _ = _
  rw [after0_11]
  rfl

/-- The three sums start at the first point and grow at every other, the gain's in the array itself and the weight's in two buffers. -/
theorem first (h : 0 < cfg0.N) : (outsAt0 m c 0 h).2.1 = dgOf m c ⟨0, h⟩ ∧ (outsAt0 m c 0 h).2.2.2.2.1 = daOf m c ⟨0, h⟩ ∧ (outsAt0 m c 0 h).2.2.2.2.2 = dmOf m c ⟨0, h⟩ :=
  (at_A m c ⟨0, h⟩ (show (0 : ℕ) % 16 = 0 by decide) (show ¬1 ≤ 0 by decide) (show ¬(0 : ℕ) % 16 = 15 by decide)).2

theorem step_gain (n : ℕ) (h : n + 1 < cfg0.N) :
    (outsAt0 m c (n + 1) h).2.1 = addf (outsAt0 m c n (Nat.lt_of_succ_lt h)).2.1 (dgOf m c ⟨n + 1, h⟩) := by
  have hN : cfg0.N = 16 := N_0
  by_cases h2 : (n + 1) % 16 = 15
  · exact (at_C m c ⟨n + 1, h⟩ (by dsimp only; omega) (by dsimp only; omega) h2).2.1
  · exact (at_B m c ⟨n + 1, h⟩ (by dsimp only; omega) (by dsimp only; omega) h2).2.1

theorem total_gain (e : Fin 1024) : (outsAt0 m c 15 last_lt).2.1 (ix2 0 e) = gainGrad (arg0 m c) (sums m c) e := by
  have key := fold_univ cfg0.N (fun n h => ((outsAt0 m c n h).2.1 (ix2 0 e) : EReal)) (fun t => dgOf m c t (ix2 0 e))
    (fun h => congrFun (first m c h).1 _) (fun n h => (congrFun (step_gain m c n h) _).trans (ValueIdx.addf_apply ..)) 15 last_lt N_0
  refine key.trans ?_
  simp only [dgOf_at]
  exact sum_tiles (n := cfg0.N) (b := 512) (by rw [show cfg0.N = 16 from N_0]) (fun r => sums m c r e * (line (arg0 m c) r e * rms w1024 (line (arg0 m c) r))) row_lt

/-- The two buffers, with the last point's share added although it goes straight to the arrays. -/
def heldA (n : ℕ) (h : n < cfg0.N) : FVec Ideal S640x1024 .f32 :=
  if n = 15 then addf (before m c ⟨n, h⟩).2.2.2.2.1 (daOf m c ⟨n, h⟩) else (outsAt0 m c n h).2.2.2.2.1
def heldM (n : ℕ) (h : n < cfg0.N) : FVec Ideal S1536x1024 .f32 :=
  if n = 15 then addf (before m c ⟨n, h⟩).2.2.2.2.2 (dmOf m c ⟨n, h⟩) else (outsAt0 m c n h).2.2.2.2.2

theorem step_held (n : ℕ) (h : n + 1 < cfg0.N) :
    heldA m c (n + 1) h = addf (heldA m c n (Nat.lt_of_succ_lt h)) (daOf m c ⟨n + 1, h⟩)
      ∧ heldM m c (n + 1) h = addf (heldM m c n (Nat.lt_of_succ_lt h)) (dmOf m c ⟨n + 1, h⟩) := by
  have hN : cfg0.N = 16 := N_0
  unfold heldA heldM
  rw [if_neg (show ¬n = 15 by omega), if_neg (show ¬n = 15 by omega)]
  by_cases h2 : n + 1 = 15
  · rw [if_pos h2, if_pos h2]
    exact ⟨rfl, rfl⟩
  · rw [if_neg h2, if_neg h2]
    exact (at_B m c ⟨n + 1, h⟩ (by dsimp only; omega) (by dsimp only; omega) (by dsimp only; omega)).2.2

theorem total_A (k : Fin 640) (e : Fin 1024) : heldA m c 15 last_lt (ix2 k e) = ∑ r : Fin 8192, (colsOf m c (ix2 r k) : EReal) * normed (arg0 m c) (arg1 m c) e r := by
  have key := fold_univ cfg0.N (fun n h => (heldA m c n h (ix2 k e) : EReal)) (fun t => daOf m c t (ix2 k e))
    (fun h => by unfold heldA; rw [if_neg (by decide)]; exact congrFun (first m c h).2.1 _) (fun n h => (congrFun (step_held m c n h).1 _).trans (ValueIdx.addf_apply ..)) 15 last_lt N_0
  refine key.trans ?_
  simp only [daOf_at]
  exact sum_tiles (n := cfg0.N) (b := 512) (by rw [show cfg0.N = 16 from N_0]) (fun r => (colsOf m c (ix2 r k) : EReal) * normed (arg0 m c) (arg1 m c) e r) row_lt
theorem total_M (k : Fin 1536) (e : Fin 1024) : heldM m c 15 last_lt (ix2 k e) = ∑ r : Fin 8192, (arg8 m c (ix2 r k) : EReal) * normed (arg0 m c) (arg1 m c) e r := by
  have key := fold_univ cfg0.N (fun n h => (heldM m c n h (ix2 k e) : EReal)) (fun t => dmOf m c t (ix2 k e))
    (fun h => by unfold heldM; rw [if_neg (by decide)]; exact congrFun (first m c h).2.2 _) (fun n h => (congrFun (step_held m c n h).2 _).trans (ValueIdx.addf_apply ..)) 15 last_lt N_0
  refine key.trans ?_
  simp only [dmOf_at]
  exact sum_tiles (n := cfg0.N) (b := 512) (by rw [show cfg0.N = 16 from N_0]) (fun r => (arg8 m c (ix2 r k) : EReal) * normed (arg0 m c) (arg1 m c) e r) row_lt

/-- Only the last point writes the three sums back. -/
theorem flush_last (t : Fin cfg0.N) (h : t.val % 16 = 15) : t = ⟨15, last_lt⟩ :=
  Fin.ext (by have := t.isLt; have hN : cfg0.N = 16 := N_0; dsimp only; omega)

theorem arr12_at (e : Fin 1024) : ((dats m 0 c).arrAt 12 cfg0.N : S1x1024.Idx → EReal) (ix2 0 e) = gainGrad (arg0 m c) (sums m c) e := by
  have h := (dats m 0 c).arrAt_emb_eq_flushed 12
    (fun t t' ht ht' hne => absurd ((flush_last t ((flush0_12 t).mp ht)).trans (flush_last t' ((flush0_12 t').mp ht')).symm) hne)
    ⟨15, last_lt⟩ ((flush0_12 _).mpr (by decide)) (ix2 0 e : S1x1024.Idx)
  rw [emb12] at h
  refine h.trans (Eq.trans ?_ (total_gain m c e))
  show (cfg0.win 12).cut _ ((dats m 0 c).after 12 _) _ = _
  rw [after0_12]
  rfl
theorem last_C : (outsAt0 m c 15 last_lt).2.2.1 = k0_pay6 (F := Ideal) (heldA m c 15 last_lt) ∧ (outsAt0 m c 15 last_lt).2.2.2.1 = k0_pay10 (F := Ideal) (heldM m c 15 last_lt) := by
  unfold heldA heldM
  rw [if_pos rfl, if_pos rfl]
  exact (at_C m c ⟨15, last_lt⟩ (show ¬(15 : ℕ) % 16 = 0 by decide) (show 1 ≤ 15 by decide) (show (15 : ℕ) % 16 = 15 by decide)).2.2
theorem word_A (x : FVec Ideal S640x1024 .f32) (i : S640x1024.Idx) : k0_pay6 (F := Ideal) x i = (x i : EReal) := rfl
theorem word_M (x : FVec Ideal S1536x1024 .f32) (i : S1536x1024.Idx) : k0_pay10 (F := Ideal) x i = (x i : EReal) := rfl
theorem arr13_at (k : Fin 640) (e : Fin 1024) :
    ((dats m 0 c).arrAt 13 cfg0.N : S640x1024.Idx → EReal) (ix2 k e) = ∑ r : Fin 8192, (colsOf m c (ix2 r k) : EReal) * normed (arg0 m c) (arg1 m c) e r := by
  have h := (dats m 0 c).arrAt_emb_eq_flushed 13
    (fun t t' ht ht' hne => absurd ((flush_last t ((flush0_13 t).mp ht)).trans (flush_last t' ((flush0_13 t').mp ht')).symm) hne)
    ⟨15, last_lt⟩ ((flush0_13 _).mpr (by decide)) (ix2 k e : S640x1024.Idx)
  rw [emb13] at h
  refine h.trans (Eq.trans ?_ ((congrFun (last_C m c).1 (ix2 k e)).trans ((word_A _ _).trans (total_A m c k e))))
  show (cfg0.win 13).cut _ ((dats m 0 c).after 13 _) _ = _
  rw [after0_13]
  rfl
theorem arr14_at (k : Fin 1536) (e : Fin 1024) :
    ((dats m 0 c).arrAt 14 cfg0.N : S1536x1024.Idx → EReal) (ix2 k e) = ∑ r : Fin 8192, (arg8 m c (ix2 r k) : EReal) * normed (arg0 m c) (arg1 m c) e r := by
  have h := (dats m 0 c).arrAt_emb_eq_flushed 14
    (fun t t' ht ht' hne => absurd ((flush_last t ((flush0_14 t).mp ht)).trans (flush_last t' ((flush0_14 t').mp ht')).symm) hne)
    ⟨15, last_lt⟩ ((flush0_14 _).mpr (by decide)) (ix2 k e : S1536x1024.Idx)
  rw [emb14] at h
  refine h.trans (Eq.trans ?_ ((congrFun (last_C m c).2 (ix2 k e)).trans ((word_M _ _).trans (total_M m c k e))))
  show (cfg0.win 14).cut _ ((dats m 0 c).after 14 _) _ = _
  rw [after0_14]
  rfl

end Cert.InprojIdeal.Mine

end
-- ==== Proof.InprojTail.lean ====
/- The lines after the input projection's backward call put its four arrays together: the gain's gradient loses an axis, and
   the packed rows of the weight's gradient are unpacked, the rotary columns as sums of two packed rows. -/
module

public import proofs.«01_k».proof.Proof.InprojArrays
public import proofs.«01_k».proof.Proof.Gen.InprojIdeal.Frame

@[expose] public section

set_option maxRecDepth 16384
set_option maxHeartbeats 1000000

noncomputable section

namespace Cert.InprojIdeal.Mine

open Idealize.ShloMosaic Idealize.ShloMosaic.TcCoe Idealize.ShloMosaic.Tactic
open Cert.Tools Cert.InprojIdeal Cert.InprojIdeal.Gen

/-- The rotary rows of the packed gradient, taken twice, once for each half of the rotation, -/
def inner384 (a : FVec Ideal S640x1024 .bf16) : FVec Ideal S32x1024 .bf16 := extractStridedSlice S32x1024 ![64, 0] (extractStridedSlice S128x1024 ![384, 0] a slices_S640x1024_S128x1024_384_0) slices_S128x1024_S32x1024_64_0
def inner512 (a : FVec Ideal S640x1024 .bf16) : FVec Ideal S32x1024 .bf16 := extractStridedSlice S32x1024 ![64, 0] (extractStridedSlice S128x1024 ![512, 0] a slices_S640x1024_S128x1024_512_0) slices_S128x1024_S32x1024_64_0
/-- their sum, -/
def folded (a : FVec Ideal S640x1024 .bf16) : FVec Ideal S32x1024 .bf16 :=
  truncf .bf16 (addf (extf .f32 (inner384 a) bitsLt_bf16_f32) (extf .f32 (swapped (inner512 a)) bitsLt_bf16_f32)) bitsLt_bf16_f32
/-- and the whole gradient of the weight's rows that are not the gates'. -/
def joined (a : FVec Ideal S640x1024 .bf16) (b : FVec Ideal S1536x1024 .bf16) : FVec Ideal S1952x1024 .bf16 :=
  concatenate S1952x1024 0 [⟨S384x1024, extractStridedSlice S384x1024 ![0, 0] a slices_S640x1024_S384x1024_0_0⟩, ⟨S32x1024, folded a⟩, ⟨S1536x1024, b⟩] concatenates_S384x1024_S32x1024_S1536x1024_S1952x1024_d0

theorem inner384_at (a : FVec Ideal S640x1024 .bf16) (k : Fin 32) (e : Fin 1024) : inner384 a (ix2 k e) = a (ix2 ⟨448 + k.val, by omega⟩ e) := by
  unfold inner384
  pointwise []
  exact congrArg (fun j => a (ix2 j e)) (Fin.ext (by dsimp only; omega))
theorem inner512_at (a : FVec Ideal S640x1024 .bf16) (k : Fin 32) (e : Fin 1024) : inner512 a (ix2 k e) = a (ix2 ⟨576 + k.val, by omega⟩ e) := by
  unfold inner512
  pointwise []
  exact congrArg (fun j => a (ix2 j e)) (Fin.ext (by dsimp only; omega))
theorem folded_first (a : FVec Ideal S640x1024 .bf16) (i : Fin 16) (e : Fin 1024) :
    folded a (ix2 ⟨i.val, by omega⟩ e) = (a (ix2 ⟨448 + i.val, by omega⟩ e) : EReal) + a (ix2 ⟨592 + i.val, by omega⟩ e) := by
  refine Eq.trans (b := (inner384 a (ix2 ⟨i.val, by omega⟩ e) : EReal) + swapped (inner512 a) (ix2 ⟨i.val, by omega⟩ e)) rfl ?_
  rw [inner384_at, swapped_low, inner512_at]
  refine congrArg (fun j => (a (ix2 ⟨448 + i.val, by omega⟩ e) : EReal) + a (ix2 j e)) (Fin.ext ?_)
  dsimp only
  omega
theorem folded_second (a : FVec Ideal S640x1024 .bf16) (i : Fin 16) (e : Fin 1024) :
    folded a (ix2 ⟨16 + i.val, by omega⟩ e) = (a (ix2 ⟨464 + i.val, by omega⟩ e) : EReal) + a (ix2 ⟨576 + i.val, by omega⟩ e) := by
  refine Eq.trans (b := (inner384 a (ix2 ⟨16 + i.val, by omega⟩ e) : EReal) + swapped (inner512 a) (ix2 ⟨16 + i.val, by omega⟩ e)) rfl ?_
  rw [inner384_at, swapped_high, inner512_at]
  refine congrArg (fun j => (a (ix2 j e) : EReal) + a (ix2 ⟨576 + i.val, by omega⟩ e)) (Fin.ext ?_)
  dsimp only
  omega

theorem joined_parts (a : FVec Ideal S640x1024 .bf16) (b : FVec Ideal S1536x1024 .bf16) (k : Fin 384) (e : Fin 1024) : joined a b (ix2 ⟨k.val, by omega⟩ e) = a (ix2 ⟨k.val, by omega⟩ e) := by
  unfold joined
  refine (rows_at _ _ 0 (by show 0 < 3; decide) _ rfl 0 rfl _ k e (by dsimp only; omega)).trans ?_
  pointwise []
theorem joined_first (a : FVec Ideal S640x1024 .bf16) (b : FVec Ideal S1536x1024 .bf16) (i : Fin 16) (e : Fin 1024) : joined a b (ix2 ⟨384 + i.val, by omega⟩ e) = (a (ix2 ⟨448 + i.val, by omega⟩ e) : EReal) + a (ix2 ⟨592 + i.val, by omega⟩ e) := by
  unfold joined
  exact (rows_at _ _ 1 (by show 1 < 3; decide) _ rfl 384 rfl _ (⟨i.val, by omega⟩ : Fin 32) e (by dsimp only)).trans (folded_first a i e)
theorem joined_second (a : FVec Ideal S640x1024 .bf16) (b : FVec Ideal S1536x1024 .bf16) (i : Fin 16) (e : Fin 1024) : joined a b (ix2 ⟨400 + i.val, by omega⟩ e) = (a (ix2 ⟨464 + i.val, by omega⟩ e) : EReal) + a (ix2 ⟨576 + i.val, by omega⟩ e) := by
  unfold joined
  exact (rows_at _ _ 1 (by show 1 < 3; decide) _ rfl 384 rfl _ (⟨16 + i.val, by omega⟩ : Fin 32) e (by dsimp only; omega)).trans (folded_second a i e)
theorem joined_mixer (a : FVec Ideal S640x1024 .bf16) (b : FVec Ideal S1536x1024 .bf16) (k : Fin 1536) (e : Fin 1024) : joined a b (ix2 ⟨416 + k.val, by omega⟩ e) = b (ix2 k e) := by
  unfold joined
  exact rows_at _ _ 2 (by show 2 < 3; decide) _ rfl 416 rfl _ k e (by dsimp only)

variable (m : (ℓ : Loc nD τ sig) → Buf (Elt Ideal) ℓ) (c : Dev nD)

/-- The gain's gradient without its first axis. -/
def lineOf (a : FVec Ideal S1x1024 .f32) : FVec Ideal S1024 .f32 := shapeCast S1024 a shapeCasts_S1x1024_S1024
theorem lineOf_at (a : FVec Ideal S1x1024 .f32) (e : Fin 1024) : lineOf a (ix1 e) = a (ix2 0 e) := by
  unfold lineOf
  pointwise []

/-- The call's arrays are different buffers, and the lines after it read them. -/
theorem arrays_differ : Function.Injective (Pipeline.arrRef spec0) := by
  intro a b
  revert a b
  decide +kernel
theorem tail_gain : Pipeline.afterTail₀ cfgs (dats m) 0 (V0 m) [hostOps1] c main_v63 = lineOf ((dats m 0 c).arrAt 12 cfg0.N) := by
  unfold Pipeline.afterTail₀
  simp only [List.flatten_cons, List.flatten_nil, List.cons_append, List.nil_append]
  after_reads_simp
  exact congrArg (fun A : FVec Ideal S1x1024 .f32 => lineOf A) (Pipeline.withArrays_arr spec0 arrays_differ c _ _ 12)
theorem tail_weight : Pipeline.afterTail₀ cfgs (dats m) 0 (V0 m) [hostOps1] c main_v66 = joined ((dats m 0 c).arrAt 13 cfg0.N) ((dats m 0 c).arrAt 14 cfg0.N) := by
  unfold Pipeline.afterTail₀
  simp only [List.flatten_cons, List.flatten_nil, List.cons_append, List.nil_append]
  after_reads_simp
  refine Eq.trans (b := joined (Pipeline.withArrays spec0 c (V0 m c) (fun w => (dats m 0 c).arrAt w (cfgs 0).N) (Proc.tc.devRef (Pipeline.arrRef spec0 13))) (Pipeline.withArrays spec0 c (V0 m c) (fun w => (dats m 0 c).arrAt w (cfgs 0).N) (Proc.tc.devRef (Pipeline.arrRef spec0 14)))) rfl ?_
  exact congrArg₂ (fun (A : FVec Ideal S640x1024 .bf16) (B : FVec Ideal S1536x1024 .bf16) => joined A B) (Pipeline.withArrays_arr spec0 arrays_differ c _ _ 13) (Pipeline.withArrays_arr spec0 arrays_differ c _ _ 14)

end Cert.InprojIdeal.Mine

end
-- ==== Proof.InprojClaim.lean ====
/- The input projection's backward call: the three frames, and the three results over the reals. -/
module

public import proofs.«01_k».proof.Defs
public import proofs.«01_k».proof.Proof.InprojTail
public import proofs.«01_k».proof.Proof.Gen.Pre_rotary_finite
public import proofs.«01_k».proof.Proof.Gen.Inproj
public import proofs.«01_k».proof.Proof.Gen.Inproj.Frame
public import Idealize.ShloMosaic.Lib.Claim
public import proofs.«01_k».proof.Proof.Gen.InprojRefIdeal.Run

@[expose] public section

set_option maxRecDepth 16384
set_option maxHeartbeats 1600000

noncomputable section

open Idealize.ShloMosaic Idealize.ShloMosaic.TcCoe Idealize.ShloMosaic.Tactic Idealize.SL.Sem

namespace Cert.InprojIdeal.Mine

open Cert.Tools Cert.InprojIdeal Cert.InprojIdeal.Gen
open Cert.InprojRefIdeal.Mine (line gain streamGrad gainGrad normed columns columns_q columns_v columns_p)

/-- The call runs and leaves its arguments as they were. -/
theorem frame_kernel : Cert.quiescent_Inproj := fun m ρ _ => Cert.Inproj.Gen.frame m ρ
theorem frame_ideal : Cert.quiescent_InprojIdeal := fun m ρ _ => Cert.InprojIdeal.Gen.frame m ρ

/-- The reference runs and leaves its arguments as they were. -/
theorem frame_reference : Cert.quiescent_InprojRefIdeal := fun m ρ _ =>
  (θ_run Cert.InprojRefIdeal.defs _ _).mono
    (fun r h => ⟨fun c => (h c).2.2.2, Idealize.ShloMosaic.sem_eq_zero_of_no_sems (by decide) r.2⟩)
    (Cert.InprojRefIdeal.Value.run (F := Ideal) m ρ)

/-- Every execution ends with the three results at what the call's arrays hold, the arguments as they were. -/
theorem computed (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52_0) = (dats m 0 c).arrAt 11 cfg0.N
      ∧ r.2.mem ((c.tc : Thread nD τ).loc main_v63) = lineOf ((dats m 0 c).arrAt 12 cfg0.N)
      ∧ r.2.mem ((c.tc : Thread nD τ).loc main_v66) = joined ((dats m 0 c).arrAt 13 cfg0.N) ((dats m 0 c).arrAt 14 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h => fun c =>
    ⟨(h.1.1 c).1 11,
     ((h.1.1 c).2 main_v63 (Pipeline.mem_restRefs_of main_v63 (by decide) (by exact (by decide : ∀ w : Fin 15, Pipeline.arrRef spec0 w ≠ main_v63)))).trans (tail_gain m c),
     ((h.1.1 c).2 main_v66 (Pipeline.mem_restRefs_of main_v66 (by decide) (by exact (by decide : ∀ w : Fin 15, Pipeline.arrRef spec0 w ≠ main_v66)))).trans (tail_weight m c),
     h.2 c⟩)
    (θ_run_and (run_main_quiescent m ρ) (unchanged m ρ))

/-- The precondition: the gain, the weight and the cotangent of the rotary columns are real. -/
theorem word_infinity : Ideal.ofBits .f32 0x7F800000#32 = ⊤ := by
  simp [Ideal.ofBits, Ideal.ieee]
theorem real_of (x : EReal) (h : Ideal.cmp .olt (max x (-x)) (Ideal.ofBits .f32 0x7F800000#32) = 1#1) : IsReal x := by
  rw [word_infinity] at h
  replace h := (Ideal.cmp_olt_eq_one _ _).mp h
  induction x with
  | bot => simp at h
  | top => simp at h
  | coe r => exact ⟨r, rfl⟩
variable (m : (ℓ : Loc nD τ sig) → Buf (Elt Ideal) ℓ) (c : Dev nD)
structure Rotary : Prop where
  gain : ∀ i, IsReal (arg1 m c i)
  weight : ∀ i, IsReal (arg2 m c i)
  cotangent : ∀ i, IsReal (arg7 m c i)
theorem rotary_of (hm : Cert.Pre_InprojIdeal_rotary_finite m) : Rotary m c :=
  ⟨fun i => real_of _ (congrFun (hm c).1 i), fun i => real_of _ (congrFun (hm c).2.1 i), fun i => real_of _ (congrFun (hm c).2.2 i)⟩

/-- With them real, the packed product is the plain one, -/
abbrev plain : Fin 8192 → Fin 1024 → EReal := plainSum (arg5 m c) (arg6 m c) (arg7 m c) (angle (arg3 m c)) (arg8 m c) (arg9 m c) (arg2 m c)
theorem sums_plain (W : Rotary m c) : sums m c = plain m c :=
  funext fun r => funext fun e => packedSum_eq _ _ _ _ _ _ _ r e (fun i => W.cotangent _) (fun i => angle_real _ _ _) (fun k => W.weight _)

/-- and the rows put together are the gradient of the weight's rows. -/
theorem rows_joined (W : Rotary m c) (k : Fin 1952) (e : Fin 1024) :
    joined ((dats m 0 c).arrAt 13 cfg0.N) ((dats m 0 c).arrAt 14 cfg0.N) (ix2 k e)
      = ∑ r : Fin 8192, (columns (arg5 m c) (arg6 m c) (arg7 m c) (angle (arg3 m c)) (arg8 m c) (arg9 m c) (ix2 r ⟨k.val, by omega⟩) : EReal) * normed (arg0 m c) (arg1 m c) e r := by
  have hn : ∀ r, IsReal (normed (arg0 m c) (arg1 m c) e r) := fun r => (normed_real _ _).mul (W.gain _)
  have bound : ∀ (a b : ℕ) (i : Fin b), a + b ≤ 1952 → a + i.val < 1952 := fun a b i h => by omega
  by_cases h1 : k.val < 256
  · obtain ⟨i, rfl⟩ : ∃ i : Fin 256, k = ⟨i.val, lt_trans i.isLt (by decide)⟩ := ⟨⟨k.val, h1⟩, rfl⟩
    refine (joined_parts _ _ ⟨i.val, by omega⟩ e).trans ((arr13_at m c ⟨i.val, by omega⟩ e).trans (Finset.sum_congr (M := EReal) rfl fun r _ => ?_))
    exact congrArg (fun z : EReal => z * normed (arg0 m c) (arg1 m c) e r) ((packedG_q _ _ _ _ r i).trans (columns_q _ _ _ _ _ _ r i).symm)
  by_cases h2 : k.val < 384
  · obtain ⟨i, rfl⟩ : ∃ i : Fin 128, k = ⟨256 + i.val, bound 256 128 i (by decide)⟩ := ⟨⟨k.val - 256, by omega⟩, Fin.ext (by dsimp only; omega)⟩
    refine (joined_parts _ _ ⟨256 + i.val, by omega⟩ e).trans ((arr13_at m c ⟨256 + i.val, by omega⟩ e).trans (Finset.sum_congr (M := EReal) rfl fun r _ => ?_))
    exact congrArg (fun z : EReal => z * normed (arg0 m c) (arg1 m c) e r) ((packedG_v _ _ _ _ r i).trans (columns_v _ _ _ _ _ _ r i).symm)
  by_cases h3 : k.val < 400
  · obtain ⟨i, rfl⟩ : ∃ i : Fin 16, k = ⟨384 + i.val, bound 384 16 i (by decide)⟩ := ⟨⟨k.val - 384, by omega⟩, Fin.ext (by dsimp only; omega)⟩
    refine (joined_first _ _ i e).trans ((congrArg₂ (fun y z : EReal => y + z) (arr13_at m c ⟨448 + i.val, by omega⟩ e) (arr13_at m c ⟨592 + i.val, by omega⟩ e)).trans ?_)
    exact rows_first _ _ _ _ _ _ (fun r => normed (arg0 m c) (arg1 m c) e r) i (fun r k => W.cotangent _) (fun r => angle_real _ _ _) hn
  by_cases h4 : k.val < 416
  · obtain ⟨i, rfl⟩ : ∃ i : Fin 16, k = ⟨400 + i.val, bound 400 16 i (by decide)⟩ := ⟨⟨k.val - 400, by omega⟩, Fin.ext (by dsimp only; omega)⟩
    refine (joined_second _ _ i e).trans ((congrArg₂ (fun y z : EReal => y + z) (arr13_at m c ⟨464 + i.val, by omega⟩ e) (arr13_at m c ⟨576 + i.val, by omega⟩ e)).trans ?_)
    exact rows_second _ _ _ _ _ _ (fun r => normed (arg0 m c) (arg1 m c) e r) i (fun r k => W.cotangent _) (fun r => angle_real _ _ _) hn
  · obtain ⟨i, rfl⟩ : ∃ i : Fin 1536, k = ⟨416 + i.val, bound 416 1536 i (by decide)⟩ := ⟨⟨k.val - 416, by omega⟩, Fin.ext (by dsimp only; omega)⟩
    refine (joined_mixer _ _ i e).trans ((arr14_at m c i e).trans (Finset.sum_congr (M := EReal) rfl fun r _ => ?_))
    exact congrArg (fun z : EReal => z * normed (arg0 m c) (arg1 m c) e r) (columns_p _ _ _ _ _ _ r i).symm

/-- The two programs are given the same arguments. -/
abbrev Agree (m' : (ℓ : Loc Cert.InprojRefIdeal.nD Cert.InprojRefIdeal.τ Cert.InprojRefIdeal.sig) → Buf (Elt Ideal) ℓ) : Prop :=
  ∀ c : Dev nD, Cert.InprojRefIdeal.Mine.arg0 m' c = arg0 m c ∧ Cert.InprojRefIdeal.Mine.arg1 m' c = arg1 m c ∧ Cert.InprojRefIdeal.Mine.arg2 m' c = arg2 m c ∧ Cert.InprojRefIdeal.Mine.arg3 m' c = arg3 m c ∧ Cert.InprojRefIdeal.Mine.arg4 m' c = arg4 m c ∧ Cert.InprojRefIdeal.Mine.arg5 m' c = arg5 m c ∧ Cert.InprojRefIdeal.Mine.arg6 m' c = arg6 m c ∧ Cert.InprojRefIdeal.Mine.arg7 m' c = arg7 m c ∧ Cert.InprojRefIdeal.Mine.arg8 m' c = arg8 m c ∧ Cert.InprojRefIdeal.Mine.arg9 m' c = arg9 m c

/-- Over the reals, where the gain, the weight and the rotary columns' cotangent are finite, the call computes the reference's three gradients. -/
theorem value : Cert.algebraic_InprojIdeal_InprojRefIdeal_pre_rotary_finite := by
  pair_intro
  · run_from computed m g
  · run_from Cert.InprojRefIdeal.Value.run (F := Ideal) m' g'
    · funext j
      idx_vars j
      obtain ⟨h0, h1, h2, h3, h4, h5, h6, h7, h8, h9⟩ := (show Agree m m' from hagree) c
      refine (Cert.InprojRefIdeal.Mine.result0 m' c _ _).trans ?_
      rw [h0, h1, h2, h3, h4, h5, h6, h7, h8, h9]
      refine Eq.trans ?_ (arr11_at m c _ _).symm
      rw [sums_plain m c (rotary_of m c hpre)]
    · funext j
      idx_vars j
      obtain ⟨h0, h1, h2, h3, h4, h5, h6, h7, h8, h9⟩ := (show Agree m m' from hagree) c
      refine (Cert.InprojRefIdeal.Mine.result1 m' c _).trans ?_
      rw [h0, h2, h3, h5, h6, h7, h8, h9]
      refine Eq.trans ?_ ((lineOf_at _ _).trans (arr12_at m c _)).symm
      rw [sums_plain m c (rotary_of m c hpre)]
    · funext j
      idx_vars j
      obtain ⟨h0, h1, h2, h3, h4, h5, h6, h7, h8, h9⟩ := (show Agree m m' from hagree) c
      refine (Cert.InprojRefIdeal.Mine.result2 m' c _ _).trans ?_
      rw [h0, h1, h3, h5, h6, h7, h8, h9]
      exact (rows_joined m c (rotary_of m c hpre) _ _).symm

end Cert.InprojIdeal.Mine

end
-- ==== Proof.lean ====
/- The claim, put together from the claims about each call. -/
module

public import proofs.«01_k».proof.Defs
public import proofs.«01_k».proof.Proof.LossClaim
public import proofs.«01_k».proof.Proof.BranchClaim
public import proofs.«01_k».proof.Proof.MergeOutClaim
public import proofs.«01_k».proof.Proof.FfnWClaim
public import proofs.«01_k».proof.Proof.NormsClaim
public import proofs.«01_k».proof.Proof.FfnXClaim
public import proofs.«01_k».proof.Proof.FlashClaim
public import proofs.«01_k».proof.Proof.Gen.Flash.Skeleton
public import proofs.«01_k».proof.Proof.Gen.Flash.Launch
public import proofs.«01_k».proof.Proof.Gen.FlashIdeal
public import proofs.«01_k».proof.Proof.Gen.FlashIdeal.Skeleton
public import proofs.«01_k».proof.Proof.Gen.FlashIdeal.Launch
public import proofs.«01_k».proof.Proof.Gen.FlashRefIdeal
public import proofs.«01_k».proof.Proof.Gen.FlashRefIdeal.Run
public import proofs.«01_k».proof.Proof.Gen.Pre_finite
public import proofs.«01_k».proof.Proof.InprojClaim

@[expose] public section

noncomputable section

namespace Cert.Proof

open Idealize.ShloMosaic Idealize.SL.Sem

/-- Every program runs, and each kernel computes its reference over the reals. -/
theorem claim : Cert.Claim :=
  ⟨Cert.Loss.Gen.facts,
    Cert.LossIdeal.Gen.facts,
    Cert.LossRefIdeal.Gen.facts,
    Cert.Branch.Gen.facts,
    Cert.BranchIdeal.Gen.facts,
    Cert.BranchRefIdeal.Gen.facts,
    Cert.MergeOut.Gen.facts,
    Cert.MergeOutIdeal.Gen.facts,
    Cert.MergeOutRefIdeal.Gen.facts,
    Cert.FfnW.Gen.facts,
    Cert.FfnWIdeal.Gen.facts,
    Cert.FfnWRefIdeal.Gen.facts,
    Cert.Norms.Gen.facts,
    Cert.NormsIdeal.Gen.facts,
    Cert.NormsRefIdeal.Gen.facts,
    Cert.FfnX.Gen.facts,
    Cert.FfnXIdeal.Gen.facts,
    Cert.FfnXRefIdeal.Gen.facts,
    Cert.Flash.Gen.facts,
    Cert.FlashIdeal.Gen.facts,
    Cert.FlashRefIdeal.Gen.facts,
    Cert.Inproj.Gen.facts,
    Cert.InprojIdeal.Gen.facts,
    Cert.InprojRefIdeal.Gen.facts,
    Cert.Pre_finite.Gen.facts,
    Cert.Pre_rotary_finite.Gen.facts,
    Cert.LossIdeal.Mine.frame_kernel,
    Cert.LossIdeal.Mine.frame_ideal,
    Cert.LossIdeal.Mine.frame_reference,
    Cert.BranchIdeal.Mine.frame_kernel,
    Cert.BranchIdeal.Mine.frame_ideal,
    Cert.BranchIdeal.Mine.frame_reference,
    Cert.MergeOutIdeal.Mine.frame_kernel,
    Cert.MergeOutIdeal.Mine.frame_ideal,
    Cert.MergeOutIdeal.Mine.frame_reference,
    Cert.FfnWIdeal.Mine.frame_kernel,
    Cert.FfnWIdeal.Mine.frame_ideal,
    Cert.FfnWIdeal.Mine.frame_reference,
    Cert.NormsIdeal.Mine.frame_kernel,
    Cert.NormsIdeal.Mine.frame_ideal,
    Cert.NormsIdeal.Mine.frame_reference,
    Cert.FfnXIdeal.Mine.frame_kernel,
    Cert.FfnXIdeal.Mine.frame_ideal,
    Cert.FfnXIdeal.Mine.frame_reference,
    Cert.FlashIdeal.Mine.frame_kernel,
    Cert.FlashIdeal.Mine.frame_ideal,
    fun m ρ _ => Cert.FlashIdeal.Mine.frame_ideal m ρ trivial,
    Cert.FlashIdeal.Mine.frame_reference,
    fun m ρ _ => Cert.FlashIdeal.Mine.frame_reference m ρ trivial,
    Cert.InprojIdeal.Mine.frame_kernel,
    Cert.InprojIdeal.Mine.frame_ideal,
    fun m ρ _ => Cert.InprojIdeal.Mine.frame_ideal m ρ trivial,
    Cert.InprojIdeal.Mine.frame_reference,
    fun m ρ _ => Cert.InprojIdeal.Mine.frame_reference m ρ trivial,
    trivial,
    Cert.LossIdeal.Mine.value,
    trivial,
    Cert.BranchIdeal.Mine.value,
    trivial,
    Cert.MergeOutIdeal.Mine.value,
    trivial,
    Cert.FfnWIdeal.Mine.value,
    trivial,
    Cert.NormsIdeal.Mine.value,
    trivial,
    Cert.FfnXIdeal.Mine.value,
    trivial,
    Cert.FlashIdeal.Mine.value,
    trivial,
    Cert.InprojIdeal.Mine.value⟩

end Cert.Proof

end
